-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Kernel21Ideal_finite_conv [hPre_finite_conv : Cert.Pre_finite_conv.Facts] (m : (ℓ : Loc Cert.Kernel21Ideal.nD Cert.Kernel21Ideal.τ Cert.Kernel21Ideal.sig) → Buf (Elt Ideal) ℓ) : Prop :=
  ∀ c : Dev Cert.Kernel21Ideal.nD,
    (Cert.Pre_finite_conv.fn (F := Ideal) (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)) (m ((c.tc : Thread Cert.Kernel21Ideal.nD Cert.Kernel21Ideal.τ).loc Cert.Kernel21Ideal.main_arg2)) (m ((c.tc : Thread Cert.Kernel21Ideal.nD Cert.Kernel21Ideal.τ).loc Cert.Kernel21Ideal.main_arg3))).1 = (fun _ => 1#1)
    ∧ (Cert.Pre_finite_conv.fn (F := Ideal) (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)) (m ((c.tc : Thread Cert.Kernel21Ideal.nD Cert.Kernel21Ideal.τ).loc Cert.Kernel21Ideal.main_arg2)) (m ((c.tc : Thread Cert.Kernel21Ideal.nD Cert.Kernel21Ideal.τ).loc Cert.Kernel21Ideal.main_arg3))).2.1 = (fun _ => 1#1)
    ∧ (Cert.Pre_finite_conv.fn (F := Ideal) (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)) (m ((c.tc : Thread Cert.Kernel21Ideal.nD Cert.Kernel21Ideal.τ).loc Cert.Kernel21Ideal.main_arg2)) (m ((c.tc : Thread Cert.Kernel21Ideal.nD Cert.Kernel21Ideal.τ).loc Cert.Kernel21Ideal.main_arg3))).2.2.1 = (fun _ => 1#1)
    ∧ (Cert.Pre_finite_conv.fn (F := Ideal) (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)) (m ((c.tc : Thread Cert.Kernel21Ideal.nD Cert.Kernel21Ideal.τ).loc Cert.Kernel21Ideal.main_arg2)) (m ((c.tc : Thread Cert.Kernel21Ideal.nD Cert.Kernel21Ideal.τ).loc Cert.Kernel21Ideal.main_arg3))).2.2.2 = (fun _ => 1#1)

def Pre_Reference21Ideal (m : (ℓ : Loc Cert.Reference21Ideal.nD Cert.Reference21Ideal.τ Cert.Reference21Ideal.sig) → Buf (Elt Ideal) ℓ) : Prop :=
  True

def Pre_Reference21Ideal_finite_conv [hPre_finite_conv : Cert.Pre_finite_conv.Facts] (m : (ℓ : Loc Cert.Reference21Ideal.nD Cert.Reference21Ideal.τ Cert.Reference21Ideal.sig) → Buf (Elt Ideal) ℓ) : Prop :=
  ∀ c : Dev Cert.Reference21Ideal.nD,
    (Cert.Pre_finite_conv.fn (F := Ideal) (m ((c.tc : Thread Cert.Reference21Ideal.nD Cert.Reference21Ideal.τ).loc Cert.Reference21Ideal.main_arg0)) (m ((c.tc : Thread Cert.Reference21Ideal.nD Cert.Reference21Ideal.τ).loc Cert.Reference21Ideal.main_arg1)) (m ((c.tc : Thread Cert.Reference21Ideal.nD Cert.Reference21Ideal.τ).loc Cert.Reference21Ideal.main_arg2)) (m ((c.tc : Thread Cert.Reference21Ideal.nD Cert.Reference21Ideal.τ).loc Cert.Reference21Ideal.main_arg3))).1 = (fun _ => 1#1)
    ∧ (Cert.Pre_finite_conv.fn (F := Ideal) (m ((c.tc : Thread Cert.Reference21Ideal.nD Cert.Reference21Ideal.τ).loc Cert.Reference21Ideal.main_arg0)) (m ((c.tc : Thread Cert.Reference21Ideal.nD Cert.Reference21Ideal.τ).loc Cert.Reference21Ideal.main_arg1)) (m ((c.tc : Thread Cert.Reference21Ideal.nD Cert.Reference21Ideal.τ).loc Cert.Reference21Ideal.main_arg2)) (m ((c.tc : Thread Cert.Reference21Ideal.nD Cert.Reference21Ideal.τ).loc Cert.Reference21Ideal.main_arg3))).2.1 = (fun _ => 1#1)
    ∧ (Cert.Pre_finite_conv.fn (F := Ideal) (m ((c.tc : Thread Cert.Reference21Ideal.nD Cert.Reference21Ideal.τ).loc Cert.Reference21Ideal.main_arg0)) (m ((c.tc : Thread Cert.Reference21Ideal.nD Cert.Reference21Ideal.τ).loc Cert.Reference21Ideal.main_arg1)) (m ((c.tc : Thread Cert.Reference21Ideal.nD Cert.Reference21Ideal.τ).loc Cert.Reference21Ideal.main_arg2)) (m ((c.tc : Thread Cert.Reference21Ideal.nD Cert.Reference21Ideal.τ).loc Cert.Reference21Ideal.main_arg3))).2.2.1 = (fun _ => 1#1)
    ∧ (Cert.Pre_finite_conv.fn (F := Ideal) (m ((c.tc : Thread Cert.Reference21Ideal.nD Cert.Reference21Ideal.τ).loc Cert.Reference21Ideal.main_arg0)) (m ((c.tc : Thread Cert.Reference21Ideal.nD Cert.Reference21Ideal.τ).loc Cert.Reference21Ideal.main_arg1)) (m ((c.tc : Thread Cert.Reference21Ideal.nD Cert.Reference21Ideal.τ).loc Cert.Reference21Ideal.main_arg2)) (m ((c.tc : Thread Cert.Reference21Ideal.nD Cert.Reference21Ideal.τ).loc Cert.Reference21Ideal.main_arg3))).2.2.2 = (fun _ => 1#1)

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Kernel21Ideal_pre_finite_conv [hKernel21Ideal : Cert.Kernel21Ideal.Facts] [hPre_finite_conv : Cert.Pre_finite_conv.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal_finite_conv m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Reference21Ideal_pre_finite_conv [hReference21Ideal : Cert.Reference21Ideal.Facts] [hPre_finite_conv : Cert.Pre_finite_conv.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal_finite_conv m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2))
      ∧ r.2.sem = fun _ => 0)

def preserves_Kernel_KernelIdeal : Prop :=
  IdealRules.named_const.Statement Cert.KernelIdeal.κ "gelu_a" .f32 0x3D372713#32 ((8943 / 200000 : ℝ) : EReal)
  ∧ IdealRules.named_const.Statement Cert.KernelIdeal.κ "gelu_a3" .f32 0x3E095D4F#32 ((26829 / 200000 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_v102) = v2 c
          ∧ r.2.mem ((c.tc : Thread Cert.ReferenceIdeal.nD Cert.ReferenceIdeal.τ).loc Cert.ReferenceIdeal.main_v69) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v10) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v13) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v8) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v8) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v8) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v5) = v0 c
          ∧ r.2.mem ((c.tc : Thread Cert.Reference15Ideal.nD Cert.Reference15Ideal.τ).loc Cert.Reference15Ideal.main_v6) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v5) = v0 c
          ∧ r.2.mem ((c.tc : Thread Cert.Reference16Ideal.nD Cert.Reference16Ideal.τ).loc Cert.Reference16Ideal.main_v6) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v10) = v0 c
          ∧ r.2.mem ((c.tc : Thread Cert.Reference17Ideal.nD Cert.Reference17Ideal.τ).loc Cert.Reference17Ideal.main_v9) = v1 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v49) = v0 c
          ∧ r.2.mem ((c.tc : Thread Cert.Reference18Ideal.nD Cert.Reference18Ideal.τ).loc Cert.Reference18Ideal.main_v24) = v1 c
          ∧ r.2.mem ((c.tc : Thread Cert.Reference18Ideal.nD Cert.Reference18Ideal.τ).loc Cert.Reference18Ideal.main_v27) = v2 c
          ∧ r.2.mem ((c.tc : Thread Cert.Reference18Ideal.nD Cert.Reference18Ideal.τ).loc Cert.Reference18Ideal.main_v32) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v18) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v35) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2))

def preserves_Kernel21_Kernel21Ideal : Prop :=
  True

def algebraic_Kernel21Ideal_Reference21Ideal_pre_finite_conv [hKernel21Ideal : Cert.Kernel21Ideal.Facts] [hReference21Ideal : Cert.Reference21Ideal.Facts] [hPre_finite_conv : Cert.Pre_finite_conv.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal_finite_conv m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)) (v4 : (c : Dev Cert.Kernel21Ideal.nD) → Buf (Elt Ideal) ((c.tc : Thread Cert.Kernel21Ideal.nD Cert.Kernel21Ideal.τ).loc Cert.Kernel21Ideal.main_v0_4)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_v0_4) = v4 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v83) = v0 c
          ∧ r.2.mem ((c.tc : Thread Cert.Reference21Ideal.nD Cert.Reference21Ideal.τ).loc Cert.Reference21Ideal.main_v84) = v1 c
          ∧ r.2.mem ((c.tc : Thread Cert.Reference21Ideal.nD Cert.Reference21Ideal.τ).loc Cert.Reference21Ideal.main_v85) = v2 c
          ∧ r.2.mem ((c.tc : Thread Cert.Reference21Ideal.nD Cert.Reference21Ideal.τ).loc Cert.Reference21Ideal.main_v87) = v3 c
          ∧ r.2.mem ((c.tc : Thread Cert.Reference21Ideal.nD Cert.Reference21Ideal.τ).loc Cert.Reference21Ideal.main_v89) = v4 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v5) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v5) = v0 c
          ∧ r.2.mem ((c.tc : Thread Cert.Reference24Ideal.nD Cert.Reference24Ideal.τ).loc Cert.Reference24Ideal.main_v7) = v1 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hPre_finite : Cert.Pre_finite.Facts) (hPre_finite_conv : Cert.Pre_finite_conv.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Kernel21Ideal_pre_finite_conv (hKernel21Ideal := hKernel21Ideal) (hPre_finite_conv := hPre_finite_conv)
    ∧ quiescent_Reference21Ideal (hReference21Ideal := hReference21Ideal)
    ∧ quiescent_Reference21Ideal_pre_finite_conv (hReference21Ideal := hReference21Ideal) (hPre_finite_conv := hPre_finite_conv)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal_pre_finite_conv (hKernel21Ideal := hKernel21Ideal) (hReference21Ideal := hReference21Ideal) (hPre_finite_conv := hPre_finite_conv)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
-- ==== Pre_finite.lean ====
abbrev S4096x4096 : Shape := ⟨2, ![4096, 4096]⟩
abbrev S1x2048 : Shape := ⟨2, ![1, 2048]⟩
abbrev S16x128x128 : Shape := ⟨3, ![16, 128, 128]⟩
abbrev S16x128 : Shape := ⟨2, ![16, 128]⟩
abbrev S4096x2048 : Shape := ⟨2, ![4096, 2048]⟩
abbrev S_ : Shape := ⟨0, ![]⟩

class Facts : Prop where
  bcast_S_S4096x4096 : S_.BroadcastsInDim S4096x4096 (![] : Fin 0 → Fin S4096x4096.rank)
  bcast_S_S1x2048 : S_.BroadcastsInDim S1x2048 (![] : Fin 0 → Fin S1x2048.rank)
  bcast_S_S16x128x128 : S_.BroadcastsInDim S16x128x128 (![] : Fin 0 → Fin S16x128x128.rank)
  bcast_S_S16x128 : S_.BroadcastsInDim S16x128 (![] : Fin 0 → Fin S16x128.rank)
  bcast_S_S4096x2048 : S_.BroadcastsInDim S4096x2048 (![] : Fin 0 → Fin S4096x2048.rank)

variable [Facts]

def fn {F : FTy → Type} [FloatOps F] (main_arg0 : FVec F S4096x4096 .f32) (main_arg1 : FVec F S1x2048 .f32) (main_arg2 : FVec F S16x128x128 .f32) (main_arg3 : FVec F S16x128 .f32) (main_arg4 : FVec F S4096x2048 .f32) : IVec S4096x4096 1 × IVec S1x2048 1 × IVec S16x128x128 1 × IVec S16x128 1 × IVec S4096x2048 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_v3 : FVec F S1x2048 .f32 := Host.absf main_arg1
  let main_cst_0 : FVec F S_ .f32 := constant S_ .f32 0x7F800000#32
  let main_v4 : FVec F S1x2048 .f32 := broadcastInDim S1x2048 ![] bcast_S_S1x2048 main_cst_0
  let main_v5 : IVec S1x2048 1 := cmpf .olt main_v3 main_v4
  let main_v6 : FVec F S16x128x128 .f32 := Host.absf main_arg2
  let main_cst_1 : FVec F S_ .f32 := constant S_ .f32 0x7F800000#32
  let main_v7 : FVec F S16x128x128 .f32 := broadcastInDim S16x128x128 ![] bcast_S_S16x128x128 main_cst_1
  let main_v8 : IVec S16x128x128 1 := cmpf .olt main_v6 main_v7
  let main_v9 : FVec F S16x128 .f32 := Host.absf main_arg3
  let main_cst_2 : FVec F S_ .f32 := constant S_ .f32 0x7F800000#32
  let main_v10 : FVec F S16x128 .f32 := broadcastInDim S16x128 ![] bcast_S_S16x128 main_cst_2
  let main_v11 : IVec S16x128 1 := cmpf .olt main_v9 main_v10
  let main_v12 : FVec F S4096x2048 .f32 := Host.absf main_arg4
  let main_cst_3 : FVec F S_ .f32 := constant S_ .f32 0x7F800000#32
  let main_v13 : FVec F S4096x2048 .f32 := broadcastInDim S4096x2048 ![] bcast_S_S4096x2048 main_cst_3
  let main_v14 : IVec S4096x2048 1 := cmpf .olt main_v12 main_v13
  (main_v2, main_v5, main_v8, main_v11, main_v14)
-- ==== Pre_finite_conv.lean ====
abbrev S2x4096x5632 : Shape := ⟨3, ![2, 4096, 5632]⟩
abbrev S3x11264 : Shape := ⟨2, ![3, 11264]⟩
abbrev S1x11264 : Shape := ⟨2, ![1, 11264]⟩
abbrev S4096x5632 : Shape := ⟨2, ![4096, 5632]⟩
abbrev S_ : Shape := ⟨0, ![]⟩

class Facts : Prop where
  bcast_S_S2x4096x5632 : S_.BroadcastsInDim S2x4096x5632 (![] : Fin 0 → Fin S2x4096x5632.rank)
  bcast_S_S3x11264 : S_.BroadcastsInDim S3x11264 (![] : Fin 0 → Fin S3x11264.rank)
  bcast_S_S1x11264 : S_.BroadcastsInDim S1x11264 (![] : Fin 0 → Fin S1x11264.rank)
  bcast_S_S4096x5632 : S_.BroadcastsInDim S4096x5632 (![] : Fin 0 → Fin S4096x5632.rank)

variable [Facts]

def fn {F : FTy → Type} [FloatOps F] (main_arg0 : FVec F S2x4096x5632 .f32) (main_arg1 : FVec F S3x11264 .f32) (main_arg2 : FVec F S1x11264 .f32) (main_arg3 : FVec F S4096x5632 .f32) : IVec S2x4096x5632 1 × IVec S3x11264 1 × IVec S1x11264 1 × IVec S4096x5632 1 :=
  let main_v0 : FVec F S2x4096x5632 .f32 := Host.absf main_arg0
  let main_cst : FVec F S_ .f32 := constant S_ .f32 0x7F800000#32
  let main_v1 : FVec F S2x4096x5632 .f32 := broadcastInDim S2x4096x5632 ![] bcast_S_S2x4096x5632 main_cst
  let main_v2 : IVec S2x4096x5632 1 := cmpf .olt main_v0 main_v1
  let main_v3 : FVec F S3x11264 .f32 := Host.absf main_arg1
  let main_cst_0 : FVec F S_ .f32 := constant S_ .f32 0x7F800000#32
  let main_v4 : FVec F S3x11264 .f32 := broadcastInDim S3x11264 ![] bcast_S_S3x11264 main_cst_0
  let main_v5 : IVec S3x11264 1 := cmpf .olt main_v3 main_v4
  let main_v6 : FVec F S1x11264 .f32 := Host.absf main_arg2
  let main_cst_1 : FVec F S_ .f32 := constant S_ .f32 0x7F800000#32
  let main_v7 : FVec F S1x11264 .f32 := broadcastInDim S1x11264 ![] bcast_S_S1x11264 main_cst_1
  let main_v8 : IVec S1x11264 1 := cmpf .olt main_v6 main_v7
  let main_v9 : FVec F S4096x5632 .f32 := Host.absf main_arg3
  let main_cst_2 : FVec F S_ .f32 := constant S_ .f32 0x7F800000#32
  let main_v10 : FVec F S4096x5632 .f32 := broadcastInDim S4096x5632 ![] bcast_S_S4096x5632 main_cst_2
  let main_v11 : IVec S4096x5632 1 := cmpf .olt main_v9 main_v10
  (main_v2, main_v5, main_v8, main_v11)
-- ==== Kernel.lean ====
abbrev S4096x4096 : Shape := ⟨2, ![4096, 4096]⟩
abbrev S1x2048 : Shape := ⟨2, ![1, 2048]⟩
abbrev S16x128x128 : Shape := ⟨3, ![16, 128, 128]⟩
abbrev S16x128 : Shape := ⟨2, ![16, 128]⟩
abbrev S4096x2048 : Shape := ⟨2, ![4096, 2048]⟩
abbrev S128x16 : Shape := ⟨2, ![128, 16]⟩
abbrev S256x4096 : Shape := ⟨2, ![256, 4096]⟩
abbrev S256x2048 : Shape := ⟨2, ![256, 2048]⟩
abbrev S256 : Shape := ⟨1, ![256]⟩
abbrev S256x1 : Shape := ⟨2, ![256, 1]⟩
abbrev S128x128 : Shape := ⟨2, ![128, 128]⟩
abbrev S1x128x128 : Shape := ⟨3, ![1, 128, 128]⟩
abbrev S128x1 : Shape := ⟨2, ![128, 1]⟩
abbrev S128 : Shape := ⟨1, ![128]⟩
abbrev S2048 : Shape := ⟨1, ![2048]⟩

abbrev nBuf : Space → Nat
  | .hbm => 10
  | .vmem => 14
  | .smem => 0
  | _ => 0

abbrev bufTy : (tb : Table) → Fin (tcTables nBuf tb) → BufTy
  | .hbm, ⟨0, _⟩ => ⟨S4096x4096, .f32⟩
  | .hbm, ⟨1, _⟩ => ⟨S1x2048, .f32⟩
  | .hbm, ⟨2, _⟩ => ⟨S16x128x128, .f32⟩
  | .hbm, ⟨3, _⟩ => ⟨S16x128, .f32⟩
  | .hbm, ⟨4, _⟩ => ⟨S4096x2048, .f32⟩
  | .hbm, ⟨5, _⟩ => ⟨S128x16, .f32⟩
  | .hbm, ⟨6, _⟩ => ⟨S4096x4096, .bf16⟩
  | .hbm, ⟨7, _⟩ => ⟨S16x128x128, .f32⟩
  | .hbm, ⟨8, _⟩ => ⟨S128x16, .f32⟩
  | .hbm, ⟨9, _⟩ => ⟨S1x2048, .f32⟩
  | .local _ .vmem, ⟨0, _⟩ => ⟨S256x4096, .f32⟩
  | .local _ .vmem, ⟨1, _⟩ => ⟨S256x4096, .f32⟩
  | .local _ .vmem, ⟨2, _⟩ => ⟨S1x2048, .f32⟩
  | .local _ .vmem, ⟨3, _⟩ => ⟨S16x128x128, .f32⟩
  | .local _ .vmem, ⟨4, _⟩ => ⟨S128x16, .f32⟩
  | .local _ .vmem, ⟨5, _⟩ => ⟨S256x2048, .f32⟩
  | .local _ .vmem, ⟨6, _⟩ => ⟨S256x2048, .f32⟩
  | .local _ .vmem, ⟨7, _⟩ => ⟨S256x4096, .bf16⟩
  | .local _ .vmem, ⟨8, _⟩ => ⟨S256x4096, .bf16⟩
  | .local _ .vmem, ⟨9, _⟩ => ⟨S16x128x128, .f32⟩
  | .local _ .vmem, ⟨10, _⟩ => ⟨S128x16, .f32⟩
  | .local _ .vmem, ⟨11, _⟩ => ⟨S1x2048, .f32⟩
  | .local _ .vmem, ⟨12, _⟩ => ⟨S256x2048, .f32⟩
  | .local _ .vmem, ⟨13, _⟩ => ⟨S256x2048, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S16x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== KernelIdeal.lean ====
variable {F : FTy → Type} [FloatOps F] [Named F]
def κ : String → Option EReal := fun
  | "gelu_a" => some ((8943 / 200000 : ℝ) : EReal)
  | "gelu_a3" => some ((26829 / 200000 : ℝ) : EReal)
  | _ => none
-- ==== ReferenceIdeal.lean ====
abbrev S4096x4096 : Shape := ⟨2, ![4096, 4096]⟩
abbrev S1x2048 : Shape := ⟨2, ![1, 2048]⟩
abbrev S16x128x128 : Shape := ⟨3, ![16, 128, 128]⟩
abbrev S16x128 : Shape := ⟨2, ![16, 128]⟩
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S32x128x16x128 : Shape := ⟨4, ![32, 128, 16, 128]⟩
abbrev S128x128 : Shape := ⟨2, ![128, 128]⟩
abbrev S1x128x128 : Shape := ⟨3, ![1, 128, 128]⟩
abbrev S16x32x128x128 : Shape := ⟨4, ![16, 32, 128, 128]⟩
abbrev S128x16 : Shape := ⟨2, ![128, 16]⟩
abbrev S1x128x16x1 : Shape := ⟨4, ![1, 128, 16, 1]⟩
abbrev S2048 : Shape := ⟨1, ![2048]⟩

abbrev nBuf : Space → Nat
  | .hbm => 139
  | .vmem => 0
  | .smem => 0
  | _ => 0

abbrev hbmTy0_0 (i : Nat) : BufTy := match i % 128 with
  | 0 => ⟨S4096x4096, .f32⟩
  | 1 => ⟨S1x2048, .f32⟩
  | 2 => ⟨S16x128x128, .f32⟩
  | 3 => ⟨S16x128, .f32⟩
  | 4 => ⟨S4096x2048, .f32⟩
  | 5 => ⟨S_, .f32⟩
  | 6 => ⟨S_, .f32⟩
  | 7 => ⟨S_, .f32⟩
  | 8 => ⟨S4096x4096, .f32⟩
  | 9 => ⟨S4096x4096, .f32⟩
  | 10 => ⟨S4096x4096, .f32⟩
  | 11 => ⟨S_, .f32⟩
  | 12 => ⟨S4096x4096, .f32⟩
  | 13 => ⟨S4096x4096, .f32⟩
  | 14 => ⟨S4096x4096, .f32⟩
  | 15 => ⟨S4096x4096, .f32⟩
  | 16 => ⟨S4096x4096, .f32⟩
  | 17 => ⟨S_, .f32⟩
  | 18 => ⟨S4096x4096, .f32⟩
  | 19 => ⟨S4096x4096, .f32⟩
  | 20 => ⟨S4096x4096, .f32⟩
  | 21 => ⟨S_, .f32⟩
  | 22 => ⟨S4096x4096, .f32⟩
  | 23 => ⟨S4096x4096, .f32⟩
  | 24 => ⟨S_, .f32⟩
  | 25 => ⟨S4096x4096, .f32⟩
  | 26 => ⟨S4096x4096, .f32⟩
  | 27 => ⟨S4096x4096, .f32⟩
  | 28 => ⟨S_, .f32⟩
  | 29 => ⟨S4096x4096, .f32⟩
  | 30 => ⟨S4096x4096, .f32⟩
  | 31 => ⟨S_, .f32⟩
  | 32 => ⟨S4096x4096, .f32⟩
  | 33 => ⟨S4096x4096, .f32⟩
  | 34 => ⟨S4096x4096, .f32⟩
  | 35 => ⟨S4096x2048, .f32⟩
  | 36 => ⟨S4096x2048, .f32⟩
  | 37 => ⟨S4096x2048, .f32⟩
  | 38 => ⟨S_, .f32⟩
  | 39 => ⟨S4096, .f32⟩
  | 40 => ⟨S4096x1, .f32⟩
  | 41 => ⟨S_, .f32⟩
  | 42 => ⟨S4096x1, .f32⟩
  | 43 => ⟨S4096x1, .f32⟩
  | 44 => ⟨S_, .f32⟩
  | 45 => ⟨S4096x1, .f32⟩
  | 46 => ⟨S4096x1, .f32⟩
  | 47 => ⟨S4096x1, .f32⟩
  | 48 => ⟨S4096x1, .f32⟩
  | 49 => ⟨S_, .f32⟩
  | 50 => ⟨S4096x1, .f32⟩
  | 51 => ⟨S4096x1, .f32⟩
  | 52 => ⟨S4096x2048, .f32⟩
  | 53 => ⟨S4096x2048, .f32⟩
  | 54 => ⟨S4096x2048, .f32⟩
  | 55 => ⟨S4096x2048, .f32⟩
  | 56 => ⟨S32x128x16x128, .f32⟩
  | 57 => ⟨S_, .f32⟩
  | 58 => ⟨S128x128, .f32⟩
  | 59 => ⟨S128x128, .i32⟩
  | 60 => ⟨S_, .i32⟩
  | 61 => ⟨S128x128, .i32⟩
  | 62 => ⟨S128x128, .i32⟩
  | 63 => ⟨S128x128, .i32⟩
  | 64 => ⟨S128x128, .i1⟩
  | 65 => ⟨S_, .f32⟩
  | 66 => ⟨S128x128, .f32⟩
  | 67 => ⟨S128x128, .f32⟩
  | 68 => ⟨S1x128x128, .f32⟩
  | 69 => ⟨S16x128x128, .f32⟩
  | 70 => ⟨S16x128x128, .f32⟩
  | 71 => ⟨S16x32x128x128, .f32⟩
  | 72 => ⟨S32x128x16x128, .f32⟩
  | 73 => ⟨S128x16, .f32⟩
  | 74 => ⟨S1x128x16x1, .f32⟩
  | 75 => ⟨S32x128x16x128, .f32⟩
  | 76 => ⟨S32x128x16x128, .f32⟩
  | 77 => ⟨S4096x2048, .f32⟩
  | 78 => ⟨S4096x2048, .f32⟩
  | 79 => ⟨S4096x2048, .f32⟩
  | 80 => ⟨S4096x2048, .f32⟩
  | 81 => ⟨S32x128x16x128, .f32⟩
  | 82 => ⟨S_, .f32⟩
  | 83 => ⟨S128x16, .f32⟩
  | 84 => ⟨S1x128x16x1, .f32⟩
  | 85 => ⟨S_, .f32⟩
  | 86 => ⟨S128x16, .f32⟩
  | 87 => ⟨S16x128, .f32⟩
  | 88 => ⟨S16x32x128x128, .f32⟩
  | 89 => ⟨S16x128x128, .f32⟩
  | 90 => ⟨S16x32x128x128, .f32⟩
  | 91 => ⟨S32x128x16x128, .f32⟩
  | 92 => ⟨S16x128x128, .f32⟩
  | 93 => ⟨S16x128x128, .f32⟩
  | 94 => ⟨S4096x2048, .f32⟩
  | 95 => ⟨S4096x2048, .f32⟩
  | 96 => ⟨S_, .f32⟩
  | 97 => ⟨S2048, .f32⟩
  | 98 => ⟨S1x2048, .f32⟩
  | 99 => ⟨S4096x2048, .f32⟩
  | 100 => ⟨S4096x2048, .f32⟩
  | 101 => ⟨S4096x2048, .f32⟩
  | 102 => ⟨S_, .f32⟩
  | 103 => ⟨S4096, .f32⟩
  | 104 => ⟨S4096x1, .f32⟩
  | 105 => ⟨S4096x2048, .f32⟩
  | 106 => ⟨S4096x2048, .f32⟩
  | 107 => ⟨S4096x1, .f32⟩
  | 108 => ⟨S_, .f32⟩
  | 109 => ⟨S4096x1, .f32⟩
  | 110 => ⟨S4096x1, .f32⟩
  | 111 => ⟨S_, .f32⟩
  | 112 => ⟨S4096, .f32⟩
  | 113 => ⟨S4096x2048, .f32⟩
  | 114 => ⟨S4096x2048, .f32⟩
  | 115 => ⟨S4096x2048, .f32⟩
  | 116 => ⟨S4096x2048, .f32⟩
  | 117 => ⟨S4096x2048, .f32⟩
  | 118 => ⟨S_, .f32⟩
  | 119 => ⟨S4096x4096, .f32⟩
  | 120 => ⟨S_, .f32⟩
  | 121 => ⟨S4096x4096, .f32⟩
  | 122 => ⟨S4096x4096, .f32⟩
  | 123 => ⟨S4096x4096, .f32⟩
  | 124 => ⟨S4096x4096, .f32⟩
  | 125 => ⟨S_, .f32⟩
  | 126 => ⟨S4096x4096, .f32⟩
  | 127 => ⟨S4096x4096, .f32⟩
  | _ => ⟨S4096x4096, .f32⟩

abbrev hbmTy0_1 (i : Nat) : BufTy := match i % 128 with
  | 0 => ⟨S4096x4096, .f32⟩
  | 1 => ⟨S_, .f32⟩
  | 2 => ⟨S4096x4096, .f32⟩
  | 3 => ⟨S4096x4096, .f32⟩
  | 4 => ⟨S4096x4096, .f32⟩
  | 5 => ⟨S4096x4096, .f32⟩
  | 6 => ⟨S4096x4096, .f32⟩
  | 7 => ⟨S4096x4096, .f32⟩
  | 8 => ⟨S4096x4096, .f32⟩
  | 9 => ⟨S4096x4096, .bf16⟩
  | 10 => ⟨S128x16, .f32⟩
  | _ => ⟨S4096x4096, .f32⟩

abbrev hbmTy (i : Nat) : BufTy := match i / 128 with
  | 0 => hbmTy0_0 i
  | 1 => hbmTy0_1 i
  | _ => ⟨S4096x4096, .f32⟩

abbrev bufTy : (tb : Table) → Fin (tcTables nBuf tb) → BufTy
  | .hbm, ⟨i, _⟩ => hbmTy i
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_10 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_11 : Ref sig .tc := ⟨.hbm, 57, rfl⟩
abbrev main_v40 : Ref sig .tc := ⟨.hbm, 58, rfl⟩
abbrev main_call0_v0 : Ref sig .tc := ⟨.hbm, 59, rfl⟩
abbrev main_call0_c : Ref sig .tc := ⟨.hbm, 60, rfl⟩
abbrev main_call0_v1 : Ref sig .tc := ⟨.hbm, 61, rfl⟩
abbrev main_call0_v2 : Ref sig .tc := ⟨.hbm, 62, rfl⟩
abbrev main_call0_v3 : Ref sig .tc := ⟨.hbm, 63, rfl⟩
abbrev main_call0_v4 : Ref sig .tc := ⟨.hbm, 64, rfl⟩
abbrev main_call0_cst : Ref sig .tc := ⟨.hbm, 65, rfl⟩
abbrev main_call0_v5 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_12 : Ref sig .tc := ⟨.hbm, 82, rfl⟩
abbrev main_v56 : Ref sig .tc := ⟨.hbm, 83, rfl⟩
abbrev main_v57 : Ref sig .tc := ⟨.hbm, 84, rfl⟩
abbrev main_cst_13 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_14 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_15 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_cst_16 : Ref sig .tc := ⟨.hbm, 108, rfl⟩
abbrev main_v78 : Ref sig .tc := ⟨.hbm, 109, rfl⟩
abbrev main_v79 : Ref sig .tc := ⟨.hbm, 110, rfl⟩
abbrev main_cst_17 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_cst_18 : Ref sig .tc := ⟨.hbm, 118, rfl⟩
abbrev main_v86 : Ref sig .tc := ⟨.hbm, 119, rfl⟩
abbrev main_cst_19 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_cst_20 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_cst_21 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩

abbrev nD : Nat := 1
abbrev τ : Topo := Topo.v7x

variable {F : FTy → Type} [FloatOps F]
-- ==== Kernel2.lean ====
abbrev S4096x2048 : Shape := ⟨2, ![4096, 2048]⟩
abbrev S5632x2048 : Shape := ⟨2, ![5632, 2048]⟩
abbrev S4096x5632 : Shape := ⟨2, ![4096, 5632]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S4096x5632, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4096x2048 : Shape := ⟨2, ![4096, 2048]⟩
abbrev S5632x2048 : Shape := ⟨2, ![5632, 2048]⟩
abbrev S_ : Shape := ⟨0, ![]⟩
abbrev S4096x5632 : Shape := ⟨2, ![4096, 5632]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S_, .f32⟩
  | .hbm, ⟨3, _⟩ => ⟨S4096x5632, .f32⟩
  | .hbm, ⟨4, _⟩ => ⟨S5632x2048, .f32⟩
  | .hbm, ⟨5, _⟩ => ⟨S4096x2048, .f32⟩
  | .hbm, ⟨6, _⟩ => ⟨S4096x2048, .f32⟩
  | .hbm, ⟨7, _⟩ => ⟨S4096x5632, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel3.lean ====
abbrev S4096x5632 : Shape := ⟨2, ![4096, 5632]⟩
abbrev S4096x2048 : Shape := ⟨2, ![4096, 2048]⟩
abbrev S5632x2048 : Shape := ⟨2, ![5632, 2048]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S5632x2048, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x5632 : Shape := ⟨2, ![4096, 5632]⟩
abbrev S4096x2048 : Shape := ⟨2, ![4096, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 10
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S_, .f32⟩
  | .hbm, ⟨3, _⟩ => ⟨S5632x2048, .f32⟩
  | .hbm, ⟨4, _⟩ => ⟨S4096x5632, .f32⟩
  | .hbm, ⟨5, _⟩ => ⟨S4096x2048, .f32⟩
  | .hbm, ⟨6, _⟩ => ⟨S4096x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S2x4096x5632 : Shape := ⟨3, ![2, 4096, 5632]⟩
abbrev S11264x2048 : Shape := ⟨2, ![11264, 2048]⟩
abbrev S4096x2048 : Shape := ⟨2, ![4096, 2048]⟩
abbrev S1x1024x5632 : Shape := ⟨3, ![1, 1024, 5632]⟩
abbrev S5632x512 : Shape := ⟨2, ![5632, 512]⟩
abbrev S1024x512 : Shape := ⟨2, ![1024, 512]⟩
abbrev S1024x5632 : Shape := ⟨2, ![1024, 5632]⟩

abbrev nBuf : Space → Nat
  | .hbm => 3
  | .vmem => 7
  | .smem => 0
  | _ => 0

abbrev bufTy : (tb : Table) → Fin (tcTables nBuf tb) → BufTy
  | .hbm, ⟨0, _⟩ => ⟨S2x4096x5632, .bf16⟩
  | .hbm, ⟨1, _⟩ => ⟨S11264x2048, .bf16⟩
  | .hbm, ⟨2, _⟩ => ⟨S4096x2048, .f32⟩
  | .local _ .vmem, ⟨0, _⟩ => ⟨S1x1024x5632, .bf16⟩
  | .local _ .vmem, ⟨1, _⟩ => ⟨S1x1024x5632, .bf16⟩
  | .local _ .vmem, ⟨2, _⟩ => ⟨S5632x512, .bf16⟩
  | .local _ .vmem, ⟨3, _⟩ => ⟨S5632x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S2x4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_7 : BitVec 32 := 0#32
  let v12 : BitVec 1 := Scalar.cmpi .ne v11 c0_i32_7
  v12

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S2x4096x5632 : Shape := ⟨3, ![2, 4096, 5632]⟩
abbrev S11264x2048 : Shape := ⟨2, ![11264, 2048]⟩
abbrev S1x4096x5632 : Shape := ⟨3, ![1, 4096, 5632]⟩
abbrev S4096x5632 : Shape := ⟨2, ![4096, 5632]⟩
abbrev S4096x11264 : Shape := ⟨2, ![4096, 11264]⟩
abbrev S_ : Shape := ⟨0, ![]⟩
abbrev S4096x2048 : Shape := ⟨2, ![4096, 2048]⟩
abbrev S2048x11264 : Shape := ⟨2, ![2048, 11264]⟩

abbrev nBuf : Space → Nat
  | .hbm => 14
  | .vmem => 0
  | .smem => 0
  | _ => 0

abbrev bufTy : (tb : Table) → Fin (tcTables nBuf tb) → BufTy
  | .hbm, ⟨0, _⟩ => ⟨S2x4096x5632, .bf16⟩
  | .hbm, ⟨1, _⟩ => ⟨S11264x2048, .bf16⟩
  | .hbm, ⟨2, _⟩ => ⟨S1x4096x5632, .bf16⟩
  | .hbm, ⟨3, _⟩ => ⟨S4096x5632, .bf16⟩
  | .hbm, ⟨4, _⟩ => ⟨S1x4096x5632, .bf16⟩
  | .hbm, ⟨5, _⟩ => ⟨S4096x5632, .bf16⟩
  | .hbm, ⟨6, _⟩ => ⟨S4096x11264, .bf16⟩
  | .hbm, ⟨7, _⟩ => ⟨S4096x11264, .f32⟩
  | .hbm, ⟨8, _⟩ => ⟨S_, .f32⟩
  | .hbm, ⟨9, _⟩ => ⟨S4096x2048, .f32⟩
  | .hbm, ⟨10, _⟩ => ⟨S11264x2048, .f32⟩
  | .hbm, ⟨11, _⟩ => ⟨S2048x11264, .f32⟩
  | .hbm, ⟨12, _⟩ => ⟨S4096x11264, .f32⟩
  | .hbm, ⟨13, _⟩ => ⟨S4096x2048, .f32⟩
  | _, _ => ⟨S2x4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel5.lean ====
abbrev S2x4096x5632 : Shape := ⟨3, ![2, 4096, 5632]⟩
abbrev S4096x2048 : Shape := ⟨2, ![4096, 2048]⟩
abbrev S11264x2048 : Shape := ⟨2, ![11264, 2048]⟩
abbrev S1x4096x512 : Shape := ⟨3, ![1, 4096, 512]⟩
abbrev S4096x1024 : Shape := ⟨2, ![4096, 1024]⟩
abbrev S512x1024 : Shape := ⟨2, ![512, 1024]⟩
abbrev S4096x512 : Shape := ⟨2, ![4096, 512]⟩

abbrev nBuf : Space → Nat
  | .hbm => 3
  | .vmem => 6
  | .smem => 0
  | _ => 0

abbrev bufTy : (tb : Table) → Fin (tcTables nBuf tb) → BufTy
  | .hbm, ⟨0, _⟩ => ⟨S2x4096x5632, .bf16⟩
  | .hbm, ⟨1, _⟩ => ⟨S4096x2048, .bf16⟩
  | .hbm, ⟨2, _⟩ => ⟨S11264x2048, .bf16⟩
  | .local _ .vmem, ⟨0, _⟩ => ⟨S1x4096x512, .bf16⟩
  | .local _ .vmem, ⟨1, _⟩ => ⟨S1x4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | _, _ => ⟨S2x4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![22, 2, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.divsi arg0 c11_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c11_i32 c0_i32_1
  let v7 : BitVec 32 := Scalar.extui v6
  let c0_i32_2 : BitVec 32 := 0#32
  let v8 : BitVec 1 := Scalar.cmpi .slt c11_i32 c0_i32_2
  let v9 : BitVec 32 := Scalar.extui v8
  let v10 : BitVec 32 := Scalar.subi v7 v9
  let v11 : BitVec 1 := Scalar.cmpi .ne v5 v10
  let v12 : BitVec 32 := Scalar.remsi arg0 c11_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c11_i32_4 : BitVec 32 := 11#32
  let c0_i32_5 : BitVec 32 := 0#32
  let v17 : BitVec 1 := Scalar.cmpi .eq c11_i32_4 c0_i32_5
  let c1_i32_6 : BitVec 32 := 1#32
  let v18 : BitVec 32 := Scalar.select v17 c1_i32_6 c11_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S2x4096x5632 : Shape := ⟨3, ![2, 4096, 5632]⟩
abbrev S4096x2048 : Shape := ⟨2, ![4096, 2048]⟩
abbrev S1x4096x5632 : Shape := ⟨3, ![1, 4096, 5632]⟩
abbrev S4096x5632 : Shape := ⟨2, ![4096, 5632]⟩
abbrev S4096x11264 : Shape := ⟨2, ![4096, 11264]⟩
abbrev S_ : Shape := ⟨0, ![]⟩
abbrev S11264x2048 : Shape := ⟨2, ![11264, 2048]⟩
abbrev S2048x11264 : Shape := ⟨2, ![2048, 11264]⟩

abbrev nBuf : Space → Nat
  | .hbm => 17
  | .vmem => 0
  | .smem => 0
  | _ => 0

abbrev bufTy : (tb : Table) → Fin (tcTables nBuf tb) → BufTy
  | .hbm, ⟨0, _⟩ => ⟨S2x4096x5632, .bf16⟩
  | .hbm, ⟨1, _⟩ => ⟨S4096x2048, .bf16⟩
  | .hbm, ⟨2, _⟩ => ⟨S1x4096x5632, .bf16⟩
  | .hbm, ⟨3, _⟩ => ⟨S4096x5632, .bf16⟩
  | .hbm, ⟨4, _⟩ => ⟨S1x4096x5632, .bf16⟩
  | .hbm, ⟨5, _⟩ => ⟨S4096x5632, .bf16⟩
  | .hbm, ⟨6, _⟩ => ⟨S4096x11264, .bf16⟩
  | .hbm, ⟨7, _⟩ => ⟨S4096x11264, .f32⟩
  | .hbm, ⟨8, _⟩ => ⟨S_, .f32⟩
  | .hbm, ⟨9, _⟩ => ⟨S11264x2048, .f32⟩
  | .hbm, ⟨10, _⟩ => ⟨S4096x2048, .f32⟩
  | .hbm, ⟨11, _⟩ => ⟨S2048x11264, .f32⟩
  | .hbm, ⟨12, _⟩ => ⟨S4096x11264, .f32⟩
  | .hbm, ⟨13, _⟩ => ⟨S11264x2048, .f32⟩
  | .hbm, ⟨14, _⟩ => ⟨S2048x11264, .f32⟩
  | .hbm, ⟨15, _⟩ => ⟨S11264x2048, .f32⟩
  | .hbm, ⟨16, _⟩ => ⟨S11264x2048, .bf16⟩
  | _, _ => ⟨S2x4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== Kernel6.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S_, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S4096x2048 : Shape := ⟨2, ![4096, 2048]⟩
abbrev S2048x2048 : Shape := ⟨2, ![2048, 2048]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S4096x6144 : Shape := ⟨2, ![4096, 6144]⟩
abbrev S6144x2048 : Shape := ⟨2, ![6144, 2048]⟩
abbrev S4096x2048 : Shape := ⟨2, ![4096, 2048]⟩
abbrev S1024x6144 : Shape := ⟨2, ![1024, 6144]⟩
abbrev S6144x512 : Shape := ⟨2, ![6144, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x6144, .bf16⟩
  | .hbm, ⟨1, _⟩ => ⟨S6144x2048, .bf16⟩
  | .hbm, ⟨2, _⟩ => ⟨S4096x2048, .f32⟩
  | .local _ .vmem, ⟨0, _⟩ => ⟨S1024x6144, .bf16⟩
  | .local _ .vmem, ⟨1, _⟩ => ⟨S1024x6144, .bf16⟩
  | .local _ .vmem, ⟨2, _⟩ => ⟨S6144x512, .bf16⟩
  | .local _ .vmem, ⟨3, _⟩ => ⟨S6144x512, .bf16⟩
  | .local _ .vmem, ⟨4, _⟩ => ⟨S1024x512, .f32⟩
  | .local _ .vmem, ⟨5, _⟩ => ⟨S1024x512, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S6144x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x6144 : Shape := ⟨2, ![4096, 6144]⟩
abbrev S6144x2048 : Shape := ⟨2, ![6144, 2048]⟩
abbrev S_ : Shape := ⟨0, ![]⟩
abbrev S4096x2048 : Shape := ⟨2, ![4096, 2048]⟩
abbrev S2048x6144 : Shape := ⟨2, ![2048, 6144]⟩

abbrev nBuf : Space → Nat
  | .hbm => 9
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S6144x2048, .bf16⟩
  | .hbm, ⟨2, _⟩ => ⟨S_, .f32⟩
  | .hbm, ⟨3, _⟩ => ⟨S4096x2048, .f32⟩
  | .hbm, ⟨4, _⟩ => ⟨S6144x2048, .f32⟩
  | .hbm, ⟨5, _⟩ => ⟨S2048x6144, .f32⟩
  | .hbm, ⟨6, _⟩ => ⟨S4096x6144, .f32⟩
  | .hbm, ⟨7, _⟩ => ⟨S4096x6144, .f32⟩
  | .hbm, ⟨8, _⟩ => ⟨S4096x2048, .f32⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel9.lean ====
abbrev S4096x6144 : Shape := ⟨2, ![4096, 6144]⟩
abbrev S4096x2048 : Shape := ⟨2, ![4096, 2048]⟩
abbrev S6144x2048 : Shape := ⟨2, ![6144, 2048]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x6144, .bf16⟩
  | .hbm, ⟨1, _⟩ => ⟨S4096x2048, .bf16⟩
  | .hbm, ⟨2, _⟩ => ⟨S6144x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x6144 : Shape := ⟨2, ![4096, 6144]⟩
abbrev S4096x2048 : Shape := ⟨2, ![4096, 2048]⟩
abbrev S_ : Shape := ⟨0, ![]⟩
abbrev S6144x2048 : Shape := ⟨2, ![6144, 2048]⟩
abbrev S2048x6144 : Shape := ⟨2, ![2048, 6144]⟩

abbrev nBuf : Space → Nat
  | .hbm => 12
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S4096x2048, .bf16⟩
  | .hbm, ⟨2, _⟩ => ⟨S_, .f32⟩
  | .hbm, ⟨3, _⟩ => ⟨S6144x2048, .f32⟩
  | .hbm, ⟨4, _⟩ => ⟨S4096x2048, .f32⟩
  | .hbm, ⟨5, _⟩ => ⟨S2048x6144, .f32⟩
  | .hbm, ⟨6, _⟩ => ⟨S4096x6144, .f32⟩
  | .hbm, ⟨7, _⟩ => ⟨S4096x6144, .f32⟩
  | .hbm, ⟨8, _⟩ => ⟨S6144x2048, .f32⟩
  | .hbm, ⟨9, _⟩ => ⟨S2048x6144, .f32⟩
  | .hbm, ⟨10, _⟩ => ⟨S6144x2048, .f32⟩
  | .hbm, ⟨11, _⟩ => ⟨S6144x2048, .bf16⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel10.lean ====
abbrev S4096x4096 : Shape := ⟨2, ![4096, 4096]⟩
abbrev S4096x2048 : Shape := ⟨2, ![4096, 2048]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x2048, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x4096 : Shape := ⟨2, ![4096, 4096]⟩
abbrev S4096x2048 : Shape := ⟨2, ![4096, 2048]⟩
abbrev S_ : Shape := ⟨0, ![]⟩
abbrev S2048x4096 : Shape := ⟨2, ![2048, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S_, .f32⟩
  | .hbm, ⟨3, _⟩ => ⟨S4096x2048, .f32⟩
  | .hbm, ⟨4, _⟩ => ⟨S4096x2048, .f32⟩
  | .hbm, ⟨5, _⟩ => ⟨S2048x4096, .f32⟩
  | .hbm, ⟨6, _⟩ => ⟨S4096x4096, .f32⟩
  | .hbm, ⟨7, _⟩ => ⟨S4096x4096, .f32⟩
  | .hbm, ⟨8, _⟩ => ⟨S4096x2048, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel11.lean ====
abbrev S4096x4096 : Shape := ⟨2, ![4096, 4096]⟩
abbrev S4096x2048 : Shape := ⟨2, ![4096, 2048]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x4096 : Shape := ⟨2, ![4096, 4096]⟩
abbrev S4096x2048 : Shape := ⟨2, ![4096, 2048]⟩
abbrev S_ : Shape := ⟨0, ![]⟩
abbrev S2048x4096 : Shape := ⟨2, ![2048, 4096]⟩

abbrev nBuf : Space → Nat
  | .hbm => 12
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S_, .f32⟩
  | .hbm, ⟨3, _⟩ => ⟨S4096x2048, .f32⟩
  | .hbm, ⟨4, _⟩ => ⟨S4096x2048, .f32⟩
  | .hbm, ⟨5, _⟩ => ⟨S2048x4096, .f32⟩
  | .hbm, ⟨6, _⟩ => ⟨S4096x4096, .f32⟩
  | .hbm, ⟨7, _⟩ => ⟨S4096x4096, .f32⟩
  | .hbm, ⟨8, _⟩ => ⟨S4096x2048, .f32⟩
  | .hbm, ⟨9, _⟩ => ⟨S2048x4096, .f32⟩
  | .hbm, ⟨10, _⟩ => ⟨S4096x2048, .f32⟩
  | .hbm, ⟨11, _⟩ => ⟨S4096x2048, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel12.lean ====
abbrev S4096x2048 : Shape := ⟨2, ![4096, 2048]⟩
abbrev S6144x2048 : Shape := ⟨2, ![6144, 2048]⟩
abbrev S4096x6144 : Shape := ⟨2, ![4096, 6144]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S6144x2048, .bf16⟩
  | .hbm, ⟨2, _⟩ => ⟨S4096x6144, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x2048 : Shape := ⟨2, ![4096, 2048]⟩
abbrev S6144x2048 : Shape := ⟨2, ![6144, 2048]⟩
abbrev S2048x6144 : Shape := ⟨2, ![2048, 6144]⟩
abbrev S4096x6144 : Shape := ⟨2, ![4096, 6144]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S6144x2048, .bf16⟩
  | .hbm, ⟨2, _⟩ => ⟨S4096x2048, .f32⟩
  | .hbm, ⟨3, _⟩ => ⟨S6144x2048, .f32⟩
  | .hbm, ⟨4, _⟩ => ⟨S2048x6144, .f32⟩
  | .hbm, ⟨5, _⟩ => ⟨S4096x6144, .f32⟩
  | .hbm, ⟨6, _⟩ => ⟨S4096x6144, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel13.lean ====
abbrev S4096x2048 : Shape := ⟨2, ![4096, 2048]⟩
abbrev S4096x4096 : Shape := ⟨2, ![4096, 4096]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x2048 : Shape := ⟨2, ![4096, 2048]⟩
abbrev S2048x4096 : Shape := ⟨2, ![2048, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .f32⟩
  | .hbm, ⟨3, _⟩ => ⟨S4096x2048, .f32⟩
  | .hbm, ⟨4, _⟩ => ⟨S2048x4096, .f32⟩
  | .hbm, ⟨5, _⟩ => ⟨S4096x4096, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel14.lean ====
abbrev S4096x2048 : Shape := ⟨2, ![4096, 2048]⟩
abbrev S11264x2048 : Shape := ⟨2, ![11264, 2048]⟩
abbrev S2x4096x5632 : Shape := ⟨3, ![2, 4096, 5632]⟩
abbrev S1024x2048 : Shape := ⟨2, ![1024, 2048]⟩
abbrev S512x2048 : Shape := ⟨2, ![512, 2048]⟩
abbrev S1x1024x512 : Shape := ⟨3, ![1, 1024, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S11264x2048, .bf16⟩
  | .hbm, ⟨2, _⟩ => ⟨S2x4096x5632, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1x1024x512, .f32⟩
  | .local _ .vmem, ⟨5, _⟩ => ⟨S1x1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 22, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.divsi arg1 c11_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c11_i32 c0_i32_1
  let v7 : BitVec 32 := Scalar.extui v6
  let c0_i32_2 : BitVec 32 := 0#32
  let v8 : BitVec 1 := Scalar.cmpi .slt c11_i32 c0_i32_2
  let v9 : BitVec 32 := Scalar.extui v8
  let v10 : BitVec 32 := Scalar.subi v7 v9
  let v11 : BitVec 1 := Scalar.cmpi .ne v5 v10
  let v12 : BitVec 32 := Scalar.remsi arg1 c11_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c11_i32_4 : BitVec 32 := 11#32
  let c0_i32_5 : BitVec 32 := 0#32
  let v17 : BitVec 1 := Scalar.cmpi .eq c11_i32_4 c0_i32_5
  let c1_i32_6 : BitVec 32 := 1#32
  let v18 : BitVec 32 := Scalar.select v17 c1_i32_6 c11_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S4096x2048 : Shape := ⟨2, ![4096, 2048]⟩
abbrev S11264x2048 : Shape := ⟨2, ![11264, 2048]⟩
abbrev S2048x11264 : Shape := ⟨2, ![2048, 11264]⟩
abbrev S4096x11264 : Shape := ⟨2, ![4096, 11264]⟩
abbrev S4096x5632 : Shape := ⟨2, ![4096, 5632]⟩
abbrev S1x4096x5632 : Shape := ⟨3, ![1, 4096, 5632]⟩
abbrev S2x4096x5632 : Shape := ⟨3, ![2, 4096, 5632]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S11264x2048, .bf16⟩
  | .hbm, ⟨2, _⟩ => ⟨S4096x2048, .f32⟩
  | .hbm, ⟨3, _⟩ => ⟨S11264x2048, .f32⟩
  | .hbm, ⟨4, _⟩ => ⟨S2048x11264, .f32⟩
  | .hbm, ⟨5, _⟩ => ⟨S4096x11264, .f32⟩
  | .hbm, ⟨6, _⟩ => ⟨S4096x5632, .f32⟩
  | .hbm, ⟨7, _⟩ => ⟨S4096x5632, .f32⟩
  | .hbm, ⟨8, _⟩ => ⟨S1x4096x5632, .f32⟩
  | .hbm, ⟨9, _⟩ => ⟨S1x4096x5632, .f32⟩
  | .hbm, ⟨10, _⟩ => ⟨S2x4096x5632, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]
-- ==== Kernel15.lean ====
abbrev S4096x2048 : Shape := ⟨2, ![4096, 2048]⟩
abbrev S2048x2048 : Shape := ⟨2, ![2048, 2048]⟩
abbrev S1x2048 : Shape := ⟨2, ![1, 2048]⟩
abbrev S1024x2048 : Shape := ⟨2, ![1024, 2048]⟩
abbrev S2048x1024 : Shape := ⟨2, ![2048, 1024]⟩
abbrev S1024x1024 : Shape := ⟨2, ![1024, 1024]⟩
abbrev S1x1024 : Shape := ⟨2, ![1, 1024]⟩

abbrev nBuf : Space → Nat
  | .hbm => 6
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference15Ideal.lean ====
abbrev S4096x2048 : Shape := ⟨2, ![4096, 2048]⟩
abbrev S2048x2048 : Shape := ⟨2, ![2048, 2048]⟩
abbrev S1x2048 : Shape := ⟨2, ![1, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S2048x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel16.lean ====
abbrev S4096x5632 : Shape := ⟨2, ![4096, 5632]⟩
abbrev S5632x2048 : Shape := ⟨2, ![5632, 2048]⟩
abbrev S4096x2048 : Shape := ⟨2, ![4096, 2048]⟩
abbrev S1x2048 : Shape := ⟨2, ![1, 2048]⟩
abbrev S1024x2816 : Shape := ⟨2, ![1024, 2816]⟩
abbrev S2816x512 : Shape := ⟨2, ![2816, 512]⟩
abbrev S1024x512 : Shape := ⟨2, ![1024, 512]⟩
abbrev S1x512 : Shape := ⟨2, ![1, 512]⟩

abbrev nBuf : Space → Nat
  | .hbm => 6
  | .vmem => 13
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S4096x2048, .bf16⟩
  | .local _ .vmem, ⟨0, _⟩ => ⟨S1024x2816, .bf16⟩
  | .local _ .vmem, ⟨1, _⟩ => ⟨S1024x2816, .bf16⟩
  | .local _ .vmem, ⟨2, _⟩ => ⟨S2816x512, .bf16⟩
  | .local _ .vmem, ⟨3, _⟩ => ⟨S2816x512, .bf16⟩
  | .local _ .vmem, ⟨4, _⟩ => ⟨S1024x512, .f32⟩
  | .local _ .vmem, ⟨5, _⟩ => ⟨S1024x512, .f32⟩
  | .local _ .vmem, ⟨6, _⟩ => ⟨S1x512, .f32⟩
  | .local _ .vmem, ⟨7, _⟩ => ⟨S1x512, .f32⟩
  | .local _ .vmem, ⟨8, _⟩ => ⟨S1024x512, .f32⟩
  | .local _ .vmem, ⟨9, _⟩ => ⟨S1024x512, .f32⟩
  | .local _ .vmem, ⟨10, _⟩ => ⟨S1024x512, .bf16⟩
  | .local _ .vmem, ⟨11, _⟩ => ⟨S1024x512, .bf16⟩
  | .local _ .vmem, ⟨12, _⟩ => ⟨S1024x512, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference16Ideal.lean ====
abbrev S4096x5632 : Shape := ⟨2, ![4096, 5632]⟩
abbrev S5632x2048 : Shape := ⟨2, ![5632, 2048]⟩
abbrev S4096x2048 : Shape := ⟨2, ![4096, 2048]⟩
abbrev S1x2048 : Shape := ⟨2, ![1, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S1x2048, .f32⟩
  | .hbm, ⟨4, _⟩ => ⟨S4096x5632, .f32⟩
  | .hbm, ⟨5, _⟩ => ⟨S5632x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel17.lean ====
abbrev S4096x2048 : Shape := ⟨2, ![4096, 2048]⟩
abbrev S1x2048 : Shape := ⟨2, ![1, 2048]⟩
abbrev S256x2048 : Shape := ⟨2, ![256, 2048]⟩
abbrev S2048 : Shape := ⟨1, ![2048]⟩

abbrev nBuf : Space → Nat
  | .hbm => 5
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S1x2048, .f32⟩
  | .hbm, ⟨3, _⟩ => ⟨S4096x2048, .bf16⟩
  | .hbm, ⟨4, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S1x2048, .f32⟩
  | .local _ .vmem, ⟨5, _⟩ => ⟨S256x2048, .bf16⟩
  | .local _ .vmem, ⟨6, _⟩ => ⟨S256x2048, .bf16⟩
  | .local _ .vmem, ⟨7, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference17Ideal.lean ====
abbrev S4096x2048 : Shape := ⟨2, ![4096, 2048]⟩
abbrev S1x2048 : Shape := ⟨2, ![1, 2048]⟩
abbrev S_ : Shape := ⟨0, ![]⟩
abbrev S2048 : Shape := ⟨1, ![2048]⟩

abbrev nBuf : Space → Nat
  | .hbm => 16
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S1x2048, .f32⟩
  | .hbm, ⟨3, _⟩ => ⟨S_, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S2048, .f32⟩
  | .hbm, ⟨14, _⟩ => ⟨S1x2048, .f32⟩
  | .hbm, ⟨15, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Kernel18.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 9
  | .vmem => 13
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x2048, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S1x2048, .f32⟩
  | .hbm, ⟨7, _⟩ => ⟨S1x2048, .f32⟩
  | .hbm, ⟨8, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S1x2048, .f32⟩
  | .local _ .vmem, ⟨11, _⟩ => ⟨S1x2048, .f32⟩
  | .local _ .vmem, ⟨12, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference18Ideal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 67
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S1x2048, .f32⟩
  | .hbm, ⟨7, _⟩ => ⟨S4096x2048, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S1x2048, .f32⟩
  | .hbm, ⟨28, _⟩ => ⟨S1x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S_, .f32⟩
  | .hbm, ⟨35, _⟩ => ⟨S2048, .f32⟩
  | .hbm, ⟨36, _⟩ => ⟨S1x2048, .f32⟩
  | .hbm, ⟨37, _⟩ => ⟨S4096x2048, .f32⟩
  | .hbm, ⟨38, _⟩ => ⟨S_, .f32⟩
  | .hbm, ⟨39, _⟩ => ⟨S2048, .f32⟩
  | .hbm, ⟨40, _⟩ => ⟨S1x2048, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S_, .f32⟩
  | .hbm, ⟨45, _⟩ => ⟨S2048, .f32⟩
  | .hbm, ⟨46, _⟩ => ⟨S1x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S_, .f32⟩
  | .hbm, ⟨51, _⟩ => ⟨S4096, .f32⟩
  | .hbm, ⟨52, _⟩ => ⟨S4096x1, .f32⟩
  | .hbm, ⟨53, _⟩ => ⟨S4096x2048, .f32⟩
  | .hbm, ⟨54, _⟩ => ⟨S4096x2048, .f32⟩
  | .hbm, ⟨55, _⟩ => ⟨S4096x2048, .f32⟩
  | .hbm, ⟨56, _⟩ => ⟨S4096x1, .f32⟩
  | .hbm, ⟨57, _⟩ => ⟨S_, .f32⟩
  | .hbm, ⟨58, _⟩ => ⟨S4096x1, .f32⟩
  | .hbm, ⟨59, _⟩ => ⟨S4096x1, .f32⟩
  | .hbm, ⟨60, _⟩ => ⟨S_, .f32⟩
  | .hbm, ⟨61, _⟩ => ⟨S4096, .f32⟩
  | .hbm, ⟨62, _⟩ => ⟨S4096x2048, .f32⟩
  | .hbm, ⟨63, _⟩ => ⟨S4096x2048, .f32⟩
  | .hbm, ⟨64, _⟩ => ⟨S4096x2048, .f32⟩
  | .hbm, ⟨65, _⟩ => ⟨S4096x2048, .f32⟩
  | .hbm, ⟨66, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_9 : Ref sig .tc := ⟨.hbm, 57, rfl⟩
abbrev main_v42 : Ref sig .tc := ⟨.hbm, 58, rfl⟩
abbrev main_v43 : Ref sig .tc := ⟨.hbm, 59, rfl⟩
abbrev main_cst_10 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩

abbrev nD : Nat := 1
abbrev τ : Topo := Topo.v7x

variable {F : FTy → Type} [FloatOps F]
-- ==== Kernel19.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S256x2048, .bf16⟩
  | .local _ .vmem, ⟨6, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference19Ideal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 27
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Kernel20.lean ====
abbrev S2x4096x5632 : Shape := ⟨3, ![2, 4096, 5632]⟩
abbrev S3x11264 : Shape := ⟨2, ![3, 11264]⟩
abbrev S1x11264 : Shape := ⟨2, ![1, 11264]⟩
abbrev S4096x5632 : Shape := ⟨2, ![4096, 5632]⟩
abbrev S2x512x512 : Shape := ⟨3, ![2, 512, 512]⟩
abbrev S2x8x512 : Shape := ⟨3, ![2, 8, 512]⟩
abbrev S3x512 : Shape := ⟨2, ![3, 512]⟩
abbrev S1x512 : Shape := ⟨2, ![1, 512]⟩
abbrev S512x512 : Shape := ⟨2, ![512, 512]⟩
abbrev S1x512x512 : Shape := ⟨3, ![1, 512, 512]⟩
abbrev S1x1x512 : Shape := ⟨3, ![1, 1, 512]⟩

abbrev nBuf : Space → Nat
  | .hbm => 4
  | .vmem => 14
  | .smem => 0
  | _ => 0

abbrev bufTy : (tb : Table) → Fin (tcTables nBuf tb) → BufTy
  | .hbm, ⟨0, _⟩ => ⟨S2x4096x5632, .f32⟩
  | .hbm, ⟨1, _⟩ => ⟨S3x11264, .f32⟩
  | .hbm, ⟨2, _⟩ => ⟨S1x11264, .f32⟩
  | .hbm, ⟨3, _⟩ => ⟨S4096x5632, .bf16⟩
  | .local _ .vmem, ⟨0, _⟩ => ⟨S2x512x512, .f32⟩
  | .local _ .vmem, ⟨1, _⟩ => ⟨S2x512x512, .f32⟩
  | .local _ .vmem, ⟨2, _⟩ => ⟨S2x8x512, .f32⟩
  | .local _ .vmem, ⟨3, _⟩ => ⟨S2x8x512, .f32⟩
  | .local _ .vmem, ⟨4, _⟩ => ⟨S3x512, .f32⟩
  | .local _ .vmem, ⟨5, _⟩ => ⟨S3x512, .f32⟩
  | .local _ .vmem, ⟨6, _⟩ => ⟨S3x512, .f32⟩
  | .local _ .vmem, ⟨7, _⟩ => ⟨S3x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S512x512, .bf16⟩
  | .local _ .vmem, ⟨13, _⟩ => ⟨S512x512, .bf16⟩
  | _, _ => ⟨S2x4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![11, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![c0_i32_0.toNat, v2.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference20Ideal.lean ====
abbrev S2x4096x5632 : Shape := ⟨3, ![2, 4096, 5632]⟩
abbrev S3x11264 : Shape := ⟨2, ![3, 11264]⟩
abbrev S1x11264 : Shape := ⟨2, ![1, 11264]⟩
abbrev S1x4096x5632 : Shape := ⟨3, ![1, 4096, 5632]⟩
abbrev S4096x5632 : Shape := ⟨2, ![4096, 5632]⟩
abbrev S4096x11264 : Shape := ⟨2, ![4096, 11264]⟩
abbrev S11264 : Shape := ⟨1, ![11264]⟩
abbrev S_ : Shape := ⟨0, ![]⟩
abbrev S2x11264 : Shape := ⟨2, ![2, 11264]⟩
abbrev S4098x11264 : Shape := ⟨2, ![4098, 11264]⟩

abbrev nBuf : Space → Nat
  | .hbm => 48
  | .vmem => 0
  | .smem => 0
  | _ => 0

abbrev bufTy : (tb : Table) → Fin (tcTables nBuf tb) → BufTy
  | .hbm, ⟨0, _⟩ => ⟨S2x4096x5632, .f32⟩
  | .hbm, ⟨1, _⟩ => ⟨S3x11264, .f32⟩
  | .hbm, ⟨2, _⟩ => ⟨S1x11264, .f32⟩
  | .hbm, ⟨3, _⟩ => ⟨S1x4096x5632, .f32⟩
  | .hbm, ⟨4, _⟩ => ⟨S4096x5632, .f32⟩
  | .hbm, ⟨5, _⟩ => ⟨S1x4096x5632, .f32⟩
  | .hbm, ⟨6, _⟩ => ⟨S4096x5632, .f32⟩
  | .hbm, ⟨7, _⟩ => ⟨S4096x11264, .f32⟩
  | .hbm, ⟨8, _⟩ => ⟨S11264, .f32⟩
  | .hbm, ⟨9, _⟩ => ⟨S_, .f32⟩
  | .hbm, ⟨10, _⟩ => ⟨S2x11264, .f32⟩
  | .hbm, ⟨11, _⟩ => ⟨S4098x11264, .f32⟩
  | .hbm, ⟨12, _⟩ => ⟨S1x11264, .f32⟩
  | .hbm, ⟨13, _⟩ => ⟨S11264, .f32⟩
  | .hbm, ⟨14, _⟩ => ⟨S4096x11264, .f32⟩
  | .hbm, ⟨15, _⟩ => ⟨S1x11264, .f32⟩
  | .hbm, ⟨16, _⟩ => ⟨S4096x11264, .f32⟩
  | .hbm, ⟨17, _⟩ => ⟨S4096x11264, .f32⟩
  | .hbm, ⟨18, _⟩ => ⟨S1x11264, .f32⟩
  | .hbm, ⟨19, _⟩ => ⟨S11264, .f32⟩
  | .hbm, ⟨20, _⟩ => ⟨S4096x11264, .f32⟩
  | .hbm, ⟨21, _⟩ => ⟨S1x11264, .f32⟩
  | .hbm, ⟨22, _⟩ => ⟨S4096x11264, .f32⟩
  | .hbm, ⟨23, _⟩ => ⟨S4096x11264, .f32⟩
  | .hbm, ⟨24, _⟩ => ⟨S4096x11264, .f32⟩
  | .hbm, ⟨25, _⟩ => ⟨S1x11264, .f32⟩
  | .hbm, ⟨26, _⟩ => ⟨S11264, .f32⟩
  | .hbm, ⟨27, _⟩ => ⟨S4096x11264, .f32⟩
  | .hbm, ⟨28, _⟩ => ⟨S1x11264, .f32⟩
  | .hbm, ⟨29, _⟩ => ⟨S4096x11264, .f32⟩
  | .hbm, ⟨30, _⟩ => ⟨S4096x11264, .f32⟩
  | .hbm, ⟨31, _⟩ => ⟨S4096x11264, .f32⟩
  | .hbm, ⟨32, _⟩ => ⟨S1x11264, .f32⟩
  | .hbm, ⟨33, _⟩ => ⟨S4096x11264, .f32⟩
  | .hbm, ⟨34, _⟩ => ⟨S4096x11264, .f32⟩
  | .hbm, ⟨35, _⟩ => ⟨S4096x5632, .f32⟩
  | .hbm, ⟨36, _⟩ => ⟨S4096x5632, .f32⟩
  | .hbm, ⟨37, _⟩ => ⟨S4096x5632, .f32⟩
  | .hbm, ⟨38, _⟩ => ⟨S4096x5632, .f32⟩
  | .hbm, ⟨39, _⟩ => ⟨S_, .f32⟩
  | .hbm, ⟨40, _⟩ => ⟨S4096x5632, .f32⟩
  | .hbm, ⟨41, _⟩ => ⟨S4096x5632, .f32⟩
  | .hbm, ⟨42, _⟩ => ⟨S_, .f32⟩
  | .hbm, ⟨43, _⟩ => ⟨S4096x5632, .f32⟩
  | .hbm, ⟨44, _⟩ => ⟨S4096x5632, .f32⟩
  | .hbm, ⟨45, _⟩ => ⟨S4096x5632, .f32⟩
  | .hbm, ⟨46, _⟩ => ⟨S4096x5632, .f32⟩
  | .hbm, ⟨47, _⟩ => ⟨S4096x5632, .bf16⟩
  | _, _ => ⟨S2x4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Kernel21.lean ====
abbrev S2x4096x5632 : Shape := ⟨3, ![2, 4096, 5632]⟩
abbrev S3x11264 : Shape := ⟨2, ![3, 11264]⟩
abbrev S1x11264 : Shape := ⟨2, ![1, 11264]⟩
abbrev S4096x5632 : Shape := ⟨2, ![4096, 5632]⟩
abbrev S3x5632 : Shape := ⟨2, ![3, 5632]⟩
abbrev S1x5632 : Shape := ⟨2, ![1, 5632]⟩
abbrev S2x512x512 : Shape := ⟨3, ![2, 512, 512]⟩
abbrev S2x8x512 : Shape := ⟨3, ![2, 8, 512]⟩
abbrev S512x512 : Shape := ⟨2, ![512, 512]⟩
abbrev S8x512 : Shape := ⟨2, ![8, 512]⟩
abbrev S3x512 : Shape := ⟨2, ![3, 512]⟩
abbrev S1x512 : Shape := ⟨2, ![1, 512]⟩
abbrev S1x512x512 : Shape := ⟨3, ![1, 512, 512]⟩
abbrev S1x1x512 : Shape := ⟨3, ![1, 1, 512]⟩
abbrev S1x8x512 : Shape := ⟨3, ![1, 8, 512]⟩
abbrev S512 : Shape := ⟨1, ![512]⟩

abbrev nBuf : Space → Nat
  | .hbm => 9
  | .vmem => 28
  | .smem => 0
  | _ => 0

abbrev bufTy : (tb : Table) → Fin (tcTables nBuf tb) → BufTy
  | .hbm, ⟨0, _⟩ => ⟨S2x4096x5632, .f32⟩
  | .hbm, ⟨1, _⟩ => ⟨S3x11264, .f32⟩
  | .hbm, ⟨2, _⟩ => ⟨S1x11264, .f32⟩
  | .hbm, ⟨3, _⟩ => ⟨S4096x5632, .f32⟩
  | .hbm, ⟨4, _⟩ => ⟨S2x4096x5632, .bf16⟩
  | .hbm, ⟨5, _⟩ => ⟨S3x5632, .f32⟩
  | .hbm, ⟨6, _⟩ => ⟨S3x5632, .f32⟩
  | .hbm, ⟨7, _⟩ => ⟨S1x5632, .f32⟩
  | .hbm, ⟨8, _⟩ => ⟨S1x5632, .f32⟩
  | .local _ .vmem, ⟨0, _⟩ => ⟨S2x512x512, .f32⟩
  | .local _ .vmem, ⟨1, _⟩ => ⟨S2x512x512, .f32⟩
  | .local _ .vmem, ⟨2, _⟩ => ⟨S2x8x512, .f32⟩
  | .local _ .vmem, ⟨3, _⟩ => ⟨S2x8x512, .f32⟩
  | .local _ .vmem, ⟨4, _⟩ => ⟨S2x8x512, .f32⟩
  | .local _ .vmem, ⟨5, _⟩ => ⟨S2x8x512, .f32⟩
  | .local _ .vmem, ⟨6, _⟩ => ⟨S512x512, .f32⟩
  | .local _ .vmem, ⟨7, _⟩ => ⟨S512x512, .f32⟩
  | .local _ .vmem, ⟨8, _⟩ => ⟨S8x512, .f32⟩
  | .local _ .vmem, ⟨9, _⟩ => ⟨S8x512, .f32⟩
  | .local _ .vmem, ⟨10, _⟩ => ⟨S3x512, .f32⟩
  | .local _ .vmem, ⟨11, _⟩ => ⟨S3x512, .f32⟩
  | .local _ .vmem, ⟨12, _⟩ => ⟨S3x512, .f32⟩
  | .local _ .vmem, ⟨13, _⟩ => ⟨S3x512, .f32⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S2x512x512, .bf16⟩
  | .local _ .vmem, ⟨19, _⟩ => ⟨S2x512x512, .bf16⟩
  | .local _ .vmem, ⟨20, _⟩ => ⟨S3x512, .f32⟩
  | .local _ .vmem, ⟨21, _⟩ => ⟨S3x512, .f32⟩
  | .local _ .vmem, ⟨22, _⟩ => ⟨S3x512, .f32⟩
  | .local _ .vmem, ⟨23, _⟩ => ⟨S3x512, .f32⟩
  | .local _ .vmem, ⟨24, _⟩ => ⟨S1x512, .f32⟩
  | .local _ .vmem, ⟨25, _⟩ => ⟨S1x512, .f32⟩
  | .local _ .vmem, ⟨26, _⟩ => ⟨S1x512, .f32⟩
  | .local _ .vmem, ⟨27, _⟩ => ⟨S1x512, .f32⟩
  | _, _ => ⟨S2x4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![11, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![c0_i32_0.toNat, v2.toNat, arg0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![c0_i32.toNat, v2.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  ![v2.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S3x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S3x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S2x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S3x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S3x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== Reference21Ideal.lean ====
abbrev S2x4096x5632 : Shape := ⟨3, ![2, 4096, 5632]⟩
abbrev S3x11264 : Shape := ⟨2, ![3, 11264]⟩
abbrev S1x11264 : Shape := ⟨2, ![1, 11264]⟩
abbrev S4096x5632 : Shape := ⟨2, ![4096, 5632]⟩
abbrev S1x4096x5632 : Shape := ⟨3, ![1, 4096, 5632]⟩
abbrev S4096x11264 : Shape := ⟨2, ![4096, 11264]⟩
abbrev S11264 : Shape := ⟨1, ![11264]⟩
abbrev S_ : Shape := ⟨0, ![]⟩
abbrev S2x11264 : Shape := ⟨2, ![2, 11264]⟩
abbrev S4098x11264 : Shape := ⟨2, ![4098, 11264]⟩
abbrev S3x5632 : Shape := ⟨2, ![3, 5632]⟩
abbrev S5632 : Shape := ⟨1, ![5632]⟩
abbrev S1x5632 : Shape := ⟨2, ![1, 5632]⟩

abbrev nBuf : Space → Nat
  | .hbm => 127
  | .vmem => 0
  | .smem => 0
  | _ => 0

abbrev bufTy : (tb : Table) → Fin (tcTables nBuf tb) → BufTy
  | .hbm, ⟨0, _⟩ => ⟨S2x4096x5632, .f32⟩
  | .hbm, ⟨1, _⟩ => ⟨S3x11264, .f32⟩
  | .hbm, ⟨2, _⟩ => ⟨S1x11264, .f32⟩
  | .hbm, ⟨3, _⟩ => ⟨S4096x5632, .f32⟩
  | .hbm, ⟨4, _⟩ => ⟨S1x4096x5632, .f32⟩
  | .hbm, ⟨5, _⟩ => ⟨S4096x5632, .f32⟩
  | .hbm, ⟨6, _⟩ => ⟨S1x4096x5632, .f32⟩
  | .hbm, ⟨7, _⟩ => ⟨S4096x5632, .f32⟩
  | .hbm, ⟨8, _⟩ => ⟨S4096x11264, .f32⟩
  | .hbm, ⟨9, _⟩ => ⟨S11264, .f32⟩
  | .hbm, ⟨10, _⟩ => ⟨S_, .f32⟩
  | .hbm, ⟨11, _⟩ => ⟨S2x11264, .f32⟩
  | .hbm, ⟨12, _⟩ => ⟨S4098x11264, .f32⟩
  | .hbm, ⟨13, _⟩ => ⟨S_, .f32⟩
  | .hbm, ⟨14, _⟩ => ⟨S2x11264, .f32⟩
  | .hbm, ⟨15, _⟩ => ⟨S1x11264, .f32⟩
  | .hbm, ⟨16, _⟩ => ⟨S11264, .f32⟩
  | .hbm, ⟨17, _⟩ => ⟨S4096x11264, .f32⟩
  | .hbm, ⟨18, _⟩ => ⟨S1x11264, .f32⟩
  | .hbm, ⟨19, _⟩ => ⟨S4096x11264, .f32⟩
  | .hbm, ⟨20, _⟩ => ⟨S4096x11264, .f32⟩
  | .hbm, ⟨21, _⟩ => ⟨S1x11264, .f32⟩
  | .hbm, ⟨22, _⟩ => ⟨S11264, .f32⟩
  | .hbm, ⟨23, _⟩ => ⟨S4096x11264, .f32⟩
  | .hbm, ⟨24, _⟩ => ⟨S1x11264, .f32⟩
  | .hbm, ⟨25, _⟩ => ⟨S4096x11264, .f32⟩
  | .hbm, ⟨26, _⟩ => ⟨S4096x11264, .f32⟩
  | .hbm, ⟨27, _⟩ => ⟨S4096x11264, .f32⟩
  | .hbm, ⟨28, _⟩ => ⟨S1x11264, .f32⟩
  | .hbm, ⟨29, _⟩ => ⟨S11264, .f32⟩
  | .hbm, ⟨30, _⟩ => ⟨S4096x11264, .f32⟩
  | .hbm, ⟨31, _⟩ => ⟨S1x11264, .f32⟩
  | .hbm, ⟨32, _⟩ => ⟨S4096x11264, .f32⟩
  | .hbm, ⟨33, _⟩ => ⟨S4096x11264, .f32⟩
  | .hbm, ⟨34, _⟩ => ⟨S4096x11264, .f32⟩
  | .hbm, ⟨35, _⟩ => ⟨S1x11264, .f32⟩
  | .hbm, ⟨36, _⟩ => ⟨S4096x11264, .f32⟩
  | .hbm, ⟨37, _⟩ => ⟨S4096x11264, .f32⟩
  | .hbm, ⟨38, _⟩ => ⟨S4096x5632, .f32⟩
  | .hbm, ⟨39, _⟩ => ⟨S4096x5632, .f32⟩
  | .hbm, ⟨40, _⟩ => ⟨S4096x5632, .f32⟩
  | .hbm, ⟨41, _⟩ => ⟨S4096x5632, .f32⟩
  | .hbm, ⟨42, _⟩ => ⟨S_, .f32⟩
  | .hbm, ⟨43, _⟩ => ⟨S4096x5632, .f32⟩
  | .hbm, ⟨44, _⟩ => ⟨S4096x5632, .f32⟩
  | .hbm, ⟨45, _⟩ => ⟨S_, .f32⟩
  | .hbm, ⟨46, _⟩ => ⟨S4096x5632, .f32⟩
  | .hbm, ⟨47, _⟩ => ⟨S4096x5632, .f32⟩
  | .hbm, ⟨48, _⟩ => ⟨S_, .f32⟩
  | .hbm, ⟨49, _⟩ => ⟨S4096x5632, .f32⟩
  | .hbm, ⟨50, _⟩ => ⟨S4096x5632, .f32⟩
  | .hbm, ⟨51, _⟩ => ⟨S4096x5632, .f32⟩
  | .hbm, ⟨52, _⟩ => ⟨S4096x5632, .f32⟩
  | .hbm, ⟨53, _⟩ => ⟨S4096x5632, .f32⟩
  | .hbm, ⟨54, _⟩ => ⟨S4096x5632, .f32⟩
  | .hbm, ⟨55, _⟩ => ⟨S4096x5632, .f32⟩
  | .hbm, ⟨56, _⟩ => ⟨S4096x5632, .f32⟩
  | .hbm, ⟨57, _⟩ => ⟨S4096x5632, .f32⟩
  | .hbm, ⟨58, _⟩ => ⟨S4096x5632, .f32⟩
  | .hbm, ⟨59, _⟩ => ⟨S4096x5632, .f32⟩
  | .hbm, ⟨60, _⟩ => ⟨S_, .f32⟩
  | .hbm, ⟨61, _⟩ => ⟨S4096x11264, .f32⟩
  | .hbm, ⟨62, _⟩ => ⟨S_, .f32⟩
  | .hbm, ⟨63, _⟩ => ⟨S4096x11264, .f32⟩
  | .hbm, ⟨64, _⟩ => ⟨S4096x11264, .f32⟩
  | .hbm, ⟨65, _⟩ => ⟨S_, .f32⟩
  | .hbm, ⟨66, _⟩ => ⟨S11264, .f32⟩
  | .hbm, ⟨67, _⟩ => ⟨S1x11264, .f32⟩
  | .hbm, ⟨68, _⟩ => ⟨S_, .f32⟩
  | .hbm, ⟨69, _⟩ => ⟨S11264, .f32⟩
  | .hbm, ⟨70, _⟩ => ⟨S4096x11264, .f32⟩
  | .hbm, ⟨71, _⟩ => ⟨S4096x11264, .f32⟩
  | .hbm, ⟨72, _⟩ => ⟨S4096x11264, .f32⟩
  | .hbm, ⟨73, _⟩ => ⟨S_, .f32⟩
  | .hbm, ⟨74, _⟩ => ⟨S11264, .f32⟩
  | .hbm, ⟨75, _⟩ => ⟨S1x11264, .f32⟩
  | .hbm, ⟨76, _⟩ => ⟨S_, .f32⟩
  | .hbm, ⟨77, _⟩ => ⟨S11264, .f32⟩
  | .hbm, ⟨78, _⟩ => ⟨S_, .f32⟩
  | .hbm, ⟨79, _⟩ => ⟨S4098x11264, .f32⟩
  | .hbm, ⟨80, _⟩ => ⟨S1x11264, .f32⟩
  | .hbm, ⟨81, _⟩ => ⟨S_, .f32⟩
  | .hbm, ⟨82, _⟩ => ⟨S3x11264, .f32⟩
  | .hbm, ⟨83, _⟩ => ⟨S4096x11264, .f32⟩
  | .hbm, ⟨84, _⟩ => ⟨S4096x11264, .f32⟩
  | .hbm, ⟨85, _⟩ => ⟨S4096x11264, .f32⟩
  | .hbm, ⟨86, _⟩ => ⟨S_, .f32⟩
  | .hbm, ⟨87, _⟩ => ⟨S11264, .f32⟩
  | .hbm, ⟨88, _⟩ => ⟨S1x11264, .f32⟩
  | .hbm, ⟨89, _⟩ => ⟨S_, .f32⟩
  | .hbm, ⟨90, _⟩ => ⟨S11264, .f32⟩
  | .hbm, ⟨91, _⟩ => ⟨S_, .f32⟩
  | .hbm, ⟨92, _⟩ => ⟨S4098x11264, .f32⟩
  | .hbm, ⟨93, _⟩ => ⟨S4098x11264, .f32⟩
  | .hbm, ⟨94, _⟩ => ⟨S1x11264, .f32⟩
  | .hbm, ⟨95, _⟩ => ⟨S_, .f32⟩
  | .hbm, ⟨96, _⟩ => ⟨S3x11264, .f32⟩
  | .hbm, ⟨97, _⟩ => ⟨S3x11264, .f32⟩
  | .hbm, ⟨98, _⟩ => ⟨S4096x11264, .f32⟩
  | .hbm, ⟨99, _⟩ => ⟨S4096x11264, .f32⟩
  | .hbm, ⟨100, _⟩ => ⟨S4096x11264, .f32⟩
  | .hbm, ⟨101, _⟩ => ⟨S_, .f32⟩
  | .hbm, ⟨102, _⟩ => ⟨S11264, .f32⟩
  | .hbm, ⟨103, _⟩ => ⟨S1x11264, .f32⟩
  | .hbm, ⟨104, _⟩ => ⟨S_, .f32⟩
  | .hbm, ⟨105, _⟩ => ⟨S11264, .f32⟩
  | .hbm, ⟨106, _⟩ => ⟨S_, .f32⟩
  | .hbm, ⟨107, _⟩ => ⟨S4098x11264, .f32⟩
  | .hbm, ⟨108, _⟩ => ⟨S4098x11264, .f32⟩
  | .hbm, ⟨109, _⟩ => ⟨S1x11264, .f32⟩
  | .hbm, ⟨110, _⟩ => ⟨S_, .f32⟩
  | .hbm, ⟨111, _⟩ => ⟨S3x11264, .f32⟩
  | .hbm, ⟨112, _⟩ => ⟨S3x11264, .f32⟩
  | .hbm, ⟨113, _⟩ => ⟨S2x11264, .f32⟩
  | .hbm, ⟨114, _⟩ => ⟨S4096x11264, .f32⟩
  | .hbm, ⟨115, _⟩ => ⟨S4096x5632, .f32⟩
  | .hbm, ⟨116, _⟩ => ⟨S4096x5632, .f32⟩
  | .hbm, ⟨117, _⟩ => ⟨S1x4096x5632, .f32⟩
  | .hbm, ⟨118, _⟩ => ⟨S1x4096x5632, .f32⟩
  | .hbm, ⟨119, _⟩ => ⟨S2x4096x5632, .f32⟩
  | .hbm, ⟨120, _⟩ => ⟨S2x4096x5632, .bf16⟩
  | .hbm, ⟨121, _⟩ => ⟨S3x5632, .f32⟩
  | .hbm, ⟨122, _⟩ => ⟨S3x5632, .f32⟩
  | .hbm, ⟨123, _⟩ => ⟨S5632, .f32⟩
  | .hbm, ⟨124, _⟩ => ⟨S1x5632, .f32⟩
  | .hbm, ⟨125, _⟩ => ⟨S5632, .f32⟩
  | .hbm, ⟨126, _⟩ => ⟨S1x5632, .f32⟩
  | _, _ => ⟨S2x4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_v34_2 : Ref sig .tc := ⟨.hbm, 47, rfl⟩
abbrev main_call0_cst_1 : Ref sig .tc := ⟨.hbm, 48, rfl⟩
abbrev main_call0_v6 : Ref sig .tc := ⟨.hbm, 49, rfl⟩
abbrev main_call0_v7 : Ref sig .tc := ⟨.hbm, 50, rfl⟩
abbrev main_v34_1 : Ref sig .tc := ⟨.hbm, 51, rfl⟩
abbrev main_v34_0 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v38 : Ref sig .tc := ⟨.hbm, 59, rfl⟩
abbrev main_cst_1 : Ref sig .tc := ⟨.hbm, 60, rfl⟩
abbrev main_v39 : Ref sig .tc := ⟨.hbm, 61, rfl⟩
abbrev main_cst_2 : Ref sig .tc := ⟨.hbm, 62, rfl⟩
abbrev main_v40 : Ref sig .tc := ⟨.hbm, 63, rfl⟩
abbrev main_v41 : Ref sig .tc := ⟨.hbm, 64, rfl⟩
abbrev main_cst_3 : Ref sig .tc := ⟨.hbm, 65, rfl⟩
abbrev main_v42 : Ref sig .tc := ⟨.hbm, 66, rfl⟩
abbrev main_v43 : Ref sig .tc := ⟨.hbm, 67, rfl⟩
abbrev main_cst_4 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_5 : Ref sig .tc := ⟨.hbm, 73, rfl⟩
abbrev main_v48 : Ref sig .tc := ⟨.hbm, 74, rfl⟩
abbrev main_v49 : Ref sig .tc := ⟨.hbm, 75, rfl⟩
abbrev main_cst_6 : Ref sig .tc := ⟨.hbm, 76, rfl⟩
abbrev main_v50 : Ref sig .tc := ⟨.hbm, 77, rfl⟩
abbrev main_cst_7 : Ref sig .tc := ⟨.hbm, 78, rfl⟩
abbrev main_v51 : Ref sig .tc := ⟨.hbm, 79, rfl⟩
abbrev main_v52 : Ref sig .tc := ⟨.hbm, 80, rfl⟩
abbrev main_cst_8 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_9 : Ref sig .tc := ⟨.hbm, 86, rfl⟩
abbrev main_v57 : Ref sig .tc := ⟨.hbm, 87, rfl⟩
abbrev main_v58 : Ref sig .tc := ⟨.hbm, 88, rfl⟩
abbrev main_cst_10 : Ref sig .tc := ⟨.hbm, 89, rfl⟩
abbrev main_v59 : Ref sig .tc := ⟨.hbm, 90, rfl⟩
abbrev main_cst_11 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_12 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_cst_13 : Ref sig .tc := ⟨.hbm, 101, rfl⟩
abbrev main_v68 : Ref sig .tc := ⟨.hbm, 102, rfl⟩
abbrev main_v69 : Ref sig .tc := ⟨.hbm, 103, rfl⟩
abbrev main_cst_14 : Ref sig .tc := ⟨.hbm, 104, rfl⟩
abbrev main_v70 : Ref sig .tc := ⟨.hbm, 105, rfl⟩
abbrev main_cst_15 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_cst_16 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩

abbrev nD : Nat := 1
abbrev τ : Topo := Topo.v7x

variable {F : FTy → Type} [FloatOps F]
-- ==== Kernel23.lean ====
abbrev S16x4096 : Shape := ⟨2, ![16, 4096]⟩
abbrev S16x1 : Shape := ⟨2, ![16, 1]⟩

abbrev nBuf : Space → Nat
  | .hbm => 3
  | .vmem => 3
  | .smem => 0
  | _ => 0

abbrev bufTy : (tb : Table) → Fin (tcTables nBuf tb) → BufTy
  | .hbm, ⟨0, _⟩ => ⟨S16x4096, .f32⟩
  | .hbm, ⟨1, _⟩ => ⟨S16x1, .f32⟩
  | .hbm, ⟨2, _⟩ => ⟨S16x4096, .f32⟩
  | .local _ .vmem, ⟨0, _⟩ => ⟨S16x4096, .f32⟩
  | .local _ .vmem, ⟨1, _⟩ => ⟨S16x1, .f32⟩
  | .local _ .vmem, ⟨2, _⟩ => ⟨S16x4096, .f32⟩
  | _, _ => ⟨S16x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S16x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Reference23Ideal.lean ====
abbrev S16x4096 : Shape := ⟨2, ![16, 4096]⟩
abbrev S16x1 : Shape := ⟨2, ![16, 1]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S16x4096, .f32⟩
  | .hbm, ⟨1, _⟩ => ⟨S16x1, .f32⟩
  | .hbm, ⟨2, _⟩ => ⟨S16x4096, .f32⟩
  | .hbm, ⟨3, _⟩ => ⟨S16x4096, .f32⟩
  | .hbm, ⟨4, _⟩ => ⟨S16x4096, .f32⟩
  | .hbm, ⟨5, _⟩ => ⟨S_, .f32⟩
  | .hbm, ⟨6, _⟩ => ⟨S16x4096, .f32⟩
  | .hbm, ⟨7, _⟩ => ⟨S16x4096, .f32⟩
  | .hbm, ⟨8, _⟩ => ⟨S16x4096, .f32⟩
  | .hbm, ⟨9, _⟩ => ⟨S16x4096, .f32⟩
  | .hbm, ⟨10, _⟩ => ⟨S16x4096, .i1⟩
  | .hbm, ⟨11, _⟩ => ⟨S16x4096, .f32⟩
  | .hbm, ⟨12, _⟩ => ⟨S16x4096, .f32⟩
  | .hbm, ⟨13, _⟩ => ⟨S16x4096, .f32⟩
  | .hbm, ⟨14, _⟩ => ⟨S16x4096, .f32⟩
  | .hbm, ⟨15, _⟩ => ⟨S16x4096, .f32⟩
  | .hbm, ⟨16, _⟩ => ⟨S16x4096, .f32⟩
  | .hbm, ⟨17, _⟩ => ⟨S16x4096, .f32⟩
  | .hbm, ⟨18, _⟩ => ⟨S16x4096, .f32⟩
  | .hbm, ⟨19, _⟩ => ⟨S16x4096, .f32⟩
  | .hbm, ⟨20, _⟩ => ⟨S_, .f32⟩
  | .hbm, ⟨21, _⟩ => ⟨S_, .f32⟩
  | .hbm, ⟨22, _⟩ => ⟨S16x4096, .f32⟩
  | .hbm, ⟨23, _⟩ => ⟨S_, .f32⟩
  | .hbm, ⟨24, _⟩ => ⟨S16x4096, .f32⟩
  | .hbm, ⟨25, _⟩ => ⟨S16x4096, .f32⟩
  | _, _ => ⟨S16x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_call0_cst : Ref sig .tc := ⟨.hbm, 5, rfl⟩
abbrev main_call0_call0_v0 : Ref sig .tc := ⟨.hbm, 6, rfl⟩
abbrev main_call0_call0_v1 : Ref sig .tc := ⟨.hbm, 7, rfl⟩
abbrev main_call0_call0_v2 : Ref sig .tc := ⟨.hbm, 8, rfl⟩
abbrev main_call0_call0_v3 : Ref sig .tc := ⟨.hbm, 9, rfl⟩
abbrev main_call0_call0_v4 : Ref sig .tc := ⟨.hbm, 10, rfl⟩
abbrev main_call0_call0_v5 : Ref sig .tc := ⟨.hbm, 11, rfl⟩
abbrev main_call0_call0_v6 : Ref sig .tc := ⟨.hbm, 12, rfl⟩
abbrev main_call0_call0_v7 : Ref sig .tc := ⟨.hbm, 13, rfl⟩
abbrev main_call0_call0_v8 : Ref sig .tc := ⟨.hbm, 14, rfl⟩
abbrev main_call0_call0_v9 : Ref sig .tc := ⟨.hbm, 15, rfl⟩
abbrev main_call0_call0_v10 : Ref sig .tc := ⟨.hbm, 16, rfl⟩
abbrev main_call0_call0_v11 : Ref sig .tc := ⟨.hbm, 17, rfl⟩
abbrev main_call0_v1 : Ref sig .tc := ⟨.hbm, 18, rfl⟩
abbrev main_v2 : Ref sig .tc := ⟨.hbm, 19, rfl⟩
abbrev main_call1_call0_cst : Ref sig .tc := ⟨.hbm, 20, rfl⟩
abbrev main_call1_call0_v0 : Ref sig .tc := ⟨.hbm, 21, rfl⟩
abbrev main_v3 : Ref sig .tc := ⟨.hbm, 22, rfl⟩
abbrev main_cst : Ref sig .tc := ⟨.hbm, 23, rfl⟩
abbrev main_v4 : Ref sig .tc := ⟨.hbm, 24, rfl⟩
abbrev main_v5 : Ref sig .tc := ⟨.hbm, 25, rfl⟩

abbrev nD : Nat := 1
abbrev τ : Topo := Topo.v7x

variable {F : FTy → Type} [FloatOps F]
-- ==== Kernel24.lean ====
abbrev S16x4096 : Shape := ⟨2, ![16, 4096]⟩
abbrev S16x1 : Shape := ⟨2, ![16, 1]⟩
abbrev S16 : Shape := ⟨1, ![16]⟩

abbrev nBuf : Space → Nat
  | .hbm => 5
  | .vmem => 5
  | .smem => 0
  | _ => 0

abbrev bufTy : (tb : Table) → Fin (tcTables nBuf tb) → BufTy
  | .hbm, ⟨0, _⟩ => ⟨S16x4096, .f32⟩
  | .hbm, ⟨1, _⟩ => ⟨S16x1, .f32⟩
  | .hbm, ⟨2, _⟩ => ⟨S16x4096, .f32⟩
  | .hbm, ⟨3, _⟩ => ⟨S16x4096, .f32⟩
  | .hbm, ⟨4, _⟩ => ⟨S16x1, .f32⟩
  | .local _ .vmem, ⟨0, _⟩ => ⟨S16x4096, .f32⟩
  | .local _ .vmem, ⟨1, _⟩ => ⟨S16x1, .f32⟩
  | .local _ .vmem, ⟨2, _⟩ => ⟨S16x4096, .f32⟩
  | .local _ .vmem, ⟨3, _⟩ => ⟨S16x4096, .f32⟩
  | .local _ .vmem, ⟨4, _⟩ => ⟨S16x1, .f32⟩
  | _, _ => ⟨S16x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S16x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Reference24Ideal.lean ====
abbrev S16x4096 : Shape := ⟨2, ![16, 4096]⟩
abbrev S16x1 : Shape := ⟨2, ![16, 1]⟩
abbrev S_ : Shape := ⟨0, ![]⟩
abbrev S16 : Shape := ⟨1, ![16]⟩

abbrev nBuf : Space → Nat
  | .hbm => 65
  | .vmem => 0
  | .smem => 0
  | _ => 0

abbrev bufTy : (tb : Table) → Fin (tcTables nBuf tb) → BufTy
  | .hbm, ⟨0, _⟩ => ⟨S16x4096, .f32⟩
  | .hbm, ⟨1, _⟩ => ⟨S16x1, .f32⟩
  | .hbm, ⟨2, _⟩ => ⟨S16x4096, .f32⟩
  | .hbm, ⟨3, _⟩ => ⟨S16x4096, .f32⟩
  | .hbm, ⟨4, _⟩ => ⟨S16x4096, .f32⟩
  | .hbm, ⟨5, _⟩ => ⟨S16x4096, .f32⟩
  | .hbm, ⟨6, _⟩ => ⟨S_, .f32⟩
  | .hbm, ⟨7, _⟩ => ⟨S16x4096, .f32⟩
  | .hbm, ⟨8, _⟩ => ⟨S16x4096, .f32⟩
  | .hbm, ⟨9, _⟩ => ⟨S16x4096, .f32⟩
  | .hbm, ⟨10, _⟩ => ⟨S16x4096, .f32⟩
  | .hbm, ⟨11, _⟩ => ⟨S16x4096, .i1⟩
  | .hbm, ⟨12, _⟩ => ⟨S16x4096, .f32⟩
  | .hbm, ⟨13, _⟩ => ⟨S16x4096, .f32⟩
  | .hbm, ⟨14, _⟩ => ⟨S16x4096, .f32⟩
  | .hbm, ⟨15, _⟩ => ⟨S16x4096, .f32⟩
  | .hbm, ⟨16, _⟩ => ⟨S16x4096, .f32⟩
  | .hbm, ⟨17, _⟩ => ⟨S16x4096, .f32⟩
  | .hbm, ⟨18, _⟩ => ⟨S16x4096, .f32⟩
  | .hbm, ⟨19, _⟩ => ⟨S16x4096, .f32⟩
  | .hbm, ⟨20, _⟩ => ⟨S_, .f32⟩
  | .hbm, ⟨21, _⟩ => ⟨S16x4096, .f32⟩
  | .hbm, ⟨22, _⟩ => ⟨S16x4096, .i1⟩
  | .hbm, ⟨23, _⟩ => ⟨S_, .f32⟩
  | .hbm, ⟨24, _⟩ => ⟨S16x4096, .f32⟩
  | .hbm, ⟨25, _⟩ => ⟨S16x4096, .f32⟩
  | .hbm, ⟨26, _⟩ => ⟨S_, .f32⟩
  | .hbm, ⟨27, _⟩ => ⟨S16x4096, .f32⟩
  | .hbm, ⟨28, _⟩ => ⟨S16x4096, .i1⟩
  | .hbm, ⟨29, _⟩ => ⟨S_, .f32⟩
  | .hbm, ⟨30, _⟩ => ⟨S16x4096, .f32⟩
  | .hbm, ⟨31, _⟩ => ⟨S16x4096, .f32⟩
  | .hbm, ⟨32, _⟩ => ⟨S16x4096, .f32⟩
  | .hbm, ⟨33, _⟩ => ⟨S16x4096, .f32⟩
  | .hbm, ⟨34, _⟩ => ⟨S_, .f32⟩
  | .hbm, ⟨35, _⟩ => ⟨S_, .f32⟩
  | .hbm, ⟨36, _⟩ => ⟨S_, .i1⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S16x4096, .f32⟩
  | .hbm, ⟨42, _⟩ => ⟨S16x4096, .i1⟩
  | .hbm, ⟨43, _⟩ => ⟨S_, .f32⟩
  | .hbm, ⟨44, _⟩ => ⟨S16x4096, .f32⟩
  | .hbm, ⟨45, _⟩ => ⟨S16x4096, .f32⟩
  | .hbm, ⟨46, _⟩ => ⟨S16x4096, .f32⟩
  | .hbm, ⟨47, _⟩ => ⟨S16x4096, .f32⟩
  | .hbm, ⟨48, _⟩ => ⟨S16x4096, .f32⟩
  | .hbm, ⟨49, _⟩ => ⟨S_, .f32⟩
  | .hbm, ⟨50, _⟩ => ⟨S16x4096, .f32⟩
  | .hbm, ⟨51, _⟩ => ⟨S16x4096, .f32⟩
  | .hbm, ⟨52, _⟩ => ⟨S16x4096, .f32⟩
  | .hbm, ⟨53, _⟩ => ⟨S_, .f32⟩
  | .hbm, ⟨54, _⟩ => ⟨S_, .f32⟩
  | .hbm, ⟨55, _⟩ => ⟨S16x4096, .f32⟩
  | .hbm, ⟨56, _⟩ => ⟨S_, .f32⟩
  | .hbm, ⟨57, _⟩ => ⟨S_, .f32⟩
  | .hbm, ⟨58, _⟩ => ⟨S16x4096, .f32⟩
  | .hbm, ⟨59, _⟩ => ⟨S16x4096, .f32⟩
  | .hbm, ⟨60, _⟩ => ⟨S16x4096, .f32⟩
  | .hbm, ⟨61, _⟩ => ⟨S16x4096, .f32⟩
  | .hbm, ⟨62, _⟩ => ⟨S_, .f32⟩
  | .hbm, ⟨63, _⟩ => ⟨S16, .f32⟩
  | .hbm, ⟨64, _⟩ => ⟨S16x1, .f32⟩
  | _, _ => ⟨S16x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_call0_cst : Ref sig .tc := ⟨.hbm, 6, rfl⟩
abbrev main_call0_call0_v0 : Ref sig .tc := ⟨.hbm, 7, rfl⟩
abbrev main_call0_call0_v1 : Ref sig .tc := ⟨.hbm, 8, rfl⟩
abbrev main_call0_call0_v2 : Ref sig .tc := ⟨.hbm, 9, rfl⟩
abbrev main_call0_call0_v3 : Ref sig .tc := ⟨.hbm, 10, rfl⟩
abbrev main_call0_call0_v4 : Ref sig .tc := ⟨.hbm, 11, rfl⟩
abbrev main_call0_call0_v5 : Ref sig .tc := ⟨.hbm, 12, rfl⟩
abbrev main_call0_call0_v6 : Ref sig .tc := ⟨.hbm, 13, rfl⟩
abbrev main_call0_call0_v7 : Ref sig .tc := ⟨.hbm, 14, rfl⟩
abbrev main_call0_call0_v8 : Ref sig .tc := ⟨.hbm, 15, rfl⟩
abbrev main_call0_call0_v9 : Ref sig .tc := ⟨.hbm, 16, rfl⟩
abbrev main_call0_call0_v10 : Ref sig .tc := ⟨.hbm, 17, rfl⟩
abbrev main_call0_call0_v11 : Ref sig .tc := ⟨.hbm, 18, rfl⟩
abbrev main_call0_v1_0 : Ref sig .tc := ⟨.hbm, 19, rfl⟩
abbrev main_call0_call0_cst_0 : Ref sig .tc := ⟨.hbm, 20, rfl⟩
abbrev main_call0_call0_v13 : Ref sig .tc := ⟨.hbm, 21, rfl⟩
abbrev main_call0_call0_v14 : Ref sig .tc := ⟨.hbm, 22, rfl⟩
abbrev main_call0_call0_cst_1 : Ref sig .tc := ⟨.hbm, 23, rfl⟩
abbrev main_call0_call0_v15 : Ref sig .tc := ⟨.hbm, 24, rfl⟩
abbrev main_call0_call0_v16 : Ref sig .tc := ⟨.hbm, 25, rfl⟩
abbrev main_call0_call0_cst_2 : Ref sig .tc := ⟨.hbm, 26, rfl⟩
abbrev main_call0_call0_v17 : Ref sig .tc := ⟨.hbm, 27, rfl⟩
abbrev main_call0_call0_v18 : Ref sig .tc := ⟨.hbm, 28, rfl⟩
abbrev main_call0_call0_cst_3 : Ref sig .tc := ⟨.hbm, 29, rfl⟩
abbrev main_call0_call0_v19 : Ref sig .tc := ⟨.hbm, 30, rfl⟩
abbrev main_call0_call0_v20 : Ref sig .tc := ⟨.hbm, 31, rfl⟩
abbrev main_call0_call0_v21 : Ref sig .tc := ⟨.hbm, 32, rfl⟩
abbrev main_v2_1 : Ref sig .tc := ⟨.hbm, 33, rfl⟩
abbrev main_call0_call0_cst_4 : Ref sig .tc := ⟨.hbm, 34, rfl⟩
abbrev main_call0_call0_cst_5 : Ref sig .tc := ⟨.hbm, 35, rfl⟩
abbrev main_call0_call0_v23 : Ref sig .tc := ⟨.hbm, 36, rfl⟩
abbrev main_call0_call0_cst_6 : Ref sig .tc := ⟨.hbm, 37, rfl⟩
abbrev main_call0_call0_cst_7 : Ref sig .tc := ⟨.hbm, 38, rfl⟩
abbrev main_call0_call0_v24 : Ref sig .tc := ⟨.hbm, 39, rfl⟩
abbrev main_call0_call0_cst_8 : Ref sig .tc := ⟨.hbm, 40, rfl⟩
abbrev main_call0_call0_v25 : Ref sig .tc := ⟨.hbm, 41, rfl⟩
abbrev main_call0_call0_v26 : Ref sig .tc := ⟨.hbm, 42, rfl⟩
abbrev main_call0_call0_cst_9 : Ref sig .tc := ⟨.hbm, 43, rfl⟩
abbrev main_call0_call0_v27 : Ref sig .tc := ⟨.hbm, 44, rfl⟩
abbrev main_call0_call0_v28 : Ref sig .tc := ⟨.hbm, 45, rfl⟩
abbrev main_call0_call0_v29 : Ref sig .tc := ⟨.hbm, 46, rfl⟩
abbrev main_call0_call0_v30 : Ref sig .tc := ⟨.hbm, 47, rfl⟩
abbrev main_call0_call0_v31 : Ref sig .tc := ⟨.hbm, 48, rfl⟩
abbrev main_call0_call0_cst_10 : Ref sig .tc := ⟨.hbm, 49, rfl⟩
abbrev main_call0_call0_v32 : Ref sig .tc := ⟨.hbm, 50, rfl⟩
abbrev main_v2_2 : Ref sig .tc := ⟨.hbm, 51, rfl⟩
abbrev main_v2_0 : Ref sig .tc := ⟨.hbm, 52, rfl⟩
abbrev main_call1_call0_cst : Ref sig .tc := ⟨.hbm, 53, rfl⟩
abbrev main_call1_call0_v0 : Ref sig .tc := ⟨.hbm, 54, rfl⟩
abbrev main_v3 : Ref sig .tc := ⟨.hbm, 55, rfl⟩
abbrev main_call2_call0_cst : Ref sig .tc := ⟨.hbm, 56, rfl⟩
abbrev main_call2_call0_v0 : Ref sig .tc := ⟨.hbm, 57, rfl⟩
abbrev main_v4 : Ref sig .tc := ⟨.hbm, 58, rfl⟩
abbrev main_call3_v0 : Ref sig .tc := ⟨.hbm, 59, rfl⟩
abbrev main_call3_v1 : Ref sig .tc := ⟨.hbm, 60, rfl⟩
abbrev main_v5 : Ref sig .tc := ⟨.hbm, 61, rfl⟩
abbrev main_cst : Ref sig .tc := ⟨.hbm, 62, rfl⟩
abbrev main_v6 : Ref sig .tc := ⟨.hbm, 63, rfl⟩
abbrev main_v7 : Ref sig .tc := ⟨.hbm, 64, rfl⟩

abbrev nD : Nat := 1
abbrev τ : Topo := Topo.v7x

variable {F : FTy → Type} [FloatOps F]
-- ==== Proof.Model.lean ====
/- The gradient of the gated unit over the real numbers, as the kernel arranges it: arrays are functions of natural
   coordinates, so that a block of rows is the same functions read from a later first row. -/
module

public import Idealize.ShloMosaic.Lib.Pointwise

@[expose] public section

noncomputable section

namespace Cert.Model

/-- The factor of the tanh form of gelu, as the programs hold it (a binary fraction near `√(2/π)`). -/
def cC : ℝ := 13386282 / 16777216
/-- The coefficient of the cube in the tanh form of gelu. -/
def cA : ℝ := 8943 / 200000
/-- Three times that coefficient, which the derivative uses. -/
def cA3 : ℝ := 26829 / 200000
/-- What the root mean square adds under its root. -/
def cE : ℝ := 8796093 / 8796093022208

theorem cE_pos : 0 < cE := by unfold cE; norm_num

/-- The hyperbolic tangent inside gelu. -/
def th (x : ℝ) : ℝ := Real.tanh (cC * (x + cA * (x * x * x)))
/-- Gelu in its tanh form. -/
def gl (x : ℝ) : ℝ := 1 / 2 * x * (1 + th x)
/-- The derivative of gelu. -/
def dgl (x : ℝ) : ℝ := 1 / 2 * (1 + th x) + 1 / 2 * x * (1 - th x * th x) * (cC * (1 + cA3 * (x * x)))

section
variable (z : ℕ → ℕ → ℝ) (vg : ℕ → ℝ) (ws : ℕ → ℕ → ℕ → ℝ) (bs : ℕ → ℕ → ℝ) (dg : ℕ → ℕ → ℝ)

/-- The gate half after gelu. -/
def U (r c : ℕ) : ℝ := gl (z r c)
/-- The value half after gelu. -/
def V (r c : ℕ) : ℝ := gl (z r (2048 + c))
/-- The mean of a row's squares, and the small constant. -/
def MS (r : ℕ) : ℝ := (∑ k : Fin 2048, V z r k * V z r k) / 2048 + cE
/-- The reciprocal root of the mean square of a row. -/
def RV (r : ℕ) : ℝ := (√(MS z r))⁻¹
/-- The value half normalised. -/
def VH (r c : ℕ) : ℝ := V z r c * RV z r
/-- The value half normalised and scaled. -/
def VN (r c : ℕ) : ℝ := VH z r c * vg c
/-- The causal spatial weights. -/
def W (g t s : ℕ) : ℝ := if s ≤ t then ws g t s else 0
/-- The spatial product with its bias. -/
def SV (r c : ℕ) : ℝ :=
  (∑ s : Fin 128, W ws (c / 128) (r % 128) s * VN z vg (r / 128 * 128 + s) c) + bs (r % 128) (c / 128)
/-- The cotangent of the spatial product. -/
def DSV (r c : ℕ) : ℝ := dg r c * U z r c
/-- The cotangent of the normalised value half. -/
def DVN (r c : ℕ) : ℝ := ∑ t : Fin 128, W ws (c / 128) t (r % 128) * DSV z dg (r / 128 * 128 + t) c
/-- The cotangent before the scale. -/
def DVH (r c : ℕ) : ℝ := DVN z ws dg r c * vg c
/-- The cotangent of the value half. -/
def DV (r c : ℕ) : ℝ :=
  RV z r * (DVH z vg ws dg r c - VH z r c * ((∑ k : Fin 2048, DVH z vg ws dg r k * VH z r k) / 2048))
/-- The gradient of the gate half before gelu. -/
def DZU (r c : ℕ) : ℝ := dg r c * SV z vg ws bs r c * dgl (z r c)
/-- The gradient of the value half before gelu. -/
def DZV (r c : ℕ) : ℝ := DV z vg ws dg r c * dgl (z r (2048 + c))
/-- One chunk's part of the gradient of the spatial weights, before the causal mask. -/
def DW (n g t s : ℕ) : ℝ :=
  ∑ d : Fin 128, DSV z dg (n * 128 + t) (g * 128 + d) * VN z vg (n * 128 + s) (g * 128 + d)
/-- One chunk's part of the gradient of the bias. -/
def DB (n t g : ℕ) : ℝ := ∑ d : Fin 128, DSV z dg (n * 128 + t) (g * 128 + d)

end

theorem MS_pos (z : ℕ → ℕ → ℝ) (r : ℕ) : 0 < MS z r := by
  unfold MS
  have h : 0 ≤ ∑ k : Fin 2048, V z r k * V z r k := Finset.sum_nonneg fun k _ => mul_self_nonneg _
  have := cE_pos
  positivity

/-- The derivative of gelu as automatic differentiation lays it out. -/
theorem mul_dgl (x g : ℝ) :
    g * (1 / 2 * (1 + th x)) + cC * (1 / 2 * (x * g) * ((1 + th x) * (1 - th x)))
      + cA * (cC * (1 / 2 * (x * g) * ((1 + th x) * (1 - th x)))) * (3 * (x * x)) = g * dgl x := by
  have h : cA3 = 3 * cA := by unfold cA3 cA; norm_num
  unfold dgl
  rw [h]; ring

/-- The gradient of a normalised row as automatic differentiation lays it out. -/
theorem dv_eq (v d S m : ℝ) (hm : 0 < m) :
    d * (√m)⁻¹ + v * (S * (-(1 / 2) * ((√m)⁻¹ / m)) / 2048) + S * (-(1 / 2) * ((√m)⁻¹ / m)) / 2048 * v
      = (√m)⁻¹ * (d - v * (√m)⁻¹ * (S * (√m)⁻¹ / 2048)) := by
  have h : (√m)⁻¹ * (√m)⁻¹ = m⁻¹ := by rw [← mul_inv, Real.mul_self_sqrt hm.le]
  have h2 : (√m)⁻¹ / m = (√m)⁻¹ * ((√m)⁻¹ * (√m)⁻¹) := by rw [h]; rfl
  rw [h2]; ring

end Cert.Model

end
-- ==== Proof.Shift.lean ====
/- A block of 256 rows reads the same real functions from a later first row; and a sum over the whole array is a sum
   over the blocks. -/
module

public import proofs.«01_k».proof.Proof.Model

@[expose] public section

noncomputable section

namespace Cert.Model

open Finset

variable (z : ℕ → ℕ → ℝ) (vg : ℕ → ℝ) (ws : ℕ → ℕ → ℕ → ℝ) (bs : ℕ → ℕ → ℝ) (dg : ℕ → ℕ → ℝ)

/-- The rows from block `t` on. -/
def sh (t : ℕ) (f : ℕ → ℕ → ℝ) : ℕ → ℕ → ℝ := fun r c => f (256 * t + r) c

theorem VN_sh (t r c : ℕ) : VN (sh t z) vg r c = VN z vg (256 * t + r) c := rfl
theorem VH_sh (t r c : ℕ) : VH (sh t z) r c = VH z (256 * t + r) c := rfl
theorem DSV_sh (t r c : ℕ) : DSV (sh t z) (sh t dg) r c = DSV z dg (256 * t + r) c := rfl

/-- A later chunk's part of the gradient of the spatial weights. -/
theorem DW_sh (t n g a b : ℕ) : DW (sh t z) vg (sh t dg) n g a b = DW z vg dg (2 * t + n) g a b := by
  unfold DW
  simp only [VN_sh, DSV_sh]
  have h (x : ℕ) : 256 * t + (n * 128 + x) = (2 * t + n) * 128 + x := by ring
  simp only [h]

/-- A later chunk's part of the gradient of the bias. -/
theorem DB_sh (t n a g : ℕ) : DB (sh t z) (sh t dg) n a g = DB z dg (2 * t + n) a g := by
  unfold DB
  simp only [DSV_sh]
  have h (x : ℕ) : 256 * t + (n * 128 + x) = (2 * t + n) * 128 + x := by ring
  simp only [h]

/-- A later block's cotangent of the normalised value half. -/
theorem DVN_sh (t r c : ℕ) : DVN (sh t z) ws (sh t dg) r c = DVN z ws dg (256 * t + r) c := by
  unfold DVN
  simp only [DSV_sh]
  have h1 : (256 * t + r) % 128 = r % 128 := by omega
  have h (x : ℕ) : 256 * t + (r / 128 * 128 + x) = (256 * t + r) / 128 * 128 + x := by omega
  simp only [h, h1]

/-- A later block's spatial product. -/
theorem SV_sh (t r c : ℕ) : SV (sh t z) vg ws bs r c = SV z vg ws bs (256 * t + r) c := by
  unfold SV
  simp only [VN_sh]
  have h1 : (256 * t + r) % 128 = r % 128 := by omega
  have h (x : ℕ) : 256 * t + (r / 128 * 128 + x) = (256 * t + r) / 128 * 128 + x := by omega
  simp only [h, h1]

/-- A later block's gradient of the gate half. -/
theorem DZU_sh (t r c : ℕ) : DZU (sh t z) vg ws bs (sh t dg) r c = DZU z vg ws bs dg (256 * t + r) c := by
  unfold DZU
  rw [SV_sh]; rfl

/-- A later block's gradient of the value half. -/
theorem DZV_sh (t r c : ℕ) : DZV (sh t z) vg ws (sh t dg) r c = DZV z vg ws dg (256 * t + r) c := by
  unfold DZV DV DVH
  simp only [DVN_sh]; rfl

/-- The spatial weights' gradient after `n` blocks. -/
def A6 (n g t s : ℕ) : ℝ := ∑ k ∈ range n, if s ≤ t then DW z vg dg (2 * k) g t s + DW z vg dg (2 * k + 1) g t s else 0
/-- The bias' gradient after `n` blocks. -/
def A7 (n t g : ℕ) : ℝ := ∑ k ∈ range n, (DB z dg (2 * k) t g + DB z dg (2 * k + 1) t g)
/-- The scale's gradient after `n` blocks. -/
def A8 (n c : ℕ) : ℝ := ∑ k ∈ range n, ∑ r : Fin 256, DVN z ws dg (256 * k + r) c * VH z (256 * k + r) c

theorem A6_succ (n : ℕ) : A6 z vg dg (n + 1) = fun g t s =>
    A6 z vg dg n g t s + if s ≤ t then DW z vg dg (2 * n) g t s + DW z vg dg (2 * n + 1) g t s else 0 := by
  funext g t s; exact sum_range_succ _ n
theorem A7_succ (n : ℕ) : A7 z dg (n + 1) = fun t g => A7 z dg n t g + (DB z dg (2 * n) t g + DB z dg (2 * n + 1) t g) := by
  funext t g; exact sum_range_succ _ n
theorem A8_succ (n : ℕ) : A8 z ws dg (n + 1) = fun c =>
    A8 z ws dg n c + ∑ r : Fin 256, DVN z ws dg (256 * n + r) c * VH z (256 * n + r) c := by
  funext c; exact sum_range_succ _ n
theorem A6_zero (g t s : ℕ) : A6 z vg dg 0 g t s = 0 := rfl
theorem A7_zero (t g : ℕ) : A7 z dg 0 t g = 0 := rfl
theorem A8_zero (c : ℕ) : A8 z ws dg 0 c = 0 := rfl

/-- Pairs of terms. -/
theorem sum_pairs (f : ℕ → ℝ) (n : ℕ) : ∑ k ∈ range n, (f (2 * k) + f (2 * k + 1)) = ∑ k ∈ range (2 * n), f k := by
  induction n with
  | zero => simp
  | succ n ih => rw [sum_range_succ, ih, show 2 * (n + 1) = 2 * n + 1 + 1 by ring, sum_range_succ, sum_range_succ]; ring

/-- Blocks of 256 terms. -/
theorem sum_blocks (f : ℕ → ℝ) (n : ℕ) : ∑ k ∈ range n, ∑ r : Fin 256, f (256 * k + r) = ∑ k ∈ range (256 * n), f k := by
  induction n with
  | zero => simp
  | succ n ih =>
    rw [sum_range_succ, ih, show 256 * (n + 1) = 256 * n + 256 by ring, sum_range_add,
      Fin.sum_univ_eq_sum_range (fun r => f (256 * n + r)) 256]

theorem A6_all (g t s : ℕ) : A6 z vg dg 16 g t s = if s ≤ t then ∑ n : Fin 32, DW z vg dg n g t s else 0 := by
  unfold A6
  split
  · rw [sum_pairs (fun k => DW z vg dg k g t s), Fin.sum_univ_eq_sum_range (fun k => DW z vg dg k g t s) 32]
  · simp

theorem A7_all (t g : ℕ) : A7 z dg 16 t g = ∑ n : Fin 32, DB z dg n t g := by
  unfold A7
  rw [sum_pairs (fun k => DB z dg k t g), Fin.sum_univ_eq_sum_range (fun k => DB z dg k t g) 32]

theorem A8_all (c : ℕ) : A8 z ws dg 16 c = ∑ r : Fin 4096, DVN z ws dg r c * VH z r c := by
  unfold A8
  rw [sum_blocks (fun r => DVN z ws dg r c * VH z r c),
    Fin.sum_univ_eq_sum_range (fun r => DVN z ws dg r c * VH z r c) 4096]

end Cert.Model

end
-- ==== Proof.Lift.lean ====
/- Arrays of extended reals that hold real numbers, and the constants of the two programs. -/
module

public import proofs.«01_k».proof.Proof.Model
public import proofs.«01_k».proof.Defs
public import Idealize.ShloMosaic.Lib.Pointwise

@[expose] public section

set_option maxRecDepth 16384

noncomputable section

namespace Cert.Lift

open Idealize.ShloMosaic

/-- A vector of extended reals that holds the real function `f` of the coordinate. -/
def r1 {a : ℕ} (f : ℕ → ℝ) : (⟨1, ![a]⟩ : Shape).Idx → EReal := fun i => ((f (i 0).val : ℝ) : EReal)
/-- A matrix of extended reals that holds the real function `f` of the coordinates. -/
def r2 {a b : ℕ} (f : ℕ → ℕ → ℝ) : (⟨2, ![a, b]⟩ : Shape).Idx → EReal :=
  fun i => ((f (i 0).val (i 1).val : ℝ) : EReal)
/-- A box of extended reals that holds the real function `f` of the coordinates. -/
def r3 {a b c : ℕ} (f : ℕ → ℕ → ℕ → ℝ) : (⟨3, ![a, b, c]⟩ : Shape).Idx → EReal :=
  fun i => ((f (i 0).val (i 1).val (i 2).val : ℝ) : EReal)

theorem r1_ix {a : ℕ} (f : ℕ → ℝ) (i : Fin a) : r1 f (ix1 i) = ((f i.val : ℝ) : EReal) := rfl
theorem r2_ix {a b : ℕ} (f : ℕ → ℕ → ℝ) (i : Fin a) (j : Fin b) : r2 f (ix2 i j) = ((f i.val j.val : ℝ) : EReal) := rfl
theorem r3_ix {a b c : ℕ} (f : ℕ → ℕ → ℕ → ℝ) (i : Fin a) (j : Fin b) (k : Fin c) :
    r3 f (ix3 i j k) = ((f i.val j.val k.val : ℝ) : EReal) := rfl

/-- A sum of reals is a real. -/
theorem coe_sum {ι : Type*} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- A choice of reals is a real. -/
theorem ite_coe (p : Prop) [Decidable p] (a : ℝ) :
    (if p then ((a : ℝ) : EReal) else 0) = ((if p then a else 0 : ℝ) : EReal) := by
  split <;> simp

/-- The factor of the tanh form of gelu. -/
theorem lit_C : Ideal.ofBits .f32 0x3F4C422A#32 = ((Model.cC : ℝ) : EReal) := by
  unfold Model.cC; simp [Ideal.ofBits, Ideal.ieee, -EReal.coe_mul]; norm_num
theorem lit_eps : Ideal.ofBits .f32 0x358637BD#32 = ((Model.cE : ℝ) : EReal) := by
  unfold Model.cE; simp [Ideal.ofBits, Ideal.ieee, -EReal.coe_mul]; norm_num
theorem lit_half : Ideal.ofBits .f32 0x3F000000#32 = (((1 / 2 : ℝ) : ℝ) : EReal) := by
  simp [Ideal.ofBits, Ideal.ieee, -EReal.coe_mul]; norm_num
theorem lit_neg_half : Ideal.ofBits .f32 0xBF000000#32 = ((-(1 / 2) : ℝ) : EReal) := by
  simp [Ideal.ofBits, Ideal.ieee, -EReal.coe_mul]; norm_num
theorem lit_three : Ideal.ofBits .f32 0x40400000#32 = ((3 : ℝ) : EReal) := by
  simp [Ideal.ofBits, Ideal.ieee, -EReal.coe_mul]; norm_num
theorem lit_2048 : Ideal.ofBits .f32 0x45000000#32 = ((2048 : ℝ) : EReal) := by
  simp [Ideal.ofBits, Ideal.ieee, -EReal.coe_mul]; norm_num
theorem lit_one : Ideal.ofBits .f32 0x3F800000#32 = ((1 : ℝ) : EReal) := by
  rw [Ideal.ofBits_one_f32]; rfl

/-- Division of a real by 2048. -/
theorem div_2048 (x : ℝ) : Ideal.div (x : EReal) ((2048 : ℝ) : EReal) = ((x / 2048 : ℝ) : EReal) := by
  rw [Ideal.div_coe (by norm_num), ← EReal.coe_mul]; congr 1; ring
/-- Division of a real by a positive real. -/
theorem div_pos_coe (x y : ℝ) (hy : 0 < y) : Ideal.div (x : EReal) (y : EReal) = ((x / y : ℝ) : EReal) := by
  rw [Ideal.div_coe hy.ne', ← EReal.coe_mul]; congr 1; ring
/-- The reciprocal root of a positive real. -/
theorem rsqrt_pos (x : ℝ) (hx : 0 < x) : Ideal.rsqrt (x : EReal) = (((√x)⁻¹ : ℝ) : EReal) := by
  rw [Ideal.rsqrt_coe, if_neg (not_lt.mpr hx.le), if_neg hx.ne']

end Cert.Lift

end
-- ==== Proof.Pay.lean ====
/- The kernel's vectors at real blocks: the two halves after gelu, the derivative factors, the normalised value half. -/
module

public import proofs.«01_k».proof.Proof.Lift
public import proofs.«01_k».proof.Proof.Gen.KernelIdeal.Value

@[expose] public section

set_option maxRecDepth 16384

noncomputable section

namespace Cert.Pay

open Idealize.ShloMosaic Cert.Lift Cert.Model Cert.KernelIdeal Cert.KernelIdeal.Gen

variable (z : ℕ → ℕ → ℝ) (vg : ℕ → ℝ) (ws : ℕ → ℕ → ℕ → ℝ) (bs : ℕ → ℕ → ℝ) (dg : ℕ → ℕ → ℝ)

/-- The decimal of gelu. -/
theorem named_a : Named.named (F := Ideal) κ "gelu_a" (φ := .f32) 0x3D372713#32 = ((cA : ℝ) : EReal) :=
  IdealRules.named_const.ideal_named_scalar _ _ _ _ rfl
/-- The decimal of gelu's derivative. -/
theorem named_a3 : Named.named (F := Ideal) κ "gelu_a3" (φ := .f32) 0x3E095D4F#32 = ((cA3 : ℝ) : EReal) :=
  IdealRules.named_const.ideal_named_scalar _ _ _ _ rfl

/-- The tangent of the gate half. -/
theorem pay5 : k0_pay5 (F := Ideal) (r2 z) = r2 fun r c => th (z r c) := by
  funext j
  idx_vars j
  pointwise [k0_pay5, r2, th]
  simp only [lit_C, named_a, ← EReal.coe_mul, ← EReal.coe_add, Ideal.tanh_coe]

/-- The gate half after gelu. -/
theorem pay6 : k0_pay6 (F := Ideal) (r2 z) = r2 fun r c => gl (z r c) := by
  funext j
  idx_vars j
  pointwise [k0_pay6, pay5, r2, gl]
  simp only [lit_half, ← EReal.coe_one, ← EReal.coe_mul, ← EReal.coe_add]

/-- The derivative factor of the gate half. -/
theorem pay7 : k0_pay7 (F := Ideal) (r2 z) = r2 fun r c => dgl (z r c) := by
  funext j
  idx_vars j
  pointwise [k0_pay7, pay5, r2, dgl]
  simp only [lit_half, lit_C, named_a3, ← EReal.coe_one, ← EReal.coe_mul, ← EReal.coe_add, ← EReal.coe_sub]

/-- The tangent of the value half. -/
theorem pay10 : k0_pay10 (F := Ideal) (r2 z) (k0_pay8 (r2 z)) k0_pay9 = r2 fun r c => th (z r c) := by
  funext j
  idx_vars j
  pointwise [k0_pay10, k0_pay8, k0_pay9, r2, th]
  simp only [lit_C, named_a, ← EReal.coe_mul, ← EReal.coe_add, Ideal.tanh_coe]

/-- The value half after gelu. -/
theorem pay11 : k0_pay11 (F := Ideal) (r2 z) (k0_pay8 (r2 z)) k0_pay9 = r2 fun r c => gl (z r c) := by
  funext j
  idx_vars j
  pointwise [k0_pay11, pay10, r2, gl]
  simp only [lit_half, ← EReal.coe_one, ← EReal.coe_mul, ← EReal.coe_add]

/-- The derivative factor of the value half. -/
theorem pay12 : k0_pay12 (F := Ideal) (r2 z) (k0_pay8 (r2 z)) k0_pay9 = r2 fun r c => dgl (z r c) := by
  funext j
  idx_vars j
  pointwise [k0_pay12, pay10, r2, dgl]
  simp only [lit_half, lit_C, named_a3, ← EReal.coe_one, ← EReal.coe_mul, ← EReal.coe_add, ← EReal.coe_sub]

/-- The value half's columns of the block. -/
abbrev Z2 (z : ℕ → ℕ → ℝ) : ℕ → ℕ → ℝ := fun r c => z r (2048 + c)

/-- The reciprocal root of a row's mean square. -/
theorem pay13 : k0_pay13 (F := Ideal) (r2 (Z2 z)) (k0_pay8 (r2 (Z2 z))) k0_pay9 = r2 fun r _ => RV z r := by
  funext j
  idx_vars j
  pointwise [k0_pay13, pay11, r2]
  simp only [lit_2048, lit_eps, ← EReal.coe_mul, coe_sum, div_2048, ← EReal.coe_add]
  exact rsqrt_pos _ (MS_pos z _)

/-- The value half normalised. -/
theorem pay14 : k0_pay14 (F := Ideal) (r2 (Z2 z)) (k0_pay8 (r2 (Z2 z))) k0_pay9 = r2 (VH z) := by
  funext j
  idx_vars j
  pointwise [k0_pay14, pay11, pay13, r2]
  simp only [← EReal.coe_mul]; rfl

/-- The value half normalised and scaled. -/
theorem pay15 : k0_pay15 (F := Ideal) (r2 (Z2 z)) (k0_pay8 (r2 (Z2 z))) k0_pay9 (r2 fun _ => vg) = r2 (VN z vg) := by
  funext j
  idx_vars j
  pointwise [k0_pay15, pay14, r2]
  simp only [← EReal.coe_mul]; rfl

/-- What a block adds to the gradient of the scale. -/
theorem pay305 (a8 D : ℕ → ℕ → ℝ) : k0_pay305 (F := Ideal) (r2 (VH z)) (r2 D) (r2 a8)
    = r2 fun r c => a8 r c + ∑ k : Fin 256, D k c * VH z k c := by
  funext j
  idx_vars j
  pointwise [k0_pay305, r2]
  simp only [← EReal.coe_mul, coe_sum, ← EReal.coe_add]

/-- The value half's gradient, before and after the derivative of gelu. -/
theorem pay1 (D : ℕ → ℕ → ℝ) : k0_pay1 (F := Ideal) (r2 fun r c => dgl (z r (2048 + c))) (r2 fun r _ => RV z r)
      (k0_pay306 (r2 fun _ => vg) (r2 D)) (k0_pay307 (r2 (VH z)) (r2 fun _ => vg) (r2 D))
    = r2 fun r c => RV z r * (D r c * vg c - VH z r c * ((∑ k : Fin 2048, D r k * vg k * VH z r k) / 2048))
        * dgl (z r (2048 + c)) := by
  funext j
  idx_vars j
  pointwise [k0_pay1, k0_pay306, k0_pay307, r2]
  simp only [lit_2048, ← EReal.coe_mul, coe_sum, div_2048, ← EReal.coe_sub]

end Cert.Pay

end
-- ==== Proof.Blk.lean ====
/- What the block's outputs read: rectangles of real matrices, and the causal choice. -/
module

public import proofs.«01_k».proof.Proof.Pay
public import Idealize.ShloMosaic.Lib.Pipeline.ValueKit
public import Idealize.ShloMosaic.Lib.Pipeline.ReadBack

@[expose] public section

set_option maxRecDepth 16384

noncomputable section

namespace Cert.Blk

open Idealize.ShloMosaic Cert.Lift Cert.Model Cert.KernelIdeal Cert.KernelIdeal.Gen Cert.Pay

variable (z : ℕ → ℕ → ℝ) (vg : ℕ → ℝ) (ws : ℕ → ℕ → ℕ → ℝ) (bs : ℕ → ℕ → ℝ) (dg : ℕ → ℕ → ℝ)
  (a6 : ℕ → ℕ → ℕ → ℝ) (a7 : ℕ → ℕ → ℝ) (a8 : ℕ → ℕ → ℝ)

/-- A rectangle of a real matrix. -/
theorem ld_r2 {A B a b o p : ℕ} (f : ℕ → ℕ → ℝ) (h : ∀ x, ![o, p] x + ![a, b] x ≤ ![A, B] x) :
    View.ld (Val := Elt Ideal) (e' := .f32) (S := ⟨2, ![A, B]⟩) (r2 f) (Rect.unit (s := ⟨2, ![A, B]⟩) ![o, p] ![a, b] h)
      = r2 (a := a) (b := b) fun r c => f (o + r) (p + c) := by
  funext j
  simp [View.ld, r2]

/-- The causal comparison of two coordinates chooses by the coordinates' order. -/
theorem sel_le {α : Type} (x y : Fin 128) (a b : α) :
    Scalar.select (IntOp.cmpi .sge (BitVec.ofNat 32 x.val) (BitVec.ofNat 32 y.val)) a b
      = if y.val ≤ x.val then a else b := by
  have h : IntOp.cmpi .sge (BitVec.ofNat 32 x.val) (BitVec.ofNat 32 y.val) = BitVec.ofBool (decide (y.val ≤ x.val)) := by
    revert x y; decide +kernel
  rw [h]
  by_cases hle : y.val ≤ x.val <;> simp [hle, Scalar.select]

/-- One tile of the cotangent of the normalised value half, by the tile's first row and column. -/
theorem dvn_tile {o p r c : ℕ} {x0 x1 : Fin 128} (hr : r = o + x0.val) (hc : c = p + x1.val)
    (ho : o % 128 = 0) (hp : p % 128 = 0) :
    DVN z ws dg r c = ∑ x : Fin 128, if x0.val ≤ x.val
      then ws (p / 128) x x0 * (dg (o + x) (p + x1) * gl (z (o + x) (p + x1))) else 0 := by
  have h1 : c / 128 = p / 128 := by omega
  have h2 : r % 128 = x0.val := by omega
  have h3 : r / 128 * 128 = o := by omega
  unfold DVN
  rw [h1, h2, h3, hc]
  refine Finset.sum_congr rfl fun x _ => ?_
  simp only [W, DSV, U]
  split <;> simp

/-- One tile of the gated product's cotangent times the spatial product, by the tile's first row and column. -/
theorem sv_tile {o p r c : ℕ} {x0 x1 : Fin 128} (hr : r = o + x0.val) (hc : c = p + x1.val)
    (ho : o % 128 = 0) (hp : p % 128 = 0) :
    SV z vg ws bs r c = (∑ x : Fin 128, if x.val ≤ x0.val
      then ws (p / 128) x0 x * VN z vg (o + x) (p + x1) else 0) + bs x0 (p / 128) := by
  have h1 : c / 128 = p / 128 := by omega
  have h2 : r % 128 = x0.val := by omega
  have h3 : r / 128 * 128 = o := by omega
  unfold SV
  rw [h1, h2, h3, hc]
  congr 1
  refine Finset.sum_congr rfl fun x _ => ?_
  simp only [W]
  split <;> simp

/-- A load of a whole matrix reads what the stores left of it. -/
theorem readCov_full {sig : RefSig} {κ : Kind} {sp : Space} {A B : ℕ} (v : View sig κ sp ⟨2, ![A, B]⟩ .f32)
    (L : List (View.Piece (Elt Ideal) ⟨2, ![A, B]⟩ .f32)) (h : ∀ x, ![0, 0] x + ![A, B] x ≤ ![A, B] x) :
    v.readCov L (Rect.unit (s := ⟨2, ![A, B]⟩) ![0, 0] ![A, B] h).toLoadRect = View.canon L := by
  rw [View.readCov_eq_canon']
  funext y
  congr 1
  funext a
  exact Fin.ext (by fin_cases a <;> simp [LoadRect.idx])

/-- A real matrix under a rectangle's own index. -/
theorem emb_r2 {A B a b o p : ℕ} (f : ℕ → ℕ → ℝ) (h : ∀ x, ![o, p] x + ![a, b] x ≤ ![A, B] x) (i : Fin a) (j : Fin b) :
    r2 f ((Rect.unit (s := ⟨2, ![A, B]⟩) ![o, p] ![a, b] h).emb (ix2 i j))
      = ((f (o + i.val) (p + j.val) : ℝ) : EReal) := by
  simp [r2]

/-- A real box under a rectangle's own index. -/
theorem emb_r3 {A B C a b c o p q : ℕ} (f : ℕ → ℕ → ℕ → ℝ)
    (h : ∀ x, ![o, p, q] x + ![a, b, c] x ≤ ![A, B, C] x) (i : Fin a) (j : Fin b) (k : Fin c) :
    r3 f ((Rect.unit (s := ⟨3, ![A, B, C]⟩) ![o, p, q] ![a, b, c] h).emb (ix3 i j k))
      = ((f (o + i.val) (p + j.val) (q + k.val) : ℝ) : EReal) := by
  simp [r3]

end Cert.Blk

end
-- ==== Proof.Blk5.lean ====
/- One block's part of the gradient of the input. -/
module

public import proofs.«01_k».proof.Proof.Blk
public import Idealize.ShloMosaic.Lib.Pipeline.ValueKit
public import Idealize.ShloMosaic.Lib.Pipeline.ReadBack

@[expose] public section

set_option maxRecDepth 16384

noncomputable section

namespace Cert.Blk

open Idealize.ShloMosaic Cert.Lift Cert.Model Cert.KernelIdeal Cert.KernelIdeal.Gen Cert.Pay

variable (z : ℕ → ℕ → ℝ) (vg : ℕ → ℝ) (ws : ℕ → ℕ → ℕ → ℝ) (bs : ℕ → ℕ → ℝ) (dg : ℕ → ℕ → ℝ)
  (a6 : ℕ → ℕ → ℕ → ℝ) (a7 : ℕ → ℕ → ℝ) (a8 : ℕ → ℕ → ℝ)

variable (c : Dev nD) (i : grid0.Coords) (arg1 : Memref sig .tc .vmem S256x4096 .f32) (harg1 : arg1.IsWhole)
    (arg2 : Memref sig .tc .vmem S1x2048 .f32) (harg2 : arg2.IsWhole) (arg3 : Memref sig .tc .vmem S16x128x128 .f32)
    (harg3 : arg3.IsWhole) (arg4 : Memref sig .tc .vmem S128x16 .f32) (harg4 : arg4.IsWhole)
    (arg5 : Memref sig .tc .vmem S256x2048 .f32) (harg5 : arg5.IsWhole) (arg6 : Memref sig .tc .vmem S256x4096 .bf16)
    (harg6 : arg6.IsWhole) (arg7 : Memref sig .tc .vmem S16x128x128 .f32) (harg7 : arg7.IsWhole)
    (arg8 : Memref sig .tc .vmem S128x16 .f32) (harg8 : arg8.IsWhole) (arg9 : Memref sig .tc .vmem S1x2048 .f32)
    (harg9 : arg9.IsWhole) (arg10 : Memref sig .tc .vmem S256x2048 .f32) (harg10 : arg10.IsWhole)
    (arg11 : Memref sig .tc .vmem S256x2048 .f32) (harg11 : arg11.IsWhole)

theorem out5_A (hc0 : cond0_0 i) :
    out0_A_5 (F := Ideal) c i arg1 harg1 arg2 harg2 arg3 harg3 arg4 harg4 arg5 harg5 arg6 harg6 arg7 harg7 arg8 harg8 arg9 harg9 arg10 harg10 arg11 harg11 hc0
      (r2 z) (r2 fun _ => vg) (r3 ws) (r2 bs) (r2 dg)
      = r2 fun r c => if c < 2048 then DZU z vg ws bs dg r c else DZV z vg ws dg r (c - 2048) := by
  frame_open
  simp (disch := decide) only [↓ View.readCov_skip, ↓ View.readCov_cons_toLoadRect, ↓ View.readCov_fill]
  frame_out
  simp only [ld_r2, Nat.zero_add, pay6, pay15]
  generalize eX : View.readCov (Val := Elt Ideal) _ _ _ = X
  have hX : X = r2 (DVN z ws dg) := by
    rw [← eX]; clear eX
    refine (readCov_full _ _ _).trans ?_
    funext y
    canon_tiles x h
    all_goals
      idx_vars y
      idx_vars x
      pointwise [r2, r3]
      simp only [sel_le, ite_coe, ← EReal.coe_mul, coe_sum]
      first
        | rw [dvn_tile z ws dg h0 h1 rfl rfl]
        | rw [dvn_tile z ws dg (h0.trans (Nat.zero_add _).symm) h1 rfl rfl]
        | rw [dvn_tile z ws dg h0 (h1.trans (Nat.zero_add _).symm) rfl rfl]
        | rw [dvn_tile z ws dg (h0.trans (Nat.zero_add _).symm) (h1.trans (Nat.zero_add _).symm) rfl rfl]
      try simp only [Nat.zero_add, Nat.reduceDiv]
  clear eX
  generalize eY : View.readCov (Val := Elt Ideal) _ _ _ = Y
  have hY : Y = r2 (fun r c => dg r c * SV z vg ws bs r c) := by
    rw [← eY]; clear eY
    refine (readCov_full _ _ _).trans ?_
    funext y
    canon_tiles x h
    all_goals
      idx_vars y
      idx_vars x
      pointwise [r2, r3]
      simp only [sel_le, ite_coe, ← EReal.coe_mul, coe_sum, ← EReal.coe_add]
      first
        | rw [sv_tile z vg ws bs h0 h1 rfl rfl]
        | rw [sv_tile z vg ws bs (h0.trans (Nat.zero_add _).symm) h1 rfl rfl]
        | rw [sv_tile z vg ws bs h0 (h1.trans (Nat.zero_add _).symm) rfl rfl]
        | rw [sv_tile z vg ws bs (h0.trans (Nat.zero_add _).symm) (h1.trans (Nat.zero_add _).symm) rfl rfl]
      rw [h0, h1]
      try simp only [Nat.zero_add, Nat.reduceDiv]
  clear eY
  rw [hX, hY, pay14, pay12, pay13, pay7, pay1]
  funext y
  canon_tiles x h
  all_goals
    idx_vars y
    idx_vars x
    pointwise [r2]
  case piece0 =>
    rw [if_neg (by omega), show y1.val - 2048 = x1.val by omega, h0]
    rfl
  case piece1 =>
    rw [← EReal.coe_mul, if_pos (by omega), h0, h1]
    rfl

theorem out5_B (hc0 : ¬cond0_0 i) :
    out0_B_5 (F := Ideal) c i arg1 harg1 arg2 harg2 arg3 harg3 arg4 harg4 arg5 harg5 arg6 harg6 arg7 harg7 arg8 harg8 arg9 harg9 arg10 harg10 arg11 harg11 hc0
      (r2 z) (r2 fun _ => vg) (r3 ws) (r2 bs) (r2 dg) (r3 a6) (r2 a7) (r2 a8)
      = r2 fun r c => if c < 2048 then DZU z vg ws bs dg r c else DZV z vg ws dg r (c - 2048) := by
  frame_open
  simp (disch := decide) only [↓ View.readCov_skip, ↓ View.readCov_cons_toLoadRect, ↓ View.readCov_fill]
  frame_out
  simp only [ld_r2, Nat.zero_add, pay6, pay15]
  generalize eX : View.readCov (Val := Elt Ideal) _ _ _ = X
  have hX : X = r2 (DVN z ws dg) := by
    rw [← eX]; clear eX
    refine (readCov_full _ _ _).trans ?_
    funext y
    canon_tiles x h
    all_goals
      idx_vars y
      idx_vars x
      pointwise [r2, r3]
      simp only [sel_le, ite_coe, ← EReal.coe_mul, coe_sum]
      first
        | rw [dvn_tile z ws dg h0 h1 rfl rfl]
        | rw [dvn_tile z ws dg (h0.trans (Nat.zero_add _).symm) h1 rfl rfl]
        | rw [dvn_tile z ws dg h0 (h1.trans (Nat.zero_add _).symm) rfl rfl]
        | rw [dvn_tile z ws dg (h0.trans (Nat.zero_add _).symm) (h1.trans (Nat.zero_add _).symm) rfl rfl]
      try simp only [Nat.zero_add, Nat.reduceDiv]
  clear eX
  generalize eY : View.readCov (Val := Elt Ideal) _ _ _ = Y
  have hY : Y = r2 (fun r c => dg r c * SV z vg ws bs r c) := by
    rw [← eY]; clear eY
    refine (readCov_full _ _ _).trans ?_
    funext y
    canon_tiles x h
    all_goals
      idx_vars y
      idx_vars x
      pointwise [r2, r3]
      simp only [sel_le, ite_coe, ← EReal.coe_mul, coe_sum, ← EReal.coe_add]
      first
        | rw [sv_tile z vg ws bs h0 h1 rfl rfl]
        | rw [sv_tile z vg ws bs (h0.trans (Nat.zero_add _).symm) h1 rfl rfl]
        | rw [sv_tile z vg ws bs h0 (h1.trans (Nat.zero_add _).symm) rfl rfl]
        | rw [sv_tile z vg ws bs (h0.trans (Nat.zero_add _).symm) (h1.trans (Nat.zero_add _).symm) rfl rfl]
      rw [h0, h1]
      try simp only [Nat.zero_add, Nat.reduceDiv]
  clear eY
  rw [hX, hY, pay14, pay12, pay13, pay7, pay1]
  funext y
  canon_tiles x h
  all_goals
    idx_vars y
    idx_vars x
    pointwise [r2]
  case piece0 =>
    rw [if_neg (by omega), show y1.val - 2048 = x1.val by omega, h0]
    rfl
  case piece1 =>
    rw [← EReal.coe_mul, if_pos (by omega), h0, h1]
    rfl

end Cert.Blk

end
-- ==== Proof.Blk6.lean ====
/- One block's part of the gradient of the spatial weights. -/
module

public import proofs.«01_k».proof.Proof.Blk
public import Idealize.ShloMosaic.Lib.Pipeline.ValueKit
public import Idealize.ShloMosaic.Lib.Pipeline.ReadBack

@[expose] public section

set_option maxRecDepth 16384

noncomputable section

namespace Cert.Blk

open Idealize.ShloMosaic Cert.Lift Cert.Model Cert.KernelIdeal Cert.KernelIdeal.Gen Cert.Pay

variable (z : ℕ → ℕ → ℝ) (vg : ℕ → ℝ) (ws : ℕ → ℕ → ℕ → ℝ) (bs : ℕ → ℕ → ℝ) (dg : ℕ → ℕ → ℝ)
  (a6 : ℕ → ℕ → ℕ → ℝ) (a7 : ℕ → ℕ → ℝ) (a8 : ℕ → ℕ → ℝ)

variable (c : Dev nD) (i : grid0.Coords) (arg1 : Memref sig .tc .vmem S256x4096 .f32) (harg1 : arg1.IsWhole)
    (arg2 : Memref sig .tc .vmem S1x2048 .f32) (harg2 : arg2.IsWhole) (arg3 : Memref sig .tc .vmem S16x128x128 .f32)
    (harg3 : arg3.IsWhole) (arg4 : Memref sig .tc .vmem S128x16 .f32) (harg4 : arg4.IsWhole)
    (arg5 : Memref sig .tc .vmem S256x2048 .f32) (harg5 : arg5.IsWhole) (arg6 : Memref sig .tc .vmem S256x4096 .bf16)
    (harg6 : arg6.IsWhole) (arg7 : Memref sig .tc .vmem S16x128x128 .f32) (harg7 : arg7.IsWhole)
    (arg8 : Memref sig .tc .vmem S128x16 .f32) (harg8 : arg8.IsWhole) (arg9 : Memref sig .tc .vmem S1x2048 .f32)
    (harg9 : arg9.IsWhole) (arg10 : Memref sig .tc .vmem S256x2048 .f32) (harg10 : arg10.IsWhole)
    (arg11 : Memref sig .tc .vmem S256x2048 .f32) (harg11 : arg11.IsWhole)

/-- What one later block adds to the gradient of the spatial weights. -/
theorem out6_B
    (hc0 : ¬cond0_0 i) :
    out0_B_6 (F := Ideal) c i arg1 harg1 arg2 harg2 arg3 harg3 arg4 harg4 arg5 harg5 arg6 harg6 arg7 harg7 arg8 harg8 arg9 harg9 arg10 harg10 arg11 harg11 hc0
      (r2 z) (r2 fun _ => vg) (r3 ws) (r2 bs) (r2 dg) (r3 a6) (r2 a7) (r2 a8)
      = r3 fun g t s => a6 g t s + if s ≤ t then DW z vg dg 0 g t s + DW z vg dg 1 g t s else 0 := by
  frame_open
  frame_out
  simp only [ld_r2, Nat.zero_add, pay6, pay15]
  funext y
  canon_tiles x h
  all_goals
    idx_vars y
    idx_vars x
    have hx : x0.val = 0 := by omega
    pointwise [r2, r3]
    rw [sel_le, h0, h1, h2, hx]
    simp only [← EReal.coe_mul, coe_sum, ← EReal.coe_add, ← EReal.coe_zero]
    split <;> simp [DW, DSV, U]

/-- What the first block leaves of the gradient of the spatial weights. -/
theorem out6_A (hc0 : cond0_0 i) :
    out0_A_6 (F := Ideal) c i arg1 harg1 arg2 harg2 arg3 harg3 arg4 harg4 arg5 harg5 arg6 harg6 arg7 harg7 arg8 harg8 arg9 harg9 arg10 harg10 arg11 harg11 hc0
      (r2 z) (r2 fun _ => vg) (r3 ws) (r2 bs) (r2 dg)
      = r3 fun g t s => if s ≤ t then DW z vg dg 0 g t s + DW z vg dg 1 g t s else 0 := by
  frame_open
  simp (disch := decide) only [↓ View.readCov_skip, ↓ View.readCov_cons_toLoadRect, ↓ View.readCov_fill]
  frame_out
  simp only [ld_r2, Nat.zero_add, pay6, pay15]
  funext y
  refine View.canon_append_of_piecesOf (Val := Elt Ideal) (e := .f32) (s := S16x128x128)
    (r3 fun g t s => if s ≤ t then DW z vg dg 0 g t s + DW z vg dg 1 g t s else 0) [_]
    [_, _, _, _, _, _, _, _, _, _, _, _, _, _, _, _]
    ⟨?_, ?_, ?_, ?_, ?_, ?_, ?_, ?_, ?_, ?_, ?_, ?_, ?_, ?_, ?_, ?_, trivial⟩ y ?_
  case' refine_17 => exact View.cover_of_tiled_head _ _ _ (by rfl) y
  all_goals
    intro x
    idx_vars x
    refine Eq.trans ?_ (emb_r3 _ _ x0 x1 x2).symm
    pointwise [r2, r3, k0_pay2]
    rw [sel_le]
    simp only [← EReal.coe_mul, coe_sum, ← EReal.coe_add, ← EReal.coe_zero]
    split <;> simp [DW, DSV, U]

end Cert.Blk

end
-- ==== Proof.Blk7.lean ====
/- One block's part of the gradient of the bias. -/
module

public import proofs.«01_k».proof.Proof.Blk
public import Idealize.ShloMosaic.Lib.Pipeline.ValueKit
public import Idealize.ShloMosaic.Lib.Pipeline.ReadBack

@[expose] public section

set_option maxRecDepth 16384

noncomputable section

namespace Cert.Blk

open Idealize.ShloMosaic Cert.Lift Cert.Model Cert.KernelIdeal Cert.KernelIdeal.Gen Cert.Pay

variable (z : ℕ → ℕ → ℝ) (vg : ℕ → ℝ) (ws : ℕ → ℕ → ℕ → ℝ) (bs : ℕ → ℕ → ℝ) (dg : ℕ → ℕ → ℝ)
  (a6 : ℕ → ℕ → ℕ → ℝ) (a7 : ℕ → ℕ → ℝ) (a8 : ℕ → ℕ → ℝ)

variable (c : Dev nD) (i : grid0.Coords) (arg1 : Memref sig .tc .vmem S256x4096 .f32) (harg1 : arg1.IsWhole)
    (arg2 : Memref sig .tc .vmem S1x2048 .f32) (harg2 : arg2.IsWhole) (arg3 : Memref sig .tc .vmem S16x128x128 .f32)
    (harg3 : arg3.IsWhole) (arg4 : Memref sig .tc .vmem S128x16 .f32) (harg4 : arg4.IsWhole)
    (arg5 : Memref sig .tc .vmem S256x2048 .f32) (harg5 : arg5.IsWhole) (arg6 : Memref sig .tc .vmem S256x4096 .bf16)
    (harg6 : arg6.IsWhole) (arg7 : Memref sig .tc .vmem S16x128x128 .f32) (harg7 : arg7.IsWhole)
    (arg8 : Memref sig .tc .vmem S128x16 .f32) (harg8 : arg8.IsWhole) (arg9 : Memref sig .tc .vmem S1x2048 .f32)
    (harg9 : arg9.IsWhole) (arg10 : Memref sig .tc .vmem S256x2048 .f32) (harg10 : arg10.IsWhole)
    (arg11 : Memref sig .tc .vmem S256x2048 .f32) (harg11 : arg11.IsWhole)

theorem out7_A (hc0 : cond0_0 i) :
    out0_A_7 (F := Ideal) c i arg1 harg1 arg2 harg2 arg3 harg3 arg4 harg4 arg5 harg5 arg6 harg6 arg7 harg7 arg8 harg8 arg9 harg9 arg10 harg10 arg11 harg11 hc0
      (r2 z) (r2 fun _ => vg) (r3 ws) (r2 bs) (r2 dg)
      = r2 fun t g => DB z dg 0 t g + DB z dg 1 t g := by
  frame_open
  simp (disch := decide) only [↓ View.readCov_skip, ↓ View.readCov_cons_toLoadRect, ↓ View.readCov_fill]
  frame_out
  simp only [ld_r2, Nat.zero_add, pay6, pay15]
  funext y
  refine View.canon_append_of_piecesOf (Val := Elt Ideal) (e := .f32) (s := S128x16)
    (r2 fun t g => DB z dg 0 t g + DB z dg 1 t g) [_]
    [_, _, _, _, _, _, _, _, _, _, _, _, _, _, _, _]
    ⟨?_, ?_, ?_, ?_, ?_, ?_, ?_, ?_, ?_, ?_, ?_, ?_, ?_, ?_, ?_, ?_, trivial⟩ y ?_
  case' refine_17 => exact View.cover_of_tiled_head _ _ _ (by rfl) y
  all_goals
    intro x
    idx_vars x
    refine Eq.trans ?_ (emb_r2 _ _ x0 x1).symm
    pointwise [r2, k0_pay3]
    simp only [← EReal.coe_mul, coe_sum, ← EReal.coe_add, ← EReal.coe_zero]
    simp [DB, DSV, U]

theorem out7_B (hc0 : ¬cond0_0 i) :
    out0_B_7 (F := Ideal) c i arg1 harg1 arg2 harg2 arg3 harg3 arg4 harg4 arg5 harg5 arg6 harg6 arg7 harg7 arg8 harg8 arg9 harg9 arg10 harg10 arg11 harg11 hc0
      (r2 z) (r2 fun _ => vg) (r3 ws) (r2 bs) (r2 dg) (r3 a6) (r2 a7) (r2 a8)
      = r2 fun t g => a7 t g + (DB z dg 0 t g + DB z dg 1 t g) := by
  frame_open
  simp (disch := decide) only [↓ View.readCov_skip, ↓ View.readCov_cons_toLoadRect, ↓ View.readCov_fill]
  frame_out
  simp only [ld_r2, Nat.zero_add, pay6, pay15]
  funext y
  canon_tiles x h
  all_goals
    idx_vars y
    idx_vars x
    have hx : x1.val = 0 := by omega
    pointwise [r2]
    rw [h0, h1, hx]
    simp only [← EReal.coe_mul, coe_sum, ← EReal.coe_add, ← EReal.coe_zero]
    simp [DB, DSV, U]

end Cert.Blk

end
-- ==== Proof.Blk8.lean ====
/- One block's part of the gradient of the scale. -/
module

public import proofs.«01_k».proof.Proof.Blk
public import Idealize.ShloMosaic.Lib.Pipeline.ValueKit
public import Idealize.ShloMosaic.Lib.Pipeline.ReadBack

@[expose] public section

set_option maxRecDepth 16384

noncomputable section

namespace Cert.Blk

open Idealize.ShloMosaic Cert.Lift Cert.Model Cert.KernelIdeal Cert.KernelIdeal.Gen Cert.Pay

variable (z : ℕ → ℕ → ℝ) (vg : ℕ → ℝ) (ws : ℕ → ℕ → ℕ → ℝ) (bs : ℕ → ℕ → ℝ) (dg : ℕ → ℕ → ℝ)
  (a6 : ℕ → ℕ → ℕ → ℝ) (a7 : ℕ → ℕ → ℝ) (a8 : ℕ → ℕ → ℝ)

variable (c : Dev nD) (i : grid0.Coords) (arg1 : Memref sig .tc .vmem S256x4096 .f32) (harg1 : arg1.IsWhole)
    (arg2 : Memref sig .tc .vmem S1x2048 .f32) (harg2 : arg2.IsWhole) (arg3 : Memref sig .tc .vmem S16x128x128 .f32)
    (harg3 : arg3.IsWhole) (arg4 : Memref sig .tc .vmem S128x16 .f32) (harg4 : arg4.IsWhole)
    (arg5 : Memref sig .tc .vmem S256x2048 .f32) (harg5 : arg5.IsWhole) (arg6 : Memref sig .tc .vmem S256x4096 .bf16)
    (harg6 : arg6.IsWhole) (arg7 : Memref sig .tc .vmem S16x128x128 .f32) (harg7 : arg7.IsWhole)
    (arg8 : Memref sig .tc .vmem S128x16 .f32) (harg8 : arg8.IsWhole) (arg9 : Memref sig .tc .vmem S1x2048 .f32)
    (harg9 : arg9.IsWhole) (arg10 : Memref sig .tc .vmem S256x2048 .f32) (harg10 : arg10.IsWhole)
    (arg11 : Memref sig .tc .vmem S256x2048 .f32) (harg11 : arg11.IsWhole)

theorem out8_A (hc0 : cond0_0 i) :
    out0_A_8 (F := Ideal) c i arg1 harg1 arg2 harg2 arg3 harg3 arg4 harg4 arg5 harg5 arg6 harg6 arg7 harg7 arg8 harg8 arg9 harg9 arg10 harg10 arg11 harg11 hc0
      (r2 z) (r2 fun _ => vg) (r3 ws) (r2 bs) (r2 dg)
      = r2 fun _ c => ∑ k : Fin 256, DVN z ws dg k c * VH z k c := by
  frame_open
  simp (disch := decide) only [↓ View.readCov_skip, ↓ View.readCov_cons_toLoadRect, ↓ View.readCov_fill]
  frame_out
  simp only [ld_r2, Nat.zero_add, pay6, pay15]
  generalize eX : View.readCov (Val := Elt Ideal) _ _ _ = X
  have hX : X = r2 (DVN z ws dg) := by
    rw [← eX]; clear eX
    refine (readCov_full _ _ _).trans ?_
    funext y
    canon_tiles x h
    all_goals
      idx_vars y
      idx_vars x
      pointwise [r2, r3]
      simp only [sel_le, ite_coe, ← EReal.coe_mul, coe_sum]
      first
        | rw [dvn_tile z ws dg h0 h1 rfl rfl]
        | rw [dvn_tile z ws dg (h0.trans (Nat.zero_add _).symm) h1 rfl rfl]
        | rw [dvn_tile z ws dg h0 (h1.trans (Nat.zero_add _).symm) rfl rfl]
        | rw [dvn_tile z ws dg (h0.trans (Nat.zero_add _).symm) (h1.trans (Nat.zero_add _).symm) rfl rfl]
      try simp only [Nat.zero_add, Nat.reduceDiv]
  have h4 : k0_pay4 (F := Ideal) = r2 fun _ _ => 0 := by
    funext j
    pointwise [k0_pay4, r2]
    simp
  rw [hX, pay14, h4, pay305]
  simp only [zero_add]

theorem out8_B (hc0 : ¬cond0_0 i) :
    out0_B_8 (F := Ideal) c i arg1 harg1 arg2 harg2 arg3 harg3 arg4 harg4 arg5 harg5 arg6 harg6 arg7 harg7 arg8 harg8 arg9 harg9 arg10 harg10 arg11 harg11 hc0
      (r2 z) (r2 fun _ => vg) (r3 ws) (r2 bs) (r2 dg) (r3 a6) (r2 a7) (r2 a8)
      = r2 fun r c => a8 r c + ∑ k : Fin 256, DVN z ws dg k c * VH z k c := by
  frame_open
  simp (disch := decide) only [↓ View.readCov_skip, ↓ View.readCov_cons_toLoadRect, ↓ View.readCov_fill]
  frame_out
  simp only [ld_r2, Nat.zero_add, pay6, pay15]
  generalize eX : View.readCov (Val := Elt Ideal) _ _ _ = X
  have hX : X = r2 (DVN z ws dg) := by
    rw [← eX]; clear eX
    refine (readCov_full _ _ _).trans ?_
    funext y
    canon_tiles x h
    all_goals
      idx_vars y
      idx_vars x
      pointwise [r2, r3]
      simp only [sel_le, ite_coe, ← EReal.coe_mul, coe_sum]
      first
        | rw [dvn_tile z ws dg h0 h1 rfl rfl]
        | rw [dvn_tile z ws dg (h0.trans (Nat.zero_add _).symm) h1 rfl rfl]
        | rw [dvn_tile z ws dg h0 (h1.trans (Nat.zero_add _).symm) rfl rfl]
        | rw [dvn_tile z ws dg (h0.trans (Nat.zero_add _).symm) (h1.trans (Nat.zero_add _).symm) rfl rfl]
      try simp only [Nat.zero_add, Nat.reduceDiv]
  rw [hX, pay14, pay305]

end Cert.Blk

end
-- ==== Proof.Arr.lean ====
/- What each point leaves of the four outputs, at real arguments. -/
module

public import proofs.«01_k».proof.Proof.Shift
public import proofs.«01_k».proof.Proof.Blk5
public import proofs.«01_k».proof.Proof.Blk6
public import proofs.«01_k».proof.Proof.Blk7
public import proofs.«01_k».proof.Proof.Blk8

@[expose] public section

set_option maxRecDepth 16384

noncomputable section

namespace Cert.Arr

open Idealize.ShloMosaic Idealize.ShloMosaic.TcCoe Idealize.SL.Sem Cert.Lift Cert.Model Cert.KernelIdeal Cert.KernelIdeal.Gen Cert.Blk

variable (z : ℕ → ℕ → ℝ) (vg : ℕ → ℝ) (ws : ℕ → ℕ → ℕ → ℝ) (bs : ℕ → ℕ → ℝ) (dg : ℕ → ℕ → ℝ)
variable (m : (ℓ : Loc nD τ sig) → Buf (Elt Ideal) ℓ) (c : Dev nD)

/-- The launch's arguments hold real numbers. -/
structure Args : Prop where
  hz : m ((c : Thread nD τ).loc main_arg0) = r2 (a := 4096) (b := 4096) z
  hvg : m ((c : Thread nD τ).loc main_arg1) = r2 (a := 1) (b := 2048) fun _ => vg
  hws : m ((c : Thread nD τ).loc main_arg2) = r3 (a := 16) (b := 128) (c := 128) ws
  hbs : m ((c : Thread nD τ).loc main_arg3) = r2 (a := 16) (b := 128) fun g t => bs t g
  hdg : m ((c : Thread nD τ).loc main_arg4) = r2 (a := 4096) (b := 2048) dg

variable {z vg ws bs dg m c}

/-- Which block each window holds at a point. -/
theorem idx : ∀ t : Fin cfg0.N, win0_0.index t = ![t.val, 0] ∧ win0_4.index t = ![t.val, 0] ∧ win0_1.index t = ![0, 0]
    ∧ win0_2.index t = ![0, 0, 0] ∧ win0_3.index t = ![0, 0] ∧ win0_5.index t = ![t.val, 0]
    ∧ win0_6.index t = ![0, 0, 0] ∧ win0_7.index t = ![0, 0] ∧ win0_8.index t = ![0, 0] := by
  decide +kernel

/-- The bias as the kernel takes it. -/
theorem V_v0 : (Gen.V m c main_v0 : FVec Ideal S128x16 .f32)
    = transpose S128x16 [1, 0] (m ((c : Thread nD τ).loc main_arg3) : FVec Ideal S16x128 .f32)
      transposes_S16x128_S128x16_1_0 := by
  unfold Gen.V
  after_results

/-- The rows of the input. -/
theorem blk0 (h : Args z vg ws bs dg m c) (t : Fin cfg0.N) :
    (iblk m c 0 t : FVec Ideal S256x4096 .f32) = r2 (sh t.val z) := by
  funext j
  idx_vars j
  blk_simp [iblk, idx t]
  rw [V_main_arg0, h.hz]
  pointwise [r2, r3]
  blk_simp [idx t]
  unfold sh
  rw [Nat.mul_comm]

/-- The scale. -/
theorem blk1 (h : Args z vg ws bs dg m c) (t : Fin cfg0.N) :
    (iblk m c 1 t : FVec Ideal S1x2048 .f32) = r2 fun _ => vg := by
  funext j
  idx_vars j
  blk_simp [iblk, idx t]
  rw [V_main_arg1, h.hvg]
  pointwise [r2, r3]
  blk_simp [idx t]

/-- The spatial weights. -/
theorem blk2 (h : Args z vg ws bs dg m c) (t : Fin cfg0.N) :
    (iblk m c 2 t : FVec Ideal S16x128x128 .f32) = r3 ws := by
  funext j
  idx_vars j
  blk_simp [iblk, idx t]
  rw [V_main_arg2, h.hws]
  pointwise [r2, r3]
  blk_simp [idx t]

/-- The bias. -/
theorem blk3 (h : Args z vg ws bs dg m c) (t : Fin cfg0.N) :
    (iblk m c 3 t : FVec Ideal S128x16 .f32) = r2 bs := by
  funext j
  idx_vars j
  blk_simp [iblk, idx t]
  rw [V_v0, h.hbs]
  pointwise [r2, r3]
  blk_simp [idx t]

/-- The rows of the cotangent. -/
theorem blk4 (h : Args z vg ws bs dg m c) (t : Fin cfg0.N) :
    (iblk m c 4 t : FVec Ideal S256x2048 .f32) = r2 (sh t.val dg) := by
  funext j
  idx_vars j
  blk_simp [iblk, idx t]
  rw [V_main_arg4, h.hdg]
  pointwise [r2, r3]
  blk_simp [idx t]
  unfold sh
  rw [Nat.mul_comm]

/-- What the point leaves of each output, after it has run. -/
theorem outs (h : Args z vg ws bs dg m c) : ∀ (n : ℕ) (hn : n < cfg0.N),
    ((outsAt0 m c n hn).1 : FVec Ideal S256x4096 .bf16) = r2 (fun r k => if k < 2048
      then DZU (sh n z) vg ws bs (sh n dg) r k else DZV (sh n z) vg ws (sh n dg) r (k - 2048))
    ∧ ((outsAt0 m c n hn).2.1 : FVec Ideal S16x128x128 .f32) = r3 (A6 z vg dg (n + 1))
    ∧ ((outsAt0 m c n hn).2.2.1 : FVec Ideal S128x16 .f32) = r2 (A7 z dg (n + 1))
    ∧ ((outsAt0 m c n hn).2.2.2 : FVec Ideal S1x2048 .f32) = r2 (fun _ => A8 z ws dg (n + 1)) := by
  intro n
  induction n with
  | zero =>
    intro hn
    have e := outsAt0_A m c ⟨0, hn⟩ rfl
    rw [blk0 h, blk1 h, blk2 h, blk3 h, blk4 h, out5_A, out6_A, out7_A, out8_A] at e
    rw [e]
    refine ⟨rfl, ?_, ?_, ?_⟩
    · simp only [DW_sh, A6_succ, A6_zero, zero_add, Nat.add_zero]
    · simp only [DB_sh, A7_succ, A7_zero, zero_add, Nat.add_zero]
    · simp only [DVN_sh, VH_sh, A8_succ, A8_zero, zero_add, Nat.add_zero]
  | succ n ih =>
    intro hn
    obtain ⟨-, i6, i7, i8⟩ := ih (Nat.lt_of_succ_lt hn)
    have hN : cfg0.N = 16 := by decide +kernel
    have e := outsAt0_B m c ⟨n + 1, hn⟩ (by show ¬(n + 1) % 16 = 0; omega)
    simp only [Nat.add_sub_cancel] at e
    rw [blk0 h, blk1 h, blk2 h, blk3 h, blk4 h, i6, i7, i8, out5_B, out6_B, out7_B, out8_B] at e
    rw [e]
    refine ⟨rfl, ?_, ?_, ?_⟩
    · simp only [DW_sh, A6_succ _ _ _ (n + 1), Nat.add_zero]
    · simp only [DB_sh, A7_succ _ _ (n + 1), Nat.add_zero]
    · simp only [DVN_sh, VH_sh, A8_succ _ _ _ (n + 1), Nat.add_zero]

end Cert.Arr

end
-- ==== Proof.Out.lean ====
/- The arrays the kernel leaves, at real arguments. -/
module

public import proofs.«01_k».proof.Proof.Arr

@[expose] public section

set_option maxRecDepth 16384

noncomputable section

namespace Cert.Arr

open Idealize.ShloMosaic Idealize.ShloMosaic.TcCoe Idealize.SL.Sem Cert.Lift Cert.Model Cert.KernelIdeal Cert.KernelIdeal.Gen Cert.Blk

variable {z : ℕ → ℕ → ℝ} {vg : ℕ → ℝ} {ws : ℕ → ℕ → ℕ → ℝ} {bs : ℕ → ℕ → ℝ} {dg : ℕ → ℕ → ℝ}
variable {m : (ℓ : Loc nD τ sig) → Buf (Elt Ideal) ℓ} {c : Dev nD}

/-- The gradient of the unit's input. -/
theorem arr5 (h : Args z vg ws bs dg m c) : ((dats m 0 c).arrAt 5 cfg0.N : FVec Ideal S4096x4096 .bf16)
    = r2 fun r k => if k < 2048 then DZU z vg ws bs dg r k else DZV z vg ws dg r (k - 2048) := by
  refine (dats m 0 c).arrAt_eq_of_covers 5 _ (by decide +kernel) fun t hf y => ?_
  blk_simp
  rw [after0_5, (outs h t.val t.isLt).1]
  idx_vars y
  pointwise [r2]
  blk_simp [idx t]
  simp only [DZU_sh, DZV_sh, Nat.mul_comm]

/-- The gradient of the spatial weights. -/
theorem arr6 (h : Args z vg ws bs dg m c) : ((dats m 0 c).arrAt 6 cfg0.N : FVec Ideal S16x128x128 .f32)
    = r3 fun g t s => if s ≤ t then ∑ n : Fin 32, DW z vg dg n g t s else 0 := by
  refine (dats m 0 c).arrAt_eq_of_covers 6 _ (by decide +kernel) fun t hf y => ?_
  have ht : t.val = 15 := by
    have h1 := (flush0_6 t).mp hf
    have h2 := lt_of_lt_of_eq t.isLt N_0
    omega
  blk_simp
  rw [after0_6, (outs h t.val t.isLt).2.1, ht]
  idx_vars y
  pointwise [r3]
  blk_simp [idx t]
  simp only [A6_all]

/-- The gradient of the bias. -/
theorem arr7 (h : Args z vg ws bs dg m c) : ((dats m 0 c).arrAt 7 cfg0.N : FVec Ideal S128x16 .f32)
    = r2 fun t g => ∑ n : Fin 32, DB z dg n t g := by
  refine (dats m 0 c).arrAt_eq_of_covers 7 _ (by decide +kernel) fun t hf y => ?_
  have ht : t.val = 15 := by
    have h1 := (flush0_7 t).mp hf
    have h2 := lt_of_lt_of_eq t.isLt N_0
    omega
  blk_simp
  rw [after0_7, (outs h t.val t.isLt).2.2.1, ht]
  idx_vars y
  pointwise [r2]
  blk_simp [idx t]
  simp only [A7_all]

/-- The gradient of the scale. -/
theorem arr8 (h : Args z vg ws bs dg m c) : ((dats m 0 c).arrAt 8 cfg0.N : FVec Ideal S1x2048 .f32)
    = r2 fun _ k => ∑ r : Fin 4096, DVN z ws dg r k * VH z r k := by
  refine (dats m 0 c).arrAt_eq_of_covers 8 _ (by decide +kernel) fun t hf y => ?_
  have ht : t.val = 15 := by
    have h1 := (flush0_8 t).mp hf
    have h2 := lt_of_lt_of_eq t.isLt N_0
    omega
  blk_simp
  rw [after0_8, (outs h t.val t.isLt).2.2.2, ht]
  idx_vars y
  pointwise [r2]
  blk_simp [idx t]
  simp only [A8_all]

end Cert.Arr

end
-- ==== Proof.Fin.lean ====
/- Finite arguments are real arguments. -/
module

public import proofs.«01_k».proof.Proof.Arr

@[expose] public section

set_option maxRecDepth 16384

noncomputable section

namespace Cert.Arr

open Idealize.ShloMosaic Idealize.ShloMosaic.TcCoe Idealize.SL.Sem Cert.Lift Cert.KernelIdeal Cert.KernelIdeal.Gen

/-- An extended real whose size is below infinity is a real. -/
theorem real_of_lt {x : EReal} (h : FloatOps.cmpf (F := Ideal) (φ := .f32) .olt (FloatOps.absf (F := Ideal) (φ := .f32) x) (Ideal.ofBits .f32 0x7F800000#32) = 1#1) :
    x = ((x.toReal : ℝ) : EReal) := by
  have hi : Ideal.ofBits .f32 0x7F800000#32 = (⊤ : EReal) := by simp [Ideal.ofBits, Ideal.ieee]
  rw [hi] at h
  refine (EReal.coe_toReal ?_ ?_).symm <;> rintro rfl <;> revert h <;> simp [FloatOps.cmpf, FloatOps.absf, Ideal.cmp]

/-- A matrix with entries below infinity holds a real function of the coordinates. -/
theorem real2 {a b : ℕ} (x : (⟨2, ![a, b]⟩ : Shape).Idx → EReal) (h : ∀ i, x i = ((x i).toReal : EReal)) :
    ∃ f : ℕ → ℕ → ℝ, x = r2 f := by
  refine ⟨fun r c => if h : r < a ∧ c < b then (x (ix2 ⟨r, h.1⟩ ⟨c, h.2⟩)).toReal else 0, funext fun i => ?_⟩
  obtain ⟨r, c, rfl⟩ : ∃ (r : Fin a) (c : Fin b), i = ix2 r c := ⟨i 0, i 1, by funext k; fin_cases k <;> rfl⟩
  rw [r2_ix, dif_pos ⟨r.isLt, c.isLt⟩]; exact h _

/-- A box with entries below infinity holds a real function of the coordinates. -/
theorem real3 {a b c : ℕ} (x : (⟨3, ![a, b, c]⟩ : Shape).Idx → EReal) (h : ∀ i, x i = ((x i).toReal : EReal)) :
    ∃ f : ℕ → ℕ → ℕ → ℝ, x = r3 f := by
  refine ⟨fun r s t => if h : r < a ∧ s < b ∧ t < c then (x (ix3 ⟨r, h.1⟩ ⟨s, h.2.1⟩ ⟨t, h.2.2⟩)).toReal else 0, funext fun i => ?_⟩
  obtain ⟨r, s, t, rfl⟩ : ∃ (r : Fin a) (s : Fin b) (t : Fin c), i = ix3 r s t := ⟨i 0, i 1, i 2, by funext k; fin_cases k <;> rfl⟩
  rw [r3_ix, dif_pos ⟨r.isLt, s.isLt, t.isLt⟩]; exact h _

/-- Under the precondition the launch's arguments hold real numbers. -/
theorem args_of_pre [Cert.Pre_finite.Facts] (m : (ℓ : Loc nD τ sig) → Buf (Elt Ideal) ℓ) (h : Cert.Pre_KernelIdeal_finite m) (c : Dev nD) :
    ∃ z vg ws bs dg, Args z vg ws bs dg m c := by
  obtain ⟨h0, h1, h2, h3, h4⟩ := h c
  obtain ⟨z, hz⟩ := real2 (a := 4096) (b := 4096) (m ((c : Thread nD τ).loc main_arg0)) fun i => real_of_lt (congrFun h0 i)
  obtain ⟨v, hv⟩ := real2 (a := 1) (b := 2048) (m ((c : Thread nD τ).loc main_arg1)) fun i => real_of_lt (congrFun h1 i)
  obtain ⟨w, hw⟩ := real3 (a := 16) (b := 128) (c := 128) (m ((c : Thread nD τ).loc main_arg2)) fun i => real_of_lt (congrFun h2 i)
  obtain ⟨b, hb⟩ := real2 (a := 16) (b := 128) (m ((c : Thread nD τ).loc main_arg3)) fun i => real_of_lt (congrFun h3 i)
  obtain ⟨d, hd⟩ := real2 (a := 4096) (b := 2048) (m ((c : Thread nD τ).loc main_arg4)) fun i => real_of_lt (congrFun h4 i)
  refine ⟨z, v 0, w, fun t g => b g t, d, hz, hv.trans (funext fun i => ?_), hw, hb, hd⟩
  have : (i 0).val = 0 :=  Nat.lt_one_iff.mp (i 0).isLt
  unfold r2; rw [this]

end Cert.Arr

end
-- ==== Proof.Ref.lean ====
/- The reference's values at real arguments. -/
module

public import proofs.«01_k».proof.Proof.Lift
public import proofs.«01_k».proof.Proof.Gen.ReferenceIdeal.Read

@[expose] public section

set_option maxRecDepth 16384

noncomputable section

namespace Cert.Ref

open Idealize.ShloMosaic Cert.Lift Cert.Model Cert.ReferenceIdeal Cert.ReferenceIdeal.Read

variable (z : ℕ → ℕ → ℝ) (vg : ℕ → ℝ) (ws : ℕ → ℕ → ℕ → ℝ) (bs : ℕ → ℕ → ℝ) (dg : ℕ → ℕ → ℝ)

/-- The quotient the reference writes for the cube's coefficient. -/
theorem quot_a : Ideal.div (Ideal.ofBits .f32 0x472EAB00#32) (Ideal.ofBits .f32 0x49742400#32) = ((cA : ℝ) : EReal) := by
  have h1 : Ideal.ofBits .f32 0x472EAB00#32 = ((44715 : ℝ) : EReal) := by
    simp [Ideal.ofBits, Ideal.ieee, -EReal.coe_mul]; norm_num
  have h2 : Ideal.ofBits .f32 0x49742400#32 = ((1000000 : ℝ) : EReal) := by
    simp [Ideal.ofBits, Ideal.ieee, -EReal.coe_mul]; norm_num
  rw [h1, h2, div_pos_coe _ _ (by norm_num)]
  unfold cA; norm_num

/-- The coefficient. -/
theorem v0 : val_main_v0 (F := Ideal) = fun _ => ((cA : ℝ) : EReal) := by
  funext j
  refine Eq.trans ?_ quot_a
  pointwise [val_main_v0, val_main_cst, val_main_cst_0]

/-- The tangent. -/
theorem v11 : val_main_v11 (F := Ideal) (r2 z) = r2 fun r c => th (z r c) := by
  funext j
  idx_vars j
  pointwise [val_main_v11, val_main_v10, val_main_v9, val_main_v8, val_main_v7, val_main_v6, v0, val_main_v2, val_main_v1, val_main_cst_2, r2, th]
  simp only [lit_C, ← EReal.coe_mul, ← EReal.coe_add, Ideal.tanh_coe]

/-- Gelu. -/
theorem v21 : val_main_v21 (F := Ideal) (r2 z) = r2 fun r c => gl (z r c) := by
  funext j
  idx_vars j
  pointwise [val_main_v21, val_main_v20, val_main_v19, val_main_v18, val_main_v17, v11, val_main_cst_5, val_main_cst_6, r2]
  simp only [lit_half, lit_one, ← EReal.coe_one, ← EReal.coe_mul, ← EReal.coe_add, gl]
  congr 1; ring

/-- The gate half. -/
theorem v22 : val_main_v22 (F := Ideal) (r2 z) = r2 (U z) := by
  funext j
  idx_vars j
  pointwise [val_main_v22, v21, r2, U]

/-- The value half. -/
theorem v23 : val_main_v23 (F := Ideal) (r2 z) = r2 (V z) := by
  funext j
  idx_vars j
  pointwise [val_main_v23, v21, r2, V]

/-- The mean of the squares and the small constant. -/
theorem v30 : val_main_v30 (F := Ideal) (r2 z) = r2 fun r _ => MS z r := by
  funext j
  idx_vars j
  pointwise [val_main_v30, val_main_v29, val_main_v28, val_main_v27, val_main_v26, val_main_v25, val_main_v24, v23, val_main_cst_7, val_main_cst_8, val_main_cst_9, r2]
  simp only [lit_2048, lit_eps, ← EReal.coe_mul, coe_sum, div_2048, ← EReal.coe_add, MS]

/-- The reciprocal root. -/
theorem v31 : val_main_v31 (F := Ideal) (r2 z) = r2 fun r _ => RV z r := by
  funext j
  idx_vars j
  pointwise [val_main_v31, v30, r2]
  rw [rsqrt_pos _ (MS_pos z _)]; rfl

/-- The derivative of the reciprocal root. -/
theorem v34 : val_main_v34 (F := Ideal) (r2 z) = r2 fun r _ => -(1 / 2) * (RV z r / MS z r) := by
  funext j
  idx_vars j
  pointwise [val_main_v34, val_main_v33, val_main_v32, v31, v30, val_main_cst_10, r2]
  simp only [lit_neg_half, div_pos_coe _ _ (MS_pos z _), ← EReal.coe_mul]

/-- The normalised value half. -/
theorem v36 : val_main_v36 (F := Ideal) (r2 z) = r2 (VH z) := by
  funext j
  idx_vars j
  pointwise [val_main_v36, val_main_v35, v31, v23, r2]
  simp only [← EReal.coe_mul, VH]

/-- The normalised value half, scaled. -/
theorem v38 : val_main_v38 (F := Ideal) (r2 z) (r2 fun _ => vg) = r2 (VN z vg) := by
  funext j
  idx_vars j
  pointwise [val_main_v38, val_main_v37, v36, r2]
  simp only [← EReal.coe_mul, VN]

/-- The mask. -/
theorem v41 : val_main_v41 (F := Ideal) = r2 fun t s => if s ≤ t then 1 else 0 := by
  funext j
  idx_vars j
  pointwise [val_main_v41, val_main_call0_v4, val_main_call0_v2, val_main_call0_v0, val_main_call0_v1, val_main_call0_c, val_main_call0_v3, val_main_call0_v5, val_main_call0_cst, val_main_v40, val_main_cst_11, r2]
  have h : IntOp.cmpi .sge (IntOp.addi (BitVec.ofNat 32 j0.val) 0#32) (BitVec.ofNat 32 j1.val) = BitVec.ofBool (decide (j1.val ≤ j0.val)) := by
    revert j0 j1; decide +kernel
  rw [h]
  by_cases hle : j1.val ≤ j0.val <;> simp [hle, Scalar.select]

/-- The causal weights. -/
theorem v44 : val_main_v44 (F := Ideal) (r3 ws) = r3 (W ws) := by
  funext j
  idx_vars j
  pointwise [val_main_v44, val_main_v43, val_main_v42, v41, r2, r3]
  simp only [← EReal.coe_mul, W]
  congr 1; split <;> simp

/-- The spatial product with its bias. -/
theorem v51 : val_main_v51 (F := Ideal) (r2 z) (r2 fun _ => vg) (r3 ws) (r2 fun g t => bs t g) = r2 (SV z vg ws bs) := by
  funext j
  idx_vars j
  pointwise [val_main_v51, val_main_v50, val_main_v49, val_main_v48, val_main_v47, val_main_v46, val_main_v45, val_main_v39, v38, v44, r2, r3]
  simp only [← EReal.coe_mul, coe_sum, ← EReal.coe_add]
  unfold SV
  simp only [mul_comm]

/-- The cotangent of the spatial product. -/
theorem v53 : val_main_v53 (F := Ideal) (r2 z) (r2 dg) = r2 (DSV z dg) := by
  funext j
  idx_vars j
  pointwise [val_main_v53, v22, r2]
  simp only [← EReal.coe_mul, DSV]
  congr 1; ring

/-- The cotangent of the scaled value half. -/
theorem v66 : val_main_v66 (F := Ideal) (r2 z) (r3 ws) (r2 dg) = r2 (DVN z ws dg) := by
  funext j
  idx_vars j
  pointwise [val_main_v66, val_main_v63, val_main_v62, val_main_v60, val_main_v55, v53, v44, r2, r3]
  simp only [← EReal.coe_mul, coe_sum, ← EReal.coe_add, DVN]
  simp only [mul_comm]

/-- The gradient of the spatial weights. -/
theorem v65 : val_main_v65 (F := Ideal) (r2 z) (r2 fun _ => vg) (r2 dg)
    = r3 fun g t s => if s ≤ t then ∑ n : Fin 32, DW z vg dg n g t s else 0 := by
  funext j
  idx_vars j
  pointwise [val_main_v65, val_main_v64, val_main_v42, v41, val_main_v61, val_main_v60, val_main_v55, val_main_v39, v53, v38, r2, r3]
  simp only [← EReal.coe_mul, coe_sum, ← EReal.coe_add, DW]
  congr 1; split <;> simp

/-- The gradient of the scale. -/
theorem v69 : val_main_v69 (F := Ideal) (r2 z) (r3 ws) (r2 dg)
    = r2 fun _ c => ∑ r : Fin 4096, DVN z ws dg r c * VH z r c := by
  funext j
  idx_vars j
  pointwise [val_main_v69, val_main_v68, val_main_v67, v36, v66, val_main_cst_14, r2, r3]
  simp only [← EReal.coe_mul, coe_sum, ← EReal.coe_add, zero_add]
  congr 1
  exact Finset.sum_congr rfl fun k _ => mul_comm _ _

/-- The gradient of the value half after gelu. -/
theorem v85 : val_main_v85 (F := Ideal) (r2 z) (r2 fun _ => vg) (r3 ws) (r2 dg) = r2 (DV z vg ws dg) := by
  funext j
  idx_vars j
  pointwise [val_main_v85, val_main_v84, val_main_v83, val_main_v82, val_main_v81, val_main_v80, val_main_v79, val_main_v78, val_main_v77, val_main_v76, val_main_v75, val_main_v74, val_main_v73, val_main_v72, val_main_v71, val_main_v70, v66, v23, v31, v34, val_main_cst_15, val_main_cst_16, val_main_cst_17, r2]
  simp only [lit_2048, ← EReal.coe_mul, coe_sum, div_2048, ← EReal.coe_add, zero_add]
  congr 1
  have hS : (∑ k : Fin 2048, DVH z vg ws dg j0 k * VH z j0 k)
      = (∑ k : Fin 2048, V z j0 k * (DVN z ws dg j0 k * vg k)) * RV z j0 := by
    rw [Finset.sum_mul]
    exact Finset.sum_congr rfl fun k _ => by unfold DVH VH; ring
  unfold DV
  rw [hS]
  simp only [Finset.univ_unique, Finset.sum_singleton]
  exact dv_eq _ _ _ _ (MS_pos z _)

/-- The gradient of both halves after gelu, side by side. -/
theorem v88 : val_main_v88 (F := Ideal) (r2 z) (r2 fun _ => vg) (r3 ws) (r2 fun g t => bs t g) (r2 dg)
    = r2 fun r c => if c < 2048 then dg r c * SV z vg ws bs r c else DV z vg ws dg r (c - 2048) := by
  funext j
  idx_vars j
  pointwise [val_main_v88, val_main_v87, val_main_v86, val_main_v54, v85, v51, val_main_cst_18, val_main_cst_19, r2]
  by_cases h : j1.val < 2048
  · rw [dif_neg (by omega), dif_pos h, if_pos h, zero_add, EReal.coe_mul]
  · rw [dif_pos (by omega), dif_neg h, if_neg h, add_zero]

/-- The gradient of the argument. -/
theorem v101 : val_main_v101 (F := Ideal) (r2 z) (r2 fun _ => vg) (r3 ws) (r2 fun g t => bs t g) (r2 dg)
    = r2 fun r c => if c < 2048 then DZU z vg ws bs dg r c else DZV z vg ws dg r (c - 2048) := by
  funext j
  idx_vars j
  pointwise [val_main_v101, val_main_v100, val_main_v99, val_main_v98, val_main_v97, val_main_v96, val_main_v95, val_main_v94, val_main_v93, val_main_v92, val_main_v91, val_main_v90, val_main_v89, v88, val_main_v20, val_main_v19, val_main_v18, val_main_v17, val_main_v16, val_main_v15, val_main_v14, val_main_v13, val_main_v12, v11, v0, val_main_v5, val_main_v4, val_main_v3, val_main_cst_1, val_main_cst_2, val_main_cst_3, val_main_cst_4, val_main_cst_5, val_main_cst_6, val_main_cst_20, val_main_cst_21, r2]
  simp only [lit_half, lit_C, lit_three, ← EReal.coe_one, ← EReal.coe_mul, ← EReal.coe_add, ← EReal.coe_sub]
  congr 1
  rw [mul_dgl]
  by_cases h : j1.val < 2048
  · simp only [if_pos h, DZU]
  · simp only [if_neg h, DZV]
    rw [Nat.add_sub_cancel' (not_lt.mp h)]

/-- A sum over the first and the last of four axes: the indices that drop to `j` are those with `j`'s two coordinates. -/
theorem fiber03 {n0 n1 n2 n3 : ℕ} (h : (⟨4, ![n0, n1, n2, n3]⟩ : Shape).ReducesTo [0, 3] ⟨2, ![n1, n2]⟩)
    (j1 : Fin n1) (j2 : Fin n2) (i : (⟨4, ![n0, n1, n2, n3]⟩ : Shape).Idx) :
    h.drop i = ix2 j1 j2 ↔ ∃ k : Fin n0 × Fin n3, ix4 k.1 j1 j2 k.2 = i := by
  constructor
  · intro e
    refine ⟨(i 0, i 3), ?_⟩
    funext a; apply Fin.ext
    match a with
    | ⟨0, _⟩ => rfl
    | ⟨1, _⟩ => exact (congrArg Fin.val (congrFun e 0)).symm
    | ⟨2, _⟩ => exact (congrArg Fin.val (congrFun e 1)).symm
    | ⟨3, _⟩ => rfl
  · rintro ⟨k, rfl⟩
    funext b
    apply Fin.ext
    match b with
    | ⟨0, _⟩ => rfl
    | ⟨1, _⟩ => rfl

/-- The host's sum over the first and the last of four axes. -/
theorem reduce03 {n0 n1 n2 n3 : ℕ} (h : (⟨4, ![n0, n1, n2, n3]⟩ : Shape).ReducesTo [0, 3] ⟨2, ![n1, n2]⟩)
    (v : (⟨4, ![n0, n1, n2, n3]⟩ : Shape).Idx → EReal) (init : EReal) (j1 : Fin n1) (j2 : Fin n2) :
    Ideal.hostReduceAdd h v init (ix2 j1 j2) = init + ∑ a : Fin n0, ∑ b : Fin n3, v (ix4 a j1 j2 b) := by
  refine congrArg (init + ·) ?_
  refine (Finset.sum_filter_eq_sum_of_fiber _ (fun k : Fin n0 × Fin n3 => ix4 k.1 j1 j2 k.2)
    (fun _ _ e => Prod.ext (congrFun e 0) (congrFun e 3)) (fiber03 h j1 j2) v).trans ?_
  simp only [Fintype.sum_prod_type]

/-- The sum over chunks and columns. -/
theorem v56 : val_main_v56 (F := Ideal) (r2 z) (r2 dg) = r2 fun t g => ∑ n : Fin 32, DB z dg n t g := by
  funext j
  idx_vars j
  unfold val_main_v56
  simp only [Host.reduceAdd, Ideal.hostReduceAdd_def]
  rw [reduce03]
  pointwise [val_main_cst_12, val_main_v55, v53, r2]
  simp only [coe_sum, zero_add, DB]

/-- The gradient of the bias, transposed. -/
theorem v102 : val_main_v102 (F := Ideal) (r2 z) (r2 dg) = r2 fun t g => ∑ n : Fin 32, DB z dg n t g := by
  funext j
  idx_vars j
  pointwise [val_main_v102, val_main_v59]
  unfold val_main_v58
  simp only [Host.reduceAdd, Ideal.hostReduceAdd_def]
  rw [reduce03]
  pointwise [val_main_cst_13, val_main_v57, v56, r2]
  simp

end Cert.Ref

end
-- ==== Proof.Eq.lean ====
/- The equation: at the ideal reading the kernel leaves what the reference leaves. -/
module

public import proofs.«01_k».proof.Proof.Out
public import proofs.«01_k».proof.Proof.Fin
public import proofs.«01_k».proof.Proof.Ref
public import proofs.«01_k».proof.Proof.Gen.KernelIdeal.Value
public import proofs.«01_k».proof.Proof.Gen.ReferenceIdeal.Run
public import proofs.«01_k».proof.Proof.Gen.ReferenceIdeal.Read

@[expose] public section

set_option maxRecDepth 16384

noncomputable section

namespace Cert.Proof

open Idealize.ShloMosaic Idealize.ShloMosaic.TcCoe Idealize.SL.Sem Cert.Lift

/-- On finite arguments every gradient the kernel leaves is the reference's. -/
theorem algebraic [Cert.Pre_finite.Facts] : Cert.algebraic_KernelIdeal_ReferenceIdeal_pre_finite := by
  intro m ρ m' ρ' hpre hagree
  refine ⟨fun c => ((Cert.KernelIdeal.Gen.dats m 0 c).arrAt 5 Cert.KernelIdeal.cfg0.N), fun c => ((Cert.KernelIdeal.Gen.dats m 0 c).arrAt 6 Cert.KernelIdeal.cfg0.N),
    fun c => ((Cert.KernelIdeal.Gen.dats m 0 c).arrAt 7 Cert.KernelIdeal.cfg0.N), fun c => ((Cert.KernelIdeal.Gen.dats m 0 c).arrAt 8 Cert.KernelIdeal.cfg0.N),
    Cert.KernelIdeal.Value.run_blocks m ρ, ?_⟩
  refine (θ_run Cert.ReferenceIdeal.defs _ _).mono (fun r h c => ?_) (Cert.ReferenceIdeal.Value.run (F := Ideal) m' ρ')
  obtain ⟨h0, h1, h2, h3, hr⟩ := h c
  obtain ⟨z, vg, ws, bs, dg, ha⟩ := Cert.Arr.args_of_pre m hpre c
  obtain ⟨e0, e1, e2, e3, e4⟩ := hagree c
  have e0 := e0.trans ha.hz
  have e1 := e1.trans ha.hvg
  have e2 := e2.trans ha.hws
  have e3 := e3.trans ha.hbs
  have e4 := e4.trans ha.hdg
  refine ⟨h0.trans ?_, h1.trans ?_, h2.trans ?_, h3.trans ?_, hr⟩
  · refine Eq.trans ?_ (Cert.Arr.arr5 ha).symm
    rw [Cert.ReferenceIdeal.Read.val_main_v101_eq, e0, e1, e2, e3, e4]
    exact Cert.Ref.v101 z vg ws bs dg
  · refine Eq.trans ?_ (Cert.Arr.arr6 ha).symm
    rw [Cert.ReferenceIdeal.Read.val_main_v65_eq, e0, e1, e4]
    exact Cert.Ref.v65 z vg dg
  · refine Eq.trans ?_ (Cert.Arr.arr7 ha).symm
    refine (Cert.ReferenceIdeal.Read.val_main_v102_eq _ _).trans ?_
    rw [e0, e4]
    exact Cert.Ref.v102 z dg
  · refine Eq.trans ?_ (Cert.Arr.arr8 ha).symm
    rw [Cert.ReferenceIdeal.Read.val_main_v69_eq, e0, e2, e4]
    exact Cert.Ref.v69 z ws dg

end Cert.Proof

end
-- ==== Proof.Mm2.lean ====
/- The gradient of the down projection's input. -/
module

public import proofs.«01_k».proof.Proof.Gen.Kernel2Ideal.Value
public import proofs.«01_k».proof.Proof.Gen.Kernel2.Frame
public import proofs.«01_k».proof.Proof.Gen.Reference2Ideal.Run
public import proofs.«01_k».proof.Proof.Gen.Reference2Ideal.Read
public import Idealize.ShloMosaic.Lib.Pointwise
public import Idealize.ShloMosaic.Lib.Pipeline.ReadBack
public import Idealize.ShloMosaic.Lib.Pipeline.ValueKit
public import proofs.«01_k».proof.Defs

@[expose] public section

set_option maxRecDepth 16384

noncomputable section

namespace Cert.Mm2

open Idealize.ShloMosaic Idealize.ShloMosaic.TcCoe Idealize.SL.Sem Cert.Kernel2Ideal Cert.Kernel2Ideal.Gen

variable (m : (ℓ : Loc nD τ sig) → Buf (Elt Ideal) ℓ) (c : Dev nD)

/-- Which block each window holds at a point. -/
theorem idx : ∀ t : Fin cfg0.N, win0_0.index t = ![t.val / 11, 0] ∧ win0_1.index t = ![t.val % 11, 0]
    ∧ win0_2.index t = ![t.val / 11, t.val % 11] := by
  decide +kernel

/-- The block a point leaves. -/
theorem out (a : FVec Ideal S1024x2048 .bf16) (b : FVec Ideal S512x2048 .bf16) :
    out0_2 (F := Ideal) a b = k0_pay1 (F := Ideal) a b := by
  frame_open
  frame_out

/-- The product of the rows. -/
theorem pay (a : FVec Ideal S1024x2048 .bf16) (b : FVec Ideal S512x2048 .bf16) (i : Fin 1024) (j : Fin 512) :
    k0_pay1 (F := Ideal) a b (ix2 i j) = ∑ k : Fin 2048, a (ix2 i k) * b (ix2 j k) := by
  pointwise [k0_pay1]

/-- The rows of a point's block. -/
theorem e0 (t : Fin cfg0.N) (i : Fin 1024) (j : Fin 512) : ((win0_2.blk t).view.emb (ix2 i j) 0).val = t.val / 11 * 1024 + i.val := by
  blk_simp [idx t]
/-- The columns of a point's block. -/
theorem e1 (t : Fin cfg0.N) (i : Fin 1024) (j : Fin 512) : ((win0_2.blk t).view.emb (ix2 i j) 1).val = t.val % 11 * 512 + j.val := by
  blk_simp [idx t]

/-- The array the kernel leaves is the reference's. -/
theorem arr : ((dats m 0 c).arrAt 2 cfg0.N : FVec Ideal S4096x5632 .f32)
    = Cert.Reference2Ideal.Read.val_main_v4 (F := Ideal) (m ((c : Thread nD τ).loc main_arg0)) (m ((c : Thread nD τ).loc main_arg1)) := by
  refine (dats m 0 c).arrAt_eq_of_covers 2 _ (by decide +kernel) fun t hf y => ?_
  blk_simp
  rw [after0_2, out]
  idx_vars y
  rw [pay]
  pointwise [Cert.Reference2Ideal.Read.val_main_v4, Cert.Reference2Ideal.Read.val_main_v3, Cert.Reference2Ideal.Read.val_main_v1]
  show (∑ k : Fin 2048, _ : EReal) = ∑ k : Fin 2048, _
  refine Finset.sum_congr rfl fun k _ => ?_
  blk_simp [iblk, idx t]
  rw [V_main_arg0, V_main_arg1]
  refine congrArg₂ _ (congrArg _ (funext fun a => Fin.ext ?_)) (congrArg _ (funext fun a => Fin.ext ?_)) <;> fin_cases a
  all_goals blk_simp [idx t]
  · exact (e0 t y0 y1).symm
  · rfl
  · exact (e1 t y0 y1).symm
  · rfl

/-- The reference runs, leaves its arguments and its counters. -/
theorem frame_ri : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

/-- At the ideal reading the kernel leaves what the reference leaves. -/
theorem algebraic : Cert.algebraic_Kernel2Ideal_Reference2Ideal := by
  intro m ρ m' ρ' _ hagree
  refine ⟨fun c => (dats m 0 c).arrAt 2 cfg0.N, Cert.Kernel2Ideal.Value.run_blocks m ρ, ?_⟩
  refine (θ_run Cert.Reference2Ideal.defs _ _).mono (fun r h c => ⟨(h c).1.trans ?_, (h c).2⟩) (Cert.Reference2Ideal.Value.run (F := Ideal) m' ρ')
  obtain ⟨e0, e1⟩ := hagree c
  rw [e0, e1]
  exact (Cert.Reference2Ideal.Read.val_main_v4_eq _ _).trans (arr m c).symm

end Cert.Mm2

end
-- ==== Proof.Mm3.lean ====
/- The gradient of the down projection's weights. -/
module

public import proofs.«01_k».proof.Proof.Gen.Kernel3Ideal.Value
public import proofs.«01_k».proof.Proof.Gen.Kernel3.Frame
public import proofs.«01_k».proof.Proof.Gen.Reference3Ideal.Run
public import proofs.«01_k».proof.Proof.Gen.Reference3Ideal.Read
public import Idealize.ShloMosaic.Lib.Pointwise
public import Idealize.ShloMosaic.Lib.Pipeline.ReadBack
public import Idealize.ShloMosaic.Lib.Pipeline.ValueKit
public import proofs.«01_k».proof.Defs

@[expose] public section

set_option maxRecDepth 16384

noncomputable section

namespace Cert.Mm3

open Idealize.ShloMosaic Idealize.ShloMosaic.TcCoe Idealize.SL.Sem Cert.Kernel3Ideal Cert.Kernel3Ideal.Gen

variable (m : (ℓ : Loc nD τ sig) → Buf (Elt Ideal) ℓ) (c : Dev nD)

/-- Which block each window holds at a point. -/
theorem idx : ∀ t : Fin cfg0.N, win0_0.index t = ![0, t.val / 2] ∧ win0_1.index t = ![0, t.val % 2]
    ∧ win0_2.index t = ![t.val / 2, t.val % 2] := by
  decide +kernel

/-- The block a point leaves. -/
theorem out (a : FVec Ideal S4096x512 .bf16) (b : FVec Ideal S4096x1024 .bf16) :
    out0_2 (F := Ideal) a b = k0_pay1 (F := Ideal) a b := by
  frame_open
  frame_out

/-- The product of the columns. -/
theorem pay (a : FVec Ideal S4096x512 .bf16) (b : FVec Ideal S4096x1024 .bf16) (i : Fin 512) (j : Fin 1024) :
    k0_pay1 (F := Ideal) a b (ix2 i j) = ∑ k : Fin 4096, a (ix2 k i) * b (ix2 k j) := by
  pointwise [k0_pay1]

/-- The rows of a point's block. -/
theorem e0 (t : Fin cfg0.N) (i : Fin 512) (j : Fin 1024) : ((win0_2.blk t).view.emb (ix2 i j) 0).val = t.val / 2 * 512 + i.val := by
  blk_simp [idx t]
/-- The columns of a point's block. -/
theorem e1 (t : Fin cfg0.N) (i : Fin 512) (j : Fin 1024) : ((win0_2.blk t).view.emb (ix2 i j) 1).val = t.val % 2 * 1024 + j.val := by
  blk_simp [idx t]

/-- The array the kernel leaves is the reference's. -/
theorem arr : ((dats m 0 c).arrAt 2 cfg0.N : FVec Ideal S5632x2048 .bf16)
    = Cert.Reference3Ideal.Read.val_main_v6 (F := Ideal) (m ((c : Thread nD τ).loc main_arg0)) (m ((c : Thread nD τ).loc main_arg1)) := by
  refine (dats m 0 c).arrAt_eq_of_covers 2 _ (by decide +kernel) fun t hf y => ?_
  blk_simp
  rw [after0_2, out]
  idx_vars y
  rw [pay]
  pointwise [Cert.Reference3Ideal.Read.val_main_v6, Cert.Reference3Ideal.Read.val_main_v5, Cert.Reference3Ideal.Read.val_main_v4, Cert.Reference3Ideal.Read.val_main_v3, Cert.Reference3Ideal.Read.val_main_v1]
  show (∑ k : Fin 4096, _ : EReal) = ∑ k : Fin 4096, _
  refine Finset.sum_congr rfl fun k _ => ?_
  blk_simp [iblk, idx t]
  rw [V_main_arg0, V_main_arg1]
  refine (congrArg₂ _ (congrArg _ (funext fun a => Fin.ext ?_)) (congrArg _ (funext fun a => Fin.ext ?_))).trans (mul_comm _ _) <;> fin_cases a
  all_goals blk_simp [idx t]
  · rfl
  · exact (e0 t y0 y1).symm
  · rfl
  · exact (e1 t y0 y1).symm

/-- The reference runs, leaves its arguments and its counters. -/
theorem frame_ri : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

/-- At the ideal reading the kernel leaves what the reference leaves. -/
theorem algebraic : Cert.algebraic_Kernel3Ideal_Reference3Ideal := by
  intro m ρ m' ρ' _ hagree
  refine ⟨fun c => (dats m 0 c).arrAt 2 cfg0.N, Cert.Kernel3Ideal.Value.run_blocks m ρ, ?_⟩
  refine (θ_run Cert.Reference3Ideal.defs _ _).mono (fun r h c => ⟨(h c).1.trans ?_, (h c).2⟩) (Cert.Reference3Ideal.Value.run (F := Ideal) m' ρ')
  obtain ⟨e0, e1⟩ := hagree c
  rw [e0, e1]
  exact (Cert.Reference3Ideal.Read.val_main_v6_eq _ _).trans (arr m c).symm

end Cert.Mm3

end
-- ==== Proof.Mm4.lean ====
/- The gradient of the up projection's input. -/
module

public import proofs.«01_k».proof.Proof.Gen.Kernel4Ideal.Value
public import proofs.«01_k».proof.Proof.Gen.Kernel4.Frame
public import proofs.«01_k».proof.Proof.Gen.Reference4Ideal.Run
public import proofs.«01_k».proof.Proof.Gen.Reference4Ideal.Read
public import Idealize.ShloMosaic.Lib.Pointwise
public import Idealize.ShloMosaic.Lib.Pipeline.ReadBack
public import Idealize.ShloMosaic.Lib.Pipeline.ValueKit
public import proofs.«01_k».proof.Defs

@[expose] public section

set_option maxRecDepth 16384

noncomputable section

namespace Cert.Mm4

open Idealize.ShloMosaic Idealize.ShloMosaic.TcCoe Idealize.SL.Sem Cert.Kernel4Ideal Cert.Kernel4Ideal.Gen

variable (m : (ℓ : Loc nD τ sig) → Buf (Elt Ideal) ℓ) (c : Dev nD)

/-- Which block each window holds at a point. -/
theorem idx : ∀ t : Fin cfg0.N, win0_0.index t = ![t.val % 2, t.val / 8, 0] ∧ win0_1.index t = ![t.val % 2, t.val / 2 % 4]
    ∧ win0_2.index t = ![t.val / 8, t.val / 2 % 4] := by
  decide +kernel

/-- A row of the left times a column of the right. -/
def pr (a : FVec Ideal S1x1024x5632 .bf16) (b : FVec Ideal S5632x512 .bf16) (i : Fin 1024) (j : Fin 512) : EReal :=
  ∑ k : Fin 5632, a (ix3 0 i k) * b (ix2 k j)

/-- The product of the rows. -/
theorem pay (a : FVec Ideal S1x1024x5632 .bf16) (b : FVec Ideal S5632x512 .bf16) (i : Fin 1024) (j : Fin 512) :
    k0_pay1 (F := Ideal) a b (ix2 i j) = pr a b i j := by
  pointwise [k0_pay1]
  rfl

section
variable (i : grid0.Coords) (arg3 : Memref sig .tc .vmem S1x1024x5632 .bf16) (harg3 : arg3.IsWhole) (arg4 : Memref sig .tc .vmem S5632x512 .bf16) (harg4 : arg4.IsWhole) (arg5 : Memref sig .tc .vmem S1024x512 .f32) (harg5 : arg5.IsWhole) (arg6 : Memref sig .tc .vmem S1024x512 .f32) (harg6 : arg6.IsWhole)
variable (a : FVec Ideal S1x1024x5632 .bf16) (b : FVec Ideal S5632x512 .bf16) (x : FVec Ideal S1024x512 .f32)

/-- What the first half's point keeps. -/
theorem keep (hc0 : cond0_0 i) (hc1 : ¬cond0_1 i) (hc2 : ¬cond0_2 i) :
    sout0_A_0 (F := Ideal) c i arg3 harg3 arg4 harg4 arg5 harg5 arg6 harg6 hc0 hc1 hc2 a b = k0_pay2 (F := Ideal) a b := by
  frame_open
  frame_out

/-- What the second half's point leaves. -/
theorem out (hc0 : ¬cond0_0 i) (hc1 : cond0_1 i) (hc2 : cond0_2 i) :
    out0_B_2 (F := Ideal) c i arg3 harg3 arg4 harg4 arg5 harg5 arg6 harg6 hc0 hc1 hc2 a b x = k0_pay3 (F := Ideal) a b x := by
  frame_open
  simp (disch := decide) only [↓ View.readCov_skip, ↓ View.readCov_cons_toLoadRect, ↓ View.readCov_fill]
  frame_out
end

/-- What a block's last point leaves: the two halves' products, added. -/
theorem two (t : Fin cfg0.N) (h : t.val % 2 = 1) (i : Fin 1024) (j : Fin 512) :
    (outsAt0 m c t.val t.isLt).1 (ix2 i j)
      = pr (iblk m c 0 (⟨t.val - 1, Nat.lt_of_le_of_lt (Nat.sub_le _ _) t.isLt⟩ : Fin cfg0.N)) (iblk m c 1 (⟨t.val - 1, Nat.lt_of_le_of_lt (Nat.sub_le _ _) t.isLt⟩ : Fin cfg0.N)) i j
        + pr (iblk m c 0 t) (iblk m c 1 t) i j := by
  have e := outsAt0_A m c (⟨t.val - 1, Nat.lt_of_le_of_lt (Nat.sub_le _ _) t.isLt⟩ : Fin cfg0.N) (by dsimp only; omega) (by dsimp only; omega) (by dsimp only; omega)
  rw [keep] at e
  rw [outsAt0_B m c t (by omega) h h]
  dsimp only
  rw [out]
  have e' := congrArg Prod.snd e
  dsimp only at e'
  rw [e']
  pointwise [k0_pay3, k0_pay2]
  rw [pay, pay]

/-- Where a point's block lies in the result. -/
theorem emb (t : Fin cfg0.N) (i : Fin 1024) (j : Fin 512) : (win0_2.blk t).view.emb (ix2 i j)
    = ix2 (⟨t.val / 8 * 1024 + i.val, by have := t.isLt.trans_eq N_0; omega⟩ : Fin 4096) (⟨t.val / 2 % 4 * 512 + j.val, by omega⟩ : Fin 2048) := by
  refine funext fun a => Fin.ext ?_
  fin_cases a <;> blk_simp [idx t] <;> rfl

/-- A product of blocks, by the arrays. -/
theorem blk (x0 : FVec Ideal S2x4096x5632 .bf16) (x1 : FVec Ideal S11264x2048 .bf16)
    (h0 : m ((c : Thread nD τ).loc main_arg0) = x0) (h1 : m ((c : Thread nD τ).loc main_arg1) = x1)
    (t : Fin cfg0.N) (i : Fin 1024) (j : Fin 512) : pr (iblk m c 0 t) (iblk m c 1 t) i j
    = ∑ k : Fin 5632, x0 (ix3 (⟨t.val % 2, by omega⟩ : Fin 2) (⟨t.val / 8 * 1024 + i.val, by have := t.isLt.trans_eq N_0; omega⟩ : Fin 4096) k)
        * x1 (ix2 (⟨t.val % 2 * 5632 + k.val, by omega⟩ : Fin 11264) (⟨t.val / 2 % 4 * 512 + j.val, by omega⟩ : Fin 2048)) := by
  subst h0 h1
  unfold pr
  refine Finset.sum_congr rfl fun k _ => ?_
  blk_simp [iblk, idx t]
  rw [V_main_arg0, V_main_arg1]
  refine congrArg₂ _ (congrArg _ (funext fun a => Fin.ext ?_)) (congrArg _ (funext fun a => Fin.ext ?_)) <;> fin_cases a
  all_goals
    blk_simp [idx t]
    rfl

/-- The two halves of the cotangent side by side. -/
theorem cat (x : FVec Ideal S2x4096x5632 .bf16) (k : Fin 4096) (r : Fin 11264) :
    Cert.Reference4Ideal.Read.val_main_v5 (F := Ideal) x (ix2 k r)
      = x (ix3 ⟨r.val / 5632, by omega⟩ k ⟨r.val % 5632, by omega⟩) := by
  pointwise [Cert.Reference4Ideal.Read.val_main_v5, Cert.Reference4Ideal.Read.val_main_v4, Cert.Reference4Ideal.Read.val_main_v3, Cert.Reference4Ideal.Read.val_main_v2, Cert.Reference4Ideal.Read.val_main_v1, Cert.Reference4Ideal.Read.val_main_v0]
  by_cases h : r.val < 5632
  · rw [dif_pos h]
    exact congrArg x (congrArg₂ (fun (p : Fin 2) (q : Fin 5632) => ix3 p k q) (Fin.ext (by show 0 = r.val / 5632; omega)) (Fin.ext (by show r.val = r.val % 5632; omega)))
  · rw [dif_neg h]
    exact congrArg x (congrArg₂ (fun (p : Fin 2) (q : Fin 5632) => ix3 p k q) (Fin.ext (by show 1 = r.val / 5632; omega)) (Fin.ext (by show r.val - 5632 = r.val % 5632; omega)))

/-- A sum over both halves. -/
theorem halves (f : Fin 11264 → EReal) :
    ∑ r : Fin 11264, f r = (∑ k : Fin 5632, f ⟨k.val, by omega⟩) + ∑ k : Fin 5632, f ⟨5632 + k.val, by omega⟩ :=
  Fin.sum_univ_add (a := 5632) (b := 5632) f

/-- The first half of the cotangent. -/
theorem left (x : FVec Ideal S2x4096x5632 .bf16) (i : Fin 4096) (k : Fin 5632) :
    Cert.Reference4Ideal.Read.val_main_v5 (F := Ideal) x (ix2 i (⟨k.val, by omega⟩ : Fin 11264)) = x (ix3 0 i k) := by
  rw [cat]
  exact congrArg x (congrArg₂ (fun (p : Fin 2) (q : Fin 5632) => ix3 p i q) (Fin.ext (by show k.val / 5632 = 0; omega)) (Fin.ext (by show k.val % 5632 = k.val; omega)))

/-- The second half of the cotangent. -/
theorem right (x : FVec Ideal S2x4096x5632 .bf16) (i : Fin 4096) (k : Fin 5632) :
    Cert.Reference4Ideal.Read.val_main_v5 (F := Ideal) x (ix2 i (⟨5632 + k.val, by omega⟩ : Fin 11264)) = x (ix3 1 i k) := by
  rw [cat]
  exact congrArg x (congrArg₂ (fun (p : Fin 2) (q : Fin 5632) => ix3 p i q) (Fin.ext (by show (5632 + k.val) / 5632 = 1; omega)) (Fin.ext (by show (5632 + k.val) % 5632 = k.val; omega)))

/-- The reference's entry, half by half. -/
theorem refv (x : FVec Ideal S2x4096x5632 .bf16) (w : FVec Ideal S11264x2048 .bf16) (i : Fin 4096) (j : Fin 2048) :
    Cert.Reference4Ideal.Read.val_main_v10 (F := Ideal) x w (ix2 i j) = ((∑ k : Fin 5632, x (ix3 0 i k) * w (ix2 (⟨k.val, by omega⟩ : Fin 11264) j))
      + ∑ k : Fin 5632, x (ix3 1 i k) * w (ix2 (⟨5632 + k.val, by omega⟩ : Fin 11264) j) : EReal) := by
  pointwise [Cert.Reference4Ideal.Read.val_main_v10, Cert.Reference4Ideal.Read.val_main_v8, Cert.Reference4Ideal.Read.val_main_v7, Cert.Reference4Ideal.Read.val_main_v6]
  refine (halves _).trans ?_
  simp only [left, right]

/-- The array the kernel leaves is the reference's. -/
theorem arr : ((dats m 0 c).arrAt 2 cfg0.N : FVec Ideal S4096x2048 .f32)
    = Cert.Reference4Ideal.Read.val_main_v10 (F := Ideal) (m ((c : Thread nD τ).loc main_arg0)) (m ((c : Thread nD τ).loc main_arg1)) := by
  refine (dats m 0 c).arrAt_eq_of_covers 2 _ (by decide +kernel) fun t hf y => ?_
  have h : t.val % 2 = 1 := (flush0_2 t).mp hf
  blk_simp
  rw [after0_2]
  idx_vars y
  rw [two m c t h]
  rw [blk m c _ _ rfl rfl, blk m c _ _ rfl rfl]
  refine Eq.trans ?_ (congrArg _ (emb t y0 y1)).symm
  rw [refv]
  refine congrArg₂ (fun a b : EReal => a + b) (Finset.sum_congr rfl fun k _ => ?_) (Finset.sum_congr rfl fun k _ => ?_)
  · refine congrArg₂ (fun a b : EReal => a * b) (congrArg _ ?_) (congrArg _ ?_)
    · exact congrArg₂ (fun (p : Fin 2) (q : Fin 4096) => ix3 p q k) (Fin.ext (by show (t.val - 1) % 2 = 0; omega)) (Fin.ext (by show (t.val - 1) / 8 * 1024 + y0.val = t.val / 8 * 1024 + y0.val; omega))
    · exact congrArg₂ ix2 (Fin.ext (by show (t.val - 1) % 2 * 5632 + k.val = k.val; omega)) (Fin.ext (by show (t.val - 1) / 2 % 4 * 512 + y1.val = t.val / 2 % 4 * 512 + y1.val; omega))
  · refine congrArg₂ (fun a b : EReal => a * b) (congrArg _ ?_) (congrArg _ ?_)
    · exact congrArg (fun (p : Fin 2) => ix3 p _ k) (Fin.ext (by show t.val % 2 = 1; omega))
    · exact congrArg (fun (p : Fin 11264) => ix2 p _) (Fin.ext (by show t.val % 2 * 5632 + k.val = 5632 + k.val; omega))

/-- The reference runs, leaves its arguments and its counters. -/
theorem frame_ri : Cert.quiescent_Reference4Ideal := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)

/-- At the ideal reading the kernel leaves what the reference leaves. -/
theorem algebraic : Cert.algebraic_Kernel4Ideal_Reference4Ideal := by
  intro m ρ m' ρ' _ hagree
  refine ⟨fun c => (dats m 0 c).arrAt 2 cfg0.N, Cert.Kernel4Ideal.Value.run_blocks m ρ, ?_⟩
  refine (θ_run Cert.Reference4Ideal.defs _ _).mono (fun r h c => ⟨(h c).1.trans ?_, (h c).2⟩) (Cert.Reference4Ideal.Value.run (F := Ideal) m' ρ')
  obtain ⟨e0, e1⟩ := hagree c
  rw [e0, e1]
  exact (Cert.Reference4Ideal.Read.val_main_v10_eq _ _).trans (arr m c).symm

end Cert.Mm4

end
-- ==== Proof.Mm5.lean ====
/- The gradient of the up projection's weights. -/
module

public import proofs.«01_k».proof.Proof.Gen.Kernel5Ideal.Value
public import proofs.«01_k».proof.Proof.Gen.Kernel5.Frame
public import proofs.«01_k».proof.Proof.Gen.Reference5Ideal.Run
public import proofs.«01_k».proof.Proof.Gen.Reference5Ideal.Read
public import Idealize.ShloMosaic.Lib.Pointwise
public import Idealize.ShloMosaic.Lib.Pipeline.ReadBack
public import Idealize.ShloMosaic.Lib.Pipeline.ValueKit
public import proofs.«01_k».proof.Defs

@[expose] public section

set_option maxRecDepth 16384

noncomputable section

namespace Cert.Mm5

open Idealize.ShloMosaic Idealize.ShloMosaic.TcCoe Idealize.SL.Sem Cert.Kernel5Ideal Cert.Kernel5Ideal.Gen

variable (m : (ℓ : Loc nD τ sig) → Buf (Elt Ideal) ℓ) (c : Dev nD)

/-- Which block each window holds at a point. -/
theorem idx : ∀ t : Fin cfg0.N, win0_0.index t = ![t.val / 22, 0, t.val / 2 % 11] ∧ win0_1.index t = ![0, t.val % 2]
    ∧ win0_2.index t = ![t.val / 2, t.val % 2] := by
  decide +kernel

/-- The block a point leaves. -/
theorem out (a : FVec Ideal S1x4096x512 .bf16) (b : FVec Ideal S4096x1024 .bf16) :
    out0_2 (F := Ideal) a b = k0_pay1 (F := Ideal) a b := by
  frame_open
  frame_out

/-- The product of the columns. -/
theorem pay (a : FVec Ideal S1x4096x512 .bf16) (b : FVec Ideal S4096x1024 .bf16) (i : Fin 512) (j : Fin 1024) :
    k0_pay1 (F := Ideal) a b (ix2 i j) = ∑ k : Fin 4096, a (ix3 0 k i) * b (ix2 k j) := by
  pointwise [k0_pay1]

/-- The rows of a point's block. -/
theorem e0 (t : Fin cfg0.N) (i : Fin 512) (j : Fin 1024) : ((win0_2.blk t).view.emb (ix2 i j) 0).val = t.val / 2 * 512 + i.val := by
  blk_simp [idx t]
/-- The columns of a point's block. -/
theorem e1 (t : Fin cfg0.N) (i : Fin 512) (j : Fin 1024) : ((win0_2.blk t).view.emb (ix2 i j) 1).val = t.val % 2 * 1024 + j.val := by
  blk_simp [idx t]

/-- The two halves of the cotangent side by side. -/
theorem cat (x : FVec Ideal S2x4096x5632 .bf16) (k : Fin 4096) (r : Fin 11264) :
    Cert.Reference5Ideal.Read.val_main_v5 (F := Ideal) x (ix2 k r)
      = x (ix3 ⟨r.val / 5632, by omega⟩ k ⟨r.val % 5632, by omega⟩) := by
  pointwise [Cert.Reference5Ideal.Read.val_main_v5, Cert.Reference5Ideal.Read.val_main_v4, Cert.Reference5Ideal.Read.val_main_v3, Cert.Reference5Ideal.Read.val_main_v2, Cert.Reference5Ideal.Read.val_main_v1, Cert.Reference5Ideal.Read.val_main_v0]
  by_cases h : r.val < 5632
  · rw [dif_pos h]
    exact congrArg x (congrArg₂ (fun (p : Fin 2) (q : Fin 5632) => ix3 p k q) (Fin.ext (by show 0 = r.val / 5632; omega)) (Fin.ext (by show r.val = r.val % 5632; omega)))
  · rw [dif_neg h]
    exact congrArg x (congrArg₂ (fun (p : Fin 2) (q : Fin 5632) => ix3 p k q) (Fin.ext (by show 1 = r.val / 5632; omega)) (Fin.ext (by show r.val - 5632 = r.val % 5632; omega)))

/-- The array the kernel leaves is the reference's. -/
theorem arr : ((dats m 0 c).arrAt 2 cfg0.N : FVec Ideal S11264x2048 .bf16)
    = Cert.Reference5Ideal.Read.val_main_v13 (F := Ideal) (m ((c : Thread nD τ).loc main_arg0)) (m ((c : Thread nD τ).loc main_arg1)) := by
  refine (dats m 0 c).arrAt_eq_of_covers 2 _ (by decide +kernel) fun t hf y => ?_
  blk_simp
  rw [after0_2, out]
  idx_vars y
  rw [pay]
  pointwise [Cert.Reference5Ideal.Read.val_main_v13, Cert.Reference5Ideal.Read.val_main_v12, Cert.Reference5Ideal.Read.val_main_v11, Cert.Reference5Ideal.Read.val_main_v10, Cert.Reference5Ideal.Read.val_main_v7]
  show (∑ k : Fin 4096, _ : EReal) = ∑ k : Fin 4096, _
  refine Finset.sum_congr rfl fun k _ => ?_
  refine Eq.trans ?_ (congrArg₂ (fun a b : EReal => a * b) (cat _ k _) rfl).symm
  blk_simp [iblk, idx t]
  rw [V_main_arg0, V_main_arg1]
  refine congrArg₂ _ (congrArg _ (funext fun a => Fin.ext ?_)) (congrArg _ (funext fun a => Fin.ext ?_)) <;> fin_cases a
  all_goals blk_simp [idx t]
  · exact (by omega : t.val / 22 = (t.val / 2 * 512 + y0.val) / 5632)
  · rfl
  · exact (by omega : t.val / 2 % 11 * 512 + y0.val = (t.val / 2 * 512 + y0.val) % 5632)
  · rfl
  · exact (e1 t y0 y1).symm

/-- The reference runs, leaves its arguments and its counters. -/
theorem frame_ri : Cert.quiescent_Reference5Ideal := fun m ρ _ =>
  (θ_run Cert.Reference5Ideal.defs _ _).mono (fun r h => ⟨fun c => (h c).2,
      Idealize.ShloMosaic.sem_eq_zero_of_no_sems (by decide) r.2⟩)
    (Cert.Reference5Ideal.Value.run (F := Ideal) m ρ)

/-- At the ideal reading the kernel leaves what the reference leaves. -/
theorem algebraic : Cert.algebraic_Kernel5Ideal_Reference5Ideal := by
  intro m ρ m' ρ' _ hagree
  refine ⟨fun c => (dats m 0 c).arrAt 2 cfg0.N, Cert.Kernel5Ideal.Value.run_blocks m ρ, ?_⟩
  refine (θ_run Cert.Reference5Ideal.defs _ _).mono (fun r h c => ⟨(h c).1.trans ?_, (h c).2⟩) (Cert.Reference5Ideal.Value.run (F := Ideal) m' ρ')
  obtain ⟨e0, e1⟩ := hagree c
  rw [e0, e1]
  exact (Cert.Reference5Ideal.Read.val_main_v13_eq _ _).trans (arr m c).symm

end Cert.Mm5

end
-- ==== Proof.Mm6.lean ====
/- The gradient of the mixer output projection's input. -/
module

public import proofs.«01_k».proof.Proof.Gen.Kernel6Ideal.Value
public import proofs.«01_k».proof.Proof.Gen.Kernel6.Frame
public import proofs.«01_k».proof.Proof.Gen.Reference6Ideal.Run
public import proofs.«01_k».proof.Proof.Gen.Reference6Ideal.Read
public import Idealize.ShloMosaic.Lib.Pointwise
public import Idealize.ShloMosaic.Lib.Pipeline.ReadBack
public import Idealize.ShloMosaic.Lib.Pipeline.ValueKit
public import proofs.«01_k».proof.Defs

@[expose] public section

set_option maxRecDepth 16384

noncomputable section

namespace Cert.Mm6

open Idealize.ShloMosaic Idealize.ShloMosaic.TcCoe Idealize.SL.Sem Cert.Kernel6Ideal Cert.Kernel6Ideal.Gen

variable (m : (ℓ : Loc nD τ sig) → Buf (Elt Ideal) ℓ) (c : Dev nD)

/-- Which block each window holds at a point. -/
theorem idx : ∀ t : Fin cfg0.N, win0_0.index t = ![t.val / 2, 0] ∧ win0_1.index t = ![t.val % 2, 0]
    ∧ win0_2.index t = ![t.val / 2, t.val % 2] := by
  decide +kernel

/-- The block a point leaves. -/
theorem out (a : FVec Ideal S1024x2048 .bf16) (b : FVec Ideal S1024x2048 .bf16) :
    out0_2 (F := Ideal) a b = k0_pay1 (F := Ideal) a b := by
  frame_open
  frame_out

/-- The product of the block's rows and columns. -/
theorem pay (a : FVec Ideal S1024x2048 .bf16) (b : FVec Ideal S1024x2048 .bf16) (i : Fin 1024) (j : Fin 1024) :
    k0_pay1 (F := Ideal) a b (ix2 i j) = ∑ k : Fin 2048, a (ix2 i k) * b (ix2 j k) := by
  pointwise [k0_pay1]

/-- The rows of a point's block. -/
theorem e0 (t : Fin cfg0.N) (i : Fin 1024) (j : Fin 1024) : ((win0_2.blk t).view.emb (ix2 i j) 0).val = t.val / 2 * 1024 + i.val := by
  blk_simp [idx t]
/-- The columns of a point's block. -/
theorem e1 (t : Fin cfg0.N) (i : Fin 1024) (j : Fin 1024) : ((win0_2.blk t).view.emb (ix2 i j) 1).val = t.val % 2 * 1024 + j.val := by
  blk_simp [idx t]

/-- The array the kernel leaves is the reference's. -/
theorem arr : ((dats m 0 c).arrAt 2 cfg0.N : FVec Ideal S4096x2048 .f32)
    = Cert.Reference6Ideal.Read.val_main_v4 (F := Ideal) (m ((c : Thread nD τ).loc main_arg0)) (m ((c : Thread nD τ).loc main_arg1)) := by
  refine (dats m 0 c).arrAt_eq_of_covers 2 _ (by decide +kernel) fun t hf y => ?_
  blk_simp
  rw [after0_2, out]
  idx_vars y
  rw [pay]
  pointwise [Cert.Reference6Ideal.Read.val_main_v4, Cert.Reference6Ideal.Read.val_main_v3, Cert.Reference6Ideal.Read.val_main_v2, Cert.Reference6Ideal.Read.val_main_v1, Cert.Reference6Ideal.Read.val_main_v0]
  show (∑ k : Fin 2048, _ : EReal) = ∑ k : Fin 2048, _
  refine Finset.sum_congr rfl fun k _ => ?_
  blk_simp [iblk, idx t]
  rw [V_main_arg0, V_main_arg1]
  refine congrArg₂ _ (congrArg _ (funext fun a => Fin.ext ?_)) (congrArg _ (funext fun a => Fin.ext ?_)) <;> fin_cases a
  all_goals blk_simp [idx t]
  · exact (e0 t y0 y1).symm
  · rfl
  · exact (e1 t y0 y1).symm
  · rfl

/-- The reference runs, leaves its arguments and its counters. -/
theorem frame_ri : Cert.quiescent_Reference6Ideal := fun m ρ _ =>
  (θ_run Cert.Reference6Ideal.defs _ _).mono (fun r h => ⟨fun c => (h c).2,
      Idealize.ShloMosaic.sem_eq_zero_of_no_sems (by decide) r.2⟩)
    (Cert.Reference6Ideal.Value.run (F := Ideal) m ρ)

/-- At the ideal reading the kernel leaves what the reference leaves. -/
theorem algebraic : Cert.algebraic_Kernel6Ideal_Reference6Ideal := by
  intro m ρ m' ρ' _ hagree
  refine ⟨fun c => (dats m 0 c).arrAt 2 cfg0.N, Cert.Kernel6Ideal.Value.run_blocks m ρ, ?_⟩
  refine (θ_run Cert.Reference6Ideal.defs _ _).mono (fun r h c => ⟨(h c).1.trans ?_, (h c).2⟩) (Cert.Reference6Ideal.Value.run (F := Ideal) m' ρ')
  obtain ⟨e0, e1⟩ := hagree c
  rw [e0, e1]
  exact (Cert.Reference6Ideal.Read.val_main_v4_eq _ _).trans (arr m c).symm

end Cert.Mm6

end
-- ==== Proof.Mm7.lean ====
/- The gradient of the mixer output projection's weights. -/
module

public import proofs.«01_k».proof.Proof.Gen.Kernel7Ideal.Value
public import proofs.«01_k».proof.Proof.Gen.Kernel7.Frame
public import proofs.«01_k».proof.Proof.Gen.Reference7Ideal.Run
public import proofs.«01_k».proof.Proof.Gen.Reference7Ideal.Read
public import Idealize.ShloMosaic.Lib.Pointwise
public import Idealize.ShloMosaic.Lib.Pipeline.ReadBack
public import Idealize.ShloMosaic.Lib.Pipeline.ValueKit
public import proofs.«01_k».proof.Defs

@[expose] public section

set_option maxRecDepth 16384

noncomputable section

namespace Cert.Mm7

open Idealize.ShloMosaic Idealize.ShloMosaic.TcCoe Idealize.SL.Sem Cert.Kernel7Ideal Cert.Kernel7Ideal.Gen

variable (m : (ℓ : Loc nD τ sig) → Buf (Elt Ideal) ℓ) (c : Dev nD)

/-- Which block each window holds at a point. -/
theorem idx : ∀ t : Fin cfg0.N, win0_0.index t = ![0, t.val / 2] ∧ win0_1.index t = ![0, t.val % 2]
    ∧ win0_2.index t = ![t.val / 2, t.val % 2] := by
  decide +kernel

/-- The block a point leaves. -/
theorem out (a : FVec Ideal S4096x1024 .bf16) (b : FVec Ideal S4096x1024 .bf16) :
    out0_2 (F := Ideal) a b = k0_pay1 (F := Ideal) a b := by
  frame_open
  frame_out

/-- The product of the block's rows and columns. -/
theorem pay (a : FVec Ideal S4096x1024 .bf16) (b : FVec Ideal S4096x1024 .bf16) (i : Fin 1024) (j : Fin 1024) :
    k0_pay1 (F := Ideal) a b (ix2 i j) = ∑ k : Fin 4096, a (ix2 k i) * b (ix2 k j) := by
  pointwise [k0_pay1]

/-- The rows of a point's block. -/
theorem e0 (t : Fin cfg0.N) (i : Fin 1024) (j : Fin 1024) : ((win0_2.blk t).view.emb (ix2 i j) 0).val = t.val / 2 * 1024 + i.val := by
  blk_simp [idx t]
/-- The columns of a point's block. -/
theorem e1 (t : Fin cfg0.N) (i : Fin 1024) (j : Fin 1024) : ((win0_2.blk t).view.emb (ix2 i j) 1).val = t.val % 2 * 1024 + j.val := by
  blk_simp [idx t]

/-- The array the kernel leaves is the reference's. -/
theorem arr : ((dats m 0 c).arrAt 2 cfg0.N : FVec Ideal S2048x2048 .bf16)
    = Cert.Reference7Ideal.Read.val_main_v6 (F := Ideal) (m ((c : Thread nD τ).loc main_arg0)) (m ((c : Thread nD τ).loc main_arg1)) := by
  refine (dats m 0 c).arrAt_eq_of_covers 2 _ (by decide +kernel) fun t hf y => ?_
  blk_simp
  rw [after0_2, out]
  idx_vars y
  rw [pay]
  pointwise [Cert.Reference7Ideal.Read.val_main_v6, Cert.Reference7Ideal.Read.val_main_v5, Cert.Reference7Ideal.Read.val_main_v4, Cert.Reference7Ideal.Read.val_main_v3, Cert.Reference7Ideal.Read.val_main_v2, Cert.Reference7Ideal.Read.val_main_v1, Cert.Reference7Ideal.Read.val_main_v0]
  show (∑ k : Fin 4096, _ : EReal) = ∑ k : Fin 4096, _
  refine Finset.sum_congr rfl fun k _ => ?_
  blk_simp [iblk, idx t]
  rw [V_main_arg0, V_main_arg1]
  refine (congrArg₂ _ (congrArg _ (funext fun a => Fin.ext ?_)) (congrArg _ (funext fun a => Fin.ext ?_))).trans (mul_comm _ _) <;> fin_cases a
  all_goals blk_simp [idx t]
  · rfl
  · exact (e0 t y0 y1).symm
  · rfl
  · exact (e1 t y0 y1).symm

/-- The reference runs, leaves its arguments and its counters. -/
theorem frame_ri : Cert.quiescent_Reference7Ideal := fun m ρ _ =>
  (θ_run Cert.Reference7Ideal.defs _ _).mono (fun r h => ⟨fun c => (h c).2,
      Idealize.ShloMosaic.sem_eq_zero_of_no_sems (by decide) r.2⟩)
    (Cert.Reference7Ideal.Value.run (F := Ideal) m ρ)

/-- At the ideal reading the kernel leaves what the reference leaves. -/
theorem algebraic : Cert.algebraic_Kernel7Ideal_Reference7Ideal := by
  intro m ρ m' ρ' _ hagree
  refine ⟨fun c => (dats m 0 c).arrAt 2 cfg0.N, Cert.Kernel7Ideal.Value.run_blocks m ρ, ?_⟩
  refine (θ_run Cert.Reference7Ideal.defs _ _).mono (fun r h c => ⟨(h c).1.trans ?_, (h c).2⟩) (Cert.Reference7Ideal.Value.run (F := Ideal) m' ρ')
  obtain ⟨e0, e1⟩ := hagree c
  rw [e0, e1]
  exact (Cert.Reference7Ideal.Read.val_main_v6_eq _ _).trans (arr m c).symm

end Cert.Mm7

end
-- ==== Proof.Mm8.lean ====
/- The gradient of the attention's projected input. -/
module

public import proofs.«01_k».proof.Proof.Gen.Kernel8Ideal.Value
public import proofs.«01_k».proof.Proof.Gen.Kernel8.Frame
public import proofs.«01_k».proof.Proof.Gen.Reference8Ideal.Run
public import proofs.«01_k».proof.Proof.Gen.Reference8Ideal.Read
public import Idealize.ShloMosaic.Lib.Pointwise
public import Idealize.ShloMosaic.Lib.Pipeline.ReadBack
public import Idealize.ShloMosaic.Lib.Pipeline.ValueKit
public import proofs.«01_k».proof.Defs

@[expose] public section

set_option maxRecDepth 16384

noncomputable section

namespace Cert.Mm8

open Idealize.ShloMosaic Idealize.ShloMosaic.TcCoe Idealize.SL.Sem Cert.Kernel8Ideal Cert.Kernel8Ideal.Gen

variable (m : (ℓ : Loc nD τ sig) → Buf (Elt Ideal) ℓ) (c : Dev nD)

/-- Which block each window holds at a point. -/
theorem idx : ∀ t : Fin cfg0.N, win0_0.index t = ![t.val / 4, 0] ∧ win0_1.index t = ![0, t.val % 4]
    ∧ win0_2.index t = ![t.val / 4, t.val % 4] := by
  decide +kernel

/-- The block a point leaves. -/
theorem out (a : FVec Ideal S1024x6144 .bf16) (b : FVec Ideal S6144x512 .bf16) :
    out0_2 (F := Ideal) a b = k0_pay1 (F := Ideal) a b := by
  frame_open
  frame_out

/-- The product of the block's rows and columns. -/
theorem pay (a : FVec Ideal S1024x6144 .bf16) (b : FVec Ideal S6144x512 .bf16) (i : Fin 1024) (j : Fin 512) :
    k0_pay1 (F := Ideal) a b (ix2 i j) = ∑ k : Fin 6144, a (ix2 i k) * b (ix2 k j) := by
  pointwise [k0_pay1]

/-- The rows of a point's block. -/
theorem e0 (t : Fin cfg0.N) (i : Fin 1024) (j : Fin 512) : ((win0_2.blk t).view.emb (ix2 i j) 0).val = t.val / 4 * 1024 + i.val := by
  blk_simp [idx t]
/-- The columns of a point's block. -/
theorem e1 (t : Fin cfg0.N) (i : Fin 1024) (j : Fin 512) : ((win0_2.blk t).view.emb (ix2 i j) 1).val = t.val % 4 * 512 + j.val := by
  blk_simp [idx t]

/-- The array the kernel leaves is the reference's. -/
theorem arr : ((dats m 0 c).arrAt 2 cfg0.N : FVec Ideal S4096x2048 .f32)
    = Cert.Reference8Ideal.Read.val_main_v5 (F := Ideal) (m ((c : Thread nD τ).loc main_arg0)) (m ((c : Thread nD τ).loc main_arg1)) := by
  refine (dats m 0 c).arrAt_eq_of_covers 2 _ (by decide +kernel) fun t hf y => ?_
  blk_simp
  rw [after0_2, out]
  idx_vars y
  rw [pay]
  pointwise [Cert.Reference8Ideal.Read.val_main_v5, Cert.Reference8Ideal.Read.val_main_v4, Cert.Reference8Ideal.Read.val_main_v3, Cert.Reference8Ideal.Read.val_main_v2, Cert.Reference8Ideal.Read.val_main_v1, Cert.Reference8Ideal.Read.val_main_v0]
  show (∑ k : Fin 6144, _ : EReal) = ∑ k : Fin 6144, _
  refine Finset.sum_congr rfl fun k _ => ?_
  blk_simp [iblk, idx t]
  rw [V_main_arg0, V_main_arg1]
  refine congrArg₂ _ (congrArg _ (funext fun a => Fin.ext ?_)) (congrArg _ (funext fun a => Fin.ext ?_)) <;> fin_cases a
  all_goals blk_simp [idx t]
  · exact (e0 t y0 y1).symm
  · rfl
  · rfl
  · exact (e1 t y0 y1).symm

/-- The reference runs, leaves its arguments and its counters. -/
theorem frame_ri : Cert.quiescent_Reference8Ideal := fun m ρ _ =>
  (θ_run Cert.Reference8Ideal.defs _ _).mono (fun r h => ⟨fun c => (h c).2,
      Idealize.ShloMosaic.sem_eq_zero_of_no_sems (by decide) r.2⟩)
    (Cert.Reference8Ideal.Value.run (F := Ideal) m ρ)

/-- At the ideal reading the kernel leaves what the reference leaves. -/
theorem algebraic : Cert.algebraic_Kernel8Ideal_Reference8Ideal := by
  intro m ρ m' ρ' _ hagree
  refine ⟨fun c => (dats m 0 c).arrAt 2 cfg0.N, Cert.Kernel8Ideal.Value.run_blocks m ρ, ?_⟩
  refine (θ_run Cert.Reference8Ideal.defs _ _).mono (fun r h c => ⟨(h c).1.trans ?_, (h c).2⟩) (Cert.Reference8Ideal.Value.run (F := Ideal) m' ρ')
  obtain ⟨e0, e1⟩ := hagree c
  rw [e0, e1]
  exact (Cert.Reference8Ideal.Read.val_main_v5_eq _ _).trans (arr m c).symm

end Cert.Mm8

end
-- ==== Proof.Mm9.lean ====
/- The gradient of the attention's projection weights. -/
module

public import proofs.«01_k».proof.Proof.Gen.Kernel9Ideal.Value
public import proofs.«01_k».proof.Proof.Gen.Kernel9.Frame
public import proofs.«01_k».proof.Proof.Gen.Reference9Ideal.Run
public import proofs.«01_k».proof.Proof.Gen.Reference9Ideal.Read
public import Idealize.ShloMosaic.Lib.Pointwise
public import Idealize.ShloMosaic.Lib.Pipeline.ReadBack
public import Idealize.ShloMosaic.Lib.Pipeline.ValueKit
public import proofs.«01_k».proof.Defs

@[expose] public section

set_option maxRecDepth 16384

noncomputable section

namespace Cert.Mm9

open Idealize.ShloMosaic Idealize.ShloMosaic.TcCoe Idealize.SL.Sem Cert.Kernel9Ideal Cert.Kernel9Ideal.Gen

variable (m : (ℓ : Loc nD τ sig) → Buf (Elt Ideal) ℓ) (c : Dev nD)

/-- Which block each window holds at a point. -/
theorem idx : ∀ t : Fin cfg0.N, win0_0.index t = ![0, t.val / 2] ∧ win0_1.index t = ![0, t.val % 2]
    ∧ win0_2.index t = ![t.val / 2, t.val % 2] := by
  decide +kernel

/-- The block a point leaves. -/
theorem out (a : FVec Ideal S4096x1024 .bf16) (b : FVec Ideal S4096x1024 .bf16) :
    out0_2 (F := Ideal) a b = k0_pay1 (F := Ideal) a b := by
  frame_open
  frame_out

/-- The product of the block's rows and columns. -/
theorem pay (a : FVec Ideal S4096x1024 .bf16) (b : FVec Ideal S4096x1024 .bf16) (i : Fin 1024) (j : Fin 1024) :
    k0_pay1 (F := Ideal) a b (ix2 i j) = ∑ k : Fin 4096, a (ix2 k i) * b (ix2 k j) := by
  pointwise [k0_pay1]

/-- The rows of a point's block. -/
theorem e0 (t : Fin cfg0.N) (i : Fin 1024) (j : Fin 1024) : ((win0_2.blk t).view.emb (ix2 i j) 0).val = t.val / 2 * 1024 + i.val := by
  blk_simp [idx t]
/-- The columns of a point's block. -/
theorem e1 (t : Fin cfg0.N) (i : Fin 1024) (j : Fin 1024) : ((win0_2.blk t).view.emb (ix2 i j) 1).val = t.val % 2 * 1024 + j.val := by
  blk_simp [idx t]

/-- The array the kernel leaves is the reference's. -/
theorem arr : ((dats m 0 c).arrAt 2 cfg0.N : FVec Ideal S6144x2048 .bf16)
    = Cert.Reference9Ideal.Read.val_main_v8 (F := Ideal) (m ((c : Thread nD τ).loc main_arg0)) (m ((c : Thread nD τ).loc main_arg1)) := by
  refine (dats m 0 c).arrAt_eq_of_covers 2 _ (by decide +kernel) fun t hf y => ?_
  blk_simp
  rw [after0_2, out]
  idx_vars y
  rw [pay]
  pointwise [Cert.Reference9Ideal.Read.val_main_v8, Cert.Reference9Ideal.Read.val_main_v7, Cert.Reference9Ideal.Read.val_main_v6, Cert.Reference9Ideal.Read.val_main_v5, Cert.Reference9Ideal.Read.val_main_v4, Cert.Reference9Ideal.Read.val_main_v3, Cert.Reference9Ideal.Read.val_main_v2, Cert.Reference9Ideal.Read.val_main_v1, Cert.Reference9Ideal.Read.val_main_v0]
  show (∑ k : Fin 4096, _ : EReal) = ∑ k : Fin 4096, _
  refine Finset.sum_congr rfl fun k _ => ?_
  blk_simp [iblk, idx t]
  rw [V_main_arg0, V_main_arg1]
  refine congrArg₂ _ (congrArg _ (funext fun a => Fin.ext ?_)) (congrArg _ (funext fun a => Fin.ext ?_)) <;> fin_cases a
  all_goals blk_simp [idx t]
  · rfl
  · exact (e0 t y0 y1).symm
  · rfl
  · exact (e1 t y0 y1).symm

/-- The reference runs, leaves its arguments and its counters. -/
theorem frame_ri : Cert.quiescent_Reference9Ideal := fun m ρ _ =>
  (θ_run Cert.Reference9Ideal.defs _ _).mono (fun r h => ⟨fun c => (h c).2,
      Idealize.ShloMosaic.sem_eq_zero_of_no_sems (by decide) r.2⟩)
    (Cert.Reference9Ideal.Value.run (F := Ideal) m ρ)

/-- At the ideal reading the kernel leaves what the reference leaves. -/
theorem algebraic : Cert.algebraic_Kernel9Ideal_Reference9Ideal := by
  intro m ρ m' ρ' _ hagree
  refine ⟨fun c => (dats m 0 c).arrAt 2 cfg0.N, Cert.Kernel9Ideal.Value.run_blocks m ρ, ?_⟩
  refine (θ_run Cert.Reference9Ideal.defs _ _).mono (fun r h c => ⟨(h c).1.trans ?_, (h c).2⟩) (Cert.Reference9Ideal.Value.run (F := Ideal) m' ρ')
  obtain ⟨e0, e1⟩ := hagree c
  rw [e0, e1]
  exact (Cert.Reference9Ideal.Read.val_main_v8_eq _ _).trans (arr m c).symm

end Cert.Mm9

end
-- ==== Proof.Mm10.lean ====
/- The gradient of the gMLP's projected input. -/
module

public import proofs.«01_k».proof.Proof.Gen.Kernel10Ideal.Value
public import proofs.«01_k».proof.Proof.Gen.Kernel10.Frame
public import proofs.«01_k».proof.Proof.Gen.Reference10Ideal.Run
public import proofs.«01_k».proof.Proof.Gen.Reference10Ideal.Read
public import Idealize.ShloMosaic.Lib.Pointwise
public import Idealize.ShloMosaic.Lib.Pipeline.ReadBack
public import Idealize.ShloMosaic.Lib.Pipeline.ValueKit
public import proofs.«01_k».proof.Defs

@[expose] public section

set_option maxRecDepth 16384

noncomputable section

namespace Cert.Mm10

open Idealize.ShloMosaic Idealize.ShloMosaic.TcCoe Idealize.SL.Sem Cert.Kernel10Ideal Cert.Kernel10Ideal.Gen

variable (m : (ℓ : Loc nD τ sig) → Buf (Elt Ideal) ℓ) (c : Dev nD)

/-- Which block each window holds at a point. -/
theorem idx : ∀ t : Fin cfg0.N, win0_0.index t = ![t.val / 2, 0] ∧ win0_1.index t = ![0, t.val % 2]
    ∧ win0_2.index t = ![t.val / 2, t.val % 2] := by
  decide +kernel

/-- The block a point leaves. -/
theorem out (a : FVec Ideal S1024x4096 .bf16) (b : FVec Ideal S4096x1024 .bf16) :
    out0_2 (F := Ideal) a b = k0_pay1 (F := Ideal) a b := by
  frame_open
  frame_out

/-- The product of the block's rows and columns. -/
theorem pay (a : FVec Ideal S1024x4096 .bf16) (b : FVec Ideal S4096x1024 .bf16) (i : Fin 1024) (j : Fin 1024) :
    k0_pay1 (F := Ideal) a b (ix2 i j) = ∑ k : Fin 4096, a (ix2 i k) * b (ix2 k j) := by
  pointwise [k0_pay1]

/-- The rows of a point's block. -/
theorem e0 (t : Fin cfg0.N) (i : Fin 1024) (j : Fin 1024) : ((win0_2.blk t).view.emb (ix2 i j) 0).val = t.val / 2 * 1024 + i.val := by
  blk_simp [idx t]
/-- The columns of a point's block. -/
theorem e1 (t : Fin cfg0.N) (i : Fin 1024) (j : Fin 1024) : ((win0_2.blk t).view.emb (ix2 i j) 1).val = t.val % 2 * 1024 + j.val := by
  blk_simp [idx t]

/-- The array the kernel leaves is the reference's. -/
theorem arr : ((dats m 0 c).arrAt 2 cfg0.N : FVec Ideal S4096x2048 .f32)
    = Cert.Reference10Ideal.Read.val_main_v5 (F := Ideal) (m ((c : Thread nD τ).loc main_arg0)) (m ((c : Thread nD τ).loc main_arg1)) := by
  refine (dats m 0 c).arrAt_eq_of_covers 2 _ (by decide +kernel) fun t hf y => ?_
  blk_simp
  rw [after0_2, out]
  idx_vars y
  rw [pay]
  pointwise [Cert.Reference10Ideal.Read.val_main_v5, Cert.Reference10Ideal.Read.val_main_v4, Cert.Reference10Ideal.Read.val_main_v3, Cert.Reference10Ideal.Read.val_main_v2, Cert.Reference10Ideal.Read.val_main_v1, Cert.Reference10Ideal.Read.val_main_v0]
  show (∑ k : Fin 4096, _ : EReal) = ∑ k : Fin 4096, _
  refine Finset.sum_congr rfl fun k _ => ?_
  blk_simp [iblk, idx t]
  rw [V_main_arg0, V_main_arg1]
  refine congrArg₂ _ (congrArg _ (funext fun a => Fin.ext ?_)) (congrArg _ (funext fun a => Fin.ext ?_)) <;> fin_cases a
  all_goals blk_simp [idx t]
  · exact (e0 t y0 y1).symm
  · rfl
  · rfl
  · exact (e1 t y0 y1).symm

/-- The reference runs, leaves its arguments and its counters. -/
theorem frame_ri : Cert.quiescent_Reference10Ideal := fun m ρ _ =>
  (θ_run Cert.Reference10Ideal.defs _ _).mono (fun r h => ⟨fun c => (h c).2,
      Idealize.ShloMosaic.sem_eq_zero_of_no_sems (by decide) r.2⟩)
    (Cert.Reference10Ideal.Value.run (F := Ideal) m ρ)

/-- At the ideal reading the kernel leaves what the reference leaves. -/
theorem algebraic : Cert.algebraic_Kernel10Ideal_Reference10Ideal := by
  intro m ρ m' ρ' _ hagree
  refine ⟨fun c => (dats m 0 c).arrAt 2 cfg0.N, Cert.Kernel10Ideal.Value.run_blocks m ρ, ?_⟩
  refine (θ_run Cert.Reference10Ideal.defs _ _).mono (fun r h c => ⟨(h c).1.trans ?_, (h c).2⟩) (Cert.Reference10Ideal.Value.run (F := Ideal) m' ρ')
  obtain ⟨e0, e1⟩ := hagree c
  rw [e0, e1]
  exact (Cert.Reference10Ideal.Read.val_main_v5_eq _ _).trans (arr m c).symm

end Cert.Mm10

end
-- ==== Proof.Mm11.lean ====
/- The gradient of the gMLP's projection weights. -/
module

public import proofs.«01_k».proof.Proof.Gen.Kernel11Ideal.Value
public import proofs.«01_k».proof.Proof.Gen.Kernel11.Frame
public import proofs.«01_k».proof.Proof.Gen.Reference11Ideal.Run
public import proofs.«01_k».proof.Proof.Gen.Reference11Ideal.Read
public import Idealize.ShloMosaic.Lib.Pointwise
public import Idealize.ShloMosaic.Lib.Pipeline.ReadBack
public import Idealize.ShloMosaic.Lib.Pipeline.ValueKit
public import proofs.«01_k».proof.Defs

@[expose] public section

set_option maxRecDepth 16384

noncomputable section

namespace Cert.Mm11

open Idealize.ShloMosaic Idealize.ShloMosaic.TcCoe Idealize.SL.Sem Cert.Kernel11Ideal Cert.Kernel11Ideal.Gen

variable (m : (ℓ : Loc nD τ sig) → Buf (Elt Ideal) ℓ) (c : Dev nD)

/-- Which block each window holds at a point. -/
theorem idx : ∀ t : Fin cfg0.N, win0_0.index t = ![0, t.val / 2] ∧ win0_1.index t = ![0, t.val % 2]
    ∧ win0_2.index t = ![t.val / 2, t.val % 2] := by
  decide +kernel

/-- The block a point leaves. -/
theorem out (a : FVec Ideal S4096x1024 .bf16) (b : FVec Ideal S4096x1024 .bf16) :
    out0_2 (F := Ideal) a b = k0_pay1 (F := Ideal) a b := by
  frame_open
  frame_out

/-- The product of the block's rows and columns. -/
theorem pay (a : FVec Ideal S4096x1024 .bf16) (b : FVec Ideal S4096x1024 .bf16) (i : Fin 1024) (j : Fin 1024) :
    k0_pay1 (F := Ideal) a b (ix2 i j) = ∑ k : Fin 4096, a (ix2 k i) * b (ix2 k j) := by
  pointwise [k0_pay1]

/-- The rows of a point's block. -/
theorem e0 (t : Fin cfg0.N) (i : Fin 1024) (j : Fin 1024) : ((win0_2.blk t).view.emb (ix2 i j) 0).val = t.val / 2 * 1024 + i.val := by
  blk_simp [idx t]
/-- The columns of a point's block. -/
theorem e1 (t : Fin cfg0.N) (i : Fin 1024) (j : Fin 1024) : ((win0_2.blk t).view.emb (ix2 i j) 1).val = t.val % 2 * 1024 + j.val := by
  blk_simp [idx t]

/-- The array the kernel leaves is the reference's. -/
theorem arr : ((dats m 0 c).arrAt 2 cfg0.N : FVec Ideal S4096x2048 .bf16)
    = Cert.Reference11Ideal.Read.val_main_v8 (F := Ideal) (m ((c : Thread nD τ).loc main_arg0)) (m ((c : Thread nD τ).loc main_arg1)) := by
  refine (dats m 0 c).arrAt_eq_of_covers 2 _ (by decide +kernel) fun t hf y => ?_
  blk_simp
  rw [after0_2, out]
  idx_vars y
  rw [pay]
  pointwise [Cert.Reference11Ideal.Read.val_main_v8, Cert.Reference11Ideal.Read.val_main_v7, Cert.Reference11Ideal.Read.val_main_v6, Cert.Reference11Ideal.Read.val_main_v5, Cert.Reference11Ideal.Read.val_main_v4, Cert.Reference11Ideal.Read.val_main_v3, Cert.Reference11Ideal.Read.val_main_v2, Cert.Reference11Ideal.Read.val_main_v1, Cert.Reference11Ideal.Read.val_main_v0]
  show (∑ k : Fin 4096, _ : EReal) = ∑ k : Fin 4096, _
  refine Finset.sum_congr rfl fun k _ => ?_
  blk_simp [iblk, idx t]
  rw [V_main_arg0, V_main_arg1]
  refine congrArg₂ _ (congrArg _ (funext fun a => Fin.ext ?_)) (congrArg _ (funext fun a => Fin.ext ?_)) <;> fin_cases a
  all_goals blk_simp [idx t]
  · rfl
  · exact (e0 t y0 y1).symm
  · rfl
  · exact (e1 t y0 y1).symm

/-- The reference runs, leaves its arguments and its counters. -/
theorem frame_ri : Cert.quiescent_Reference11Ideal := fun m ρ _ =>
  (θ_run Cert.Reference11Ideal.defs _ _).mono (fun r h => ⟨fun c => (h c).2,
      Idealize.ShloMosaic.sem_eq_zero_of_no_sems (by decide) r.2⟩)
    (Cert.Reference11Ideal.Value.run (F := Ideal) m ρ)

/-- At the ideal reading the kernel leaves what the reference leaves. -/
theorem algebraic : Cert.algebraic_Kernel11Ideal_Reference11Ideal := by
  intro m ρ m' ρ' _ hagree
  refine ⟨fun c => (dats m 0 c).arrAt 2 cfg0.N, Cert.Kernel11Ideal.Value.run_blocks m ρ, ?_⟩
  refine (θ_run Cert.Reference11Ideal.defs _ _).mono (fun r h c => ⟨(h c).1.trans ?_, (h c).2⟩) (Cert.Reference11Ideal.Value.run (F := Ideal) m' ρ')
  obtain ⟨e0, e1⟩ := hagree c
  rw [e0, e1]
  exact (Cert.Reference11Ideal.Read.val_main_v8_eq _ _).trans (arr m c).symm

end Cert.Mm11

end
-- ==== Proof.Mm12.lean ====
/- The attention's projection. -/
module

public import proofs.«01_k».proof.Proof.Gen.Kernel12Ideal.Value
public import proofs.«01_k».proof.Proof.Gen.Kernel12.Frame
public import proofs.«01_k».proof.Proof.Gen.Reference12Ideal.Run
public import proofs.«01_k».proof.Proof.Gen.Reference12Ideal.Read
public import Idealize.ShloMosaic.Lib.Pointwise
public import Idealize.ShloMosaic.Lib.Pipeline.ReadBack
public import Idealize.ShloMosaic.Lib.Pipeline.ValueKit
public import proofs.«01_k».proof.Defs

@[expose] public section

set_option maxRecDepth 16384

noncomputable section

namespace Cert.Mm12

open Idealize.ShloMosaic Idealize.ShloMosaic.TcCoe Idealize.SL.Sem Cert.Kernel12Ideal Cert.Kernel12Ideal.Gen

variable (m : (ℓ : Loc nD τ sig) → Buf (Elt Ideal) ℓ) (c : Dev nD)

/-- Which block each window holds at a point. -/
theorem idx : ∀ t : Fin cfg0.N, win0_0.index t = ![t.val / 6, 0] ∧ win0_1.index t = ![t.val % 6, 0]
    ∧ win0_2.index t = ![t.val / 6, t.val % 6] := by
  decide +kernel

/-- The block a point leaves. -/
theorem out (a : FVec Ideal S1024x2048 .bf16) (b : FVec Ideal S1024x2048 .bf16) :
    out0_2 (F := Ideal) a b = k0_pay1 (F := Ideal) a b := by
  frame_open
  frame_out

/-- The product of the block's rows and columns. -/
theorem pay (a : FVec Ideal S1024x2048 .bf16) (b : FVec Ideal S1024x2048 .bf16) (i : Fin 1024) (j : Fin 1024) :
    k0_pay1 (F := Ideal) a b (ix2 i j) = ∑ k : Fin 2048, a (ix2 i k) * b (ix2 j k) := by
  pointwise [k0_pay1]

/-- The rows of a point's block. -/
theorem e0 (t : Fin cfg0.N) (i : Fin 1024) (j : Fin 1024) : ((win0_2.blk t).view.emb (ix2 i j) 0).val = t.val / 6 * 1024 + i.val := by
  blk_simp [idx t]
/-- The columns of a point's block. -/
theorem e1 (t : Fin cfg0.N) (i : Fin 1024) (j : Fin 1024) : ((win0_2.blk t).view.emb (ix2 i j) 1).val = t.val % 6 * 1024 + j.val := by
  blk_simp [idx t]

/-- The array the kernel leaves is the reference's. -/
theorem arr : ((dats m 0 c).arrAt 2 cfg0.N : FVec Ideal S4096x6144 .bf16)
    = Cert.Reference12Ideal.Read.val_main_v4 (F := Ideal) (m ((c : Thread nD τ).loc main_arg0)) (m ((c : Thread nD τ).loc main_arg1)) := by
  refine (dats m 0 c).arrAt_eq_of_covers 2 _ (by decide +kernel) fun t hf y => ?_
  blk_simp
  rw [after0_2, out]
  idx_vars y
  rw [pay]
  pointwise [Cert.Reference12Ideal.Read.val_main_v4, Cert.Reference12Ideal.Read.val_main_v3, Cert.Reference12Ideal.Read.val_main_v2, Cert.Reference12Ideal.Read.val_main_v1, Cert.Reference12Ideal.Read.val_main_v0]
  show (∑ k : Fin 2048, _ : EReal) = ∑ k : Fin 2048, _
  refine Finset.sum_congr rfl fun k _ => ?_
  blk_simp [iblk, idx t]
  rw [V_main_arg0, V_main_arg1]
  refine congrArg₂ _ (congrArg _ (funext fun a => Fin.ext ?_)) (congrArg _ (funext fun a => Fin.ext ?_)) <;> fin_cases a
  all_goals blk_simp [idx t]
  · exact (e0 t y0 y1).symm
  · rfl
  · exact (e1 t y0 y1).symm
  · rfl

/-- The reference runs, leaves its arguments and its counters. -/
theorem frame_ri : Cert.quiescent_Reference12Ideal := fun m ρ _ =>
  (θ_run Cert.Reference12Ideal.defs _ _).mono (fun r h => ⟨fun c => (h c).2,
      Idealize.ShloMosaic.sem_eq_zero_of_no_sems (by decide) r.2⟩)
    (Cert.Reference12Ideal.Value.run (F := Ideal) m ρ)

/-- At the ideal reading the kernel leaves what the reference leaves. -/
theorem algebraic : Cert.algebraic_Kernel12Ideal_Reference12Ideal := by
  intro m ρ m' ρ' _ hagree
  refine ⟨fun c => (dats m 0 c).arrAt 2 cfg0.N, Cert.Kernel12Ideal.Value.run_blocks m ρ, ?_⟩
  refine (θ_run Cert.Reference12Ideal.defs _ _).mono (fun r h c => ⟨(h c).1.trans ?_, (h c).2⟩) (Cert.Reference12Ideal.Value.run (F := Ideal) m' ρ')
  obtain ⟨e0, e1⟩ := hagree c
  rw [e0, e1]
  exact (Cert.Reference12Ideal.Read.val_main_v4_eq _ _).trans (arr m c).symm

end Cert.Mm12

end
-- ==== Proof.Mm13.lean ====
/- The gMLP's projection. -/
module

public import proofs.«01_k».proof.Proof.Gen.Kernel13Ideal.Value
public import proofs.«01_k».proof.Proof.Gen.Kernel13.Frame
public import proofs.«01_k».proof.Proof.Gen.Reference13Ideal.Run
public import proofs.«01_k».proof.Proof.Gen.Reference13Ideal.Read
public import Idealize.ShloMosaic.Lib.Pointwise
public import Idealize.ShloMosaic.Lib.Pipeline.ReadBack
public import Idealize.ShloMosaic.Lib.Pipeline.ValueKit
public import proofs.«01_k».proof.Defs

@[expose] public section

set_option maxRecDepth 16384

noncomputable section

namespace Cert.Mm13

open Idealize.ShloMosaic Idealize.ShloMosaic.TcCoe Idealize.SL.Sem Cert.Kernel13Ideal Cert.Kernel13Ideal.Gen

variable (m : (ℓ : Loc nD τ sig) → Buf (Elt Ideal) ℓ) (c : Dev nD)

/-- Which block each window holds at a point. -/
theorem idx : ∀ t : Fin cfg0.N, win0_0.index t = ![t.val / 4, 0] ∧ win0_1.index t = ![t.val % 4, 0]
    ∧ win0_2.index t = ![t.val / 4, t.val % 4] := by
  decide +kernel

/-- The block a point leaves. -/
theorem out (a : FVec Ideal S1024x2048 .bf16) (b : FVec Ideal S1024x2048 .bf16) :
    out0_2 (F := Ideal) a b = k0_pay1 (F := Ideal) a b := by
  frame_open
  frame_out

/-- The product of the block's rows and columns. -/
theorem pay (a : FVec Ideal S1024x2048 .bf16) (b : FVec Ideal S1024x2048 .bf16) (i : Fin 1024) (j : Fin 1024) :
    k0_pay1 (F := Ideal) a b (ix2 i j) = ∑ k : Fin 2048, a (ix2 i k) * b (ix2 j k) := by
  pointwise [k0_pay1]

/-- The rows of a point's block. -/
theorem e0 (t : Fin cfg0.N) (i : Fin 1024) (j : Fin 1024) : ((win0_2.blk t).view.emb (ix2 i j) 0).val = t.val / 4 * 1024 + i.val := by
  blk_simp [idx t]
/-- The columns of a point's block. -/
theorem e1 (t : Fin cfg0.N) (i : Fin 1024) (j : Fin 1024) : ((win0_2.blk t).view.emb (ix2 i j) 1).val = t.val % 4 * 1024 + j.val := by
  blk_simp [idx t]

/-- The array the kernel leaves is the reference's. -/
theorem arr : ((dats m 0 c).arrAt 2 cfg0.N : FVec Ideal S4096x4096 .f32)
    = Cert.Reference13Ideal.Read.val_main_v3 (F := Ideal) (m ((c : Thread nD τ).loc main_arg0)) (m ((c : Thread nD τ).loc main_arg1)) := by
  refine (dats m 0 c).arrAt_eq_of_covers 2 _ (by decide +kernel) fun t hf y => ?_
  blk_simp
  rw [after0_2, out]
  idx_vars y
  rw [pay]
  pointwise [Cert.Reference13Ideal.Read.val_main_v3, Cert.Reference13Ideal.Read.val_main_v2, Cert.Reference13Ideal.Read.val_main_v1, Cert.Reference13Ideal.Read.val_main_v0]
  show (∑ k : Fin 2048, _ : EReal) = ∑ k : Fin 2048, _
  refine Finset.sum_congr rfl fun k _ => ?_
  blk_simp [iblk, idx t]
  rw [V_main_arg0, V_main_arg1]
  refine congrArg₂ _ (congrArg _ (funext fun a => Fin.ext ?_)) (congrArg _ (funext fun a => Fin.ext ?_)) <;> fin_cases a
  all_goals blk_simp [idx t]
  · exact (e0 t y0 y1).symm
  · rfl
  · exact (e1 t y0 y1).symm
  · rfl

/-- The reference runs, leaves its arguments and its counters. -/
theorem frame_ri : Cert.quiescent_Reference13Ideal := fun m ρ _ =>
  (θ_run Cert.Reference13Ideal.defs _ _).mono (fun r h => ⟨fun c => (h c).2,
      Idealize.ShloMosaic.sem_eq_zero_of_no_sems (by decide) r.2⟩)
    (Cert.Reference13Ideal.Value.run (F := Ideal) m ρ)

/-- At the ideal reading the kernel leaves what the reference leaves. -/
theorem algebraic : Cert.algebraic_Kernel13Ideal_Reference13Ideal := by
  intro m ρ m' ρ' _ hagree
  refine ⟨fun c => (dats m 0 c).arrAt 2 cfg0.N, Cert.Kernel13Ideal.Value.run_blocks m ρ, ?_⟩
  refine (θ_run Cert.Reference13Ideal.defs _ _).mono (fun r h c => ⟨(h c).1.trans ?_, (h c).2⟩) (Cert.Reference13Ideal.Value.run (F := Ideal) m' ρ')
  obtain ⟨e0, e1⟩ := hagree c
  rw [e0, e1]
  exact (Cert.Reference13Ideal.Read.val_main_v3_eq _ _).trans (arr m c).symm

end Cert.Mm13

end
-- ==== Proof.Mm14.lean ====
/- The FFN's up projection. -/
module

public import proofs.«01_k».proof.Proof.Gen.Kernel14Ideal.Value
public import proofs.«01_k».proof.Proof.Gen.Kernel14.Frame
public import proofs.«01_k».proof.Proof.Gen.Reference14Ideal.Run
public import proofs.«01_k».proof.Proof.Gen.Reference14Ideal.Read
public import Idealize.ShloMosaic.Lib.Pointwise
public import Idealize.ShloMosaic.Lib.Pipeline.ReadBack
public import Idealize.ShloMosaic.Lib.Pipeline.ValueKit
public import proofs.«01_k».proof.Defs

@[expose] public section

set_option maxRecDepth 16384

noncomputable section

namespace Cert.Mm14

open Idealize.ShloMosaic Idealize.ShloMosaic.TcCoe Idealize.SL.Sem Cert.Kernel14Ideal Cert.Kernel14Ideal.Gen

variable (m : (ℓ : Loc nD τ sig) → Buf (Elt Ideal) ℓ) (c : Dev nD)

/-- Which block each window holds at a point. -/
theorem idx : ∀ t : Fin cfg0.N, win0_0.index t = ![t.val / 22, 0] ∧ win0_1.index t = ![t.val % 22, 0]
    ∧ win0_2.index t = ![t.val % 22 / 11, t.val / 22, t.val % 11] := by
  decide +kernel

/-- The block a point leaves. -/
theorem out (a : FVec Ideal S1024x2048 .bf16) (b : FVec Ideal S512x2048 .bf16) :
    out0_2 (F := Ideal) a b = k0_pay1 (F := Ideal) a b := by
  frame_open
  frame_out

/-- The product of the block's rows. -/
theorem pay (a : FVec Ideal S1024x2048 .bf16) (b : FVec Ideal S512x2048 .bf16) (p : Fin 1) (i : Fin 1024) (j : Fin 512) :
    k0_pay1 (F := Ideal) a b (ix3 p i j) = ∑ k : Fin 2048, a (ix2 i k) * b (ix2 j k) := by
  pointwise [k0_pay1]

/-- The half of a point's block. -/
theorem e0 (t : Fin cfg0.N) (p : Fin 1) (i : Fin 1024) (j : Fin 512) : ((win0_2.blk t).view.emb (ix3 p i j) 0).val = t.val % 22 / 11 := by
  blk_simp [idx t]
/-- The rows of a point's block. -/
theorem e1 (t : Fin cfg0.N) (p : Fin 1) (i : Fin 1024) (j : Fin 512) : ((win0_2.blk t).view.emb (ix3 p i j) 1).val = t.val / 22 * 1024 + i.val := by
  blk_simp [idx t]
/-- The columns of a point's block. -/
theorem e2 (t : Fin cfg0.N) (p : Fin 1) (i : Fin 1024) (j : Fin 512) : ((win0_2.blk t).view.emb (ix3 p i j) 2).val = t.val % 11 * 512 + j.val := by
  blk_simp [idx t]

/-- Where a point's block lies in the result. -/
theorem emb (t : Fin cfg0.N) (p : Fin 1) (i : Fin 1024) (j : Fin 512) : (win0_2.blk t).view.emb (ix3 p i j)
    = ix3 (⟨t.val % 22 / 11, by omega⟩ : Fin 2) (⟨t.val / 22 * 1024 + i.val, by have := t.isLt.trans_eq N_0; omega⟩ : Fin 4096) (⟨t.val % 11 * 512 + j.val, by omega⟩ : Fin 5632) := by
  refine funext fun a => Fin.ext ?_
  fin_cases a
  · exact e0 t p i j
  · exact e1 t p i j
  · exact e2 t p i j

/-- The reference's entry, in either half. -/
theorem refv (x : FVec Ideal S4096x2048 .bf16) (w : FVec Ideal S11264x2048 .bf16) (p : Fin 2) (i : Fin 4096) (j : Fin 5632) :
    Cert.Reference14Ideal.Read.val_main_v8 (F := Ideal) x w (ix3 p i j) = ∑ k : Fin 2048, x (ix2 i k) * w (ix2 (⟨p.val * 5632 + j.val, by omega⟩ : Fin 11264) k) := by
  pointwise [Cert.Reference14Ideal.Read.val_main_v8, Cert.Reference14Ideal.Read.val_main_v7, Cert.Reference14Ideal.Read.val_main_v6, Cert.Reference14Ideal.Read.val_main_v5, Cert.Reference14Ideal.Read.val_main_v4, Cert.Reference14Ideal.Read.val_main_v3, Cert.Reference14Ideal.Read.val_main_v2, Cert.Reference14Ideal.Read.val_main_v1, Cert.Reference14Ideal.Read.val_main_v0]
  by_cases h : p.val < 1
  · rw [dif_pos h]
    refine Finset.sum_congr rfl fun k _ => congrArg₂ (fun a b : EReal => a * b) rfl (congrArg w (congrArg (fun q : Fin 11264 => ix2 q k) (Fin.ext ?_)))
    show j.val = p.val * 5632 + j.val
    omega
  · rw [dif_neg h]
    refine Finset.sum_congr rfl fun k _ => congrArg₂ (fun a b : EReal => a * b) rfl (congrArg w (congrArg (fun q : Fin 11264 => ix2 q k) (Fin.ext ?_)))
    show 5632 + j.val = p.val * 5632 + j.val
    omega

/-- The array the kernel leaves is the reference's. -/
theorem arr : ((dats m 0 c).arrAt 2 cfg0.N : FVec Ideal S2x4096x5632 .f32)
    = Cert.Reference14Ideal.Read.val_main_v8 (F := Ideal) (m ((c : Thread nD τ).loc main_arg0)) (m ((c : Thread nD τ).loc main_arg1)) := by
  refine (dats m 0 c).arrAt_eq_of_covers 2 _ (by decide +kernel) fun t hf y => ?_
  blk_simp
  rw [after0_2, out]
  idx_vars y
  rw [pay]
  refine Eq.trans ?_ (congrArg _ (emb t y0 y1 y2)).symm
  rw [refv]
  show (∑ k : Fin 2048, _ : EReal) = ∑ k : Fin 2048, _
  refine Finset.sum_congr rfl fun k _ => ?_
  blk_simp [iblk, idx t]
  rw [V_main_arg0, V_main_arg1]
  refine congrArg₂ _ (congrArg _ (funext fun a => Fin.ext ?_)) (congrArg _ (funext fun a => Fin.ext ?_)) <;> fin_cases a
  all_goals blk_simp [idx t]
  · rfl
  · rfl
  · exact (by omega : t.val % 22 * 512 + y2.val = t.val % 22 / 11 * 5632 + (t.val % 11 * 512 + y2.val))
  · rfl

/-- The reference runs, leaves its arguments and its counters. -/
theorem frame_ri : Cert.quiescent_Reference14Ideal := fun m ρ _ =>
  (θ_run Cert.Reference14Ideal.defs _ _).mono (fun r h => ⟨fun c => (h c).2,
      Idealize.ShloMosaic.sem_eq_zero_of_no_sems (by decide) r.2⟩)
    (Cert.Reference14Ideal.Value.run (F := Ideal) m ρ)

/-- At the ideal reading the kernel leaves what the reference leaves. -/
theorem algebraic : Cert.algebraic_Kernel14Ideal_Reference14Ideal := by
  intro m ρ m' ρ' _ hagree
  refine ⟨fun c => (dats m 0 c).arrAt 2 cfg0.N, Cert.Kernel14Ideal.Value.run_blocks m ρ, ?_⟩
  refine (θ_run Cert.Reference14Ideal.defs _ _).mono (fun r h c => ⟨(h c).1.trans ?_, (h c).2⟩) (Cert.Reference14Ideal.Value.run (F := Ideal) m' ρ')
  obtain ⟨e0, e1⟩ := hagree c
  rw [e0, e1]
  exact (Cert.Reference14Ideal.Read.val_main_v8_eq _ _).trans (arr m c).symm

end Cert.Mm14

end
-- ==== Proof.Mm15.lean ====
/- The mixers' output projection. -/
module

public import proofs.«01_k».proof.Proof.Gen.Kernel15Ideal.Value
public import proofs.«01_k».proof.Proof.Gen.Kernel15.Frame
public import proofs.«01_k».proof.Proof.Gen.Reference15Ideal.Run
public import proofs.«01_k».proof.Proof.Gen.Reference15Ideal.Read
public import Idealize.ShloMosaic.Lib.Pointwise
public import Idealize.ShloMosaic.Lib.Pipeline.ReadBack
public import Idealize.ShloMosaic.Lib.Pipeline.ValueKit
public import proofs.«01_k».proof.Defs

@[expose] public section

set_option maxRecDepth 16384

noncomputable section

namespace Cert.Mm15

open Idealize.ShloMosaic Idealize.ShloMosaic.TcCoe Idealize.SL.Sem Cert.Kernel15Ideal Cert.Kernel15Ideal.Gen

variable (m : (ℓ : Loc nD τ sig) → Buf (Elt Ideal) ℓ) (c : Dev nD)

/-- Which block each window holds at a point. -/
theorem idx : ∀ t : Fin cfg0.N, win0_0.index t = ![t.val / 2, 0] ∧ win0_1.index t = ![0, t.val % 2] ∧ win0_2.index t = ![t.val / 2, t.val % 2]
    ∧ win0_3.index t = ![0, t.val % 2] ∧ win0_4.index t = ![t.val / 2, t.val % 2] ∧ win0_5.index t = ![t.val / 2, t.val % 2] := by
  decide +kernel

section
variable (a : FVec Ideal S1024x2048 .bf16) (b : FVec Ideal S2048x1024 .bf16) (x : FVec Ideal S1024x1024 .f32) (g : FVec Ideal S1x1024 .f32)

/-- The block of the sum a point leaves. -/
theorem out4 : out0_4 (F := Ideal) a b x g = k0_pay3 (F := Ideal) a b g x := by
  frame_open
  frame_out

/-- The block of the product a point leaves. -/
theorem out5 : out0_5 (F := Ideal) a b x g = k0_pay2 (F := Ideal) a b := by
  frame_open
  frame_out

/-- A row of the left times a column of the right. -/
def pr (i : Fin 1024) (j : Fin 1024) : EReal := ∑ k : Fin 2048, a (ix2 i k) * b (ix2 k j)

/-- The product of the block's rows and columns. -/
theorem pay (i : Fin 1024) (j : Fin 1024) : k0_pay1 (F := Ideal) a b (ix2 i j) = pr a b i j := by
  pointwise [k0_pay1]
  rfl

/-- The product, cast. -/
theorem pay2 (i : Fin 1024) (j : Fin 1024) : k0_pay2 (F := Ideal) a b (ix2 i j) = pr a b i j := by
  pointwise [k0_pay2]
  rw [pay]

/-- The gated product, added. -/
theorem pay3 (i : Fin 1024) (j : Fin 1024) : k0_pay3 (F := Ideal) a b g x (ix2 i j) = (x (ix2 i j) + pr a b i j * g (ix2 0 j) : EReal) := by
  pointwise [k0_pay3]
  rw [pay]
end

/-- Where a point's block lies in the sum. -/
theorem emb4 (t : Fin cfg0.N) (i : Fin 1024) (j : Fin 1024) : (win0_4.blk t).view.emb (ix2 i j)
    = ix2 (⟨t.val / 2 * 1024 + i.val, by have := t.isLt.trans_eq N_0; omega⟩ : Fin 4096) (⟨t.val % 2 * 1024 + j.val, by omega⟩ : Fin 2048) := by
  refine funext fun a => Fin.ext ?_
  fin_cases a <;> blk_simp [idx t] <;> rfl

/-- Where a point's block lies in the product. -/
theorem emb5 (t : Fin cfg0.N) (i : Fin 1024) (j : Fin 1024) : (win0_5.blk t).view.emb (ix2 i j)
    = ix2 (⟨t.val / 2 * 1024 + i.val, by have := t.isLt.trans_eq N_0; omega⟩ : Fin 4096) (⟨t.val % 2 * 1024 + j.val, by omega⟩ : Fin 2048) := by
  refine funext fun a => Fin.ext ?_
  fin_cases a <;> blk_simp [idx t] <;> rfl

/-- A row of the left array times a column of the right. -/
def rs (x0 : FVec Ideal S4096x2048 .bf16) (x1 : FVec Ideal S2048x2048 .bf16) (i : Fin 4096) (j : Fin 2048) : EReal :=
  ∑ k : Fin 2048, x0 (ix2 i k) * x1 (ix2 k j)

/-- A product of blocks, by the arrays. -/
theorem blk (x0 : FVec Ideal S4096x2048 .bf16) (x1 : FVec Ideal S2048x2048 .bf16)
    (h0 : m ((c : Thread nD τ).loc main_arg0) = x0) (h1 : m ((c : Thread nD τ).loc main_arg1) = x1)
    (t : Fin cfg0.N) (i : Fin 1024) (j : Fin 1024) : pr (iblk m c 0 t) (iblk m c 1 t) i j
    = rs x0 x1 (⟨t.val / 2 * 1024 + i.val, by have := t.isLt.trans_eq N_0; omega⟩ : Fin 4096) (⟨t.val % 2 * 1024 + j.val, by omega⟩ : Fin 2048) := by
  subst h0 h1
  unfold pr rs
  refine Finset.sum_congr rfl fun k _ => ?_
  blk_simp [iblk, idx t]
  rw [V_main_arg0, V_main_arg1]
  refine congrArg₂ _ (congrArg _ (funext fun a => Fin.ext ?_)) (congrArg _ (funext fun a => Fin.ext ?_)) <;> fin_cases a
  all_goals
    blk_simp [idx t]
    rfl

/-- A block of the residual, by the array. -/
theorem blk2 (x2 : FVec Ideal S4096x2048 .f32) (h2 : m ((c : Thread nD τ).loc main_arg2) = x2) (t : Fin cfg0.N) (i : Fin 1024) (j : Fin 1024) :
    (iblk m c 2 t : FVec Ideal S1024x1024 .f32) (ix2 i j) = x2 (ix2 (⟨t.val / 2 * 1024 + i.val, by have := t.isLt.trans_eq N_0; omega⟩ : Fin 4096) (⟨t.val % 2 * 1024 + j.val, by omega⟩ : Fin 2048)) := by
  subst h2
  blk_simp [iblk, idx t]
  rw [V_main_arg2]
  refine congrArg _ (funext fun a => Fin.ext ?_)
  fin_cases a
  all_goals
    blk_simp [idx t]
    rfl

/-- A block of the gate, by the array. -/
theorem blk3 (x3 : FVec Ideal S1x2048 .f32) (h3 : m ((c : Thread nD τ).loc main_arg3) = x3) (t : Fin cfg0.N) (j : Fin 1024) :
    (iblk m c 3 t : FVec Ideal S1x1024 .f32) (ix2 0 j) = x3 (ix2 0 (⟨t.val % 2 * 1024 + j.val, by omega⟩ : Fin 2048)) := by
  subst h3
  blk_simp [iblk, idx t]
  rw [V_main_arg3]
  refine congrArg _ (funext fun a => Fin.ext ?_)
  fin_cases a
  · blk_simp [idx t]
  · blk_simp [idx t]
    rfl

/-- The reference's product. -/
theorem ref6 (x0 : FVec Ideal S4096x2048 .bf16) (x1 : FVec Ideal S2048x2048 .bf16) (i : Fin 4096) (j : Fin 2048) :
    Cert.Reference15Ideal.Read.val_main_v6 (F := Ideal) x0 x1 (ix2 i j) = rs x0 x1 i j := by
  pointwise [Cert.Reference15Ideal.Read.val_main_v6, Cert.Reference15Ideal.Read.val_main_v2, Cert.Reference15Ideal.Read.val_main_v1, Cert.Reference15Ideal.Read.val_main_v0]
  rfl

/-- The reference's sum. -/
theorem ref5 (x0 : FVec Ideal S4096x2048 .bf16) (x1 : FVec Ideal S2048x2048 .bf16) (x2 : FVec Ideal S4096x2048 .f32) (x3 : FVec Ideal S1x2048 .f32) (i : Fin 4096) (j : Fin 2048) :
    Cert.Reference15Ideal.Read.val_main_v5 (F := Ideal) x0 x1 x2 x3 (ix2 i j) = (x2 (ix2 i j) + x3 (ix2 0 j) * rs x0 x1 i j : EReal) := by
  pointwise [Cert.Reference15Ideal.Read.val_main_v5, Cert.Reference15Ideal.Read.val_main_v4, Cert.Reference15Ideal.Read.val_main_v3, Cert.Reference15Ideal.Read.val_main_v2, Cert.Reference15Ideal.Read.val_main_v1, Cert.Reference15Ideal.Read.val_main_v0]
  rfl

/-- The sum the kernel leaves is the reference's. -/
theorem arr4 : ((dats m 0 c).arrAt 4 cfg0.N : FVec Ideal S4096x2048 .f32)
    = Cert.Reference15Ideal.Read.val_main_v5 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4, out4]
  idx_vars y
  rw [pay3, blk m c _ _ rfl rfl, blk2 m c _ rfl, blk3 m c _ rfl]
  refine Eq.trans ?_ (congrArg _ (emb4 t y0 y1)).symm
  rw [ref5]
  exact congrArg _ (mul_comm _ _)

/-- The product the kernel leaves is the reference's. -/
theorem arr5 : ((dats m 0 c).arrAt 5 cfg0.N : FVec Ideal S4096x2048 .bf16)
    = Cert.Reference15Ideal.Read.val_main_v6 (F := Ideal) (m ((c : Thread nD τ).loc main_arg0)) (m ((c : Thread nD τ).loc main_arg1)) := by
  refine (dats m 0 c).arrAt_eq_of_covers 5 _ (by decide +kernel) fun t hf y => ?_
  blk_simp
  rw [after0_5, out5]
  idx_vars y
  rw [pay2, blk m c _ _ rfl rfl]
  refine Eq.trans ?_ (congrArg _ (emb5 t y0 y1)).symm
  rw [ref6]

/-- The reference runs, leaves its arguments and its counters. -/
theorem frame_ri : Cert.quiescent_Reference15Ideal := fun m ρ _ =>
  (θ_run Cert.Reference15Ideal.defs _ _).mono (fun r h => ⟨fun c => (h c).2.2,
      Idealize.ShloMosaic.sem_eq_zero_of_no_sems (by decide) r.2⟩)
    (Cert.Reference15Ideal.Value.run (F := Ideal) m ρ)

/-- At the ideal reading the kernel leaves what the reference leaves. -/
theorem algebraic : Cert.algebraic_Kernel15Ideal_Reference15Ideal := by
  intro m ρ m' ρ' _ hagree
  refine ⟨fun c => (dats m 0 c).arrAt 4 cfg0.N, fun c => (dats m 0 c).arrAt 5 cfg0.N, Cert.Kernel15Ideal.Value.run_blocks m ρ, ?_⟩
  refine (θ_run Cert.Reference15Ideal.defs _ _).mono (fun r h c => ⟨(h c).1.trans ?_, (h c).2.1.trans ?_, (h c).2.2⟩) (Cert.Reference15Ideal.Value.run (F := Ideal) m' ρ')
  · obtain ⟨e0, e1, e2, e3⟩ := hagree c
    rw [e0, e1, e2, e3]
    exact (Cert.Reference15Ideal.Read.val_main_v5_eq _ _ _ _).trans (arr4 m c).symm
  · obtain ⟨e0, e1, _⟩ := hagree c
    rw [e0, e1]
    exact (Cert.Reference15Ideal.Read.val_main_v6_eq _ _).trans (arr5 m c).symm

end Cert.Mm15

end
-- ==== Proof.Mm16.lean ====
/- The FFN's down projection. -/
module

public import proofs.«01_k».proof.Proof.Gen.Kernel16Ideal.Value
public import proofs.«01_k».proof.Proof.Gen.Kernel16.Frame
public import proofs.«01_k».proof.Proof.Gen.Reference16Ideal.Run
public import proofs.«01_k».proof.Proof.Gen.Reference16Ideal.Read
public import Idealize.ShloMosaic.Lib.Pointwise
public import Idealize.ShloMosaic.Lib.Pipeline.ReadBack
public import Idealize.ShloMosaic.Lib.Pipeline.ValueKit
public import proofs.«01_k».proof.Defs

@[expose] public section

set_option maxRecDepth 16384

noncomputable section

namespace Cert.Mm16

open Idealize.ShloMosaic Idealize.ShloMosaic.TcCoe Idealize.SL.Sem Cert.Kernel16Ideal Cert.Kernel16Ideal.Gen

variable (m : (ℓ : Loc nD τ sig) → Buf (Elt Ideal) ℓ) (c : Dev nD)

/-- Which block each window holds at a point. -/
theorem idx : ∀ t : Fin cfg0.N, win0_0.index t = ![t.val / 8, t.val % 2] ∧ win0_1.index t = ![t.val % 2, t.val / 2 % 4] ∧ win0_2.index t = ![t.val / 8, t.val / 2 % 4]
    ∧ win0_3.index t = ![0, t.val / 2 % 4] ∧ win0_4.index t = ![t.val / 8, t.val / 2 % 4] ∧ win0_5.index t = ![t.val / 8, t.val / 2 % 4] := by
  decide +kernel

section
variable (i : grid0.Coords) (arg3 : Memref sig .tc .vmem S1024x2816 .bf16) (harg3 : arg3.IsWhole) (arg4 : Memref sig .tc .vmem S2816x512 .bf16) (harg4 : arg4.IsWhole) (arg5 : Memref sig .tc .vmem S1024x512 .f32) (harg5 : arg5.IsWhole)
  (arg6 : Memref sig .tc .vmem S1x512 .f32) (harg6 : arg6.IsWhole) (arg7 : Memref sig .tc .vmem S1024x512 .f32) (harg7 : arg7.IsWhole) (arg8 : Memref sig .tc .vmem S1024x512 .bf16) (harg8 : arg8.IsWhole) (arg9 : Memref sig .tc .vmem S1024x512 .f32) (harg9 : arg9.IsWhole)
variable (a : FVec Ideal S1024x2816 .bf16) (b : FVec Ideal S2816x512 .bf16) (x : FVec Ideal S1024x512 .f32) (g : FVec Ideal S1x512 .f32) (s : FVec Ideal S1024x512 .f32)

/-- What the first half's point keeps. -/
theorem keep (hc0 : cond0_0 i) (hc1 : ¬cond0_1 i) (hc2 : ¬cond0_2 i) :
    sout0_A_0 (F := Ideal) c i arg3 harg3 arg4 harg4 arg5 harg5 arg6 harg6 arg7 harg7 arg8 harg8 arg9 harg9 hc0 hc1 hc2 a b x g = k0_pay2 (F := Ideal) a b := by
  frame_open
  frame_out

/-- The block of the sum that the second half's point leaves. -/
theorem out4 (hc0 : ¬cond0_0 i) (hc1 : cond0_1 i) (hc2 : cond0_2 i) :
    out0_B_4 (F := Ideal) c i arg3 harg3 arg4 harg4 arg5 harg5 arg6 harg6 arg7 harg7 arg8 harg8 arg9 harg9 hc0 hc1 hc2 a b x g s = k0_pay5 (F := Ideal) (k0_pay3 (F := Ideal) a b s) g x := by
  frame_open
  simp (disch := decide) only [↓ View.readCov_skip, ↓ View.readCov_cons_toLoadRect, ↓ View.readCov_fill]
  frame_out

/-- The block of the product that the second half's point leaves. -/
theorem out5 (hc0 : ¬cond0_0 i) (hc1 : cond0_1 i) (hc2 : cond0_2 i) :
    out0_B_5 (F := Ideal) c i arg3 harg3 arg4 harg4 arg5 harg5 arg6 harg6 arg7 harg7 arg8 harg8 arg9 harg9 hc0 hc1 hc2 a b x g s = k0_pay4 (F := Ideal) (k0_pay3 (F := Ideal) a b s) := by
  frame_open
  simp (disch := decide) only [↓ View.readCov_skip, ↓ View.readCov_cons_toLoadRect, ↓ View.readCov_fill]
  frame_out
end

/-- A row of the left times a column of the right. -/
def pr (a : FVec Ideal S1024x2816 .bf16) (b : FVec Ideal S2816x512 .bf16) (i : Fin 1024) (j : Fin 512) : EReal :=
  ∑ k : Fin 2816, a (ix2 i k) * b (ix2 k j)

/-- The product of the block's rows and columns. -/
theorem pay (a : FVec Ideal S1024x2816 .bf16) (b : FVec Ideal S2816x512 .bf16) (i : Fin 1024) (j : Fin 512) :
    k0_pay1 (F := Ideal) a b (ix2 i j) = pr a b i j := by
  pointwise [k0_pay1]
  rfl

/-- The point before. -/
def prev (t : Fin cfg0.N) : Fin cfg0.N := ⟨t.val - 1, Nat.lt_of_le_of_lt (Nat.sub_le _ _) t.isLt⟩

/-- Both halves' products at a block's last point, added. -/
def both (t : Fin cfg0.N) (i : Fin 1024) (j : Fin 512) : EReal :=
  pr (iblk m c 0 (prev t)) (iblk m c 1 (prev t)) i j + pr (iblk m c 0 t) (iblk m c 1 t) i j

/-- What a block's last point leaves of the sum. -/
theorem two4 (t : Fin cfg0.N) (h : t.val % 2 = 1) (i : Fin 1024) (j : Fin 512) (r q : EReal)
    (hr : (iblk m c 2 t : FVec Ideal S1024x512 .f32) (ix2 i j) = r) (hq : (iblk m c 3 t : FVec Ideal S1x512 .f32) (ix2 0 j) = q) :
    (outsAt0 m c t.val t.isLt).1 (ix2 i j) = r + both m c t i j * q := by
  have e := outsAt0_A m c (prev t) (by unfold prev; dsimp only; omega) (by unfold prev; dsimp only; omega) (by unfold prev; dsimp only; omega)
  rw [keep] at e
  have e' : (outsAt0 m c (t.val - 1) _).2.2 = _ := congrArg (fun q => q.2.2) e
  dsimp only at e'
  rw [outsAt0_B m c t (by omega) h h]
  dsimp only
  rw [out4, e', ← hr, ← hq]
  pointwise [k0_pay5, k0_pay3, k0_pay2]
  rw [pay, pay]
  rfl

/-- What a block's last point leaves of the product. -/
theorem two5 (t : Fin cfg0.N) (h : t.val % 2 = 1) (i : Fin 1024) (j : Fin 512) :
    (outsAt0 m c t.val t.isLt).2.1 (ix2 i j) = both m c t i j := by
  have e := outsAt0_A m c (prev t) (by unfold prev; dsimp only; omega) (by unfold prev; dsimp only; omega) (by unfold prev; dsimp only; omega)
  rw [keep] at e
  have e' : (outsAt0 m c (t.val - 1) _).2.2 = _ := congrArg (fun q => q.2.2) e
  dsimp only at e'
  rw [outsAt0_B m c t (by omega) h h]
  dsimp only
  rw [out5, e']
  pointwise [k0_pay4, k0_pay3, k0_pay2]
  rw [pay, pay]
  rfl

/-- Where a point's block lies in the sum. -/
theorem emb4 (t : Fin cfg0.N) (i : Fin 1024) (j : Fin 512) : (win0_4.blk t).view.emb (ix2 i j)
    = ix2 (⟨t.val / 8 * 1024 + i.val, by have := t.isLt.trans_eq N_0; omega⟩ : Fin 4096) (⟨t.val / 2 % 4 * 512 + j.val, by omega⟩ : Fin 2048) := by
  refine funext fun a => Fin.ext ?_
  fin_cases a <;> blk_simp [idx t] <;> rfl

/-- Where a point's block lies in the product. -/
theorem emb5 (t : Fin cfg0.N) (i : Fin 1024) (j : Fin 512) : (win0_5.blk t).view.emb (ix2 i j)
    = ix2 (⟨t.val / 8 * 1024 + i.val, by have := t.isLt.trans_eq N_0; omega⟩ : Fin 4096) (⟨t.val / 2 % 4 * 512 + j.val, by omega⟩ : Fin 2048) := by
  refine funext fun a => Fin.ext ?_
  fin_cases a <;> blk_simp [idx t] <;> rfl

/-- A row of the left array times a column of the right. -/
def rs (x0 : FVec Ideal S4096x5632 .bf16) (x1 : FVec Ideal S5632x2048 .bf16) (i : Fin 4096) (j : Fin 2048) : EReal :=
  ∑ k : Fin 5632, x0 (ix2 i k) * x1 (ix2 k j)

/-- A product of blocks, by the arrays. -/
theorem blk (x0 : FVec Ideal S4096x5632 .bf16) (x1 : FVec Ideal S5632x2048 .bf16)
    (h0 : m ((c : Thread nD τ).loc main_arg0) = x0) (h1 : m ((c : Thread nD τ).loc main_arg1) = x1)
    (t : Fin cfg0.N) (i : Fin 1024) (j : Fin 512) : pr (iblk m c 0 t) (iblk m c 1 t) i j
    = ∑ k : Fin 2816, x0 (ix2 (⟨t.val / 8 * 1024 + i.val, by have := t.isLt.trans_eq N_0; omega⟩ : Fin 4096) (⟨t.val % 2 * 2816 + k.val, by omega⟩ : Fin 5632)) * x1 (ix2 (⟨t.val % 2 * 2816 + k.val, by omega⟩ : Fin 5632) (⟨t.val / 2 % 4 * 512 + j.val, by omega⟩ : Fin 2048)) := by
  subst h0 h1
  unfold pr
  refine Finset.sum_congr rfl fun k _ => ?_
  blk_simp [iblk, idx t]
  rw [V_main_arg0, V_main_arg1]
  refine congrArg₂ _ (congrArg _ (funext fun a => Fin.ext ?_)) (congrArg _ (funext fun a => Fin.ext ?_)) <;> fin_cases a
  all_goals
    blk_simp [idx t]
    rfl

/-- Both halves' products are the whole product. -/
theorem join (x0 : FVec Ideal S4096x5632 .bf16) (x1 : FVec Ideal S5632x2048 .bf16)
    (h0 : m ((c : Thread nD τ).loc main_arg0) = x0) (h1 : m ((c : Thread nD τ).loc main_arg1) = x1)
    (t : Fin cfg0.N) (h : t.val % 2 = 1) (i : Fin 1024) (j : Fin 512) : both m c t i j
    = rs x0 x1 (⟨t.val / 8 * 1024 + i.val, by have := t.isLt.trans_eq N_0; omega⟩ : Fin 4096) (⟨t.val / 2 % 4 * 512 + j.val, by omega⟩ : Fin 2048) := by
  unfold both rs
  rw [blk m c x0 x1 h0 h1, blk m c x0 x1 h0 h1]
  refine Eq.trans ?_ (Fin.sum_univ_add (a := 2816) (b := 2816) (fun k : Fin 5632 => (x0 (ix2 (⟨t.val / 8 * 1024 + i.val, by have := t.isLt.trans_eq N_0; omega⟩ : Fin 4096) k) * x1 (ix2 k (⟨t.val / 2 % 4 * 512 + j.val, by omega⟩ : Fin 2048)) : EReal))).symm
  refine congrArg₂ (fun a b : EReal => a + b) (Finset.sum_congr rfl fun k _ => ?_) (Finset.sum_congr rfl fun k _ => ?_)
  · refine congrArg₂ (fun a b : EReal => a * b) (congrArg x0 ?_) (congrArg x1 ?_)
    · exact congrArg₂ ix2 (Fin.ext (by show (t.val - 1) / 8 * 1024 + i.val = t.val / 8 * 1024 + i.val; omega)) (Fin.ext (by show (t.val - 1) % 2 * 2816 + k.val = k.val; omega))
    · exact congrArg₂ ix2 (Fin.ext (by show (t.val - 1) % 2 * 2816 + k.val = k.val; omega)) (Fin.ext (by show (t.val - 1) / 2 % 4 * 512 + j.val = t.val / 2 % 4 * 512 + j.val; omega))
  · refine congrArg₂ (fun a b : EReal => a * b) (congrArg x0 ?_) (congrArg x1 ?_)
    · exact congrArg (fun q : Fin 5632 => ix2 _ q) (Fin.ext (by show t.val % 2 * 2816 + k.val = 2816 + k.val; omega))
    · exact congrArg (fun q : Fin 5632 => ix2 q _) (Fin.ext (by show t.val % 2 * 2816 + k.val = 2816 + k.val; omega))

/-- A block of the residual, by the array. -/
theorem blk2 (x2 : FVec Ideal S4096x2048 .f32) (h2 : m ((c : Thread nD τ).loc main_arg2) = x2) (t : Fin cfg0.N) (i : Fin 1024) (j : Fin 512) :
    (iblk m c 2 t : FVec Ideal S1024x512 .f32) (ix2 i j) = x2 (ix2 (⟨t.val / 8 * 1024 + i.val, by have := t.isLt.trans_eq N_0; omega⟩ : Fin 4096) (⟨t.val / 2 % 4 * 512 + j.val, by omega⟩ : Fin 2048)) := by
  subst h2
  blk_simp [iblk, idx t]
  rw [V_main_arg2]
  refine congrArg _ (funext fun a => Fin.ext ?_)
  fin_cases a
  all_goals
    blk_simp [idx t]
    rfl

/-- A block of the gate, by the array. -/
theorem blk3 (x3 : FVec Ideal S1x2048 .f32) (h3 : m ((c : Thread nD τ).loc main_arg3) = x3) (t : Fin cfg0.N) (j : Fin 512) :
    (iblk m c 3 t : FVec Ideal S1x512 .f32) (ix2 0 j) = x3 (ix2 0 (⟨t.val / 2 % 4 * 512 + j.val, by omega⟩ : Fin 2048)) := by
  subst h3
  blk_simp [iblk, idx t]
  rw [V_main_arg3]
  refine congrArg _ (funext fun a => Fin.ext ?_)
  fin_cases a
  · blk_simp [idx t]
  · blk_simp [idx t]
    rfl

/-- The reference's product. -/
theorem ref6 (x0 : FVec Ideal S4096x5632 .bf16) (x1 : FVec Ideal S5632x2048 .bf16) (i : Fin 4096) (j : Fin 2048) :
    Cert.Reference16Ideal.Read.val_main_v6 (F := Ideal) x0 x1 (ix2 i j) = rs x0 x1 i j := by
  pointwise [Cert.Reference16Ideal.Read.val_main_v6, Cert.Reference16Ideal.Read.val_main_v2, Cert.Reference16Ideal.Read.val_main_v1, Cert.Reference16Ideal.Read.val_main_v0]
  rfl

/-- The reference's sum. -/
theorem ref5 (x0 : FVec Ideal S4096x5632 .bf16) (x1 : FVec Ideal S5632x2048 .bf16) (x2 : FVec Ideal S4096x2048 .f32) (x3 : FVec Ideal S1x2048 .f32) (i : Fin 4096) (j : Fin 2048) :
    Cert.Reference16Ideal.Read.val_main_v5 (F := Ideal) x0 x1 x2 x3 (ix2 i j) = (x2 (ix2 i j) + x3 (ix2 0 j) * rs x0 x1 i j : EReal) := by
  pointwise [Cert.Reference16Ideal.Read.val_main_v5, Cert.Reference16Ideal.Read.val_main_v4, Cert.Reference16Ideal.Read.val_main_v3, Cert.Reference16Ideal.Read.val_main_v2, Cert.Reference16Ideal.Read.val_main_v1, Cert.Reference16Ideal.Read.val_main_v0]
  rfl

/-- The sum the kernel leaves is the reference's. -/
theorem arr4 : ((dats m 0 c).arrAt 4 cfg0.N : FVec Ideal S4096x2048 .f32)
    = Cert.Reference16Ideal.Read.val_main_v5 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  have h : t.val % 2 = 1 := (flush0_4 t).mp hf
  blk_simp
  rw [after0_4]
  idx_vars y
  rw [two4 m c t h _ _ _ _ (blk2 m c _ rfl t y0 y1) (blk3 m c _ rfl t y1), join m c _ _ rfl rfl t h]
  refine Eq.trans ?_ (congrArg _ (emb4 t y0 y1)).symm
  rw [ref5]
  exact congrArg _ (mul_comm _ _)

/-- The product the kernel leaves is the reference's. -/
theorem arr5 : ((dats m 0 c).arrAt 5 cfg0.N : FVec Ideal S4096x2048 .bf16)
    = Cert.Reference16Ideal.Read.val_main_v6 (F := Ideal) (m ((c : Thread nD τ).loc main_arg0)) (m ((c : Thread nD τ).loc main_arg1)) := by
  refine (dats m 0 c).arrAt_eq_of_covers 5 _ (by decide +kernel) fun t hf y => ?_
  have h : t.val % 2 = 1 := (flush0_5 t).mp hf
  blk_simp
  rw [after0_5]
  idx_vars y
  rw [two5 m c t h, join m c _ _ rfl rfl t h]
  refine Eq.trans ?_ (congrArg _ (emb5 t y0 y1)).symm
  rw [ref6]

/-- The reference runs, leaves its arguments and its counters. -/
theorem frame_ri : Cert.quiescent_Reference16Ideal := fun m ρ _ =>
  (θ_run Cert.Reference16Ideal.defs _ _).mono (fun r h => ⟨fun c => (h c).2.2,
      Idealize.ShloMosaic.sem_eq_zero_of_no_sems (by decide) r.2⟩)
    (Cert.Reference16Ideal.Value.run (F := Ideal) m ρ)

/-- At the ideal reading the kernel leaves what the reference leaves. -/
theorem algebraic : Cert.algebraic_Kernel16Ideal_Reference16Ideal := by
  intro m ρ m' ρ' _ hagree
  refine ⟨fun c => (dats m 0 c).arrAt 4 cfg0.N, fun c => (dats m 0 c).arrAt 5 cfg0.N, Cert.Kernel16Ideal.Value.run_blocks m ρ, ?_⟩
  refine (θ_run Cert.Reference16Ideal.defs _ _).mono (fun r h c => ⟨(h c).1.trans ?_, (h c).2.1.trans ?_, (h c).2.2⟩) (Cert.Reference16Ideal.Value.run (F := Ideal) m' ρ')
  · obtain ⟨e0, e1, e2, e3⟩ := hagree c
    rw [e0, e1, e2, e3]
    exact (Cert.Reference16Ideal.Read.val_main_v5_eq _ _ _ _).trans (arr4 m c).symm
  · obtain ⟨e0, e1, _⟩ := hagree c
    rw [e0, e1]
    exact (Cert.Reference16Ideal.Read.val_main_v6_eq _ _).trans (arr5 m c).symm

end Cert.Mm16

end
-- ==== Proof.Rows.lean ====
/- Sums over the rows of an array, taken a block of rows at a time. -/
module

public import Idealize.ShloMosaic.Lib.Pointwise

@[expose] public section

noncomputable section

namespace Cert.Rows

/-- The total of the first rows' terms. -/
def upto {n : ℕ} (f : Fin n → EReal) (k : ℕ) : EReal :=
  ∑ r ∈ Finset.range k, if h : r < n then f ⟨r, h⟩ else 0

/-- No rows. -/
theorem upto_zero {n : ℕ} (f : Fin n → EReal) : upto f 0 = 0 := by
  simp [upto]

/-- One more block of rows. -/
theorem upto_add {n : ℕ} (f : Fin n → EReal) (k b : ℕ) (h : k + b ≤ n) :
    upto f (k + b) = upto f k + ∑ i : Fin b, f ⟨k + i.val, by omega⟩ := by
  unfold upto
  rw [Finset.sum_range_add]
  refine congrArg₂ (fun a b : EReal => a + b) rfl ?_
  rw [Finset.sum_range]
  refine Finset.sum_congr rfl fun i _ => ?_
  rw [dif_pos (by omega)]

/-- All the rows. -/
theorem upto_all {n : ℕ} (f : Fin n → EReal) : upto f n = ∑ i : Fin n, f i := by
  unfold upto
  rw [Finset.sum_range]
  refine Finset.sum_congr rfl fun i _ => ?_
  rw [dif_pos i.isLt]

end Cert.Rows

end
-- ==== Proof.Mm17.lean ====
/- The gate of a residual branch, backward. -/
module

public import proofs.«01_k».proof.Proof.Gen.Kernel17Ideal.Value
public import proofs.«01_k».proof.Proof.Gen.Kernel17.Frame
public import proofs.«01_k».proof.Proof.Gen.Reference17Ideal.Run
public import proofs.«01_k».proof.Proof.Gen.Reference17Ideal.Read
public import Idealize.ShloMosaic.Lib.Pointwise
public import Idealize.ShloMosaic.Lib.Pipeline.ReadBack
public import Idealize.ShloMosaic.Lib.Pipeline.ValueKit
public import proofs.«01_k».proof.Proof.Rows
public import proofs.«01_k».proof.Defs

@[expose] public section

set_option maxRecDepth 16384

noncomputable section

namespace Cert.Mm17

open Idealize.ShloMosaic Idealize.ShloMosaic.TcCoe Idealize.SL.Sem Cert.Kernel17Ideal Cert.Kernel17Ideal.Gen

variable (m : (ℓ : Loc nD τ sig) → Buf (Elt Ideal) ℓ) (c : Dev nD)

/-- Which block each window holds at a point. -/
theorem idx : ∀ t : Fin cfg0.N, win0_0.index t = ![t.val, 0] ∧ win0_1.index t = ![t.val, 0] ∧ win0_2.index t = ![0, 0]
    ∧ win0_3.index t = ![t.val, 0] ∧ win0_4.index t = ![0, 0] := by
  decide +kernel

section
variable (i : grid0.Coords) (arg1 : Memref sig .tc .vmem S256x2048 .f32) (harg1 : arg1.IsWhole) (arg2 : Memref sig .tc .vmem S256x2048 .bf16) (harg2 : arg2.IsWhole) (arg3 : Memref sig .tc .vmem S1x2048 .f32) (harg3 : arg3.IsWhole) (arg4 : Memref sig .tc .vmem S256x2048 .bf16) (harg4 : arg4.IsWhole) (arg5 : Memref sig .tc .vmem S1x2048 .f32) (harg5 : arg5.IsWhole)
variable (x : FVec Ideal S256x2048 .f32) (y : FVec Ideal S256x2048 .bf16) (g : FVec Ideal S1x2048 .f32) (s : FVec Ideal S1x2048 .f32)

/-- The rows the first point leaves. -/
theorem out3_A (hc0 : cond0_0 i) :
    out0_A_3 (F := Ideal) c i arg1 harg1 arg2 harg2 arg3 harg3 arg4 harg4 arg5 harg5 hc0 x y g = k0_pay2 (F := Ideal) x g := by
  frame_open
  frame_out

/-- The rows a later point leaves. -/
theorem out3_B (hc0 : ¬cond0_0 i) :
    out0_B_3 (F := Ideal) c i arg1 harg1 arg2 harg2 arg3 harg3 arg4 harg4 arg5 harg5 hc0 x y g s = k0_pay2 (F := Ideal) x g := by
  frame_open
  frame_out

/-- The total the first point leaves. -/
theorem out4_A (hc0 : cond0_0 i) :
    out0_A_4 (F := Ideal) c i arg1 harg1 arg2 harg2 arg3 harg3 arg4 harg4 arg5 harg5 hc0 x y g = k0_pay3 (F := Ideal) x (k0_pay1 (F := Ideal)) y := by
  frame_open
  simp (disch := decide) only [↓ View.readCov_skip, ↓ View.readCov_cons_toLoadRect, ↓ View.readCov_fill]
  frame_out

/-- The total a later point leaves. -/
theorem out4_B (hc0 : ¬cond0_0 i) :
    out0_B_4 (F := Ideal) c i arg1 harg1 arg2 harg2 arg3 harg3 arg4 harg4 arg5 harg5 hc0 x y g s = k0_pay3 (F := Ideal) x s y := by
  frame_open
  frame_out
end

/-- A row's entry times the gate. -/
theorem pay2 (x : FVec Ideal S256x2048 .f32) (g : FVec Ideal S1x2048 .f32) (i : Fin 256) (j : Fin 2048) :
    k0_pay2 (F := Ideal) x g (ix2 i j) = (x (ix2 i j) * g (ix2 0 j) : EReal) := by
  pointwise [k0_pay2]

/-- The block's terms of the total. -/
def rd (x : FVec Ideal S256x2048 .f32) (y : FVec Ideal S256x2048 .bf16) (j : Fin 2048) : EReal :=
  ∑ k : Fin 256, x (ix2 k j) * y (ix2 k j)

/-- The total with the block's terms added. -/
theorem pay3 (x : FVec Ideal S256x2048 .f32) (s : FVec Ideal S1x2048 .f32) (y : FVec Ideal S256x2048 .bf16) (j : Fin 2048) (q : EReal) (hq : s (ix2 0 j) = q) :
    k0_pay3 (F := Ideal) x s y (ix2 0 j) = q + rd x y j := by
  rw [← hq]
  pointwise [k0_pay3]
  rfl

/-- The total starts at zero. -/
theorem pay1 (j : Fin 2048) : k0_pay1 (F := Ideal) (ix2 0 j) = (0 : EReal) := by
  pointwise [k0_pay1]

/-- A row's term of the total. -/
def term (x0 : FVec Ideal S4096x2048 .f32) (x1 : FVec Ideal S4096x2048 .bf16) (j : Fin 2048) (r : Fin 4096) : EReal :=
  x0 (ix2 r j) * x1 (ix2 r j)

/-- The block's terms, by the arrays. -/
theorem blk (x0 : FVec Ideal S4096x2048 .f32) (x1 : FVec Ideal S4096x2048 .bf16)
    (h0 : m ((c : Thread nD τ).loc main_arg0) = x0) (h1 : m ((c : Thread nD τ).loc main_arg1) = x1)
    (t : Fin cfg0.N) (j : Fin 2048) : rd (iblk m c 0 t) (iblk m c 1 t) j
    = ∑ k : Fin 256, term x0 x1 j (⟨t.val * 256 + k.val, by have := t.isLt.trans_eq N_0; omega⟩ : Fin 4096) := by
  subst h0 h1
  unfold rd term
  refine Finset.sum_congr rfl fun k _ => ?_
  blk_simp [iblk, idx t]
  rw [V_main_arg0, V_main_arg1]
  refine congrArg₂ _ (congrArg _ (funext fun a => Fin.ext ?_)) (congrArg _ (funext fun a => Fin.ext ?_)) <;> fin_cases a
  all_goals
    blk_simp [idx t]
    try rfl

/-- The total after each point. -/
theorem tot (x0 : FVec Ideal S4096x2048 .f32) (x1 : FVec Ideal S4096x2048 .bf16)
    (h0 : m ((c : Thread nD τ).loc main_arg0) = x0) (h1 : m ((c : Thread nD τ).loc main_arg1) = x1) (j : Fin 2048) :
    ∀ (n : ℕ) (hn : n < cfg0.N), (outsAt0 m c n hn).2 (ix2 0 j) = Rows.upto (term x0 x1 j) ((n + 1) * 256) := by
  have hN : cfg0.N = 16 := N_0
  intro n
  induction n with
  | zero =>
    intro hn
    have e := outsAt0_A m c ⟨0, hn⟩ rfl
    dsimp only at e
    rw [e]
    dsimp only
    rw [out4_A, pay3 _ _ _ _ _ (pay1 j), blk m c x0 x1 h0 h1]
    rw [show (0 + 1) * 256 = 0 + 256 from rfl, Rows.upto_add _ _ _ (by omega), Rows.upto_zero]
    refine congrArg₂ (fun a b : EReal => a + b) rfl (Finset.sum_congr rfl fun k _ => ?_)
    rfl
  | succ n ih =>
    intro hn
    have e := outsAt0_B m c ⟨n + 1, hn⟩ (by show ¬(n + 1) % 16 = 0; omega)
    simp only [Nat.add_sub_cancel] at e
    rw [e]
    dsimp only
    rw [out4_B, pay3 _ _ _ _ _ (ih (Nat.lt_of_succ_lt hn)), blk m c x0 x1 h0 h1]
    rw [Nat.add_mul (n + 1) 1 256, Rows.upto_add _ _ (1 * 256) (by omega)]

/-- Where a point's rows lie in the result. -/
theorem emb3 (t : Fin cfg0.N) (i : Fin 256) (j : Fin 2048) : (win0_3.blk t).view.emb (ix2 i j)
    = ix2 (⟨t.val * 256 + i.val, by have := t.isLt.trans_eq N_0; omega⟩ : Fin 4096) j := by
  refine funext fun a => Fin.ext ?_
  fin_cases a <;> blk_simp [idx t] <;> rfl

/-- Where the total lies in the result. -/
theorem emb4 (t : Fin cfg0.N) (i : Fin 1) (j : Fin 2048) : (win0_4.blk t).view.emb (ix2 i j) = ix2 0 j := by
  refine funext fun a => Fin.ext ?_
  fin_cases a
  · blk_simp [idx t]
  · blk_simp [idx t]
    try rfl

/-- The reference's rows. -/
theorem ref10 (x0 : FVec Ideal S4096x2048 .f32) (x2 : FVec Ideal S1x2048 .f32) (i : Fin 4096) (j : Fin 2048) :
    Cert.Reference17Ideal.Read.val_main_v10 (F := Ideal) x0 x2 (ix2 i j) = (x2 (ix2 0 j) * x0 (ix2 i j) : EReal) := by
  pointwise [Cert.Reference17Ideal.Read.val_main_v10, Cert.Reference17Ideal.Read.val_main_v6, Cert.Reference17Ideal.Read.val_main_v5]

/-- The reference's total. -/
theorem ref9 (x0 : FVec Ideal S4096x2048 .f32) (x1 : FVec Ideal S4096x2048 .bf16) (j : Fin 2048) :
    Cert.Reference17Ideal.Read.val_main_v9 (F := Ideal) x0 x1 (ix2 0 j) = ∑ r : Fin 4096, term x0 x1 j r := by
  rw [Cert.Reference17Ideal.Read.val_main_v9_apply, Cert.Reference17Ideal.Read.val_main_v8_apply]
  refine Eq.trans (congrArg₂ (fun a b : EReal => a + b) (x' := 0) (y' := ∑ r : Fin 4096, term x0 x1 j r) ?_ (Finset.sum_congr rfl fun r _ => ?_)) (zero_add _)
  · pointwise [Cert.Reference17Ideal.Read.val_main_cst_0]
  · pointwise [Cert.Reference17Ideal.Read.val_main_v7, Cert.Reference17Ideal.Read.val_main_v1]
    unfold term
    refine congrArg₂ _ (congrArg _ (funext fun a => ?_)) (congrArg _ (funext fun a => ?_)) <;> fin_cases a
    · rfl
    · exact Fin.ext (Nat.zero_add _)
    · rfl
    · exact Fin.ext (Nat.zero_add _)

/-- The rows a point leaves. -/
theorem row3 (t : Fin cfg0.N) : (outsAt0 m c t.val t.isLt).1 = k0_pay2 (F := Ideal) (iblk m c 0 t) (iblk m c 2 t) := by
  by_cases h : t.val % 16 = 0
  · have e := outsAt0_A m c t h
    rw [out3_A] at e
    rw [e]
  · have e := outsAt0_B m c t h
    rw [out3_B] at e
    rw [e]

/-- The rows the kernel leaves are the reference's. -/
theorem arr3 : ((dats m 0 c).arrAt 3 cfg0.N : FVec Ideal S4096x2048 .bf16)
    = Cert.Reference17Ideal.Read.val_main_v10 (F := Ideal) (m ((c : Thread nD τ).loc main_arg0)) (m ((c : Thread nD τ).loc main_arg2)) := by
  refine (dats m 0 c).arrAt_eq_of_covers 3 _ (by decide +kernel) fun t hf y => ?_
  blk_simp
  rw [after0_3]
  idx_vars y
  rw [row3, pay2]
  refine Eq.trans ?_ (congrArg _ (emb3 t y0 y1)).symm
  rw [ref10]
  refine (mul_comm (_ : EReal) _).trans ?_
  blk_simp [iblk, idx t]
  rw [V_main_arg0, V_main_arg2]
  refine congrArg₂ _ (congrArg _ (funext fun a => Fin.ext ?_)) (congrArg _ (funext fun a => Fin.ext ?_)) <;> fin_cases a
  all_goals
    blk_simp [idx t]
    try rfl

/-- The total the kernel leaves is the reference's. -/
theorem arr4 : ((dats m 0 c).arrAt 4 cfg0.N : FVec Ideal S1x2048 .f32)
    = Cert.Reference17Ideal.Read.val_main_v9 (F := Ideal) (m ((c : Thread nD τ).loc main_arg0)) (m ((c : Thread nD τ).loc main_arg1)) := by
  refine (dats m 0 c).arrAt_eq_of_covers 4 _ (by decide +kernel) fun t hf y => ?_
  have h : t.val = 15 := by have := (flush0_4 t).mp hf; have := t.isLt.trans_eq N_0; omega
  blk_simp
  rw [after0_4]
  idx_vars y
  obtain rfl : y0 = 0 := Subsingleton.elim _ _
  rw [tot m c _ _ rfl rfl y1]
  refine Eq.trans ?_ (congrArg _ (emb4 t 0 y1)).symm
  rw [ref9, h]
  exact Rows.upto_all _

/-- The reference runs, leaves its arguments and its counters. -/
theorem frame_ri : Cert.quiescent_Reference17Ideal := fun m ρ _ =>
  (θ_run Cert.Reference17Ideal.defs _ _).mono (fun r h => ⟨fun c => (h c).2.2,
      Idealize.ShloMosaic.sem_eq_zero_of_no_sems (by decide) r.2⟩)
    (Cert.Reference17Ideal.Value.run (F := Ideal) m ρ)

/-- At the ideal reading the kernel leaves what the reference leaves. -/
theorem algebraic : Cert.algebraic_Kernel17Ideal_Reference17Ideal := by
  intro m ρ m' ρ' _ hagree
  refine ⟨fun c => (dats m 0 c).arrAt 3 cfg0.N, fun c => (dats m 0 c).arrAt 4 cfg0.N, Cert.Kernel17Ideal.Value.run_blocks m ρ, ?_⟩
  refine (θ_run Cert.Reference17Ideal.defs _ _).mono (fun r h c => ⟨(h c).1.trans ?_, (h c).2.1.trans ?_, (h c).2.2⟩) (Cert.Reference17Ideal.Value.run (F := Ideal) m' ρ')
  · obtain ⟨e0, _, e2⟩ := hagree c
    rw [e0, e2]
    exact (Cert.Reference17Ideal.Read.val_main_v10_eq _ _).trans (arr3 m c).symm
  · obtain ⟨e0, e1, _⟩ := hagree c
    rw [e0, e1]
    exact (Cert.Reference17Ideal.Read.val_main_v9_eq _ _).trans (arr4 m c).symm

end Cert.Mm17

end
-- ==== Proof.Mm18.lean ====
/- A norm with a gain, scaled and shifted: the gradient. -/
module

public import proofs.«01_k».proof.Proof.Gen.Kernel18Ideal.Value
public import proofs.«01_k».proof.Proof.Gen.Kernel18.Frame
public import proofs.«01_k».proof.Proof.Gen.Reference18Ideal.Run
public import proofs.«01_k».proof.Proof.Gen.Reference18Ideal.Read
public import Idealize.ShloMosaic.Lib.Pointwise
public import Idealize.ShloMosaic.Lib.Pipeline.ReadBack
public import Idealize.ShloMosaic.Lib.Pipeline.ValueKit
public import proofs.«01_k».proof.Proof.Rows
public import proofs.«01_k».proof.Proof.Fin
public import proofs.«01_k».proof.Defs

@[expose] public section

set_option maxRecDepth 16384

noncomputable section

namespace Cert.Mm18

open Idealize.ShloMosaic Idealize.ShloMosaic.TcCoe Idealize.SL.Sem Cert.Kernel18Ideal Cert.Kernel18Ideal.Gen

variable (m : (ℓ : Loc nD τ sig) → Buf (Elt Ideal) ℓ) (c : Dev nD)

/-- Which block each window holds at a point. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] ∧ win0_6.index t = ![0, 0] ∧ win0_7.index t = ![0, 0] ∧ win0_8.index t = ![0, 0] := by
  decide +kernel

section
variable (i : grid0.Coords) (arg1 : Memref sig .tc .vmem S256x2048 .f32) (harg1 : arg1.IsWhole) (arg2 : Memref sig .tc .vmem S1x2048 .f32) (harg2 : arg2.IsWhole) (arg3 : Memref sig .tc .vmem S1x2048 .f32) (harg3 : arg3.IsWhole) (arg4 : Memref sig .tc .vmem S256x2048 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1x2048 .f32) (harg9 : arg9.IsWhole)
variable (x : FVec Ideal S256x2048 .f32) (g s : FVec Ideal S1x2048 .f32) (d r : FVec Ideal S256x2048 .f32) (s6 s7 s8 : FVec Ideal S1x2048 .f32)

/-- The rows the first point leaves. -/
theorem out5_A (hc0 : cond0_0 i) :
    out0_A_5 (F := Ideal) c i arg1 harg1 arg2 harg2 arg3 harg3 arg4 harg4 arg5 harg5 arg6 harg6 arg7 harg7 arg8 harg8 arg9 harg9 hc0 x g s d r = k0_pay3 (F := Ideal) (k0_pay7 x) (k0_pay8 x) g d s (Scalar.ofBits .f32 0x3F800000#32) r := by
  frame_open

  frame_out

/-- The rows a later point leaves. -/
theorem out5_B (hc0 : ¬cond0_0 i) :
    out0_B_5 (F := Ideal) c i arg1 harg1 arg2 harg2 arg3 harg3 arg4 harg4 arg5 harg5 arg6 harg6 arg7 harg7 arg8 harg8 arg9 harg9 hc0 x g s d r s6 s7 s8 = k0_pay3 (F := Ideal) (k0_pay7 x) (k0_pay8 x) g d s (Scalar.ofBits .f32 0x3F800000#32) r := by
  frame_open
  frame_out

/-- The shift's total the first point leaves. -/
theorem out6_A (hc0 : cond0_0 i) :
    out0_A_6 (F := Ideal) c i arg1 harg1 arg2 harg2 arg3 harg3 arg4 harg4 arg5 harg5 arg6 harg6 arg7 harg7 arg8 harg8 arg9 harg9 hc0 x g s d r = k0_pay9 (F := Ideal) d (k0_pay4 (F := Ideal)) := by
  frame_open
  simp (disch := decide) only [↓ View.readCov_skip, ↓ View.readCov_cons_toLoadRect, ↓ View.readCov_fill]
  frame_out

/-- The shift's total a later point leaves. -/
theorem out6_B (hc0 : ¬cond0_0 i) :
    out0_B_6 (F := Ideal) c i arg1 harg1 arg2 harg2 arg3 harg3 arg4 harg4 arg5 harg5 arg6 harg6 arg7 harg7 arg8 harg8 arg9 harg9 hc0 x g s d r s6 s7 s8 = k0_pay9 (F := Ideal) d s6 := by
  frame_open
  frame_out

/-- The scale's total the first point leaves. -/
theorem out7_A (hc0 : cond0_0 i) :
    out0_A_7 (F := Ideal) c i arg1 harg1 arg2 harg2 arg3 harg3 arg4 harg4 arg5 harg5 arg6 harg6 arg7 harg7 arg8 harg8 arg9 harg9 hc0 x g s d r = k0_pay10 (F := Ideal) x g d (k0_pay5 (F := Ideal)) := by
  frame_open
  simp (disch := decide) only [↓ View.readCov_skip, ↓ View.readCov_cons_toLoadRect, ↓ View.readCov_fill]
  frame_out

/-- The scale's total a later point leaves. -/
theorem out7_B (hc0 : ¬cond0_0 i) :
    out0_B_7 (F := Ideal) c i arg1 harg1 arg2 harg2 arg3 harg3 arg4 harg4 arg5 harg5 arg6 harg6 arg7 harg7 arg8 harg8 arg9 harg9 hc0 x g s d r s6 s7 s8 = k0_pay10 (F := Ideal) x g d s7 := by
  frame_open
  frame_out

/-- The gain's total the first point leaves. -/
theorem out8_A (hc0 : cond0_0 i) :
    out0_A_8 (F := Ideal) c i arg1 harg1 arg2 harg2 arg3 harg3 arg4 harg4 arg5 harg5 arg6 harg6 arg7 harg7 arg8 harg8 arg9 harg9 hc0 x g s d r = k0_pay2 (F := Ideal) (k0_pay8 x) d s (Scalar.ofBits .f32 0x3F800000#32) (k0_pay6 (F := Ideal)) := by
  frame_open
  simp (disch := decide) only [↓ View.readCov_skip, ↓ View.readCov_cons_toLoadRect, ↓ View.readCov_fill]
  frame_out

/-- The gain's total a later point leaves. -/
theorem out8_B (hc0 : ¬cond0_0 i) :
    out0_B_8 (F := Ideal) c i arg1 harg1 arg2 harg2 arg3 harg3 arg4 harg4 arg5 harg5 arg6 harg6 arg7 harg7 arg8 harg8 arg9 harg9 hc0 x g s d r s6 s7 s8 = k0_pay2 (F := Ideal) (k0_pay8 x) d s (Scalar.ofBits .f32 0x3F800000#32) s8 := by
  frame_open
  frame_out

end

/-- A row's mean square with the small constant. -/
def ms {n : ℕ} (x : (⟨2, ![n, 2048]⟩ : Shape).Idx → EReal) (i : Fin n) : EReal :=
  Ideal.div (∑ k : Fin 2048, x (ix2 i k) * x (ix2 i k)) (Ideal.ofBits .f32 0x45000000#32) + Ideal.ofBits .f32 0x358637BD#32

/-- A row's entry of the shift's gradient. -/
def t6 {n : ℕ} (d : (⟨2, ![n, 2048]⟩ : Shape).Idx → EReal) (j : Fin 2048) (i : Fin n) : EReal := d (ix2 i j)

/-- A row's entry of the scale's gradient. -/
def t7 {n : ℕ} (x : (⟨2, ![n, 2048]⟩ : Shape).Idx → EReal) (g : (⟨2, ![1, 2048]⟩ : Shape).Idx → EReal) (d : (⟨2, ![n, 2048]⟩ : Shape).Idx → EReal) (j : Fin 2048) (i : Fin n) : EReal :=
  d (ix2 i j) * (x (ix2 i j) * Ideal.rsqrt (ms x i) * g (ix2 0 j))

/-- A row's entry of the gain's gradient. -/
def t8 {n : ℕ} (x : (⟨2, ![n, 2048]⟩ : Shape).Idx → EReal) (s : (⟨2, ![1, 2048]⟩ : Shape).Idx → EReal) (d : (⟨2, ![n, 2048]⟩ : Shape).Idx → EReal) (j : Fin 2048) (i : Fin n) : EReal :=
  d (ix2 i j) * (Ideal.ofBits .f32 0x3F800000#32 + s (ix2 0 j)) * (x (ix2 i j) * Ideal.rsqrt (ms x i))

/-- A row's entry of the normalised input's gradient. -/
def dn {n : ℕ} (g s : (⟨2, ![1, 2048]⟩ : Shape).Idx → EReal) (d : (⟨2, ![n, 2048]⟩ : Shape).Idx → EReal) (i : Fin n) (j : Fin 2048) : EReal :=
  d (ix2 i j) * (Ideal.ofBits .f32 0x3F800000#32 + s (ix2 0 j)) * g (ix2 0 j)

/-- A row's entry of the input's gradient. -/
def t5 {n : ℕ} (x : (⟨2, ![n, 2048]⟩ : Shape).Idx → EReal) (g s : (⟨2, ![1, 2048]⟩ : Shape).Idx → EReal) (d r : (⟨2, ![n, 2048]⟩ : Shape).Idx → EReal) (i : Fin n) (j : Fin 2048) : EReal :=
  r (ix2 i j) + Ideal.rsqrt (ms x i) * (dn g s d i j - x (ix2 i j) * Ideal.rsqrt (ms x i) * Ideal.div (∑ k : Fin 2048, dn g s d i k * (x (ix2 i k) * Ideal.rsqrt (ms x i))) (Ideal.ofBits .f32 0x45000000#32))

/-- The shift's total with the block's terms added. -/
theorem pay9 (d : FVec Ideal S256x2048 .f32) (s : FVec Ideal S1x2048 .f32) (j : Fin 2048) (q : EReal) (hq : s (ix2 0 j) = q) :
    k0_pay9 (F := Ideal) d s (ix2 0 j) = q + ∑ k : Fin 256, t6 d j k := by
  rw [← hq]
  unfold t6
  pointwise [k0_pay9]

/-- The scale's total with the block's terms added. -/
theorem pay10 (x : FVec Ideal S256x2048 .f32) (g : FVec Ideal S1x2048 .f32) (d : FVec Ideal S256x2048 .f32) (s : FVec Ideal S1x2048 .f32) (j : Fin 2048) (q : EReal) (hq : s (ix2 0 j) = q) :
    k0_pay10 (F := Ideal) x g d s (ix2 0 j) = q + ∑ k : Fin 256, t7 x g d j k := by
  rw [← hq]
  unfold t7 ms
  pointwise [k0_pay10, k0_pay8, k0_pay7]

/-- The gain's total with the block's terms added. -/
theorem pay2 (x d : FVec Ideal S256x2048 .f32) (sc s : FVec Ideal S1x2048 .f32) (j : Fin 2048) (q : EReal) (hq : s (ix2 0 j) = q) :
    k0_pay2 (F := Ideal) (k0_pay8 x) d sc (Scalar.ofBits .f32 0x3F800000#32) s (ix2 0 j) = q + ∑ k : Fin 256, t8 x sc d j k := by
  rw [← hq]
  unfold t8 ms
  pointwise [k0_pay2, k0_pay1, k0_pay8, k0_pay7]

/-- An entry of the input's gradient in a block. -/
theorem pay3 (x : FVec Ideal S256x2048 .f32) (g s : FVec Ideal S1x2048 .f32) (d r : FVec Ideal S256x2048 .f32) (i : Fin 256) (j : Fin 2048) :
    k0_pay3 (F := Ideal) (k0_pay7 x) (k0_pay8 x) g d s (Scalar.ofBits .f32 0x3F800000#32) r (ix2 i j) = t5 x g s d r i j := by
  unfold t5 dn ms
  pointwise [k0_pay3, k0_pay1, k0_pay8, k0_pay7]

/-- The shift's total starts at zero. -/
theorem pay4 (j : Fin 2048) : k0_pay4 (F := Ideal) (ix2 0 j) = (0 : EReal) := by
  pointwise [k0_pay4]

/-- The scale's total starts at zero. -/
theorem pay5 (j : Fin 2048) : k0_pay5 (F := Ideal) (ix2 0 j) = (0 : EReal) := by
  pointwise [k0_pay5]

/-- The gain's total starts at zero. -/
theorem pay6 (j : Fin 2048) : k0_pay6 (F := Ideal) (ix2 0 j) = (0 : EReal) := by
  pointwise [k0_pay6]

/-- An entry of a point's block of argument 0. -/
theorem blk0 (x0 : FVec Ideal S4096x2048 .f32) (h0 : m ((c : Thread nD τ).loc main_arg0) = x0) (t : Fin cfg0.N) (i : Fin 256) (j : Fin 2048) :
    (iblk m c 0 t : FVec Ideal S256x2048 .f32) (ix2 i j) = x0 (ix2 (⟨t.val * 256 + i.val, by have := t.isLt.trans_eq N_0; omega⟩ : Fin 4096) j) := by
  subst h0
  blk_simp [iblk, idx t]
  rw [V_main_arg0]
  refine congrArg _ (funext fun a => Fin.ext ?_)
  fin_cases a
  all_goals
    blk_simp [idx t]
    try rfl

/-- An entry of a point's block of argument 1. -/
theorem blk1 (x1 : FVec Ideal S1x2048 .f32) (h1 : m ((c : Thread nD τ).loc main_arg1) = x1) (t : Fin cfg0.N) (j : Fin 2048) :
    (iblk m c 1 t : FVec Ideal S1x2048 .f32) (ix2 0 j) = x1 (ix2 0 j) := by
  subst h1
  blk_simp [iblk, idx t]
  rw [V_main_arg1]
  refine congrArg _ (funext fun a => Fin.ext ?_)
  fin_cases a
  all_goals
    blk_simp [idx t]
    try rfl

/-- An entry of a point's block of argument 2. -/
theorem blk2 (x2 : FVec Ideal S1x2048 .f32) (h2 : m ((c : Thread nD τ).loc main_arg2) = x2) (t : Fin cfg0.N) (j : Fin 2048) :
    (iblk m c 2 t : FVec Ideal S1x2048 .f32) (ix2 0 j) = x2 (ix2 0 j) := by
  subst h2
  blk_simp [iblk, idx t]
  rw [V_main_arg2]
  refine congrArg _ (funext fun a => Fin.ext ?_)
  fin_cases a
  all_goals
    blk_simp [idx t]
    try rfl

/-- An entry of a point's block of argument 3. -/
theorem blk3 (x3 : FVec Ideal S4096x2048 .f32) (h3 : m ((c : Thread nD τ).loc main_arg3) = x3) (t : Fin cfg0.N) (i : Fin 256) (j : Fin 2048) :
    (iblk m c 3 t : FVec Ideal S256x2048 .f32) (ix2 i j) = x3 (ix2 (⟨t.val * 256 + i.val, by have := t.isLt.trans_eq N_0; omega⟩ : Fin 4096) j) := by
  subst h3
  blk_simp [iblk, idx t]
  rw [V_main_arg3]
  refine congrArg _ (funext fun a => Fin.ext ?_)
  fin_cases a
  all_goals
    blk_simp [idx t]
    try rfl

/-- An entry of a point's block of argument 4. -/
theorem blk4 (x4 : FVec Ideal S4096x2048 .f32) (h4 : m ((c : Thread nD τ).loc main_arg4) = x4) (t : Fin cfg0.N) (i : Fin 256) (j : Fin 2048) :
    (iblk m c 4 t : FVec Ideal S256x2048 .f32) (ix2 i j) = x4 (ix2 (⟨t.val * 256 + i.val, by have := t.isLt.trans_eq N_0; omega⟩ : Fin 4096) j) := by
  subst h4
  blk_simp [iblk, idx t]
  rw [V_main_arg4]
  refine congrArg _ (funext fun a => Fin.ext ?_)
  fin_cases a
  all_goals
    blk_simp [idx t]
    try rfl

/-- A row's mean square, by the array. -/
theorem blkms (x0 : FVec Ideal S4096x2048 .f32) (h0 : m ((c : Thread nD τ).loc main_arg0) = x0) (t : Fin cfg0.N) (i : Fin 256) :
    ms (iblk m c 0 t : FVec Ideal S256x2048 .f32) i = ms x0 (⟨t.val * 256 + i.val, by have := t.isLt.trans_eq N_0; omega⟩ : Fin 4096) := by
  unfold ms
  simp only [blk0 m c x0 h0]

/-- The block's terms of the shift's total, by the array. -/
theorem b6 (x3 : FVec Ideal S4096x2048 .f32) (h3 : m ((c : Thread nD τ).loc main_arg3) = x3) (t : Fin cfg0.N) (i : Fin 256) (j : Fin 2048) :
    t6 (iblk m c 3 t : FVec Ideal S256x2048 .f32) j i = t6 x3 j (⟨t.val * 256 + i.val, by have := t.isLt.trans_eq N_0; omega⟩ : Fin 4096) := by
  unfold t6
  exact blk3 m c x3 h3 t i j

/-- The block's terms of the scale's total, by the arrays. -/
theorem b7 (x0 : FVec Ideal S4096x2048 .f32) (x1 x2 : FVec Ideal S1x2048 .f32) (x3 : FVec Ideal S4096x2048 .f32) (h0 : m ((c : Thread nD τ).loc main_arg0) = x0) (h1 : m ((c : Thread nD τ).loc main_arg1) = x1) (h2 : m ((c : Thread nD τ).loc main_arg2) = x2) (h3 : m ((c : Thread nD τ).loc main_arg3) = x3) (t : Fin cfg0.N) (i : Fin 256) (j : Fin 2048) :
    t7 (iblk m c 0 t : FVec Ideal S256x2048 .f32) (iblk m c 1 t : FVec Ideal S1x2048 .f32) (iblk m c 3 t : FVec Ideal S256x2048 .f32) j i = t7 x0 x1 x3 j (⟨t.val * 256 + i.val, by have := t.isLt.trans_eq N_0; omega⟩ : Fin 4096) := by
  unfold t7
  rw [blkms m c x0 h0, blk0 m c x0 h0, blk1 m c x1 h1, blk3 m c x3 h3]

/-- The block's terms of the gain's total, by the arrays. -/
theorem b8 (x0 : FVec Ideal S4096x2048 .f32) (x1 x2 : FVec Ideal S1x2048 .f32) (x3 : FVec Ideal S4096x2048 .f32) (h0 : m ((c : Thread nD τ).loc main_arg0) = x0) (h1 : m ((c : Thread nD τ).loc main_arg1) = x1) (h2 : m ((c : Thread nD τ).loc main_arg2) = x2) (h3 : m ((c : Thread nD τ).loc main_arg3) = x3) (t : Fin cfg0.N) (i : Fin 256) (j : Fin 2048) :
    t8 (iblk m c 0 t : FVec Ideal S256x2048 .f32) (iblk m c 2 t : FVec Ideal S1x2048 .f32) (iblk m c 3 t : FVec Ideal S256x2048 .f32) j i = t8 x0 x2 x3 j (⟨t.val * 256 + i.val, by have := t.isLt.trans_eq N_0; omega⟩ : Fin 4096) := by
  unfold t8
  rw [blkms m c x0 h0, blk0 m c x0 h0, blk2 m c x2 h2, blk3 m c x3 h3]

/-- The block's entries of the input's gradient, by the arrays. -/
theorem b5 (x0 : FVec Ideal S4096x2048 .f32) (x1 x2 : FVec Ideal S1x2048 .f32) (x3 x4 : FVec Ideal S4096x2048 .f32) (h0 : m ((c : Thread nD τ).loc main_arg0) = x0) (h1 : m ((c : Thread nD τ).loc main_arg1) = x1) (h2 : m ((c : Thread nD τ).loc main_arg2) = x2) (h3 : m ((c : Thread nD τ).loc main_arg3) = x3) (h4 : m ((c : Thread nD τ).loc main_arg4) = x4) (t : Fin cfg0.N) (i : Fin 256) (j : Fin 2048) :
    t5 (iblk m c 0 t : FVec Ideal S256x2048 .f32) (iblk m c 1 t : FVec Ideal S1x2048 .f32) (iblk m c 2 t : FVec Ideal S1x2048 .f32) (iblk m c 3 t : FVec Ideal S256x2048 .f32) (iblk m c 4 t : FVec Ideal S256x2048 .f32) i j = t5 x0 x1 x2 x3 x4 (⟨t.val * 256 + i.val, by have := t.isLt.trans_eq N_0; omega⟩ : Fin 4096) j := by
  unfold t5 dn
  simp only [blkms m c x0 h0, blk0 m c x0 h0, blk1 m c x1 h1, blk2 m c x2 h2, blk3 m c x3 h3, blk4 m c x4 h4]

/-- The shift's total after each point. -/
theorem tot6 (x0 : FVec Ideal S4096x2048 .f32) (x1 x2 : FVec Ideal S1x2048 .f32) (x3 : FVec Ideal S4096x2048 .f32) (h0 : m ((c : Thread nD τ).loc main_arg0) = x0) (h1 : m ((c : Thread nD τ).loc main_arg1) = x1) (h2 : m ((c : Thread nD τ).loc main_arg2) = x2) (h3 : m ((c : Thread nD τ).loc main_arg3) = x3) (j : Fin 2048) :
    ∀ (n : ℕ) (hn : n < cfg0.N), (outsAt0 m c n hn).2.1 (ix2 0 j) = Rows.upto (t6 x3 j) ((n + 1) * 256) := by
  have hN : cfg0.N = 16 := N_0
  intro n
  induction n with
  | zero =>
    intro hn
    have e := outsAt0_A m c ⟨0, hn⟩ rfl
    dsimp only at e
    rw [e]
    dsimp only
    rw [out6_A, pay9 _ _ _ _ (pay4 j)]
    rw [show (0 + 1) * 256 = 0 + 256 from rfl, Rows.upto_add _ _ _ (by omega), Rows.upto_zero]
    refine congrArg₂ (fun a b : EReal => a + b) rfl (Finset.sum_congr rfl fun k _ => ?_)
    exact b6 m c x3 h3 ⟨0, hn⟩ k j
  | succ n ih =>
    intro hn
    have e := outsAt0_B m c ⟨n + 1, hn⟩ (by show ¬(n + 1) % 16 = 0; omega)
    simp only [Nat.add_sub_cancel] at e
    rw [e]
    dsimp only
    rw [out6_B, pay9 _ _ _ _ (ih (Nat.lt_of_succ_lt hn))]
    rw [Nat.add_mul (n + 1) 1 256, Rows.upto_add _ _ (1 * 256) (by omega)]
    refine congrArg₂ (fun a b : EReal => a + b) rfl (Finset.sum_congr rfl fun k _ => ?_)
    exact b6 m c x3 h3 ⟨n + 1, hn⟩ k j

/-- The scale's total after each point. -/
theorem tot7 (x0 : FVec Ideal S4096x2048 .f32) (x1 x2 : FVec Ideal S1x2048 .f32) (x3 : FVec Ideal S4096x2048 .f32) (h0 : m ((c : Thread nD τ).loc main_arg0) = x0) (h1 : m ((c : Thread nD τ).loc main_arg1) = x1) (h2 : m ((c : Thread nD τ).loc main_arg2) = x2) (h3 : m ((c : Thread nD τ).loc main_arg3) = x3) (j : Fin 2048) :
    ∀ (n : ℕ) (hn : n < cfg0.N), (outsAt0 m c n hn).2.2.1 (ix2 0 j) = Rows.upto (t7 x0 x1 x3 j) ((n + 1) * 256) := by
  have hN : cfg0.N = 16 := N_0
  intro n
  induction n with
  | zero =>
    intro hn
    have e := outsAt0_A m c ⟨0, hn⟩ rfl
    dsimp only at e
    rw [e]
    dsimp only
    rw [out7_A, pay10 _ _ _ _ _ _ (pay5 j)]
    rw [show (0 + 1) * 256 = 0 + 256 from rfl, Rows.upto_add _ _ _ (by omega), Rows.upto_zero]
    refine congrArg₂ (fun a b : EReal => a + b) rfl (Finset.sum_congr rfl fun k _ => ?_)
    exact b7 m c x0 x1 x2 x3 h0 h1 h2 h3 ⟨0, hn⟩ k j
  | succ n ih =>
    intro hn
    have e := outsAt0_B m c ⟨n + 1, hn⟩ (by show ¬(n + 1) % 16 = 0; omega)
    simp only [Nat.add_sub_cancel] at e
    rw [e]
    dsimp only
    rw [out7_B, pay10 _ _ _ _ _ _ (ih (Nat.lt_of_succ_lt hn))]
    rw [Nat.add_mul (n + 1) 1 256, Rows.upto_add _ _ (1 * 256) (by omega)]
    refine congrArg₂ (fun a b : EReal => a + b) rfl (Finset.sum_congr rfl fun k _ => ?_)
    exact b7 m c x0 x1 x2 x3 h0 h1 h2 h3 ⟨n + 1, hn⟩ k j

/-- The gain's total after each point. -/
theorem tot8 (x0 : FVec Ideal S4096x2048 .f32) (x1 x2 : FVec Ideal S1x2048 .f32) (x3 : FVec Ideal S4096x2048 .f32) (h0 : m ((c : Thread nD τ).loc main_arg0) = x0) (h1 : m ((c : Thread nD τ).loc main_arg1) = x1) (h2 : m ((c : Thread nD τ).loc main_arg2) = x2) (h3 : m ((c : Thread nD τ).loc main_arg3) = x3) (j : Fin 2048) :
    ∀ (n : ℕ) (hn : n < cfg0.N), (outsAt0 m c n hn).2.2.2 (ix2 0 j) = Rows.upto (t8 x0 x2 x3 j) ((n + 1) * 256) := by
  have hN : cfg0.N = 16 := N_0
  intro n
  induction n with
  | zero =>
    intro hn
    have e := outsAt0_A m c ⟨0, hn⟩ rfl
    dsimp only at e
    rw [e]
    dsimp only
    rw [out8_A, pay2 _ _ _ _ _ _ (pay6 j)]
    rw [show (0 + 1) * 256 = 0 + 256 from rfl, Rows.upto_add _ _ _ (by omega), Rows.upto_zero]
    refine congrArg₂ (fun a b : EReal => a + b) rfl (Finset.sum_congr rfl fun k _ => ?_)
    exact b8 m c x0 x1 x2 x3 h0 h1 h2 h3 ⟨0, hn⟩ k j
  | succ n ih =>
    intro hn
    have e := outsAt0_B m c ⟨n + 1, hn⟩ (by show ¬(n + 1) % 16 = 0; omega)
    simp only [Nat.add_sub_cancel] at e
    rw [e]
    dsimp only
    rw [out8_B, pay2 _ _ _ _ _ _ (ih (Nat.lt_of_succ_lt hn))]
    rw [Nat.add_mul (n + 1) 1 256, Rows.upto_add _ _ (1 * 256) (by omega)]
    refine congrArg₂ (fun a b : EReal => a + b) rfl (Finset.sum_congr rfl fun k _ => ?_)
    exact b8 m c x0 x1 x2 x3 h0 h1 h2 h3 ⟨n + 1, hn⟩ k j

/-- Where a point's rows lie in the result. -/
theorem emb5 (t : Fin cfg0.N) (i : Fin 256) (j : Fin 2048) : (win0_5.blk t).view.emb (ix2 i j)
    = ix2 (⟨t.val * 256 + i.val, by have := t.isLt.trans_eq N_0; omega⟩ : Fin 4096) j := by
  refine funext fun a => Fin.ext ?_
  fin_cases a <;> blk_simp [idx t] <;> rfl

/-- Where the shift's total lies in the result. -/
theorem emb6 (t : Fin cfg0.N) (i : Fin 1) (j : Fin 2048) : (win0_6.blk t).view.emb (ix2 i j) = ix2 0 j := by
  refine funext fun a => Fin.ext ?_
  fin_cases a
  · blk_simp [idx t]
  · blk_simp [idx t]
    try rfl

/-- Where the scale's total lies in the result. -/
theorem emb7 (t : Fin cfg0.N) (i : Fin 1) (j : Fin 2048) : (win0_7.blk t).view.emb (ix2 i j) = ix2 0 j := by
  refine funext fun a => Fin.ext ?_
  fin_cases a
  · blk_simp [idx t]
  · blk_simp [idx t]
    try rfl

/-- Where the gain's total lies in the result. -/
theorem emb8 (t : Fin cfg0.N) (i : Fin 1) (j : Fin 2048) : (win0_8.blk t).view.emb (ix2 i j) = ix2 0 j := by
  refine funext fun a => Fin.ext ?_
  fin_cases a
  · blk_simp [idx t]
  · blk_simp [idx t]
    try rfl

/-- The reference's normalised rows. -/
theorem ref13 (x0 : FVec Ideal S4096x2048 .f32) (i : Fin 4096) (j : Fin 2048) :
    Cert.Reference18Ideal.Read.val_main_v13 (F := Ideal) x0 (ix2 i j) = (x0 (ix2 i j) * Ideal.rsqrt (ms x0 i) : EReal) := by
  unfold ms
  pointwise [Cert.Reference18Ideal.Read.val_main_v1, Cert.Reference18Ideal.Read.val_main_v2, Cert.Reference18Ideal.Read.val_main_v3, Cert.Reference18Ideal.Read.val_main_v4, Cert.Reference18Ideal.Read.val_main_v5, Cert.Reference18Ideal.Read.val_main_v6, Cert.Reference18Ideal.Read.val_main_v7, Cert.Reference18Ideal.Read.val_main_v8, Cert.Reference18Ideal.Read.val_main_v12, Cert.Reference18Ideal.Read.val_main_v13, Cert.Reference18Ideal.Read.val_main_cst_0, Cert.Reference18Ideal.Read.val_main_cst_1, Cert.Reference18Ideal.Read.val_main_cst_2]

/-- The reference's cotangent times the scale. -/
theorem ref29 (x2 : FVec Ideal S1x2048 .f32) (x3 : FVec Ideal S4096x2048 .f32) (i : Fin 4096) (j : Fin 2048) :
    Cert.Reference18Ideal.Read.val_main_v29 (F := Ideal) x2 x3 (ix2 i j) = (x3 (ix2 i j) * (Ideal.ofBits .f32 0x3F800000#32 + x2 (ix2 0 j)) : EReal) := by
  pointwise [Cert.Reference18Ideal.Read.val_main_v29, Cert.Reference18Ideal.Read.val_main_v28, Cert.Reference18Ideal.Read.val_main_v22, Cert.Reference18Ideal.Read.val_main_v17, Cert.Reference18Ideal.Read.val_main_v16, Cert.Reference18Ideal.Read.val_main_cst_4]

/-- The reference's shift's total. -/
theorem ref6 (x3 : FVec Ideal S4096x2048 .f32) (j : Fin 2048) :
    Cert.Reference18Ideal.Read.val_main_v24 (F := Ideal) x3 (ix2 0 j) = ∑ r : Fin 4096, t6 x3 j r := by
  have e (j : Fin 2048) : Cert.Reference18Ideal.Read.val_main_v23 (F := Ideal) x3 (ix1 j) = ∑ r : Fin 4096, t6 x3 j r := by
    rw [Cert.Reference18Ideal.Read.val_main_v23_apply]
    refine Eq.trans (congrArg₂ (fun a b : EReal => a + b) (x' := 0) (y' := ∑ r : Fin 4096, t6 x3 j r) ?_ (Finset.sum_congr rfl fun r _ => ?_)) (zero_add _)
    · pointwise [Cert.Reference18Ideal.Read.val_main_cst_5]
    · have h : Cert.Reference18Ideal.Read.idx_main_v23 (ix1 j) r = ix2 r j := by
        refine funext fun a => Fin.ext ?_
        fin_cases a <;> rfl
      rw [h]
      rfl
  refine Eq.trans ?_ (e j)
  rw [Cert.Reference18Ideal.Read.val_main_v24_apply]
  refine congrArg _ (funext fun a => Fin.ext ?_)
  fin_cases a
  exact Nat.zero_add _

/-- The reference's scale's total. -/
theorem ref7 (x0 : FVec Ideal S4096x2048 .f32) (x1 : FVec Ideal S1x2048 .f32) (x3 : FVec Ideal S4096x2048 .f32) (j : Fin 2048) :
    Cert.Reference18Ideal.Read.val_main_v27 (F := Ideal) x0 x1 x3 (ix2 0 j) = ∑ r : Fin 4096, t7 x0 x1 x3 j r := by
  have e (j : Fin 2048) : Cert.Reference18Ideal.Read.val_main_v26 (F := Ideal) x0 x1 x3 (ix1 j) = ∑ r : Fin 4096, t7 x0 x1 x3 j r := by
    rw [Cert.Reference18Ideal.Read.val_main_v26_apply]
    refine Eq.trans (congrArg₂ (fun a b : EReal => a + b) (x' := 0) (y' := ∑ r : Fin 4096, t7 x0 x1 x3 j r) ?_ (Finset.sum_congr rfl fun r _ => ?_)) (zero_add _)
    · pointwise [Cert.Reference18Ideal.Read.val_main_cst_6]
    · have h : Cert.Reference18Ideal.Read.idx_main_v26 (ix1 j) r = ix2 r j := by
        refine funext fun a => Fin.ext ?_
        fin_cases a <;> rfl
      rw [h]
      unfold t7
      refine Eq.trans ?_ (mul_comm (_ : EReal) _)
      refine congrArg₂ (fun a b : EReal => a * b) ?_ ?_
      · refine congrArg₂ (fun a b : EReal => a * b) (ref13 x0 r j) ?_
        pointwise [Cert.Reference18Ideal.Read.val_main_v14]
      · pointwise [Cert.Reference18Ideal.Read.val_main_v22]
  refine Eq.trans ?_ (e j)
  rw [Cert.Reference18Ideal.Read.val_main_v27_apply]
  refine congrArg _ (funext fun a => Fin.ext ?_)
  fin_cases a
  exact Nat.zero_add _

/-- The reference's gain's total. -/
theorem ref8 (x0 : FVec Ideal S4096x2048 .f32) (x2 : FVec Ideal S1x2048 .f32) (x3 : FVec Ideal S4096x2048 .f32) (j : Fin 2048) :
    Cert.Reference18Ideal.Read.val_main_v32 (F := Ideal) x0 x2 x3 (ix2 0 j) = ∑ r : Fin 4096, t8 x0 x2 x3 j r := by
  have e (j : Fin 2048) : Cert.Reference18Ideal.Read.val_main_v31 (F := Ideal) x0 x2 x3 (ix1 j) = ∑ r : Fin 4096, t8 x0 x2 x3 j r := by
    rw [Cert.Reference18Ideal.Read.val_main_v31_apply]
    refine Eq.trans (congrArg₂ (fun a b : EReal => a + b) (x' := 0) (y' := ∑ r : Fin 4096, t8 x0 x2 x3 j r) ?_ (Finset.sum_congr rfl fun r _ => ?_)) (zero_add _)
    · pointwise [Cert.Reference18Ideal.Read.val_main_cst_7]
    · have h : Cert.Reference18Ideal.Read.idx_main_v31 (ix1 j) r = ix2 r j := by
        refine funext fun a => Fin.ext ?_
        fin_cases a <;> rfl
      rw [h]
      unfold t8
      refine Eq.trans ?_ (mul_comm (_ : EReal) _)
      exact congrArg₂ (fun a b : EReal => a * b) (ref13 x0 r j) (ref29 x2 x3 r j)
  refine Eq.trans ?_ (e j)
  rw [Cert.Reference18Ideal.Read.val_main_v32_apply]
  refine congrArg _ (funext fun a => Fin.ext ?_)
  fin_cases a
  exact Nat.zero_add _

/-- The factor of the input in the reference's gradient of it, but for a factor two. -/
def q (x : (⟨2, ![4096, 2048]⟩ : Shape).Idx → EReal) (g s : (⟨2, ![1, 2048]⟩ : Shape).Idx → EReal) (d : (⟨2, ![4096, 2048]⟩ : Shape).Idx → EReal) (i : Fin 4096) : EReal :=
  Ideal.div ((∑ k : Fin 2048, x (ix2 i k) * dn g s d i k) * (Ideal.ofBits .f32 0xBF000000#32 * Ideal.div (Ideal.rsqrt (ms x i)) (ms x i))) (Ideal.ofBits .f32 0x45000000#32)

/-- The reference's gradient of the normalised input. -/
theorem ref34 (x0 : FVec Ideal S4096x2048 .f32) (x1 x2 : FVec Ideal S1x2048 .f32) (x3 : FVec Ideal S4096x2048 .f32) (i : Fin 4096) (j : Fin 2048) :
    Cert.Reference18Ideal.Read.val_main_v34 (F := Ideal) x1 x2 x3 (ix2 i j) = dn x1 x2 x3 i j := by
  unfold dn
  refine congrArg₂ (fun a b : EReal => a * b) (ref29 x2 x3 i j) ?_
  pointwise [Cert.Reference18Ideal.Read.val_main_v33]

/-- The reference's row sum. -/
theorem ref37 (x0 : FVec Ideal S4096x2048 .f32) (x1 x2 : FVec Ideal S1x2048 .f32) (x3 : FVec Ideal S4096x2048 .f32) (i : Fin 4096) :
    Cert.Reference18Ideal.Read.val_main_v37 (F := Ideal) x0 x1 x2 x3 (ix2 i 0) = ∑ k : Fin 2048, (x0 (ix2 i k) * dn x1 x2 x3 i k : EReal) := by
  have e (i : Fin 4096) : Cert.Reference18Ideal.Read.val_main_v36 (F := Ideal) x0 x1 x2 x3 (ix1 i) = ∑ k : Fin 2048, (x0 (ix2 i k) * dn x1 x2 x3 i k : EReal) := by
    rw [Cert.Reference18Ideal.Read.val_main_v36_apply]
    refine Eq.trans (congrArg₂ (fun a b : EReal => a + b) (x' := 0) (y' := ∑ k : Fin 2048, (x0 (ix2 i k) * dn x1 x2 x3 i k : EReal)) ?_ (Finset.sum_congr rfl fun k _ => ?_)) (zero_add _)
    · pointwise [Cert.Reference18Ideal.Read.val_main_cst_8]
    · have h : Cert.Reference18Ideal.Read.idx_main_v36 (ix1 i) k = ix2 i k := by
        refine funext fun a => Fin.ext ?_
        fin_cases a <;> rfl
      rw [h]
      exact congrArg₂ (fun a b : EReal => a * b) rfl (ref34 x0 x1 x2 x3 i k)
  refine Eq.trans ?_ (e i)
  rw [Cert.Reference18Ideal.Read.val_main_v37_apply]
  refine congrArg _ (funext fun a => Fin.ext ?_)
  fin_cases a
  show i.val * 1 + 0 = i.val
  omega

/-- The reference's factor of the input. -/
theorem ref45 (x0 : FVec Ideal S4096x2048 .f32) (x1 x2 : FVec Ideal S1x2048 .f32) (x3 : FVec Ideal S4096x2048 .f32) (i : Fin 4096) (j : Fin 2048) :
    Cert.Reference18Ideal.Read.val_main_v45 (F := Ideal) x0 x1 x2 x3 (ix2 i j) = q x0 x1 x2 x3 i := by
  have e : Cert.Reference18Ideal.Read.val_main_v43 (F := Ideal) x0 x1 x2 x3 (ix2 i 0) = q x0 x1 x2 x3 i := by
    unfold q
    refine congrArg₂ Ideal.div (congrArg₂ (fun a b : EReal => a * b) (ref37 x0 x1 x2 x3 i) ?_) ?_
    · unfold ms
      pointwise [Cert.Reference18Ideal.Read.val_main_v1, Cert.Reference18Ideal.Read.val_main_v2, Cert.Reference18Ideal.Read.val_main_v3, Cert.Reference18Ideal.Read.val_main_v4, Cert.Reference18Ideal.Read.val_main_v5, Cert.Reference18Ideal.Read.val_main_v6, Cert.Reference18Ideal.Read.val_main_v7, Cert.Reference18Ideal.Read.val_main_v8, Cert.Reference18Ideal.Read.val_main_v9, Cert.Reference18Ideal.Read.val_main_v10, Cert.Reference18Ideal.Read.val_main_v11, Cert.Reference18Ideal.Read.val_main_cst_0, Cert.Reference18Ideal.Read.val_main_cst_1, Cert.Reference18Ideal.Read.val_main_cst_2, Cert.Reference18Ideal.Read.val_main_cst_3]
    · pointwise [Cert.Reference18Ideal.Read.val_main_v42, Cert.Reference18Ideal.Read.val_main_cst_9]
  have e2 : Cert.Reference18Ideal.Read.val_main_v44 (F := Ideal) x0 x1 x2 x3 (ix1 i) = q x0 x1 x2 x3 i := by
    rw [Cert.Reference18Ideal.Read.val_main_v44_apply]
    refine Eq.trans (congrArg₂ (fun a b : EReal => a + b) (x' := 0) (y' := q x0 x1 x2 x3 i) ?_ ?_) (zero_add _)
    · pointwise [Cert.Reference18Ideal.Read.val_main_cst_10]
    · refine (Fin.sum_univ_one _).trans ?_
      refine Eq.trans (congrArg _ (funext fun a => Fin.ext ?_)) e
      fin_cases a <;> rfl
  refine Eq.trans ?_ e2
  rw [Cert.Reference18Ideal.Read.val_main_v45_apply]
  refine congrArg _ (funext fun a => Fin.ext ?_)
  fin_cases a
  rfl

/-- The reference's gradient of the input. -/
theorem ref49 (x0 : FVec Ideal S4096x2048 .f32) (x1 x2 : FVec Ideal S1x2048 .f32) (x3 x4 : FVec Ideal S4096x2048 .f32) (i : Fin 4096) (j : Fin 2048) :
    Cert.Reference18Ideal.Read.val_main_v49 (F := Ideal) x0 x1 x2 x3 x4 (ix2 i j)
    = (x4 (ix2 i j) + dn x1 x2 x3 i j * Ideal.rsqrt (ms x0 i) + x0 (ix2 i j) * q x0 x1 x2 x3 i + q x0 x1 x2 x3 i * x0 (ix2 i j) : EReal) := by
  refine congrArg₂ (fun a b : EReal => a + b) (congrArg₂ (fun a b : EReal => a + b) (congrArg₂ (fun a b : EReal => a + b) rfl (congrArg₂ (fun a b : EReal => a * b) (ref34 x0 x1 x2 x3 i j) ?_)) (congrArg₂ (fun a b : EReal => a * b) rfl (ref45 x0 x1 x2 x3 i j))) (congrArg₂ (fun a b : EReal => a * b) (ref45 x0 x1 x2 x3 i j) rfl)
  unfold ms
  pointwise [Cert.Reference18Ideal.Read.val_main_v1, Cert.Reference18Ideal.Read.val_main_v2, Cert.Reference18Ideal.Read.val_main_v3, Cert.Reference18Ideal.Read.val_main_v4, Cert.Reference18Ideal.Read.val_main_v5, Cert.Reference18Ideal.Read.val_main_v6, Cert.Reference18Ideal.Read.val_main_v7, Cert.Reference18Ideal.Read.val_main_v8, Cert.Reference18Ideal.Read.val_main_v38, Cert.Reference18Ideal.Read.val_main_cst_0, Cert.Reference18Ideal.Read.val_main_cst_1, Cert.Reference18Ideal.Read.val_main_cst_2]

/-- A nonnegative real factor enters a sum. -/
theorem mul_add_real (r : ℝ) (h : 0 ≤ r) (a b : EReal) : (r : EReal) * (a + b) = r * a + r * b :=
  EReal.left_distrib_of_nonneg_of_ne_top (EReal.coe_nonneg.mpr h) (EReal.coe_ne_top _) _ _

/-- A nonnegative real factor enters a sum of many terms. -/
theorem mul_sum_real {ι : Type*} (t : Finset ι) (r : ℝ) (h : 0 ≤ r) (f : ι → EReal) : (r : EReal) * ∑ k ∈ t, f k = ∑ k ∈ t, (r : EReal) * f k := by
  classical
  induction t using Finset.induction_on with
  | empty => simp
  | insert a t ha ih => rw [Finset.sum_insert ha, Finset.sum_insert ha, mul_add_real r h, ih]

/-- A value added to itself. -/
theorem add_self (y : EReal) : y + y = ((2 : ℝ) : EReal) * y := by
  have h := EReal.right_distrib_of_nonneg (c := y) zero_le_one zero_le_one
  rw [one_mul] at h
  rw [← h]
  refine congrArg (fun a : EReal => a * y) ?_
  rw [← EReal.coe_one, ← EReal.coe_add]
  exact congrArg _ (by norm_num)

/-- A row with an infinite entry has an infinite mean square. -/
theorem ms_top {n : ℕ} (x : (⟨2, ![n, 2048]⟩ : Shape).Idx → EReal) (i : Fin n) (k : Fin 2048) (h : x (ix2 i k) = ⊤ ∨ x (ix2 i k) = ⊥) : ms x i = ⊤ := by
  have hk : x (ix2 i k) * x (ix2 i k) = ⊤ := by rcases h with h | h <;> rw [h] <;> rfl
  have hn (a : EReal) : 0 ≤ a * a := by
    rcases le_total 0 a with h | h
    · exact mul_nonneg h h
    · rw [← neg_mul_neg]
      exact mul_nonneg (EReal.neg_nonneg.mpr h) (EReal.neg_nonneg.mpr h)
  have hs : ∑ k : Fin 2048, x (ix2 i k) * x (ix2 i k) = ⊤ := by
    refine top_le_iff.mp (hk.symm.le.trans ?_)
    exact Finset.single_le_sum (f := fun k : Fin 2048 => x (ix2 i k) * x (ix2 i k)) (fun k _ => hn _) (Finset.mem_univ k)
  unfold ms
  rw [hs, Cert.Lift.lit_2048, Ideal.div_coe (by norm_num), EReal.top_mul_coe_of_pos (by norm_num), Cert.Lift.lit_eps, EReal.top_add_coe]

/-- The two forms of a row's entry agree. -/
theorem row (x : (⟨2, ![4096, 2048]⟩ : Shape).Idx → EReal) (g s : (⟨2, ![1, 2048]⟩ : Shape).Idx → EReal) (d r : (⟨2, ![4096, 2048]⟩ : Shape).Idx → EReal) (i : Fin 4096) (j : Fin 2048) :
    t5 x g s d r i j = r (ix2 i j) + dn g s d i j * Ideal.rsqrt (ms x i) + x (ix2 i j) * q x g s d i + q x g s d i * x (ix2 i j) := by
  unfold t5 q
  generalize dn g s d i = D
  by_cases hall : ∃ k : Fin 2048, x (ix2 i k) = ⊤ ∨ x (ix2 i k) = ⊥
  · obtain ⟨k, hk⟩ := hall
    rw [ms_top x i k hk, Ideal.rsqrt_top]
    have h0 : Ideal.div 0 ⊤ = 0 := by unfold Ideal.div; simp
    rw [h0, Cert.Lift.lit_2048, Ideal.div_coe (by norm_num), Ideal.div_coe (by norm_num)]
    simp only [mul_zero, zero_mul, add_zero]
  · have ex (k : Fin 2048) : x (ix2 i k) = ((x (ix2 i k)).toReal : EReal) :=
      (EReal.coe_toReal (fun h => hall ⟨k, .inl h⟩) (fun h => hall ⟨k, .inr h⟩)).symm
    generalize hX : (fun k : Fin 2048 => (x (ix2 i k)).toReal) = X
    replace ex (k : Fin 2048) : x (ix2 i k) = ((X k : ℝ) : EReal) := by rw [← hX]; exact ex k
    have ems : ms x i = (((∑ k : Fin 2048, X k * X k) / 2048 + Model.cE : ℝ) : EReal) := by
      unfold ms
      simp only [ex, ← EReal.coe_mul]
      rw [Cert.Lift.coe_sum, Cert.Lift.lit_2048, Cert.Lift.div_2048, Cert.Lift.lit_eps, ← EReal.coe_add]
    have hv : 0 < (∑ k : Fin 2048, X k * X k) / 2048 + Model.cE := by
      have h1 : 0 ≤ ∑ k : Fin 2048, X k * X k := Finset.sum_nonneg fun k _ => mul_self_nonneg _
      have h2 : 0 < Model.cE := by unfold Model.cE; norm_num
      positivity
    generalize (∑ k : Fin 2048, X k * X k) / 2048 + Model.cE = v at *
    simp only [ex, ems, Cert.Lift.rsqrt_pos _ hv, Cert.Lift.lit_2048, Cert.Lift.lit_neg_half, Cert.Lift.div_pos_coe _ _ hv, ← EReal.coe_mul, Ideal.div_coe (show (2048 : ℝ) ≠ 0 by norm_num)]
    have hr : (√v)⁻¹ * (√v)⁻¹ = v⁻¹ := by rw [← mul_inv, Real.mul_self_sqrt hv.le]
    have hp : 0 ≤ (√v)⁻¹ := inv_nonneg.mpr (Real.sqrt_nonneg _)
    generalize hρ : (√v)⁻¹ = ρ at *
    have hS : ∑ k : Fin 2048, D k * ((X k * ρ : ℝ) : EReal) = ρ * ∑ k : Fin 2048, (X k : EReal) * D k := by
      rw [mul_sum_real _ _ hp]
      refine Finset.sum_congr rfl fun k _ => ?_
      rw [EReal.coe_mul]
      ac_rfl
    rw [hS]
    generalize ∑ k : Fin 2048, (X k : EReal) * D k = S
    have hL : (ρ : EReal) * (D j - ((X j * ρ : ℝ) : EReal) * ((ρ : EReal) * S * ((1 / 2048 : ℝ) : EReal))) = D j * ρ + (((-(X j * ρ * ρ * ρ / 2048)) : ℝ) : EReal) * S := by
      rw [sub_eq_add_neg, mul_add_real ρ hp, mul_comm (D j) (ρ : EReal), ← EReal.neg_mul, ← EReal.coe_neg]
      refine congrArg (fun a : EReal => (ρ : EReal) * D j + a) ?_
      rw [show (-(X j * ρ * ρ * ρ / 2048) : ℝ) = ρ * (-(X j * ρ)) * ρ * (1 / 2048) by ring]
      simp only [EReal.coe_mul]
      ac_rfl
    have hR : (X j : EReal) * (S * ((-(1 / 2) * (ρ / v) : ℝ) : EReal) * ((1 / 2048 : ℝ) : EReal)) = (((-(1 / 2)) * (ρ / v) * (1 / 2048) * X j : ℝ) : EReal) * S := by
      rw [EReal.coe_mul (-(1 / 2) * (ρ / v) * (1 / 2048)) (X j), EReal.coe_mul (-(1 / 2) * (ρ / v)) (1 / 2048)]
      ac_rfl
    rw [hL, mul_comm (S * _ * _) (X j : EReal), hR, add_assoc, add_assoc, add_self, ← mul_assoc, ← EReal.coe_mul]
    refine congrArg (fun a : EReal => r (ix2 i j) + a) (congrArg (fun a : EReal => D j * ρ + a) (congrArg (fun a : EReal => a * S) (congrArg _ ?_)))
    rw [div_eq_mul_inv ρ v, ← hr]
    ring

/-- The rows a point leaves. -/
theorem row5 (t : Fin cfg0.N) : (outsAt0 m c t.val t.isLt).1 = k0_pay3 (F := Ideal) (k0_pay7 (iblk m c 0 t)) (k0_pay8 (iblk m c 0 t)) (iblk m c 1 t) (iblk m c 3 t) (iblk m c 2 t) (Scalar.ofBits .f32 0x3F800000#32) (iblk m c 4 t) := by
  by_cases h : t.val % 16 = 0
  · have e := outsAt0_A m c t h
    rw [out5_A] at e
    rw [e]
  · have e := outsAt0_B m c t h
    rw [out5_B] at e
    rw [e]

/-- The input's gradient. -/
theorem arr5 : ((dats m 0 c).arrAt 5 cfg0.N : FVec Ideal S4096x2048 .f32)
    = Cert.Reference18Ideal.Read.val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  idx_vars y
  rw [row5, pay3, b5 m c _ _ _ _ _ rfl rfl rfl rfl rfl]
  refine Eq.trans ?_ (congrArg _ (emb5 t y0 y1)).symm
  rw [ref49]
  exact row _ _ _ _ _ _ _

/-- The shift's total. -/
theorem arr6 : ((dats m 0 c).arrAt 6 cfg0.N : FVec Ideal S1x2048 .f32)
    = Cert.Reference18Ideal.Read.val_main_v24 (F := Ideal) (m ((c : Thread nD τ).loc main_arg3)) := by
  refine (dats m 0 c).arrAt_eq_of_covers 6 _ (by decide +kernel) fun t hf y => ?_
  have h : t.val = 15 := by have := (flush0_6 t).mp hf; have := t.isLt.trans_eq N_0; omega
  blk_simp
  rw [after0_6]
  idx_vars y
  obtain rfl : y0 = 0 := Subsingleton.elim _ _
  rw [tot6 m c _ _ _ _ rfl rfl rfl rfl y1]
  refine Eq.trans ?_ (congrArg _ (emb6 t 0 y1)).symm
  rw [ref6, h]
  exact Rows.upto_all _

/-- The scale's total. -/
theorem arr7 : ((dats m 0 c).arrAt 7 cfg0.N : FVec Ideal S1x2048 .f32)
    = Cert.Reference18Ideal.Read.val_main_v27 (F := Ideal) (m ((c : Thread nD τ).loc main_arg0)) (m ((c : Thread nD τ).loc main_arg1)) (m ((c : Thread nD τ).loc main_arg3)) := by
  refine (dats m 0 c).arrAt_eq_of_covers 7 _ (by decide +kernel) fun t hf y => ?_
  have h : t.val = 15 := by have := (flush0_7 t).mp hf; have := t.isLt.trans_eq N_0; omega
  blk_simp
  rw [after0_7]
  idx_vars y
  obtain rfl : y0 = 0 := Subsingleton.elim _ _
  rw [tot7 m c _ _ _ _ rfl rfl rfl rfl y1]
  refine Eq.trans ?_ (congrArg _ (emb7 t 0 y1)).symm
  rw [ref7, h]
  exact Rows.upto_all _

/-- The gain's total. -/
theorem arr8 : ((dats m 0 c).arrAt 8 cfg0.N : FVec Ideal S1x2048 .f32)
    = Cert.Reference18Ideal.Read.val_main_v32 (F := Ideal) (m ((c : Thread nD τ).loc main_arg0)) (m ((c : Thread nD τ).loc main_arg2)) (m ((c : Thread nD τ).loc main_arg3)) := by
  refine (dats m 0 c).arrAt_eq_of_covers 8 _ (by decide +kernel) fun t hf y => ?_
  have h : t.val = 15 := by have := (flush0_8 t).mp hf; have := t.isLt.trans_eq N_0; omega
  blk_simp
  rw [after0_8]
  idx_vars y
  obtain rfl : y0 = 0 := Subsingleton.elim _ _
  rw [tot8 m c _ _ _ _ rfl rfl rfl rfl y1]
  refine Eq.trans ?_ (congrArg _ (emb8 t 0 y1)).symm
  rw [ref8, h]
  exact Rows.upto_all _

/-- The reference runs, leaves its arguments and its counters. -/
theorem frame_ri : Cert.quiescent_Reference18Ideal := fun m ρ _ =>
  (θ_run Cert.Reference18Ideal.defs _ _).mono (fun r h => ⟨fun c => (h c).2.2.2.2,
      Idealize.ShloMosaic.sem_eq_zero_of_no_sems (by decide) r.2⟩)
    (Cert.Reference18Ideal.Value.run (F := Ideal) m ρ)

/-- At the ideal reading the kernel leaves what the reference leaves. -/
theorem algebraic : Cert.algebraic_Kernel18Ideal_Reference18Ideal := by
  intro m ρ m' ρ' _ hagree
  refine ⟨fun c => (dats m 0 c).arrAt 5 cfg0.N, fun c => (dats m 0 c).arrAt 6 cfg0.N, fun c => (dats m 0 c).arrAt 7 cfg0.N, fun c => (dats m 0 c).arrAt 8 cfg0.N, Cert.Kernel18Ideal.Value.run_blocks m ρ, ?_⟩
  refine (θ_run Cert.Reference18Ideal.defs _ _).mono (fun r h c => ⟨(h c).1.trans ?_, (h c).2.1.trans ?_, (h c).2.2.1.trans ?_, (h c).2.2.2.1.trans ?_, (h c).2.2.2.2⟩) (Cert.Reference18Ideal.Value.run (F := Ideal) m' ρ')
  all_goals obtain ⟨e0, e1, e2, e3, e4⟩ := hagree c
  · refine (Cert.Reference18Ideal.Read.val_main_v49_eq m' c).trans ?_
    rw [e0, e1, e2, e3, e4]
    exact (arr5 m c).symm
  · rw [e3]
    exact (Cert.Reference18Ideal.Read.val_main_v24_eq _).trans (arr6 m c).symm
  · rw [e0, e1, e3]
    exact (Cert.Reference18Ideal.Read.val_main_v27_eq _ _ _).trans (arr7 m c).symm
  · rw [e0, e2, e3]
    exact (Cert.Reference18Ideal.Read.val_main_v32_eq _ _ _).trans (arr8 m c).symm

end Cert.Mm18

end
-- ==== Proof.Mm19.lean ====
/- The norm and its modulation, forward. -/
module

public import proofs.«01_k».proof.Proof.Gen.Kernel19Ideal.Value
public import proofs.«01_k».proof.Proof.Gen.Kernel19.Frame
public import proofs.«01_k».proof.Proof.Gen.Reference19Ideal.Run
public import proofs.«01_k».proof.Proof.Gen.Reference19Ideal.Read
public import Idealize.ShloMosaic.Lib.Pointwise
public import Idealize.ShloMosaic.Lib.Pipeline.ReadBack
public import Idealize.ShloMosaic.Lib.Pipeline.ValueKit
public import proofs.«01_k».proof.Defs

@[expose] public section

set_option maxRecDepth 16384

noncomputable section

namespace Cert.Mm19

open Idealize.ShloMosaic Idealize.ShloMosaic.TcCoe Idealize.SL.Sem Cert.Kernel19Ideal Cert.Kernel19Ideal.Gen

variable (m : (ℓ : Loc nD τ sig) → Buf (Elt Ideal) ℓ) (c : Dev nD)

/-- Which block each window holds at a point. -/
theorem idx : ∀ t : Fin cfg0.N, win0_0.index t = ![t.val, 0] ∧ win0_1.index t = ![0, 0] ∧ win0_2.index t = ![0, 0]
    ∧ win0_3.index t = ![0, 0] ∧ win0_4.index t = ![t.val, 0] := by
  decide +kernel

variable (x : FVec Ideal S256x2048 .f32) (g s b : FVec Ideal S1x2048 .f32)

/-- The block a point leaves. -/
theorem out : out0_4 (F := Ideal) x g s b = k0_pay1 (F := Ideal) x g s b := by
  frame_open
  frame_out

/-- A row's mean square with the small constant. -/
def ms {n : ℕ} (x : (⟨2, ![n, 2048]⟩ : Shape).Idx → EReal) (i : Fin n) : EReal :=
  Ideal.div (∑ k : Fin 2048, x (ix2 i k) * x (ix2 i k)) (Ideal.ofBits .f32 0x45000000#32) + Ideal.ofBits .f32 0x358637BD#32

/-- An entry of a block's normalised and modulated rows. -/
theorem pay (i : Fin 256) (j : Fin 2048) : k0_pay1 (F := Ideal) x g s b (ix2 i j)
    = (x (ix2 i j) * Ideal.rsqrt (ms x i) * g (ix2 0 j) * (Ideal.ofBits .f32 0x3F800000#32 + s (ix2 0 j)) + b (ix2 0 j) : EReal) := by
  unfold ms
  pointwise [k0_pay1]

/-- The reference's entry. -/
theorem refv (x : FVec Ideal S4096x2048 .f32) (i : Fin 4096) (j : Fin 2048) :
    Cert.Reference19Ideal.Read.val_main_v18 (F := Ideal) x g s b (ix2 i j)
    = (x (ix2 i j) * Ideal.rsqrt (ms x i) * g (ix2 0 j) * (Ideal.ofBits .f32 0x3F800000#32 + s (ix2 0 j)) + b (ix2 0 j) : EReal) := by
  unfold ms
  pointwise [Cert.Reference19Ideal.Read.val_main_v18, Cert.Reference19Ideal.Read.val_main_v17, Cert.Reference19Ideal.Read.val_main_v16, Cert.Reference19Ideal.Read.val_main_v15, Cert.Reference19Ideal.Read.val_main_v14, Cert.Reference19Ideal.Read.val_main_v13, Cert.Reference19Ideal.Read.val_main_v12, Cert.Reference19Ideal.Read.val_main_v11, Cert.Reference19Ideal.Read.val_main_v10, Cert.Reference19Ideal.Read.val_main_v9, Cert.Reference19Ideal.Read.val_main_v8, Cert.Reference19Ideal.Read.val_main_v7, Cert.Reference19Ideal.Read.val_main_v6, Cert.Reference19Ideal.Read.val_main_v5, Cert.Reference19Ideal.Read.val_main_v4, Cert.Reference19Ideal.Read.val_main_v3, Cert.Reference19Ideal.Read.val_main_v2, Cert.Reference19Ideal.Read.val_main_v1, Cert.Reference19Ideal.Read.val_main_v0, Cert.Reference19Ideal.Read.val_main_cst, Cert.Reference19Ideal.Read.val_main_cst_0, Cert.Reference19Ideal.Read.val_main_cst_1, Cert.Reference19Ideal.Read.val_main_cst_2]

/-- A row of a point's block, by the array. -/
theorem blk0 (x0 : FVec Ideal S4096x2048 .f32) (h0 : m ((c : Thread nD τ).loc main_arg0) = x0) (t : Fin cfg0.N) (i : Fin 256) (j : Fin 2048) :
    (iblk m c 0 t : FVec Ideal S256x2048 .f32) (ix2 i j) = x0 (ix2 (⟨t.val * 256 + i.val, by have := t.isLt.trans_eq N_0; omega⟩ : Fin 4096) j) := by
  subst h0
  blk_simp [iblk, idx t]
  rw [V_main_arg0]
  refine congrArg _ (funext fun a => Fin.ext ?_)
  fin_cases a
  all_goals
    blk_simp [idx t]
    try rfl

/-- The norm gain, at every point. -/
theorem blk1 (x1 : FVec Ideal S1x2048 .f32) (h1 : m ((c : Thread nD τ).loc main_arg1) = x1) (t : Fin cfg0.N) (j : Fin 2048) :
    (iblk m c 1 t : FVec Ideal S1x2048 .f32) (ix2 0 j) = x1 (ix2 0 j) := by
  subst h1
  blk_simp [iblk, idx t]
  rw [V_main_arg1]
  refine congrArg _ (funext fun a => Fin.ext ?_)
  fin_cases a
  all_goals
    blk_simp [idx t]
    try rfl

/-- The scale, at every point. -/
theorem blk2 (x2 : FVec Ideal S1x2048 .f32) (h2 : m ((c : Thread nD τ).loc main_arg2) = x2) (t : Fin cfg0.N) (j : Fin 2048) :
    (iblk m c 2 t : FVec Ideal S1x2048 .f32) (ix2 0 j) = x2 (ix2 0 j) := by
  subst h2
  blk_simp [iblk, idx t]
  rw [V_main_arg2]
  refine congrArg _ (funext fun a => Fin.ext ?_)
  fin_cases a
  all_goals
    blk_simp [idx t]
    try rfl

/-- The shift, at every point. -/
theorem blk3 (x3 : FVec Ideal S1x2048 .f32) (h3 : m ((c : Thread nD τ).loc main_arg3) = x3) (t : Fin cfg0.N) (j : Fin 2048) :
    (iblk m c 3 t : FVec Ideal S1x2048 .f32) (ix2 0 j) = x3 (ix2 0 j) := by
  subst h3
  blk_simp [iblk, idx t]
  rw [V_main_arg3]
  refine congrArg _ (funext fun a => Fin.ext ?_)
  fin_cases a
  all_goals
    blk_simp [idx t]
    try rfl

/-- Where a point's rows lie in the result. -/
theorem emb (t : Fin cfg0.N) (i : Fin 256) (j : Fin 2048) : (win0_4.blk t).view.emb (ix2 i j)
    = ix2 (⟨t.val * 256 + i.val, by have := t.isLt.trans_eq N_0; omega⟩ : Fin 4096) j := by
  refine funext fun a => Fin.ext ?_
  fin_cases a <;> blk_simp [idx t] <;> rfl

/-- A row's mean square, by the array. -/
theorem blkms (x0 : FVec Ideal S4096x2048 .f32) (h0 : m ((c : Thread nD τ).loc main_arg0) = x0) (t : Fin cfg0.N) (i : Fin 256) :
    ms (iblk m c 0 t : FVec Ideal S256x2048 .f32) i = ms x0 (⟨t.val * 256 + i.val, by have := t.isLt.trans_eq N_0; omega⟩ : Fin 4096) := by
  unfold ms
  simp only [blk0 m c x0 h0]

/-- The array the kernel leaves is the reference's. -/
theorem arr : ((dats m 0 c).arrAt 4 cfg0.N : FVec Ideal S4096x2048 .bf16)
    = Cert.Reference19Ideal.Read.val_main_v18 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4, out]
  idx_vars y
  rw [pay, blkms m c _ rfl, blk0 m c _ rfl, blk1 m c _ rfl, blk2 m c _ rfl, blk3 m c _ rfl]
  refine Eq.trans ?_ (congrArg _ (emb t y0 y1)).symm
  rw [refv]

/-- The reference runs, leaves its arguments and its counters. -/
theorem frame_ri : Cert.quiescent_Reference19Ideal := fun m ρ _ =>
  (θ_run Cert.Reference19Ideal.defs _ _).mono (fun r h => ⟨fun c => (h c).2,
      Idealize.ShloMosaic.sem_eq_zero_of_no_sems (by decide) r.2⟩)
    (Cert.Reference19Ideal.Value.run (F := Ideal) m ρ)

/-- At the ideal reading the kernel leaves what the reference leaves. -/
theorem algebraic : Cert.algebraic_Kernel19Ideal_Reference19Ideal := by
  intro m ρ m' ρ' _ hagree
  refine ⟨fun c => (dats m 0 c).arrAt 4 cfg0.N, Cert.Kernel19Ideal.Value.run_blocks m ρ, ?_⟩
  refine (θ_run Cert.Reference19Ideal.defs _ _).mono (fun r h c => ⟨(h c).1.trans ?_, (h c).2⟩) (Cert.Reference19Ideal.Value.run (F := Ideal) m' ρ')
  obtain ⟨e0, e1, e2, e3⟩ := hagree c
  rw [e0, e1, e2, e3]
  exact (Cert.Reference19Ideal.Read.val_main_v18_eq _ _ _ _).trans (arr m c).symm

end Cert.Mm19

end
-- ==== Proof.Conv.lean ====
/- The three taps of a causal convolution along the rows, read from a block of rows and the rows before it. -/
module

public import Idealize.ShloMosaic.Lib.Pointwise
public import Idealize.ShloMosaic.Lib.WordCmp

@[expose] public section

noncomputable section

namespace Cert.Conv

open Idealize.ShloMosaic

/-- A column's value some rows above, zero above the array. -/
def tap (k : ℕ) (f : ℕ → EReal) (r : ℕ) : EReal := if r < k then 0 else f (r - k)

/-- The convolution of a column. -/
def cv (w0 w1 w2 b : EReal) (f : ℕ → EReal) (r : ℕ) : EReal :=
  w0 * tap 2 f r + w1 * tap 1 f r + w2 * f r + b

/-- Comparing a small number with a smaller one. -/
theorem eq_word (n k : ℕ) (hn : n < 4096) (hk : k < 4096) : IntOp.cmpi .eq (BitVec.ofNat 32 n) (BitVec.ofNat 32 k) = BitVec.ofBool (decide (n = k)) :=
  WordCmp.cmpi_eq_ofNat (by omega) (by omega)

/-- Whether a small number is positive. -/
theorem pos_word (n : ℕ) (hn : n < 4096) : Scalar.cmpi .sgt (BitVec.ofNat 32 n) 0#32 = BitVec.ofBool (decide (0 < n)) :=
  WordCmp.cmpi_sgt_ofNat (a := n) (b := 0) (by omega) (by omega)

/-- The row above, as a block of rows reads it. -/
theorem tap1 (i r : ℕ) (hr : r < 512) (hi : i < 4096) (f : ℕ → EReal) (h7 a : EReal)
    (e7 : 0 < i → h7 = f (i * 512 - 1)) (ea : 0 < r → a = f (i * 512 + r - 1)) :
    Scalar.select (IntOp.cmpi .eq (BitVec.ofNat 32 r) 0#32) (Scalar.select (Scalar.cmpi .sgt (BitVec.ofNat 32 i) 0#32) h7 0) a
    = tap 1 f (i * 512 + r) := by
  rw [eq_word r 0 (by omega) (by omega), pos_word i hi, WordCmp.select_ofBool, WordCmp.select_ofBool]
  unfold tap
  rcases Nat.eq_zero_or_pos r with rfl | h
  · rcases Nat.eq_zero_or_pos i with rfl | h'
    · simp
    · rw [if_pos (by simp), if_pos (by simp [h']), if_neg (by omega), e7 h']
      rfl
  · rw [if_neg (by simp; omega), if_neg (by omega), ea h]

/-- The row two above, as a block of rows reads it. -/
theorem tap2 (i r : ℕ) (hr : r < 512) (hi : i < 4096) (f : ℕ → EReal) (h7 h6 a : EReal)
    (e7 : 0 < i → h7 = f (i * 512 - 1)) (e6 : 0 < i → h6 = f (i * 512 - 2)) (ea : 1 < r → a = f (i * 512 + r - 2)) :
    Scalar.select (IntOp.cmpi .eq (BitVec.ofNat 32 r) 0#32) (Scalar.select (Scalar.cmpi .sgt (BitVec.ofNat 32 i) 0#32) h6 0)
      (Scalar.select (IntOp.cmpi .eq (BitVec.ofNat 32 r) 1#32) (Scalar.select (Scalar.cmpi .sgt (BitVec.ofNat 32 i) 0#32) h7 0) a)
    = tap 2 f (i * 512 + r) := by
  rw [eq_word r 0 (by omega) (by omega), eq_word r 1 (by omega) (by omega), pos_word i hi]
  simp only [WordCmp.select_ofBool, decide_eq_true_eq]
  unfold tap
  by_cases h0 : r = 0
  · subst h0
    by_cases h' : 0 < i
    · rw [if_pos rfl, if_pos h', if_neg (by omega), e6 h']
      rfl
    · rw [if_pos rfl, if_neg h', if_pos (by omega)]
  · rw [if_neg h0]
    by_cases h1 : r = 1
    · subst h1
      by_cases h' : 0 < i
      · rw [if_pos rfl, if_pos h', if_neg (by omega), e7 h']
        exact congrArg f (by omega)
      · rw [if_pos rfl, if_neg h', if_pos (by omega)]
    · rw [if_neg h1, if_neg (by omega), ea (by omega)]

end Cert.Conv

end
-- ==== Proof.Mm20.lean ====
/- The FFN's causal convolution and gated unit, forward. -/
module

public import proofs.«01_k».proof.Proof.Gen.Kernel20Ideal.Value
public import proofs.«01_k».proof.Proof.Gen.Kernel20.Frame
public import proofs.«01_k».proof.Proof.Gen.Reference20Ideal.Run
public import proofs.«01_k».proof.Proof.Gen.Reference20Ideal.Read
public import Idealize.ShloMosaic.Lib.Pointwise
public import Idealize.ShloMosaic.Lib.Pipeline.ReadBack
public import Idealize.ShloMosaic.Lib.Pipeline.ValueKit
public import proofs.«01_k».proof.Proof.Conv
public import proofs.«01_k».proof.Defs

@[expose] public section

set_option maxRecDepth 16384

noncomputable section

namespace Cert.Mm20

open Idealize.ShloMosaic Idealize.ShloMosaic.TcCoe Idealize.SL.Sem Cert.Kernel20Ideal Cert.Kernel20Ideal.Gen

variable (m : (ℓ : Loc nD τ sig) → Buf (Elt Ideal) ℓ) (c : Dev nD)

/-- Which block each window holds at a point. -/
theorem idx : ∀ t : Fin cfg0.N, win0_0.index t = ![0, t.val % 8, t.val / 8] ∧ win0_1.index t = ![0, t.val % 8 * 64 - 1, t.val / 8] ∧ win0_2.index t = ![0, t.val / 8]
    ∧ win0_3.index t = ![0, t.val / 8 + 11] ∧ win0_4.index t = ![0, t.val / 8] ∧ win0_5.index t = ![0, t.val / 8 + 11] ∧ win0_6.index t = ![t.val % 8, t.val / 8] := by
  decide +kernel

/-- A point's place among the blocks of rows. -/
theorem place : ∀ t : Fin cfg0.N, ((grid0.coords t) 1).val = t.val % 8 := by
  decide +kernel

section
variable (i : grid0.Coords) (x0 : FVec Ideal S2x512x512 .f32) (x1 : FVec Ideal S2x8x512 .f32) (x2 x3 : FVec Ideal S3x512 .f32) (x4 x5 : FVec Ideal S1x512 .f32)

/-- The block a point leaves. -/
theorem out : out0_6 (F := Ideal) i x0 x1 x2 x3 x4 x5 = k0_pay1 (F := Ideal) (k0_pay4 (k0_pay2 (View.ld x0 r0_0)) (k0_pay3 i (View.ld x0 r0_0) (View.ld x1 r0_1) (View.ld x1 r0_2) (View.ld x2 r0_3) (View.ld x2 r0_4)) (View.ld x2 r0_5) (View.ld x4 r0_6))
    (k0_pay5 (View.ld x0 r0_7)) (k0_pay7 (Scalar.cmpi .sgt (BitVec.ofNat 32 (i 1).val) 0#32) (iota .tc S512x512 32 [0] iota_S512x512_d0_w32) (View.ld x0 r0_7) (View.ld x1 r0_8))
    (k0_pay8 (Scalar.cmpi .sgt (BitVec.ofNat 32 (i 1).val) 0#32) (iota .tc S512x512 32 [0] iota_S512x512_d0_w32) (View.ld x0 r0_7) (View.ld x1 r0_8) (View.ld x1 r0_9) (View.ld x3 r0_3)) (View.ld x3 r0_4) (View.ld x3 r0_5) (View.ld x5 r0_6) := by
  unfold_out out0_6
  frame_out

/-- The gated unit. -/
def glu (g u : EReal) : EReal := g * Ideal.logistic g * u

/-- An entry of what a point leaves, by the columns of the two halves. -/
theorem val (r c : Fin 512) (p : ℕ) (hp : p < 4096) (hi : (i 1).val = p) (f g : ℕ → EReal)
    (f0 : ∀ r : Fin 512, x0 (ix3 0 r c) = f (p * 512 + r.val)) (g0 : ∀ r : Fin 512, x0 (ix3 1 r c) = g (p * 512 + r.val))
    (f7 : 0 < p → x1 (ix3 0 7 c) = f (p * 512 - 1)) (f6 : 0 < p → x1 (ix3 0 6 c) = f (p * 512 - 2))
    (g7 : 0 < p → x1 (ix3 1 7 c) = g (p * 512 - 1)) (g6 : 0 < p → x1 (ix3 1 6 c) = g (p * 512 - 2)) :
    out0_6 (F := Ideal) i x0 x1 x2 x3 x4 x5 (ix2 r c)
    = glu (Conv.cv (x2 (ix2 0 c)) (x2 (ix2 1 c)) (x2 (ix2 2 c)) (x4 (ix2 0 c)) f (p * 512 + r.val))
        (Conv.cv (x3 (ix2 0 c)) (x3 (ix2 1 c)) (x3 (ix2 2 c)) (x5 (ix2 0 c)) g (p * 512 + r.val)) := by
  rw [out]
  unfold glu Conv.cv
  have hr := r.isLt
  rw [← Conv.tap1 p r.val hr hp f (x1 (ix3 0 7 c)) (x0 (ix3 0 (⟨(r.val + 512 - 1) % 512, by omega⟩ : Fin 512) c)) f7 (fun h => (f0 _).trans (congrArg f (by show p * 512 + (r.val + 512 - 1) % 512 = p * 512 + r.val - 1; omega))),
    ← Conv.tap1 p r.val hr hp g (x1 (ix3 1 7 c)) (x0 (ix3 1 (⟨(r.val + 512 - 1) % 512, by omega⟩ : Fin 512) c)) g7 (fun h => (g0 _).trans (congrArg g (by show p * 512 + (r.val + 512 - 1) % 512 = p * 512 + r.val - 1; omega))),
    ← Conv.tap2 p r.val hr hp f (x1 (ix3 0 7 c)) (x1 (ix3 0 6 c)) (x0 (ix3 0 (⟨(r.val + 512 - 2) % 512, by omega⟩ : Fin 512) c)) f7 f6 (fun h => (f0 _).trans (congrArg f (by show p * 512 + (r.val + 512 - 2) % 512 = p * 512 + r.val - 2; omega))),
    ← Conv.tap2 p r.val hr hp g (x1 (ix3 1 7 c)) (x1 (ix3 1 6 c)) (x0 (ix3 1 (⟨(r.val + 512 - 2) % 512, by omega⟩ : Fin 512) c)) g7 g6 (fun h => (g0 _).trans (congrArg g (by show p * 512 + (r.val + 512 - 2) % 512 = p * 512 + r.val - 2; omega))),
    ← f0 r, ← g0 r, ← hi]
  pointwise [k0_pay1, k0_pay2, k0_pay3, k0_pay4, k0_pay5, k0_pay6, k0_pay7, k0_pay8]
end

/-- A column of one half, zero below the array. -/
def col (a : FVec Ideal S2x4096x5632 .f32) (s : Fin 2) (j : Fin 5632) (r : ℕ) : EReal :=
  if h : r < 4096 then a (ix3 s ⟨r, h⟩ j) else 0

/-- The reference's two halves side by side. -/
theorem ref4 (x0 : FVec Ideal S2x4096x5632 .f32) (r : Fin 4096) (j : Fin 11264) :
    Cert.Reference20Ideal.Read.val_main_v4 (F := Ideal) x0 (ix2 r j) = if h : j.val < 5632 then x0 (ix3 0 r ⟨j.val, h⟩) else x0 (ix3 1 r ⟨j.val - 5632, by omega⟩) := by
  pointwise [Cert.Reference20Ideal.Read.val_main_v4, Cert.Reference20Ideal.Read.val_main_v3, Cert.Reference20Ideal.Read.val_main_v2, Cert.Reference20Ideal.Read.val_main_v1, Cert.Reference20Ideal.Read.val_main_v0]

/-- The reference's padded rows, by the rows. -/
theorem ref7' (x0 : FVec Ideal S2x4096x5632 .f32) (r : Fin 4098) (j : Fin 11264) :
    Cert.Reference20Ideal.Read.val_main_v7 (F := Ideal) x0 (ix2 r j) = if h : r.val < 2 then (0 : EReal) else Cert.Reference20Ideal.Read.val_main_v4 (F := Ideal) x0 (ix2 (⟨r.val - 2, by omega⟩ : Fin 4096) j) := by
  have z : ∀ (r : Fin 2) (j : Fin 11264), Cert.Reference20Ideal.Read.val_main_v6 (F := Ideal) (ix2 r j) = (0 : EReal) := fun r j => by
    pointwise [Cert.Reference20Ideal.Read.val_main_v6, Cert.Reference20Ideal.Read.val_main_cst]
  unfold Cert.Reference20Ideal.Read.val_main_v7
  generalize Cert.Reference20Ideal.Read.val_main_v4 (F := Ideal) x0 = y at *
  generalize Cert.Reference20Ideal.Read.val_main_v6 (F := Ideal) = q at *
  pointwise []
  simp only [z]

/-- The reference's padded rows. -/
theorem ref7 (x0 : FVec Ideal S2x4096x5632 .f32) (k : ℕ) (hk : k ≤ 2) (r : Fin 4096) (s : Fin 2) (j : Fin 5632) :
    Cert.Reference20Ideal.Read.val_main_v7 (F := Ideal) x0 (ix2 (⟨k + r.val, by omega⟩ : Fin 4098) (⟨s.val * 5632 + j.val, by omega⟩ : Fin 11264)) = Conv.tap (2 - k) (col x0 s j) r.val := by
  rw [ref7']
  simp only [ref4]
  unfold Conv.tap col
  by_cases h : k + r.val < 2
  · rw [dif_pos h, if_pos (by omega)]
  · rw [dif_neg h, if_neg (by omega), dif_pos (show r.val - (2 - k) < 4096 by omega)]
    by_cases h1 : s.val = 0
    · obtain rfl : s = 0 := Fin.ext h1
      rw [dif_pos (by show 0 * 5632 + j.val < 5632; omega)]
      refine congrArg x0 (congrArg₂ (ix3 0) (Fin.ext ?_) (Fin.ext ?_))
      · show k + r.val - 2 = r.val - (2 - k); omega
      · show 0 * 5632 + j.val = j.val; omega
    · obtain rfl : s = 1 := Fin.ext (by show s.val = 1; omega)
      rw [dif_neg (by show ¬ 1 * 5632 + j.val < 5632; omega)]
      refine congrArg x0 (congrArg₂ (ix3 1) (Fin.ext ?_) (Fin.ext ?_))
      · show k + r.val - 2 = r.val - (2 - k); omega
      · show 1 * 5632 + j.val - 5632 = j.val; omega

/-- The reference's convolution. -/
theorem ref30 (x0 : FVec Ideal S2x4096x5632 .f32) (x1 : FVec Ideal S3x11264 .f32) (x2 : FVec Ideal S1x11264 .f32) (r : Fin 4096) (s : Fin 2) (j : Fin 5632) :
    Cert.Reference20Ideal.Read.val_main_v30 (F := Ideal) x0 x1 x2 (ix2 r (⟨s.val * 5632 + j.val, by omega⟩ : Fin 11264))
    = Conv.cv (x1 (ix2 0 (⟨s.val * 5632 + j.val, by omega⟩ : Fin 11264))) (x1 (ix2 1 (⟨s.val * 5632 + j.val, by omega⟩ : Fin 11264))) (x1 (ix2 2 (⟨s.val * 5632 + j.val, by omega⟩ : Fin 11264))) (x2 (ix2 0 (⟨s.val * 5632 + j.val, by omega⟩ : Fin 11264))) (col x0 s j) r.val := by
  pointwise [Cert.Reference20Ideal.Read.val_main_v30, Cert.Reference20Ideal.Read.val_main_v29, Cert.Reference20Ideal.Read.val_main_v28, Cert.Reference20Ideal.Read.val_main_v27, Cert.Reference20Ideal.Read.val_main_v26, Cert.Reference20Ideal.Read.val_main_v25, Cert.Reference20Ideal.Read.val_main_v24, Cert.Reference20Ideal.Read.val_main_v23, Cert.Reference20Ideal.Read.val_main_v22, Cert.Reference20Ideal.Read.val_main_v21, Cert.Reference20Ideal.Read.val_main_v20, Cert.Reference20Ideal.Read.val_main_v19, Cert.Reference20Ideal.Read.val_main_v18, Cert.Reference20Ideal.Read.val_main_v17, Cert.Reference20Ideal.Read.val_main_v16, Cert.Reference20Ideal.Read.val_main_v15, Cert.Reference20Ideal.Read.val_main_v14, Cert.Reference20Ideal.Read.val_main_v13, Cert.Reference20Ideal.Read.val_main_v12, Cert.Reference20Ideal.Read.val_main_v11, Cert.Reference20Ideal.Read.val_main_v10, Cert.Reference20Ideal.Read.val_main_v9, Cert.Reference20Ideal.Read.val_main_v8, Cert.Reference20Ideal.Read.val_main_v5]
  unfold Conv.cv
  have e0 := ref7 x0 0 (by omega) r s j
  have e1 := ref7 x0 1 (by omega) r s j
  have e2 := ref7 x0 2 (by omega) r s j
  simp only [Nat.zero_add] at e0
  rw [e0, e1, e2]
  rfl

/-- The reference's entry. -/
theorem refv (x0 : FVec Ideal S2x4096x5632 .f32) (x1 : FVec Ideal S3x11264 .f32) (x2 : FVec Ideal S1x11264 .f32) (r : Fin 4096) (j : Fin 5632) :
    Cert.Reference20Ideal.Read.val_main_v35 (F := Ideal) x0 x1 x2 (ix2 r j)
    = glu (Cert.Reference20Ideal.Read.val_main_v30 (F := Ideal) x0 x1 x2 (ix2 r (⟨0 * 5632 + j.val, by omega⟩ : Fin 11264))) (Cert.Reference20Ideal.Read.val_main_v30 (F := Ideal) x0 x1 x2 (ix2 r (⟨1 * 5632 + j.val, by omega⟩ : Fin 11264))) := by
  unfold glu
  pointwise [Cert.Reference20Ideal.Read.val_main_v35, Cert.Reference20Ideal.Read.val_main_v34, Cert.Reference20Ideal.Read.val_main_v33, Cert.Reference20Ideal.Read.val_main_v32, Cert.Reference20Ideal.Read.val_main_v31, Cert.Reference20Ideal.Read.val_main_call0_v5, Cert.Reference20Ideal.Read.val_main_call0_v4, Cert.Reference20Ideal.Read.val_main_call0_v3, Cert.Reference20Ideal.Read.val_main_call0_v2, Cert.Reference20Ideal.Read.val_main_call0_v1, Cert.Reference20Ideal.Read.val_main_call0_v0, Cert.Reference20Ideal.Read.val_main_call0_cst, Cert.Reference20Ideal.Read.val_main_call0_cst_0]
  rfl

/-- A point's column. -/
def cl (t : Fin cfg0.N) (j : Fin 512) : Fin 5632 := ⟨t.val / 8 * 512 + j.val, by have := t.isLt.trans_eq N_0; omega⟩

/-- The rows of a point's block, by the array. -/
theorem blk0 (x0 : FVec Ideal S2x4096x5632 .f32) (h0 : m ((c : Thread nD τ).loc main_arg0) = x0) (t : Fin cfg0.N) (s : Fin 2) (r j : Fin 512) :
    (iblk m c 0 t : FVec Ideal S2x512x512 .f32) (ix3 s r j) = col x0 s (cl t j) (t.val % 8 * 512 + r.val) := by
  subst h0
  unfold col cl
  rw [dif_pos (by omega)]
  blk_simp [iblk, idx t]
  rw [V_main_arg0]
  refine congrArg _ (funext fun a => Fin.ext ?_)
  fin_cases a
  all_goals
    blk_simp [idx t]
    try rfl

/-- The rows just above a point's block, by the array. -/
theorem blk1 (x0 : FVec Ideal S2x4096x5632 .f32) (h0 : m ((c : Thread nD τ).loc main_arg0) = x0) (t : Fin cfg0.N) (s : Fin 2) (r : Fin 8) (j : Fin 512) (h : 0 < t.val % 8) :
    (iblk m c 1 t : FVec Ideal S2x8x512 .f32) (ix3 s r j) = col x0 s (cl t j) (t.val % 8 * 512 - 8 + r.val) := by
  subst h0
  unfold col cl
  rw [dif_pos (by omega)]
  blk_simp [iblk, idx t]
  rw [V_main_arg0]
  refine congrArg _ (funext fun a => Fin.ext ?_)
  fin_cases a
  · blk_simp [idx t]
    try rfl
  · blk_simp [idx t]
    exact (by omega : (t.val % 8 * 64 - 1) * 8 + r.val = t.val % 8 * 512 - 8 + r.val)
  · blk_simp [idx t]
    try rfl

/-- The first half's taps, by the array. -/
theorem blk2 (x1 : FVec Ideal S3x11264 .f32) (h1 : m ((c : Thread nD τ).loc main_arg1) = x1) (t : Fin cfg0.N) (k : Fin 3) (j : Fin 512) :
    (iblk m c 2 t : FVec Ideal S3x512 .f32) (ix2 k j) = x1 (ix2 k (⟨0 * 5632 + (cl t j).val, by omega⟩ : Fin 11264)) := by
  subst h1
  unfold cl
  blk_simp [iblk, idx t]
  rw [V_main_arg1]
  refine congrArg _ (funext fun a => Fin.ext ?_)
  fin_cases a
  · blk_simp [idx t]
    try rfl
  · blk_simp [idx t]
    rfl

/-- The second half's taps, by the array. -/
theorem blk3 (x1 : FVec Ideal S3x11264 .f32) (h1 : m ((c : Thread nD τ).loc main_arg1) = x1) (t : Fin cfg0.N) (k : Fin 3) (j : Fin 512) :
    (iblk m c 3 t : FVec Ideal S3x512 .f32) (ix2 k j) = x1 (ix2 k (⟨1 * 5632 + (cl t j).val, by omega⟩ : Fin 11264)) := by
  subst h1
  unfold cl
  blk_simp [iblk, idx t]
  rw [V_main_arg1]
  refine congrArg _ (funext fun a => Fin.ext ?_)
  fin_cases a
  · blk_simp [idx t]
    try rfl
  · blk_simp [idx t]
    exact (by omega : (t.val / 8 + 11) * 512 + j.val = 1 * 5632 + (t.val / 8 * 512 + j.val))

/-- The first half's bias, by the array. -/
theorem blk4 (x2 : FVec Ideal S1x11264 .f32) (h2 : m ((c : Thread nD τ).loc main_arg2) = x2) (t : Fin cfg0.N) (k : Fin 1) (j : Fin 512) :
    (iblk m c 4 t : FVec Ideal S1x512 .f32) (ix2 k j) = x2 (ix2 k (⟨0 * 5632 + (cl t j).val, by omega⟩ : Fin 11264)) := by
  subst h2
  unfold cl
  blk_simp [iblk, idx t]
  rw [V_main_arg2]
  refine congrArg _ (funext fun a => Fin.ext ?_)
  fin_cases a
  · blk_simp [idx t]
    try rfl
  · blk_simp [idx t]
    rfl

/-- The second half's bias, by the array. -/
theorem blk5 (x2 : FVec Ideal S1x11264 .f32) (h2 : m ((c : Thread nD τ).loc main_arg2) = x2) (t : Fin cfg0.N) (k : Fin 1) (j : Fin 512) :
    (iblk m c 5 t : FVec Ideal S1x512 .f32) (ix2 k j) = x2 (ix2 k (⟨1 * 5632 + (cl t j).val, by omega⟩ : Fin 11264)) := by
  subst h2
  unfold cl
  blk_simp [iblk, idx t]
  rw [V_main_arg2]
  refine congrArg _ (funext fun a => Fin.ext ?_)
  fin_cases a
  · blk_simp [idx t]
    try rfl
  · blk_simp [idx t]
    exact (by omega : (t.val / 8 + 11) * 512 + j.val = 1 * 5632 + (t.val / 8 * 512 + j.val))

/-- Where a point's block lies in the result. -/
theorem emb (t : Fin cfg0.N) (i j : Fin 512) : (win0_6.blk t).view.emb (ix2 i j)
    = ix2 (⟨t.val % 8 * 512 + i.val, by omega⟩ : Fin 4096) (cl t j) := by
  refine funext fun a => Fin.ext ?_
  fin_cases a <;> blk_simp [idx t] <;> rfl

/-- The convolution of an array's column in one half. -/
def cva (x0 : FVec Ideal S2x4096x5632 .f32) (x1 : FVec Ideal S3x11264 .f32) (x2 : FVec Ideal S1x11264 .f32) (s : Fin 2) (j : Fin 5632) (r : ℕ) : EReal :=
  Conv.cv (x1 (ix2 0 (⟨s.val * 5632 + j.val, by omega⟩ : Fin 11264))) (x1 (ix2 1 (⟨s.val * 5632 + j.val, by omega⟩ : Fin 11264))) (x1 (ix2 2 (⟨s.val * 5632 + j.val, by omega⟩ : Fin 11264))) (x2 (ix2 0 (⟨s.val * 5632 + j.val, by omega⟩ : Fin 11264))) (col x0 s j) r

/-- An entry of what a point leaves, by the arrays. -/
theorem vals (x0 : FVec Ideal S2x4096x5632 .f32) (x1 : FVec Ideal S3x11264 .f32) (x2 : FVec Ideal S1x11264 .f32)
    (h0 : m ((c : Thread nD τ).loc main_arg0) = x0) (h1 : m ((c : Thread nD τ).loc main_arg1) = x1) (h2 : m ((c : Thread nD τ).loc main_arg2) = x2) (t : Fin cfg0.N) (r j : Fin 512) :
    out0_6 (F := Ideal) (grid0.coords t) (iblk m c 0 t) (iblk m c 1 t) (iblk m c 2 t) (iblk m c 3 t) (iblk m c 4 t) (iblk m c 5 t) (ix2 r j)
    = glu (cva x0 x1 x2 0 (cl t j) (t.val % 8 * 512 + r.val)) (cva x0 x1 x2 1 (cl t j) (t.val % 8 * 512 + r.val)) := by
  refine (val (grid0.coords t) (iblk m c 0 t) (iblk m c 1 t) (iblk m c 2 t) (iblk m c 3 t) (iblk m c 4 t) (iblk m c 5 t) r j (t.val % 8) (by omega) (place t) (col x0 0 (cl t j)) (col x0 1 (cl t j))
    (fun r => blk0 m c x0 h0 t 0 r j) (fun r => blk0 m c x0 h0 t 1 r j)
    (fun h => (blk1 m c x0 h0 t 0 7 j h).trans (congrArg (col x0 0 (cl t j)) (by show t.val % 8 * 512 - 8 + 7 = t.val % 8 * 512 - 1; omega)))
    (fun h => (blk1 m c x0 h0 t 0 6 j h).trans (congrArg (col x0 0 (cl t j)) (by show t.val % 8 * 512 - 8 + 6 = t.val % 8 * 512 - 2; omega)))
    (fun h => (blk1 m c x0 h0 t 1 7 j h).trans (congrArg (col x0 1 (cl t j)) (by show t.val % 8 * 512 - 8 + 7 = t.val % 8 * 512 - 1; omega)))
    (fun h => (blk1 m c x0 h0 t 1 6 j h).trans (congrArg (col x0 1 (cl t j)) (by show t.val % 8 * 512 - 8 + 6 = t.val % 8 * 512 - 2; omega)))).trans ?_
  rw [blk2 m c x1 h1, blk2 m c x1 h1, blk2 m c x1 h1, blk3 m c x1 h1, blk3 m c x1 h1, blk3 m c x1 h1, blk4 m c x2 h2, blk5 m c x2 h2]
  rfl

/-- The reference's entry where a point's block lies. -/
theorem refs (x0 : FVec Ideal S2x4096x5632 .f32) (x1 : FVec Ideal S3x11264 .f32) (x2 : FVec Ideal S1x11264 .f32) (t : Fin cfg0.N) (r j : Fin 512) :
    Cert.Reference20Ideal.Read.val_main_v35 (F := Ideal) x0 x1 x2 ((win0_6.blk t).view.emb (ix2 r j))
    = glu (cva x0 x1 x2 0 (cl t j) (t.val % 8 * 512 + r.val)) (cva x0 x1 x2 1 (cl t j) (t.val % 8 * 512 + r.val)) := by
  rw [emb, refv]
  exact congrArg₂ glu (ref30 _ _ _ _ 0 _) (ref30 _ _ _ _ 1 _)

/-- The array the kernel leaves is the reference's. -/
theorem arr : ((dats m 0 c).arrAt 6 cfg0.N : FVec Ideal S4096x5632 .bf16)
    = Cert.Reference20Ideal.Read.val_main_v35 (F := Ideal) (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  rw [after0_6]
  idx_vars y
  exact (vals m c _ _ _ rfl rfl rfl t y0 y1).trans (refs _ _ _ t y0 y1).symm

/-- The reference runs, leaves its arguments and its counters. -/
theorem frame_ri : Cert.quiescent_Reference20Ideal := fun m ρ _ =>
  (θ_run Cert.Reference20Ideal.defs _ _).mono (fun r h => ⟨fun c => (h c).2,
      Idealize.ShloMosaic.sem_eq_zero_of_no_sems (by decide) r.2⟩)
    (Cert.Reference20Ideal.Value.run (F := Ideal) m ρ)

/-- At the ideal reading the kernel leaves what the reference leaves. -/
theorem algebraic : Cert.algebraic_Kernel20Ideal_Reference20Ideal := by
  intro m ρ m' ρ' _ hagree
  refine ⟨fun c => (dats m 0 c).arrAt 6 cfg0.N, Cert.Kernel20Ideal.Value.run_blocks m ρ, ?_⟩
  refine (θ_run Cert.Reference20Ideal.defs _ _).mono (fun r h c => ⟨(h c).1.trans ?_, (h c).2⟩) (Cert.Reference20Ideal.Value.run (F := Ideal) m' ρ')
  obtain ⟨e0, e1, e2⟩ := hagree c
  refine (Cert.Reference20Ideal.Read.val_main_v35_eq _ _).trans ?_
  rw [e0, e1, e2]
  exact (arr m c).symm

end Cert.Mm20

end
-- ==== Proof.Mm21K.lean ====
/- A point of the FFN's convolution backward: the rows its body works out, by the columns. -/
module

public import proofs.«01_k».proof.Proof.Gen.Kernel21Ideal.Value
public import proofs.«01_k».proof.Proof.Gen.Kernel21.Frame
public import Idealize.ShloMosaic.Lib.Pointwise
public import Idealize.ShloMosaic.Lib.Pipeline.ReadBack
public import Idealize.ShloMosaic.Lib.Pipeline.ValueKit
public import proofs.«01_k».proof.Proof.Conv
public import proofs.«01_k».proof.Defs

@[expose] public section

set_option maxRecDepth 16384

noncomputable section

namespace Cert.Mm21

open Idealize.ShloMosaic Idealize.ShloMosaic.TcCoe Idealize.SL.Sem Cert.Kernel21Ideal Cert.Kernel21Ideal.Gen
/-- The gate half of a block. -/
def A0 (x0 : FVec Ideal S2x512x512 .f32) : FVec Ideal S512x512 .f32 := k0_pay7 (View.ld (Val := Elt Ideal) (e' := .f32) (x0 : Vec Ideal S2x512x512 .f32) (Rect.unit (s := S2x512x512) ![0, 0, 0] S1x512x512.size inb_S2x512x512_S1x512x512_0_0_0))

/-- The up half of a block. -/
def A1 (x0 : FVec Ideal S2x512x512 .f32) : FVec Ideal S512x512 .f32 := k0_pay17 (View.ld (Val := Elt Ideal) (e' := .f32) (x0 : Vec Ideal S2x512x512 .f32) (Rect.unit (s := S2x512x512) ![1, 0, 0] S1x512x512.size inb_S2x512x512_S1x512x512_1_0_0))

/-- The gate half, one row above. -/
def G1 (i : grid0.Coords) (x0 : FVec Ideal S2x512x512 .f32) (x1 : FVec Ideal S2x8x512 .f32) : FVec Ideal S512x512 .f32 := k0_pay9 i (View.ld (Val := Elt Ideal) (e' := .f32) (x0 : Vec Ideal S2x512x512 .f32) (Rect.unit (s := S2x512x512) ![0, 0, 0] S1x512x512.size inb_S2x512x512_S1x512x512_0_0_0)) (View.ld (Val := Elt Ideal) (e' := .f32) (x1 : Vec Ideal S2x8x512 .f32) (Rect.unit (s := S2x8x512) ![0, 7, 0] S1x1x512.size inb_S2x8x512_S1x1x512_0_7_0))

/-- The gate half, two rows above. -/
def G2 (i : grid0.Coords) (x0 : FVec Ideal S2x512x512 .f32) (x1 : FVec Ideal S2x8x512 .f32) : FVec Ideal S512x512 .f32 := k0_pay10 i (View.ld (Val := Elt Ideal) (e' := .f32) (x0 : Vec Ideal S2x512x512 .f32) (Rect.unit (s := S2x512x512) ![0, 0, 0] S1x512x512.size inb_S2x512x512_S1x512x512_0_0_0)) (View.ld (Val := Elt Ideal) (e' := .f32) (x1 : Vec Ideal S2x8x512 .f32) (Rect.unit (s := S2x8x512) ![0, 7, 0] S1x1x512.size inb_S2x8x512_S1x1x512_0_7_0)) (View.ld (Val := Elt Ideal) (e' := .f32) (x1 : Vec Ideal S2x8x512 .f32) (Rect.unit (s := S2x8x512) ![0, 6, 0] S1x1x512.size inb_S2x8x512_S1x1x512_0_6_0))

/-- The up half, one row above. -/
def U1 (i : grid0.Coords) (x0 : FVec Ideal S2x512x512 .f32) (x1 : FVec Ideal S2x8x512 .f32) : FVec Ideal S512x512 .f32 := k0_pay19 (Scalar.cmpi .sgt (BitVec.ofNat 32 (i 1).val) 0#32) (iota .tc S512x512 32 [0] iota_S512x512_d0_w32) (View.ld (Val := Elt Ideal) (e' := .f32) (x0 : Vec Ideal S2x512x512 .f32) (Rect.unit (s := S2x512x512) ![1, 0, 0] S1x512x512.size inb_S2x512x512_S1x512x512_1_0_0)) (View.ld (Val := Elt Ideal) (e' := .f32) (x1 : Vec Ideal S2x8x512 .f32) (Rect.unit (s := S2x8x512) ![1, 7, 0] S1x1x512.size inb_S2x8x512_S1x1x512_1_7_0))

/-- The up half, two rows above. -/
def U2 (i : grid0.Coords) (x0 : FVec Ideal S2x512x512 .f32) (x1 : FVec Ideal S2x8x512 .f32) : FVec Ideal S512x512 .f32 := k0_pay20 (Scalar.cmpi .sgt (BitVec.ofNat 32 (i 1).val) 0#32) (iota .tc S512x512 32 [0] iota_S512x512_d0_w32) (View.ld (Val := Elt Ideal) (e' := .f32) (x0 : Vec Ideal S2x512x512 .f32) (Rect.unit (s := S2x512x512) ![1, 0, 0] S1x512x512.size inb_S2x512x512_S1x512x512_1_0_0)) (View.ld (Val := Elt Ideal) (e' := .f32) (x1 : Vec Ideal S2x8x512 .f32) (Rect.unit (s := S2x8x512) ![1, 7, 0] S1x1x512.size inb_S2x8x512_S1x1x512_1_7_0)) (View.ld (Val := Elt Ideal) (e' := .f32) (x1 : Vec Ideal S2x8x512 .f32) (Rect.unit (s := S2x8x512) ![1, 6, 0] S1x1x512.size inb_S2x8x512_S1x1x512_1_6_0))

/-- The gate's convolution. -/
def GP (i : grid0.Coords) (x0 : FVec Ideal S2x512x512 .f32) (x1 : FVec Ideal S2x8x512 .f32) (x5 : FVec Ideal S3x512 .f32) (x7 : FVec Ideal S1x512 .f32) : FVec Ideal S512x512 .f32 := k0_pay11 (A0 x0) (G1 i x0 x1) (G2 i x0 x1) (View.ld (Val := Elt Ideal) (e' := .f32) (x5 : Vec Ideal S3x512 .f32) (Rect.unit (s := S3x512) ![0, 0] S1x512.size inb_S3x512_S1x512_0_0)) (View.ld (Val := Elt Ideal) (e' := .f32) (x5 : Vec Ideal S3x512 .f32) (Rect.unit (s := S3x512) ![1, 0] S1x512.size inb_S3x512_S1x512_1_0)) (View.ld (Val := Elt Ideal) (e' := .f32) (x5 : Vec Ideal S3x512 .f32) (Rect.unit (s := S3x512) ![2, 0] S1x512.size inb_S3x512_S1x512_2_0)) x7

/-- The up's convolution. -/
def UP (i : grid0.Coords) (x0 : FVec Ideal S2x512x512 .f32) (x1 : FVec Ideal S2x8x512 .f32) (x6 : FVec Ideal S3x512 .f32) (x8 : FVec Ideal S1x512 .f32) : FVec Ideal S512x512 .f32 := k0_pay21 (A1 x0) (U1 i x0 x1) (U2 i x0 x1) (View.ld (Val := Elt Ideal) (e' := .f32) (x6 : Vec Ideal S3x512 .f32) (Rect.unit (s := S3x512) ![0, 0] S1x512.size inb_S3x512_S1x512_0_0)) (View.ld (Val := Elt Ideal) (e' := .f32) (x6 : Vec Ideal S3x512 .f32) (Rect.unit (s := S3x512) ![1, 0] S1x512.size inb_S3x512_S1x512_1_0)) (View.ld (Val := Elt Ideal) (e' := .f32) (x6 : Vec Ideal S3x512 .f32) (Rect.unit (s := S3x512) ![2, 0] S1x512.size inb_S3x512_S1x512_2_0)) x8

/-- The gate's convolution on the next rows. -/
def GN (x0 : FVec Ideal S2x512x512 .f32) (x2 : FVec Ideal S2x8x512 .f32) (x5 : FVec Ideal S3x512 .f32) (x7 : FVec Ideal S1x512 .f32) : FVec Ideal S8x512 .f32 := k0_pay16 (View.ld (Val := Elt Ideal) (e' := .f32) (x5 : Vec Ideal S3x512 .f32) (Rect.unit (s := S3x512) ![2, 0] S1x512.size inb_S3x512_S1x512_2_0)) x7 (k0_pay12 (View.ld (Val := Elt Ideal) (e' := .f32) (x2 : Vec Ideal S2x8x512 .f32) (Rect.unit (s := S2x8x512) ![0, 0, 0] S1x8x512.size inb_S2x8x512_S1x8x512_0_0_0))) (k0_pay14 (iota .tc S8x512 32 [0] iota_S8x512_d0_w32) (View.ld (Val := Elt Ideal) (e' := .f32) (x5 : Vec Ideal S3x512 .f32) (Rect.unit (s := S3x512) ![0, 0] S1x512.size inb_S3x512_S1x512_0_0)) (View.ld (Val := Elt Ideal) (e' := .f32) (x2 : Vec Ideal S2x8x512 .f32) (Rect.unit (s := S2x8x512) ![0, 0, 0] S1x8x512.size inb_S2x8x512_S1x8x512_0_0_0)) (View.ld (Val := Elt Ideal) (e' := .f32) (x0 : Vec Ideal S2x512x512 .f32) (Rect.unit (s := S2x512x512) ![0, 511, 0] S1x1x512.size inb_S2x512x512_S1x1x512_0_511_0)) (View.ld (Val := Elt Ideal) (e' := .f32) (x0 : Vec Ideal S2x512x512 .f32) (Rect.unit (s := S2x512x512) ![0, 510, 0] S1x1x512.size inb_S2x512x512_S1x1x512_0_510_0))) (k0_pay15 (iota .tc S8x512 32 [0] iota_S8x512_d0_w32) (View.ld (Val := Elt Ideal) (e' := .f32) (x5 : Vec Ideal S3x512 .f32) (Rect.unit (s := S3x512) ![1, 0] S1x512.size inb_S3x512_S1x512_1_0)) (View.ld (Val := Elt Ideal) (e' := .f32) (x2 : Vec Ideal S2x8x512 .f32) (Rect.unit (s := S2x8x512) ![0, 0, 0] S1x8x512.size inb_S2x8x512_S1x8x512_0_0_0)) (View.ld (Val := Elt Ideal) (e' := .f32) (x0 : Vec Ideal S2x512x512 .f32) (Rect.unit (s := S2x512x512) ![0, 511, 0] S1x1x512.size inb_S2x512x512_S1x1x512_0_511_0)))

/-- The up's convolution on the next rows. -/
def UN (x0 : FVec Ideal S2x512x512 .f32) (x2 : FVec Ideal S2x8x512 .f32) (x6 : FVec Ideal S3x512 .f32) (x8 : FVec Ideal S1x512 .f32) : FVec Ideal S8x512 .f32 := k0_pay22 (iota .tc S8x512 32 [0] iota_S8x512_d0_w32) (View.ld (Val := Elt Ideal) (e' := .f32) (x6 : Vec Ideal S3x512 .f32) (Rect.unit (s := S3x512) ![0, 0] S1x512.size inb_S3x512_S1x512_0_0)) (View.ld (Val := Elt Ideal) (e' := .f32) (x6 : Vec Ideal S3x512 .f32) (Rect.unit (s := S3x512) ![1, 0] S1x512.size inb_S3x512_S1x512_1_0)) (View.ld (Val := Elt Ideal) (e' := .f32) (x6 : Vec Ideal S3x512 .f32) (Rect.unit (s := S3x512) ![2, 0] S1x512.size inb_S3x512_S1x512_2_0)) x8 (View.ld (Val := Elt Ideal) (e' := .f32) (x2 : Vec Ideal S2x8x512 .f32) (Rect.unit (s := S2x8x512) ![1, 0, 0] S1x8x512.size inb_S2x8x512_S1x8x512_1_0_0)) (View.ld (Val := Elt Ideal) (e' := .f32) (x0 : Vec Ideal S2x512x512 .f32) (Rect.unit (s := S2x512x512) ![1, 511, 0] S1x1x512.size inb_S2x512x512_S1x1x512_1_511_0)) (View.ld (Val := Elt Ideal) (e' := .f32) (x0 : Vec Ideal S2x512x512 .f32) (Rect.unit (s := S2x512x512) ![1, 510, 0] S1x1x512.size inb_S2x512x512_S1x1x512_1_510_0))

/-- The gradient of the gate's convolution. -/
def DG (i : grid0.Coords) (x0 : FVec Ideal S2x512x512 .f32) (x1 : FVec Ideal S2x8x512 .f32) (x3 : FVec Ideal S512x512 .f32) (x5 : FVec Ideal S3x512 .f32) (x6 : FVec Ideal S3x512 .f32) (x7 : FVec Ideal S1x512 .f32) (x8 : FVec Ideal S1x512 .f32) : FVec Ideal S512x512 .f32 := k0_pay24 (GP i x0 x1 x5 x7) (UP i x0 x1 x6 x8) x3

/-- The gradient of the up's convolution. -/
def DU (i : grid0.Coords) (x0 : FVec Ideal S2x512x512 .f32) (x1 : FVec Ideal S2x8x512 .f32) (x3 : FVec Ideal S512x512 .f32) (x5 : FVec Ideal S3x512 .f32) (x7 : FVec Ideal S1x512 .f32) : FVec Ideal S512x512 .f32 := k0_pay25 (GP i x0 x1 x5 x7) x3

/-- The gradient of the gate half that a point stores. -/
def RG (i : grid0.Coords) (x0 : FVec Ideal S2x512x512 .f32) (x1 : FVec Ideal S2x8x512 .f32) (x2 : FVec Ideal S2x8x512 .f32) (x3 : FVec Ideal S512x512 .f32) (x4 : FVec Ideal S8x512 .f32) (x5 : FVec Ideal S3x512 .f32) (x6 : FVec Ideal S3x512 .f32) (x7 : FVec Ideal S1x512 .f32) (x8 : FVec Ideal S1x512 .f32) : FVec Ideal S1x512x512 .bf16 := k0_pay33 (iota .tc S512x512 32 [0] iota_S512x512_d0_w32) (DG i x0 x1 x3 x5 x6 x7 x8) (k0_pay30 (Scalar.cmpi .slt (BitVec.ofNat 32 (i 1).val) 7#32) (iota .tc S8x512 32 [0] iota_S8x512_d0_w32) (GN x0 x2 x5 x7) (UN x0 x2 x6 x8) x4) (k0_pay31 (Scalar.cmpi .slt (BitVec.ofNat 32 (i 1).val) 7#32) (iota .tc S8x512 32 [0] iota_S8x512_d0_w32) (GN x0 x2 x5 x7) (UN x0 x2 x6 x8) x4) (k0_pay32 (Scalar.cmpi .slt (BitVec.ofNat 32 (i 1).val) 7#32) (iota .tc S512x512 32 [0] iota_S512x512_d0_w32) (iota .tc S8x512 32 [0] iota_S8x512_d0_w32) (GP i x0 x1 x5 x7) (GN x0 x2 x5 x7) (UP i x0 x1 x6 x8) (UN x0 x2 x6 x8) x3 x4) 511#32 (View.ld (Val := Elt Ideal) (e' := .f32) (x5 : Vec Ideal S3x512 .f32) (Rect.unit (s := S3x512) ![2, 0] S1x512.size inb_S3x512_S1x512_2_0)) (View.ld (Val := Elt Ideal) (e' := .f32) (x5 : Vec Ideal S3x512 .f32) (Rect.unit (s := S3x512) ![1, 0] S1x512.size inb_S3x512_S1x512_1_0)) (View.ld (Val := Elt Ideal) (e' := .f32) (x5 : Vec Ideal S3x512 .f32) (Rect.unit (s := S3x512) ![0, 0] S1x512.size inb_S3x512_S1x512_0_0))

/-- The gradient of the up half that a point stores. -/
def RV (i : grid0.Coords) (x0 : FVec Ideal S2x512x512 .f32) (x1 : FVec Ideal S2x8x512 .f32) (x2 : FVec Ideal S2x8x512 .f32) (x3 : FVec Ideal S512x512 .f32) (x4 : FVec Ideal S8x512 .f32) (x5 : FVec Ideal S3x512 .f32) (x6 : FVec Ideal S3x512 .f32) (x7 : FVec Ideal S1x512 .f32) : FVec Ideal S1x512x512 .bf16 := k0_pay37 (iota .tc S512x512 32 [0] iota_S512x512_d0_w32) (DU i x0 x1 x3 x5 x7) (k0_pay34 (iota .tc S8x512 32 [0] iota_S8x512_d0_w32) (k0_pay29 (Scalar.cmpi .slt (BitVec.ofNat 32 (i 1).val) 7#32) (GN x0 x2 x5 x7) x4)) (k0_pay35 (iota .tc S8x512 32 [0] iota_S8x512_d0_w32) (k0_pay29 (Scalar.cmpi .slt (BitVec.ofNat 32 (i 1).val) 7#32) (GN x0 x2 x5 x7) x4)) (k0_pay36 (iota .tc S512x512 32 [0] iota_S512x512_d0_w32)) 511#32 (View.ld (Val := Elt Ideal) (e' := .f32) (x6 : Vec Ideal S3x512 .f32) (Rect.unit (s := S3x512) ![2, 0] S1x512.size inb_S3x512_S1x512_2_0)) (View.ld (Val := Elt Ideal) (e' := .f32) (x6 : Vec Ideal S3x512 .f32) (Rect.unit (s := S3x512) ![1, 0] S1x512.size inb_S3x512_S1x512_1_0)) (View.ld (Val := Elt Ideal) (e' := .f32) (x6 : Vec Ideal S3x512 .f32) (Rect.unit (s := S3x512) ![0, 0] S1x512.size inb_S3x512_S1x512_0_0))

section
variable (c : Dev nD) (i : grid0.Coords) (arg2 : Memref sig .tc .vmem S2x512x512 .f32) (harg2 : arg2.IsWhole) (arg3 : Memref sig .tc .vmem S2x8x512 .f32) (harg3 : arg3.IsWhole) (arg4 : Memref sig .tc .vmem S2x8x512 .f32) (harg4 : arg4.IsWhole) (arg5 : Memref sig .tc .vmem S512x512 .f32) (harg5 : arg5.IsWhole) (arg6 : Memref sig .tc .vmem S8x512 .f32) (harg6 : arg6.IsWhole) (arg7 : Memref sig .tc .vmem S3x512 .f32) (harg7 : arg7.IsWhole) (arg8 : Memref sig .tc .vmem S3x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S2x512x512 .bf16) (harg11 : arg11.IsWhole) (arg12 : Memref sig .tc .vmem S3x512 .f32) (harg12 : arg12.IsWhole) (arg13 : Memref sig .tc .vmem S3x512 .f32) (harg13 : arg13.IsWhole) (arg14 : Memref sig .tc .vmem S1x512 .f32) (harg14 : arg14.IsWhole) (arg15 : Memref sig .tc .vmem S1x512 .f32) (harg15 : arg15.IsWhole) (x0 : FVec Ideal S2x512x512 .f32) (x1 x2 : FVec Ideal S2x8x512 .f32) (x3 : FVec Ideal S512x512 .f32) (x4 : FVec Ideal S8x512 .f32) (x5 x6 : FVec Ideal S3x512 .f32) (x7 x8 : FVec Ideal S1x512 .f32)
 (xo10 xo11 : FVec Ideal S3x512 .f32) (xo12 xo13 : FVec Ideal S1x512 .f32)
/-- The halves' gradients the first point of a column of blocks leaves. -/
theorem out9_A (hc0 : cond0_0 i) : out0_A_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8
    = View.canon (Val := Elt Ideal) [(⟨Rect.unit (s := S2x512x512) ![1, 0, 0] S1x512x512.size inb_S2x512x512_S1x512x512_1_0_0, RV i x0 x1 x2 x3 x4 x5 x6 x7⟩ : View.Piece (Elt Ideal) S2x512x512 .bf16), (⟨Rect.unit (s := S2x512x512) ![0, 0, 0] S1x512x512.size inb_S2x512x512_S1x512x512_0_0_0, RG i x0 x1 x2 x3 x4 x5 x6 x7 x8⟩ : View.Piece (Elt Ideal) S2x512x512 .bf16)] := by
  frame_open

  frame_out
  all_goals rfl

/-- The halves' gradients a later point of a column of blocks leaves. -/
theorem out9_B (hc0 : ¬cond0_0 i) : out0_B_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo10 xo11 xo12 xo13
    = View.canon (Val := Elt Ideal) [(⟨Rect.unit (s := S2x512x512) ![1, 0, 0] S1x512x512.size inb_S2x512x512_S1x512x512_1_0_0, RV i x0 x1 x2 x3 x4 x5 x6 x7⟩ : View.Piece (Elt Ideal) S2x512x512 .bf16), (⟨Rect.unit (s := S2x512x512) ![0, 0, 0] S1x512x512.size inb_S2x512x512_S1x512x512_0_0_0, RG i x0 x1 x2 x3 x4 x5 x6 x7 x8⟩ : View.Piece (Elt Ideal) S2x512x512 .bf16)] := by
  frame_open

  frame_out
  all_goals rfl

/-- The gate's weight totals the first point of a column of blocks leaves. -/
theorem out10_A (hc0 : cond0_0 i) : out0_A_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8
    = View.canon (Val := Elt Ideal) [(⟨Rect.unit (s := S3x512) ![2, 0] S1x512.size inb_S3x512_S1x512_2_0, k0_pay41 (A0 x0) (DG i x0 x1 x3 x5 x6 x7 x8) (View.ld (Val := Elt Ideal) (e' := .f32) ((k0_pay3 (F := Ideal)) : Vec Ideal S3x512 .f32) (Rect.unit (s := S3x512) ![2, 0] S1x512.size inb_S3x512_S1x512_2_0))⟩ : View.Piece (Elt Ideal) S3x512 .f32), (⟨Rect.unit (s := S3x512) ![1, 0] S1x512.size inb_S3x512_S1x512_1_0, k0_pay40 (G1 i x0 x1) (DG i x0 x1 x3 x5 x6 x7 x8) (k0_pay39 (View.ld (Val := Elt Ideal) (e' := .f32) ((k0_pay3 (F := Ideal)) : Vec Ideal S3x512 .f32) (Rect.unit (s := S3x512) ![1, 0] S1x512.size inb_S3x512_S1x512_1_0)))⟩ : View.Piece (Elt Ideal) S3x512 .f32), (⟨Rect.unit (s := S3x512) ![0, 0] S1x512.size inb_S3x512_S1x512_0_0, k0_pay38 (G2 i x0 x1) (DG i x0 x1 x3 x5 x6 x7 x8) (View.ld (Val := Elt Ideal) (e' := .f32) ((k0_pay3 (F := Ideal)) : Vec Ideal S3x512 .f32) (Rect.unit (s := S3x512) ![0, 0] S1x512.size inb_S3x512_S1x512_0_0))⟩ : View.Piece (Elt Ideal) S3x512 .f32), (⟨Rect.unit (s := S3x512) ![0, 0] S3x512.size inb_S3x512_S3x512_0_0, (k0_pay3 (F := Ideal))⟩ : View.Piece (Elt Ideal) S3x512 .f32)] := by
  frame_open
  simp (disch := decide) only [↓ View.readCov_skip, ↓ View.readCov_cons_toLoadRect, ↓ View.readCov_fill]
  frame_out
  all_goals rfl

/-- The gate's weight totals a later point of a column of blocks leaves. -/
theorem out10_B (hc0 : ¬cond0_0 i) : out0_B_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo10 xo11 xo12 xo13
    = View.canon (Val := Elt Ideal) [(⟨Rect.unit (s := S3x512) ![2, 0] S1x512.size inb_S3x512_S1x512_2_0, k0_pay41 (A0 x0) (DG i x0 x1 x3 x5 x6 x7 x8) (View.ld (Val := Elt Ideal) (e' := .f32) (xo10 : Vec Ideal S3x512 .f32) (Rect.unit (s := S3x512) ![2, 0] S1x512.size inb_S3x512_S1x512_2_0))⟩ : View.Piece (Elt Ideal) S3x512 .f32), (⟨Rect.unit (s := S3x512) ![1, 0] S1x512.size inb_S3x512_S1x512_1_0, k0_pay40 (G1 i x0 x1) (DG i x0 x1 x3 x5 x6 x7 x8) (k0_pay39 (View.ld (Val := Elt Ideal) (e' := .f32) (xo10 : Vec Ideal S3x512 .f32) (Rect.unit (s := S3x512) ![1, 0] S1x512.size inb_S3x512_S1x512_1_0)))⟩ : View.Piece (Elt Ideal) S3x512 .f32), (⟨Rect.unit (s := S3x512) ![0, 0] S1x512.size inb_S3x512_S1x512_0_0, k0_pay38 (G2 i x0 x1) (DG i x0 x1 x3 x5 x6 x7 x8) (View.ld (Val := Elt Ideal) (e' := .f32) (xo10 : Vec Ideal S3x512 .f32) (Rect.unit (s := S3x512) ![0, 0] S1x512.size inb_S3x512_S1x512_0_0))⟩ : View.Piece (Elt Ideal) S3x512 .f32)] := by
  frame_open

  frame_out
  all_goals rfl

/-- The up's weight totals the first point of a column of blocks leaves. -/
theorem out11_A (hc0 : cond0_0 i) : out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8
    = View.canon (Val := Elt Ideal) [(⟨Rect.unit (s := S3x512) ![2, 0] S1x512.size inb_S3x512_S1x512_2_0, k0_pay44 (A1 x0) (DU i x0 x1 x3 x5 x7) (View.ld (Val := Elt Ideal) (e' := .f32) ((k0_pay4 (F := Ideal)) : Vec Ideal S3x512 .f32) (Rect.unit (s := S3x512) ![2, 0] S1x512.size inb_S3x512_S1x512_2_0))⟩ : View.Piece (Elt Ideal) S3x512 .f32), (⟨Rect.unit (s := S3x512) ![1, 0] S1x512.size inb_S3x512_S1x512_1_0, k0_pay43 (U1 i x0 x1) (DU i x0 x1 x3 x5 x7) (View.ld (Val := Elt Ideal) (e' := .f32) ((k0_pay4 (F := Ideal)) : Vec Ideal S3x512 .f32) (Rect.unit (s := S3x512) ![1, 0] S1x512.size inb_S3x512_S1x512_1_0))⟩ : View.Piece (Elt Ideal) S3x512 .f32), (⟨Rect.unit (s := S3x512) ![0, 0] S1x512.size inb_S3x512_S1x512_0_0, k0_pay42 (U2 i x0 x1) (DU i x0 x1 x3 x5 x7) (View.ld (Val := Elt Ideal) (e' := .f32) ((k0_pay4 (F := Ideal)) : Vec Ideal S3x512 .f32) (Rect.unit (s := S3x512) ![0, 0] S1x512.size inb_S3x512_S1x512_0_0))⟩ : View.Piece (Elt Ideal) S3x512 .f32), (⟨Rect.unit (s := S3x512) ![0, 0] S3x512.size inb_S3x512_S3x512_0_0, (k0_pay4 (F := Ideal))⟩ : View.Piece (Elt Ideal) S3x512 .f32)] := by
  frame_open
  simp (disch := decide) only [↓ View.readCov_skip, ↓ View.readCov_cons_toLoadRect, ↓ View.readCov_fill]
  frame_out
  all_goals rfl

/-- The up's weight totals a later point of a column of blocks leaves. -/
theorem out11_B (hc0 : ¬cond0_0 i) : out0_B_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo10 xo11 xo12 xo13
    = View.canon (Val := Elt Ideal) [(⟨Rect.unit (s := S3x512) ![2, 0] S1x512.size inb_S3x512_S1x512_2_0, k0_pay44 (A1 x0) (DU i x0 x1 x3 x5 x7) (View.ld (Val := Elt Ideal) (e' := .f32) (xo11 : Vec Ideal S3x512 .f32) (Rect.unit (s := S3x512) ![2, 0] S1x512.size inb_S3x512_S1x512_2_0))⟩ : View.Piece (Elt Ideal) S3x512 .f32), (⟨Rect.unit (s := S3x512) ![1, 0] S1x512.size inb_S3x512_S1x512_1_0, k0_pay43 (U1 i x0 x1) (DU i x0 x1 x3 x5 x7) (View.ld (Val := Elt Ideal) (e' := .f32) (xo11 : Vec Ideal S3x512 .f32) (Rect.unit (s := S3x512) ![1, 0] S1x512.size inb_S3x512_S1x512_1_0))⟩ : View.Piece (Elt Ideal) S3x512 .f32), (⟨Rect.unit (s := S3x512) ![0, 0] S1x512.size inb_S3x512_S1x512_0_0, k0_pay42 (U2 i x0 x1) (DU i x0 x1 x3 x5 x7) (View.ld (Val := Elt Ideal) (e' := .f32) (xo11 : Vec Ideal S3x512 .f32) (Rect.unit (s := S3x512) ![0, 0] S1x512.size inb_S3x512_S1x512_0_0))⟩ : View.Piece (Elt Ideal) S3x512 .f32)] := by
  frame_open

  frame_out
  all_goals rfl

/-- The gate's bias total the first point of a column of blocks leaves. -/
theorem out12_A (hc0 : cond0_0 i) : out0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8
    = k0_pay1 (F := Ideal) (DG i x0 x1 x3 x5 x6 x7 x8) (k0_pay5 (F := Ideal)) := by
  frame_open
  simp (disch := decide) only [↓ View.readCov_skip, ↓ View.readCov_cons_toLoadRect, ↓ View.readCov_fill]
  frame_out
  all_goals rfl

/-- The gate's bias total a later point of a column of blocks leaves. -/
theorem out12_B (hc0 : ¬cond0_0 i) : out0_B_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo10 xo11 xo12 xo13
    = k0_pay1 (F := Ideal) (DG i x0 x1 x3 x5 x6 x7 x8) xo12 := by
  frame_open

  frame_out
  all_goals rfl

/-- The up's bias total the first point of a column of blocks leaves. -/
theorem out13_A (hc0 : cond0_0 i) : out0_A_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8
    = k0_pay2 (F := Ideal) (DU i x0 x1 x3 x5 x7) (k0_pay6 (F := Ideal)) := by
  frame_open
  simp (disch := decide) only [↓ View.readCov_skip, ↓ View.readCov_cons_toLoadRect, ↓ View.readCov_fill]
  frame_out
  all_goals rfl

/-- The up's bias total a later point of a column of blocks leaves. -/
theorem out13_B (hc0 : ¬cond0_0 i) : out0_B_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo10 xo11 xo12 xo13
    = k0_pay2 (F := Ideal) (DU i x0 x1 x3 x5 x7) xo13 := by
  frame_open

  frame_out
  all_goals rfl

end

end Cert.Mm21

end
-- ==== Proof.Mm21V.lean ====
/- A point of the FFN's convolution backward: its entries, by the columns it reads. -/
module

public import proofs.«01_k».proof.Proof.Mm21K
public import Idealize.ShloMosaic.Lib.Pointwise
public import Idealize.ShloMosaic.Lib.Pipeline.ReadBack
public import Idealize.ShloMosaic.Lib.Pipeline.ValueKit
public import proofs.«01_k».proof.Proof.Conv
public import proofs.«01_k».proof.Defs

@[expose] public section

set_option maxRecDepth 16384

noncomputable section

namespace Cert.Mm21

open Idealize.ShloMosaic Idealize.ShloMosaic.TcCoe Idealize.SL.Sem Cert.Kernel21Ideal Cert.Kernel21Ideal.Gen
/-- A store of one of three rows, by the rows. -/
theorem row_at (a : ℕ) (inb : ∀ x, (![a, 0] : Fin 2 → ℕ) x + S1x512.size x ≤ S3x512.size x) (w : FVec Ideal S1x512 .f32) (L : List (View.Piece (Elt Ideal) S3x512 .f32)) (k : Fin 3) (j : Fin 512) :
    View.canon (Val := Elt Ideal) ((⟨Rect.unit ![a, 0] S1x512.size inb, w⟩ : View.Piece (Elt Ideal) S3x512 .f32) :: L) (ix2 k j) = if k.val = a then w (ix2 0 j) else View.canon (Val := Elt Ideal) L (ix2 k j) := by
  by_cases h : k.val = a
  · rw [if_pos h]
    have he : (Rect.unit (s := S3x512) ![a, 0] S1x512.size inb).emb (ix2 (0 : Fin 1) j) = ix2 k j := by
      funext x
      apply Fin.ext
      fin_cases x
      · show a + 1 * 0 = k.val
        omega
      · show 0 + 1 * j.val = j.val
        omega
    rw [← he]
    exact View.canon_cons_emb (Rect.unit (s := S3x512) ![a, 0] S1x512.size inb) w L (ix2 (0 : Fin 1) j)
  · rw [if_neg h]
    refine View.canon_cons_of_not_mem _ L ?_
    intro hm
    obtain ⟨i, hi, he⟩ := (LoadRect.mem_set _).mp hm (0 : Fin 2)
    have hi1 : i < 1 := hi
    have he' : k.val = a + 1 * i := he
    omega

/-- A store of one of two halves, by the halves. -/
theorem half_at (a : ℕ) (inb : ∀ x, (![a, 0, 0] : Fin 3 → ℕ) x + S1x512x512.size x ≤ S2x512x512.size x) (w : FVec Ideal S1x512x512 .bf16) (L : List (View.Piece (Elt Ideal) S2x512x512 .bf16)) (k : Fin 2) (r j : Fin 512) :
    View.canon (Val := Elt Ideal) ((⟨Rect.unit ![a, 0, 0] S1x512x512.size inb, w⟩ : View.Piece (Elt Ideal) S2x512x512 .bf16) :: L) (ix3 k r j) = if k.val = a then w (ix3 0 r j) else View.canon (Val := Elt Ideal) L (ix3 k r j) := by
  by_cases h : k.val = a
  · rw [if_pos h]
    have he : (Rect.unit (s := S2x512x512) ![a, 0, 0] S1x512x512.size inb).emb (ix3 (0 : Fin 1) r j) = ix3 k r j := by
      funext x
      apply Fin.ext
      fin_cases x
      · show a + 1 * 0 = k.val
        omega
      · show 0 + 1 * r.val = r.val
        omega
      · show 0 + 1 * j.val = j.val
        omega
    rw [← he]
    exact View.canon_cons_emb (Rect.unit (s := S2x512x512) ![a, 0, 0] S1x512x512.size inb) w L (ix3 (0 : Fin 1) r j)
  · rw [if_neg h]
    refine View.canon_cons_of_not_mem _ L ?_
    intro hm
    obtain ⟨i, hi, he⟩ := (LoadRect.mem_set _).mp hm (0 : Fin 3)
    have hi1 : i < 1 := hi
    have he' : k.val = a + 1 * i := he
    omega

/-- The row above on the rows after a block. -/
theorem ntap1 (b r : ℕ) (hr : r < 8) (f : ℕ → EReal) (h a : EReal) (eh : h = f (b + 511)) (ea : 0 < r → a = f (b + 512 + r - 1)) :
    Scalar.select (IntOp.cmpi .eq (BitVec.ofNat 32 r) 0#32) h a = Conv.tap 1 f (b + 512 + r) := by
  rw [Conv.eq_word r 0 (by omega) (by omega), WordCmp.select_ofBool]
  unfold Conv.tap
  rw [if_neg (show ¬ b + 512 + r < 1 by omega)]
  by_cases h0 : r = 0
  · subst h0
    rw [if_pos (by simp), eh]
    exact congrArg f (by omega)
  · rw [if_neg (by simpa using h0), ea (by omega)]

/-- The row two above on the rows after a block. -/
theorem ntap2 (b r : ℕ) (hr : r < 8) (f : ℕ → EReal) (h h' a : EReal) (eh : h = f (b + 511)) (eh' : h' = f (b + 510)) (ea : 1 < r → a = f (b + 512 + r - 2)) :
    Scalar.select (IntOp.cmpi .eq (BitVec.ofNat 32 r) 0#32) h' (Scalar.select (IntOp.cmpi .eq (BitVec.ofNat 32 r) 1#32) h a) = Conv.tap 2 f (b + 512 + r) := by
  rw [Conv.eq_word r 0 (by omega) (by omega), Conv.eq_word r 1 (by omega) (by omega)]
  simp only [WordCmp.select_ofBool, decide_eq_true_eq]
  unfold Conv.tap
  rw [if_neg (show ¬ b + 512 + r < 2 by omega)]
  by_cases h0 : r = 0
  · subst h0
    rw [if_pos rfl, eh']
    exact congrArg f (by omega)
  · rw [if_neg h0]
    by_cases h1 : r = 1
    · subst h1
      rw [if_pos rfl, eh]
      exact congrArg f (by omega)
    · rw [if_neg h1, ea (by omega)]

/-- The row below, from a block of rows and the rows after it. -/
theorem below1 (b r : ℕ) (hr : r < 512) (f : ℕ → EReal) (h a : EReal) (eh : h = f (b + 512)) (ea : r < 511 → a = f (b + r + 1)) :
    Scalar.select (IntOp.cmpi .eq (BitVec.ofNat 32 r) 511#32) h a = f (b + r + 1) := by
  rw [Conv.eq_word r 511 (by omega) (by omega), WordCmp.select_ofBool]
  by_cases h0 : r = 511
  · subst h0
    rw [if_pos (by simp), eh]
  · rw [if_neg (by simpa using h0), ea (by omega)]

/-- The row two below, from a block of rows and the rows after it. -/
theorem below2 (b r : ℕ) (hr : r < 512) (f : ℕ → EReal) (h h' a : EReal) (eh : h = f (b + 512)) (eh' : h' = f (b + 513)) (ea : r < 510 → a = f (b + r + 2)) :
    Scalar.select (IntOp.cmpi .eq (BitVec.ofNat 32 r) 511#32) h' (Scalar.select (IntOp.cmpi .eq (BitVec.ofNat 32 r) 510#32) h a) = f (b + r + 2) := by
  rw [Conv.eq_word r 511 (by omega) (by omega), Conv.eq_word r 510 (by omega) (by omega)]
  simp only [WordCmp.select_ofBool, decide_eq_true_eq]
  by_cases h0 : r = 511
  · subst h0
    rw [if_pos rfl, eh']
  · rw [if_neg h0]
    by_cases h1 : r = 510
    · subst h1
      rw [if_pos rfl, eh]
    · rw [if_neg h1, ea (by omega)]

/-- Picking one of eight rows by a sum. -/
theorem pick (k : Fin 8) (v : Fin 8 → EReal) : (∑ r : Fin 8, Scalar.select (IntOp.cmpi .eq (BitVec.ofNat 32 r.val) (BitVec.ofNat 32 k.val)) (v r) 0) = v k := by
  refine (Finset.sum_eq_single k (fun r _ h => ?_) (fun h => absurd (Finset.mem_univ k) h)).trans ?_
  · rw [Conv.eq_word r.val k.val (by omega) (by omega), WordCmp.select_ofBool, if_neg (by simpa [Fin.ext_iff] using h)]
  · rw [Conv.eq_word k.val k.val (by omega) (by omega), WordCmp.select_ofBool, if_pos (by simp)]

/-- The columns a point reads: the two halves and the incoming gradient. -/
structure Pt (i : grid0.Coords) (x0 : FVec Ideal S2x512x512 .f32) (x1 x2 : FVec Ideal S2x8x512 .f32) (x3 : FVec Ideal S512x512 .f32) (x4 : FVec Ideal S8x512 .f32) (j : Fin 512) (f g d : ℕ → EReal) : Prop where
  f0 : ∀ r : Fin 512, x0 (ix3 0 r j) = f ((i 1).val * 512 + r.val)
  g0 : ∀ r : Fin 512, x0 (ix3 1 r j) = g ((i 1).val * 512 + r.val)
  f7 : 0 < (i 1).val → x1 (ix3 0 7 j) = f ((i 1).val * 512 - 1)
  f6 : 0 < (i 1).val → x1 (ix3 0 6 j) = f ((i 1).val * 512 - 2)
  g7 : 0 < (i 1).val → x1 (ix3 1 7 j) = g ((i 1).val * 512 - 1)
  g6 : 0 < (i 1).val → x1 (ix3 1 6 j) = g ((i 1).val * 512 - 2)
  fn : (i 1).val < 7 → ∀ r : Fin 8, x2 (ix3 0 r j) = f ((i 1).val * 512 + 512 + r.val)
  gn : (i 1).val < 7 → ∀ r : Fin 8, x2 (ix3 1 r j) = g ((i 1).val * 512 + 512 + r.val)
  d0 : ∀ r : Fin 512, x3 (ix2 r j) = d ((i 1).val * 512 + r.val)
  dn : (i 1).val < 7 → ∀ r : Fin 8, x4 (ix2 r j) = d ((i 1).val * 512 + 512 + r.val)
  dz : ∀ r, 4096 ≤ r → d r = 0

section
variable {i : grid0.Coords} {x0 : FVec Ideal S2x512x512 .f32} {x1 x2 : FVec Ideal S2x8x512 .f32} {x3 : FVec Ideal S512x512 .f32} {x4 : FVec Ideal S8x512 .f32} {j : Fin 512} {f g d : ℕ → EReal}

/-- The row above in the gate half. -/
theorem g1_val (H : Pt i x0 x1 x2 x3 x4 j f g d) (r : Fin 512) : G1 i x0 x1 (ix2 r j) = Conv.tap 1 f ((i 1).val * 512 + r.val) := by
  have hr := r.isLt
  have hp : (i 1).val < 4096 := (i 1).isLt.trans (by decide)
  rw [← Conv.tap1 (i 1).val r.val hr hp f (x1 (ix3 0 7 j)) (x0 (ix3 0 (⟨(r.val + 512 - 1) % 512, by omega⟩ : Fin 512) j)) H.f7 (fun h => (H.f0 _).trans (congrArg f (by show (i 1).val * 512 + (r.val + 512 - 1) % 512 = (i 1).val * 512 + r.val - 1; omega)))]
  unfold G1
  pointwise [k0_pay9, k0_pay8, k0_pay7]

/-- The row above in the up half. -/
theorem u1_val (H : Pt i x0 x1 x2 x3 x4 j f g d) (r : Fin 512) : U1 i x0 x1 (ix2 r j) = Conv.tap 1 g ((i 1).val * 512 + r.val) := by
  have hr := r.isLt
  have hp : (i 1).val < 4096 := (i 1).isLt.trans (by decide)
  rw [← Conv.tap1 (i 1).val r.val hr hp g (x1 (ix3 1 7 j)) (x0 (ix3 1 (⟨(r.val + 512 - 1) % 512, by omega⟩ : Fin 512) j)) H.g7 (fun h => (H.g0 _).trans (congrArg g (by show (i 1).val * 512 + (r.val + 512 - 1) % 512 = (i 1).val * 512 + r.val - 1; omega)))]
  unfold U1
  pointwise [k0_pay19, k0_pay18, k0_pay17]

/-- The row two above in the gate half. -/
theorem g2_val (H : Pt i x0 x1 x2 x3 x4 j f g d) (r : Fin 512) : G2 i x0 x1 (ix2 r j) = Conv.tap 2 f ((i 1).val * 512 + r.val) := by
  have hr := r.isLt
  have hp : (i 1).val < 4096 := (i 1).isLt.trans (by decide)
  rw [← Conv.tap2 (i 1).val r.val hr hp f (x1 (ix3 0 7 j)) (x1 (ix3 0 6 j)) (x0 (ix3 0 (⟨(r.val + 512 - 2) % 512, by omega⟩ : Fin 512) j)) H.f7 H.f6 (fun h => (H.f0 _).trans (congrArg f (by show (i 1).val * 512 + (r.val + 512 - 2) % 512 = (i 1).val * 512 + r.val - 2; omega)))]
  unfold G2
  pointwise [k0_pay10, k0_pay8, k0_pay7]

/-- The row two above in the up half. -/
theorem u2_val (H : Pt i x0 x1 x2 x3 x4 j f g d) (r : Fin 512) : U2 i x0 x1 (ix2 r j) = Conv.tap 2 g ((i 1).val * 512 + r.val) := by
  have hr := r.isLt
  have hp : (i 1).val < 4096 := (i 1).isLt.trans (by decide)
  rw [← Conv.tap2 (i 1).val r.val hr hp g (x1 (ix3 1 7 j)) (x1 (ix3 1 6 j)) (x0 (ix3 1 (⟨(r.val + 512 - 2) % 512, by omega⟩ : Fin 512) j)) H.g7 H.g6 (fun h => (H.g0 _).trans (congrArg g (by show (i 1).val * 512 + (r.val + 512 - 2) % 512 = (i 1).val * 512 + r.val - 2; omega)))]
  unfold U2
  pointwise [k0_pay20, k0_pay18, k0_pay17]

/-- The gate half. -/
theorem a0_val (H : Pt i x0 x1 x2 x3 x4 j f g d) (r : Fin 512) : A0 x0 (ix2 r j) = f ((i 1).val * 512 + r.val) := by
  rw [← H.f0 r]
  unfold A0
  pointwise [k0_pay7]

/-- The up half. -/
theorem a1_val (H : Pt i x0 x1 x2 x3 x4 j f g d) (r : Fin 512) : A1 x0 (ix2 r j) = g ((i 1).val * 512 + r.val) := by
  rw [← H.g0 r]
  unfold A1
  pointwise [k0_pay17]

variable {x5 x6 : FVec Ideal S3x512 .f32} {x7 x8 : FVec Ideal S1x512 .f32}

/-- The convolution of a column by a block's weights. -/
def cw (w : FVec Ideal S3x512 .f32) (b : FVec Ideal S1x512 .f32) (j : Fin 512) (f : ℕ → EReal) (n : ℕ) : EReal :=
  Conv.cv (w (ix2 0 j)) (w (ix2 1 j)) (w (ix2 2 j)) (b (ix2 0 j)) f n

/-- The gate's convolution. -/
theorem gp_val (H : Pt i x0 x1 x2 x3 x4 j f g d) (r : Fin 512) : GP i x0 x1 x5 x7 (ix2 r j) = cw x5 x7 j f ((i 1).val * 512 + r.val) := by
  unfold cw Conv.cv GP
  rw [← g1_val H, ← g2_val H, ← a0_val H]
  generalize G1 i x0 x1 = q1
  generalize G2 i x0 x1 = q2
  generalize A0 x0 = q0
  pointwise [k0_pay11]

/-- The up's convolution. -/
theorem up_val (H : Pt i x0 x1 x2 x3 x4 j f g d) (r : Fin 512) : UP i x0 x1 x6 x8 (ix2 r j) = cw x6 x8 j g ((i 1).val * 512 + r.val) := by
  unfold cw Conv.cv UP
  rw [← u1_val H, ← u2_val H, ← a1_val H]
  generalize U1 i x0 x1 = q1
  generalize U2 i x0 x1 = q2
  generalize A1 x0 = q0
  pointwise [k0_pay21]

/-- The gate's convolution on the next rows. -/
theorem gn_val (H : Pt i x0 x1 x2 x3 x4 j f g d) (h7 : (i 1).val < 7) (r : Fin 8) : GN x0 x2 x5 x7 (ix2 r j) = cw x5 x7 j f ((i 1).val * 512 + 512 + r.val) := by
  have hr := r.isLt
  unfold cw Conv.cv
  rw [← ntap1 ((i 1).val * 512) r.val hr f (x0 (ix3 0 511 j)) (x2 (ix3 0 (⟨(r.val + 8 - 1) % 8, by omega⟩ : Fin 8) j)) (H.f0 511) (fun h => (H.fn h7 _).trans (congrArg f (by show (i 1).val * 512 + 512 + (r.val + 8 - 1) % 8 = (i 1).val * 512 + 512 + r.val - 1; omega))),
    ← ntap2 ((i 1).val * 512) r.val hr f (x0 (ix3 0 511 j)) (x0 (ix3 0 510 j)) (x2 (ix3 0 (⟨(r.val + 8 - 2) % 8, by omega⟩ : Fin 8) j)) (H.f0 511) (H.f0 510) (fun h => (H.fn h7 _).trans (congrArg f (by show (i 1).val * 512 + 512 + (r.val + 8 - 2) % 8 = (i 1).val * 512 + 512 + r.val - 2; omega))),
    ← H.fn h7 r]
  unfold GN
  pointwise [k0_pay16, k0_pay15, k0_pay14, k0_pay13, k0_pay12]

/-- The up's convolution on the next rows. -/
theorem un_val (H : Pt i x0 x1 x2 x3 x4 j f g d) (h7 : (i 1).val < 7) (r : Fin 8) : UN x0 x2 x6 x8 (ix2 r j) = cw x6 x8 j g ((i 1).val * 512 + 512 + r.val) := by
  have hr := r.isLt
  unfold cw Conv.cv
  rw [← ntap1 ((i 1).val * 512) r.val hr g (x0 (ix3 1 511 j)) (x2 (ix3 1 (⟨(r.val + 8 - 1) % 8, by omega⟩ : Fin 8) j)) (H.g0 511) (fun h => (H.gn h7 _).trans (congrArg g (by show (i 1).val * 512 + 512 + (r.val + 8 - 1) % 8 = (i 1).val * 512 + 512 + r.val - 1; omega))),
    ← ntap2 ((i 1).val * 512) r.val hr g (x0 (ix3 1 511 j)) (x0 (ix3 1 510 j)) (x2 (ix3 1 (⟨(r.val + 8 - 2) % 8, by omega⟩ : Fin 8) j)) (H.g0 511) (H.g0 510) (fun h => (H.gn h7 _).trans (congrArg g (by show (i 1).val * 512 + 512 + (r.val + 8 - 2) % 8 = (i 1).val * 512 + 512 + r.val - 2; omega))),
    ← H.gn h7 r]
  unfold UN
  pointwise [k0_pay22]

/-- The gradient of the gate's convolution, at an entry. -/
def dgs (d u g : EReal) : EReal := d * u * (Ideal.logistic g * (1 + g * (1 - Ideal.logistic g)))

/-- The gradient of the up's convolution, at an entry. -/
def dus (d g : EReal) : EReal := d * (g * Ideal.logistic g)

/-- The gradient of the gate's convolution, down a column. -/
def Dg (x5 x6 : FVec Ideal S3x512 .f32) (x7 x8 : FVec Ideal S1x512 .f32) (j : Fin 512) (f g d : ℕ → EReal) (n : ℕ) : EReal := dgs (d n) (cw x6 x8 j g n) (cw x5 x7 j f n)

/-- The gradient of the up's convolution, down a column. -/
def Du (x5 : FVec Ideal S3x512 .f32) (x7 : FVec Ideal S1x512 .f32) (j : Fin 512) (f d : ℕ → EReal) (n : ℕ) : EReal := dus (d n) (cw x5 x7 j f n)

/-- The gradient of the gate's convolution on a block. -/
theorem dg_val (H : Pt i x0 x1 x2 x3 x4 j f g d) (r : Fin 512) : DG i x0 x1 x3 x5 x6 x7 x8 (ix2 r j) = Dg x5 x6 x7 x8 j f g d ((i 1).val * 512 + r.val) := by
  unfold Dg dgs DG
  rw [← gp_val H, ← up_val H, ← H.d0]
  generalize GP i x0 x1 x5 x7 = q1
  generalize UP i x0 x1 x6 x8 = q2
  pointwise [k0_pay24, k0_pay23]

/-- The gradient of the up's convolution on a block. -/
theorem du_val (H : Pt i x0 x1 x2 x3 x4 j f g d) (r : Fin 512) : DU i x0 x1 x3 x5 x7 (ix2 r j) = Du x5 x7 j f d ((i 1).val * 512 + r.val) := by
  unfold Du dus DU
  rw [← gp_val H, ← H.d0]
  generalize GP i x0 x1 x5 x7 = q1
  pointwise [k0_pay25, k0_pay23]

/-- The incoming gradient on the next rows, zero after the last block. -/
theorem dn_val (H : Pt i x0 x1 x2 x3 x4 j f g d) (r : Fin 8) : k0_pay26 (F := Ideal) (Scalar.cmpi .slt (BitVec.ofNat 32 (i 1).val) 7#32) x4 (ix2 r j) = d ((i 1).val * 512 + 512 + r.val) := by
  have h8 : (i 1).val < 8 := (i 1).isLt
  have e : (Scalar.cmpi .slt (BitVec.ofNat 32 (i 1).val) 7#32) = BitVec.ofBool (decide ((i 1).val < 7)) := WordCmp.cmpi_slt_ofNat (a := (i 1).val) (b := 7) (by omega) (by omega)
  rw [e]
  unfold k0_pay26
  by_cases h : (i 1).val < 7
  · rw [← H.dn h r]
    simp only [WordCmp.select_ofBool, h, decide_true, if_true]
  · rw [H.dz _ (by omega)]
    simp only [WordCmp.select_ofBool, h, decide_false, Bool.false_eq_true, if_false]
    pointwise []

/-- The gradient of the gate's convolution on the next rows. -/
theorem dgn_val (H : Pt i x0 x1 x2 x3 x4 j f g d) (r : Fin 8) : k0_pay28 (F := Ideal) (Scalar.cmpi .slt (BitVec.ofNat 32 (i 1).val) 7#32) (GN x0 x2 x5 x7) (UN x0 x2 x6 x8) x4 (ix2 r j) = Dg x5 x6 x7 x8 j f g d ((i 1).val * 512 + 512 + r.val) := by
  have h8 : (i 1).val < 8 := (i 1).isLt
  have e := dn_val H r
  unfold Dg dgs
  unfold k0_pay28
  generalize k0_pay26 (F := Ideal) (Scalar.cmpi .slt (BitVec.ofNat 32 (i 1).val) 7#32) x4 = q at e ⊢
  by_cases h : (i 1).val < 7
  · rw [← gn_val H h, ← un_val H h, ← e]
    generalize GN x0 x2 x5 x7 = q1
    generalize UN x0 x2 x6 x8 = q2
    pointwise [k0_pay27]
  · rw [H.dz _ (by omega)] at e ⊢
    generalize GN x0 x2 x5 x7 = q1
    generalize UN x0 x2 x6 x8 = q2
    pointwise [k0_pay27]
    rw [e, zero_mul, zero_mul, zero_mul, zero_mul]

/-- The gradient of the up's convolution on the next rows. -/
theorem dun_val (H : Pt i x0 x1 x2 x3 x4 j f g d) (r : Fin 8) : k0_pay29 (F := Ideal) (Scalar.cmpi .slt (BitVec.ofNat 32 (i 1).val) 7#32) (GN x0 x2 x5 x7) x4 (ix2 r j) = Du x5 x7 j f d ((i 1).val * 512 + 512 + r.val) := by
  have h8 : (i 1).val < 8 := (i 1).isLt
  have e := dn_val H r
  unfold Du dus
  unfold k0_pay29
  generalize k0_pay26 (F := Ideal) (Scalar.cmpi .slt (BitVec.ofNat 32 (i 1).val) 7#32) x4 = q at e ⊢
  by_cases h : (i 1).val < 7
  · rw [← gn_val H h, ← e]
    generalize GN x0 x2 x5 x7 = q1
    pointwise [k0_pay27]
  · rw [H.dz _ (by omega)] at e ⊢
    generalize GN x0 x2 x5 x7 = q1
    pointwise [k0_pay27]
    rw [e, zero_mul, zero_mul]
end

end Cert.Mm21

end
-- ==== Proof.Mm21W.lean ====
/- A point of the FFN's convolution backward: what it stores, by the columns it reads. -/
module

public import proofs.«01_k».proof.Proof.Mm21V
public import Idealize.ShloMosaic.Lib.Pointwise
public import Idealize.ShloMosaic.Lib.Pipeline.ReadBack
public import Idealize.ShloMosaic.Lib.Pipeline.ValueKit
public import proofs.«01_k».proof.Proof.Conv
public import proofs.«01_k».proof.Defs

@[expose] public section

set_option maxRecDepth 16384

noncomputable section

namespace Cert.Mm21

open Idealize.ShloMosaic Idealize.ShloMosaic.TcCoe Idealize.SL.Sem Cert.Kernel21Ideal Cert.Kernel21Ideal.Gen
section
variable {i : grid0.Coords} {x0 : FVec Ideal S2x512x512 .f32} {x1 x2 : FVec Ideal S2x8x512 .f32} {x3 : FVec Ideal S512x512 .f32} {x4 : FVec Ideal S8x512 .f32} {j : Fin 512} {f g d : ℕ → EReal}
variable {x5 x6 : FVec Ideal S3x512 .f32} {x7 x8 : FVec Ideal S1x512 .f32}

/-- The first of the next rows of the gate's gradient. -/
theorem s30 (H : Pt i x0 x1 x2 x3 x4 j f g d) : k0_pay30 (F := Ideal) (Scalar.cmpi .slt (BitVec.ofNat 32 (i 1).val) 7#32) (iota .tc S8x512 32 [0] iota_S8x512_d0_w32) (GN x0 x2 x5 x7) (UN x0 x2 x6 x8) x4 (ix2 0 j) = Dg x5 x6 x7 x8 j f g d ((i 1).val * 512 + 512) := by
  refine Eq.trans ?_ ((pick 0 fun r => (k0_pay28 (F := Ideal) (Scalar.cmpi .slt (BitVec.ofNat 32 (i 1).val) 7#32) (GN x0 x2 x5 x7) (UN x0 x2 x6 x8) x4) (ix2 r j)).trans (dgn_val H 0))
  unfold k0_pay30
  generalize k0_pay28 (F := Ideal) (Scalar.cmpi .slt (BitVec.ofNat 32 (i 1).val) 7#32) (GN x0 x2 x5 x7) (UN x0 x2 x6 x8) x4 = q
  pointwise []
  skip

/-- The second of the next rows of the gate's gradient. -/
theorem s31 (H : Pt i x0 x1 x2 x3 x4 j f g d) : k0_pay31 (F := Ideal) (Scalar.cmpi .slt (BitVec.ofNat 32 (i 1).val) 7#32) (iota .tc S8x512 32 [0] iota_S8x512_d0_w32) (GN x0 x2 x5 x7) (UN x0 x2 x6 x8) x4 (ix2 0 j) = Dg x5 x6 x7 x8 j f g d ((i 1).val * 512 + 513) := by
  refine Eq.trans ?_ ((pick 1 fun r => (k0_pay28 (F := Ideal) (Scalar.cmpi .slt (BitVec.ofNat 32 (i 1).val) 7#32) (GN x0 x2 x5 x7) (UN x0 x2 x6 x8) x4) (ix2 r j)).trans (dgn_val H 1))
  unfold k0_pay31
  generalize k0_pay28 (F := Ideal) (Scalar.cmpi .slt (BitVec.ofNat 32 (i 1).val) 7#32) (GN x0 x2 x5 x7) (UN x0 x2 x6 x8) x4 = q
  pointwise []
  skip

/-- The first of the next rows of the up's gradient. -/
theorem s34 (H : Pt i x0 x1 x2 x3 x4 j f g d) : k0_pay34 (F := Ideal) (iota .tc S8x512 32 [0] iota_S8x512_d0_w32) (k0_pay29 (Scalar.cmpi .slt (BitVec.ofNat 32 (i 1).val) 7#32) (GN x0 x2 x5 x7) x4) (ix2 0 j) = Du x5 x7 j f d ((i 1).val * 512 + 512) := by
  refine Eq.trans ?_ ((pick 0 fun r => (k0_pay29 (F := Ideal) (Scalar.cmpi .slt (BitVec.ofNat 32 (i 1).val) 7#32) (GN x0 x2 x5 x7) x4) (ix2 r j)).trans (dun_val H 0))
  unfold k0_pay34
  generalize k0_pay29 (F := Ideal) (Scalar.cmpi .slt (BitVec.ofNat 32 (i 1).val) 7#32) (GN x0 x2 x5 x7) x4 = q
  pointwise []
  skip

/-- The second of the next rows of the up's gradient. -/
theorem s35 (H : Pt i x0 x1 x2 x3 x4 j f g d) : k0_pay35 (F := Ideal) (iota .tc S8x512 32 [0] iota_S8x512_d0_w32) (k0_pay29 (Scalar.cmpi .slt (BitVec.ofNat 32 (i 1).val) 7#32) (GN x0 x2 x5 x7) x4) (ix2 0 j) = Du x5 x7 j f d ((i 1).val * 512 + 513) := by
  refine Eq.trans ?_ ((pick 1 fun r => (k0_pay29 (F := Ideal) (Scalar.cmpi .slt (BitVec.ofNat 32 (i 1).val) 7#32) (GN x0 x2 x5 x7) x4) (ix2 r j)).trans (dun_val H 1))
  unfold k0_pay35
  generalize k0_pay29 (F := Ideal) (Scalar.cmpi .slt (BitVec.ofNat 32 (i 1).val) 7#32) (GN x0 x2 x5 x7) x4 = q
  pointwise []
  skip

/-- The gradient of the gate half, at an entry. -/
theorem rg_val (H : Pt i x0 x1 x2 x3 x4 j f g d) (r : Fin 512) : RG i x0 x1 x2 x3 x4 x5 x6 x7 x8 (ix3 0 r j)
    = x5 (ix2 2 j) * Dg x5 x6 x7 x8 j f g d ((i 1).val * 512 + r.val) + x5 (ix2 1 j) * Dg x5 x6 x7 x8 j f g d ((i 1).val * 512 + r.val + 1) + x5 (ix2 0 j) * Dg x5 x6 x7 x8 j f g d ((i 1).val * 512 + r.val + 2) := by
  have hr := r.isLt
  have e0 := s30 (x5 := x5) (x6 := x6) (x7 := x7) (x8 := x8) H
  have e1 := s31 (x5 := x5) (x6 := x6) (x7 := x7) (x8 := x8) H
  have eq := fun r => dg_val (x5 := x5) (x6 := x6) (x7 := x7) (x8 := x8) H r
  unfold RG k0_pay32
  unfold DG at eq ⊢
  generalize k0_pay30 (F := Ideal) (Scalar.cmpi .slt (BitVec.ofNat 32 (i 1).val) 7#32) (iota .tc S8x512 32 [0] iota_S8x512_d0_w32) (GN x0 x2 x5 x7) (UN x0 x2 x6 x8) x4 = z0 at e0 ⊢
  generalize k0_pay31 (F := Ideal) (Scalar.cmpi .slt (BitVec.ofNat 32 (i 1).val) 7#32) (iota .tc S8x512 32 [0] iota_S8x512_d0_w32) (GN x0 x2 x5 x7) (UN x0 x2 x6 x8) x4 = z1 at e1 ⊢
  generalize k0_pay24 (F := Ideal) (GP i x0 x1 x5 x7) (UP i x0 x1 x6 x8) x3 = q at eq ⊢
  rw [← below1 ((i 1).val * 512) r.val hr (Dg x5 x6 x7 x8 j f g d) (z0 (ix2 0 j)) (q (ix2 (⟨(r.val + 512 - 511) % 512, by omega⟩ : Fin 512) j)) e0 (fun h => (eq _).trans (congrArg _ (by show (i 1).val * 512 + (r.val + 512 - 511) % 512 = (i 1).val * 512 + r.val + 1; omega))),
    ← below2 ((i 1).val * 512) r.val hr (Dg x5 x6 x7 x8 j f g d) (z0 (ix2 0 j)) (z1 (ix2 0 j)) (q (ix2 (⟨(r.val + 512 - 510) % 512, by omega⟩ : Fin 512) j)) e0 e1 (fun h => (eq _).trans (congrArg _ (by show (i 1).val * 512 + (r.val + 512 - 510) % 512 = (i 1).val * 512 + r.val + 2; omega))),
    ← eq r]
  pointwise [k0_pay33]

/-- The gradient of the up half, at an entry. -/
theorem rv_val (H : Pt i x0 x1 x2 x3 x4 j f g d) (r : Fin 512) : RV i x0 x1 x2 x3 x4 x5 x6 x7 (ix3 0 r j)
    = x6 (ix2 2 j) * Du x5 x7 j f d ((i 1).val * 512 + r.val) + x6 (ix2 1 j) * Du x5 x7 j f d ((i 1).val * 512 + r.val + 1) + x6 (ix2 0 j) * Du x5 x7 j f d ((i 1).val * 512 + r.val + 2) := by
  have hr := r.isLt
  have e0 := s34 (x5 := x5) (x7 := x7) H
  have e1 := s35 (x5 := x5) (x7 := x7) H
  have eq := fun r => du_val (x5 := x5) (x7 := x7) H r
  unfold RV
  generalize k0_pay34 (F := Ideal) (iota .tc S8x512 32 [0] iota_S8x512_d0_w32) (k0_pay29 (Scalar.cmpi .slt (BitVec.ofNat 32 (i 1).val) 7#32) (GN x0 x2 x5 x7) x4) = z0 at e0 ⊢
  generalize k0_pay35 (F := Ideal) (iota .tc S8x512 32 [0] iota_S8x512_d0_w32) (k0_pay29 (Scalar.cmpi .slt (BitVec.ofNat 32 (i 1).val) 7#32) (GN x0 x2 x5 x7) x4) = z1 at e1 ⊢
  generalize DU i x0 x1 x3 x5 x7 = q at eq ⊢
  rw [← below1 ((i 1).val * 512) r.val hr (Du x5 x7 j f d) (z0 (ix2 0 j)) (q (ix2 (⟨(r.val + 512 - 511) % 512, by omega⟩ : Fin 512) j)) e0 (fun h => (eq _).trans (congrArg _ (by show (i 1).val * 512 + (r.val + 512 - 511) % 512 = (i 1).val * 512 + r.val + 1; omega))),
    ← below2 ((i 1).val * 512) r.val hr (Du x5 x7 j f d) (z0 (ix2 0 j)) (z1 (ix2 0 j)) (q (ix2 (⟨(r.val + 512 - 510) % 512, by omega⟩ : Fin 512) j)) e0 e1 (fun h => (eq _).trans (congrArg _ (by show (i 1).val * 512 + (r.val + 512 - 510) % 512 = (i 1).val * 512 + r.val + 2; omega))),
    ← eq r]
  pointwise [k0_pay37, k0_pay36]

/-- A row's total of products, carried. -/
theorem p38 (q w : FVec Ideal S512x512 .f32) (a : FVec Ideal S1x512 .f32) (j : Fin 512) : k0_pay38 (F := Ideal) w q a (ix2 0 j) = a (ix2 0 j) + ∑ r : Fin 512, q (ix2 r j) * w (ix2 r j) := by
  pointwise [k0_pay38]

/-- A row's total of products, carried. -/
theorem p40 (q w : FVec Ideal S512x512 .f32) (a : FVec Ideal S1x512 .f32) (j : Fin 512) : k0_pay40 (F := Ideal) w q a (ix2 0 j) = a (ix2 0 j) + ∑ r : Fin 512, q (ix2 r j) * w (ix2 r j) := by
  pointwise [k0_pay40]

/-- A row's total of products, carried. -/
theorem p41 (q w : FVec Ideal S512x512 .f32) (a : FVec Ideal S1x512 .f32) (j : Fin 512) : k0_pay41 (F := Ideal) w q a (ix2 0 j) = a (ix2 0 j) + ∑ r : Fin 512, q (ix2 r j) * w (ix2 r j) := by
  pointwise [k0_pay41]

/-- A row's total of products, carried. -/
theorem p42 (q w : FVec Ideal S512x512 .f32) (a : FVec Ideal S1x512 .f32) (j : Fin 512) : k0_pay42 (F := Ideal) w q a (ix2 0 j) = a (ix2 0 j) + ∑ r : Fin 512, q (ix2 r j) * w (ix2 r j) := by
  pointwise [k0_pay42]

/-- A row's total of products, carried. -/
theorem p43 (q w : FVec Ideal S512x512 .f32) (a : FVec Ideal S1x512 .f32) (j : Fin 512) : k0_pay43 (F := Ideal) w q a (ix2 0 j) = a (ix2 0 j) + ∑ r : Fin 512, q (ix2 r j) * w (ix2 r j) := by
  pointwise [k0_pay43]

/-- A row's total of products, carried. -/
theorem p44 (q w : FVec Ideal S512x512 .f32) (a : FVec Ideal S1x512 .f32) (j : Fin 512) : k0_pay44 (F := Ideal) w q a (ix2 0 j) = a (ix2 0 j) + ∑ r : Fin 512, q (ix2 r j) * w (ix2 r j) := by
  pointwise [k0_pay44]

/-- A total, carried. -/
theorem p1 (q : FVec Ideal S512x512 .f32) (a : FVec Ideal S1x512 .f32) (j : Fin 512) : k0_pay1 (F := Ideal) q a (ix2 0 j) = a (ix2 0 j) + ∑ r : Fin 512, q (ix2 r j) := by
  pointwise [k0_pay1]

/-- A total, carried. -/
theorem p2 (q : FVec Ideal S512x512 .f32) (a : FVec Ideal S1x512 .f32) (j : Fin 512) : k0_pay2 (F := Ideal) q a (ix2 0 j) = a (ix2 0 j) + ∑ r : Fin 512, q (ix2 r j) := by
  pointwise [k0_pay2]

/-- A point's step of a weight row's total. -/
def stepW (b : ℕ) (D f : ℕ → EReal) (k : Fin 3) (a : EReal) : EReal := a + ∑ r : Fin 512, D (b + r.val) * Conv.tap (2 - k.val) f (b + r.val)

/-- A row of three read back. -/
theorem ld_row (a : FVec Ideal S3x512 .f32) (k : ℕ) (hk : k < 3) (inb : ∀ x, (![k, 0] : Fin 2 → ℕ) x + S1x512.size x ≤ S3x512.size x) (j : Fin 512) :
    (View.ld (Val := Elt Ideal) (e' := .f32) (a : Vec Ideal S3x512 .f32) (Rect.unit (s := S3x512) ![k, 0] S1x512.size inb) : Vec Ideal S1x512 .f32) (ix2 0 j) = a (ix2 (⟨k, hk⟩ : Fin 3) j) := by
  refine congrArg a (funext fun x => Fin.ext ?_)
  fin_cases x
  · show k + 1 * 0 = k
    omega
  · show 0 + 1 * j.val = j.val
    omega

/-- The gate's weight totals a later point leaves. -/
theorem w10 (H : Pt i x0 x1 x2 x3 x4 j f g d) (a : FVec Ideal S3x512 .f32) (k : Fin 3) :
    View.canon (Val := Elt Ideal) [(⟨Rect.unit (s := S3x512) ![2, 0] S1x512.size inb_S3x512_S1x512_2_0, k0_pay41 (A0 x0) (DG i x0 x1 x3 x5 x6 x7 x8) (View.ld (Val := Elt Ideal) (e' := .f32) (a : Vec Ideal S3x512 .f32) (Rect.unit (s := S3x512) ![2, 0] S1x512.size inb_S3x512_S1x512_2_0))⟩ : View.Piece (Elt Ideal) S3x512 .f32), (⟨Rect.unit (s := S3x512) ![1, 0] S1x512.size inb_S3x512_S1x512_1_0, k0_pay40 (G1 i x0 x1) (DG i x0 x1 x3 x5 x6 x7 x8) (k0_pay39 (View.ld (Val := Elt Ideal) (e' := .f32) (a : Vec Ideal S3x512 .f32) (Rect.unit (s := S3x512) ![1, 0] S1x512.size inb_S3x512_S1x512_1_0)))⟩ : View.Piece (Elt Ideal) S3x512 .f32), (⟨Rect.unit (s := S3x512) ![0, 0] S1x512.size inb_S3x512_S1x512_0_0, k0_pay38 (G2 i x0 x1) (DG i x0 x1 x3 x5 x6 x7 x8) (View.ld (Val := Elt Ideal) (e' := .f32) (a : Vec Ideal S3x512 .f32) (Rect.unit (s := S3x512) ![0, 0] S1x512.size inb_S3x512_S1x512_0_0))⟩ : View.Piece (Elt Ideal) S3x512 .f32)] (ix2 k j) = stepW ((i 1).val * 512) (Dg x5 x6 x7 x8 j f g d) f k (a (ix2 k j)) := by
  unfold stepW
  fin_cases k
  · rw [row_at, if_neg (by decide), row_at, if_neg (by decide), row_at, if_pos rfl]
    refine (p38 _ _ _ _).trans (congrArg₂ (· + ·) (ld_row a 0 (by decide) _ j) (Finset.sum_congr rfl fun r _ => ?_))
    rw [dg_val H, g2_val H]
    rfl
  · rw [row_at, if_neg (by decide), row_at, if_pos rfl]
    refine (p40 _ _ _ _).trans (congrArg₂ (· + ·) (Eq.trans (by pointwise [k0_pay39]) (ld_row a 1 (by decide) inb_S3x512_S1x512_1_0 j)) (Finset.sum_congr rfl fun r _ => ?_))
    rw [dg_val H, g1_val H]
    rfl
  · rw [row_at, if_pos rfl]
    refine (p41 _ _ _ _).trans (congrArg₂ (· + ·) (ld_row a 2 (by decide) _ j) (Finset.sum_congr rfl fun r _ => ?_))
    rw [dg_val H, a0_val H]
    rfl

/-- The gate's weight totals a first point leaves. -/
theorem w10z (H : Pt i x0 x1 x2 x3 x4 j f g d) (a : FVec Ideal S3x512 .f32) (k : Fin 3) :
    View.canon (Val := Elt Ideal) [(⟨Rect.unit (s := S3x512) ![2, 0] S1x512.size inb_S3x512_S1x512_2_0, k0_pay41 (A0 x0) (DG i x0 x1 x3 x5 x6 x7 x8) (View.ld (Val := Elt Ideal) (e' := .f32) (a : Vec Ideal S3x512 .f32) (Rect.unit (s := S3x512) ![2, 0] S1x512.size inb_S3x512_S1x512_2_0))⟩ : View.Piece (Elt Ideal) S3x512 .f32), (⟨Rect.unit (s := S3x512) ![1, 0] S1x512.size inb_S3x512_S1x512_1_0, k0_pay40 (G1 i x0 x1) (DG i x0 x1 x3 x5 x6 x7 x8) (k0_pay39 (View.ld (Val := Elt Ideal) (e' := .f32) (a : Vec Ideal S3x512 .f32) (Rect.unit (s := S3x512) ![1, 0] S1x512.size inb_S3x512_S1x512_1_0)))⟩ : View.Piece (Elt Ideal) S3x512 .f32), (⟨Rect.unit (s := S3x512) ![0, 0] S1x512.size inb_S3x512_S1x512_0_0, k0_pay38 (G2 i x0 x1) (DG i x0 x1 x3 x5 x6 x7 x8) (View.ld (Val := Elt Ideal) (e' := .f32) (a : Vec Ideal S3x512 .f32) (Rect.unit (s := S3x512) ![0, 0] S1x512.size inb_S3x512_S1x512_0_0))⟩ : View.Piece (Elt Ideal) S3x512 .f32), (⟨Rect.unit (s := S3x512) ![0, 0] S3x512.size inb_S3x512_S3x512_0_0, a⟩ : View.Piece (Elt Ideal) S3x512 .f32)] (ix2 k j) = stepW ((i 1).val * 512) (Dg x5 x6 x7 x8 j f g d) f k (a (ix2 k j)) := by
  unfold stepW
  fin_cases k
  · rw [row_at, if_neg (by decide), row_at, if_neg (by decide), row_at, if_pos rfl]
    refine (p38 _ _ _ _).trans (congrArg₂ (· + ·) (ld_row a 0 (by decide) _ j) (Finset.sum_congr rfl fun r _ => ?_))
    rw [dg_val H, g2_val H]
    rfl
  · rw [row_at, if_neg (by decide), row_at, if_pos rfl]
    refine (p40 _ _ _ _).trans (congrArg₂ (· + ·) (Eq.trans (by pointwise [k0_pay39]) (ld_row a 1 (by decide) inb_S3x512_S1x512_1_0 j)) (Finset.sum_congr rfl fun r _ => ?_))
    rw [dg_val H, g1_val H]
    rfl
  · rw [row_at, if_pos rfl]
    refine (p41 _ _ _ _).trans (congrArg₂ (· + ·) (ld_row a 2 (by decide) _ j) (Finset.sum_congr rfl fun r _ => ?_))
    rw [dg_val H, a0_val H]
    rfl

/-- The up's weight totals a later point leaves. -/
theorem w11 (H : Pt i x0 x1 x2 x3 x4 j f g d) (a : FVec Ideal S3x512 .f32) (k : Fin 3) :
    View.canon (Val := Elt Ideal) [(⟨Rect.unit (s := S3x512) ![2, 0] S1x512.size inb_S3x512_S1x512_2_0, k0_pay44 (A1 x0) (DU i x0 x1 x3 x5 x7) (View.ld (Val := Elt Ideal) (e' := .f32) (a : Vec Ideal S3x512 .f32) (Rect.unit (s := S3x512) ![2, 0] S1x512.size inb_S3x512_S1x512_2_0))⟩ : View.Piece (Elt Ideal) S3x512 .f32), (⟨Rect.unit (s := S3x512) ![1, 0] S1x512.size inb_S3x512_S1x512_1_0, k0_pay43 (U1 i x0 x1) (DU i x0 x1 x3 x5 x7) (View.ld (Val := Elt Ideal) (e' := .f32) (a : Vec Ideal S3x512 .f32) (Rect.unit (s := S3x512) ![1, 0] S1x512.size inb_S3x512_S1x512_1_0))⟩ : View.Piece (Elt Ideal) S3x512 .f32), (⟨Rect.unit (s := S3x512) ![0, 0] S1x512.size inb_S3x512_S1x512_0_0, k0_pay42 (U2 i x0 x1) (DU i x0 x1 x3 x5 x7) (View.ld (Val := Elt Ideal) (e' := .f32) (a : Vec Ideal S3x512 .f32) (Rect.unit (s := S3x512) ![0, 0] S1x512.size inb_S3x512_S1x512_0_0))⟩ : View.Piece (Elt Ideal) S3x512 .f32)] (ix2 k j) = stepW ((i 1).val * 512) (Du x5 x7 j f d) g k (a (ix2 k j)) := by
  unfold stepW
  fin_cases k
  · rw [row_at, if_neg (by decide), row_at, if_neg (by decide), row_at, if_pos rfl]
    refine (p42 _ _ _ _).trans (congrArg₂ (· + ·) (ld_row a 0 (by decide) _ j) (Finset.sum_congr rfl fun r _ => ?_))
    rw [du_val H, u2_val H]
    rfl
  · rw [row_at, if_neg (by decide), row_at, if_pos rfl]
    refine (p43 _ _ _ _).trans (congrArg₂ (· + ·) (ld_row a 1 (by decide) _ j) (Finset.sum_congr rfl fun r _ => ?_))
    rw [du_val H, u1_val H]
    rfl
  · rw [row_at, if_pos rfl]
    refine (p44 _ _ _ _).trans (congrArg₂ (· + ·) (ld_row a 2 (by decide) _ j) (Finset.sum_congr rfl fun r _ => ?_))
    rw [du_val H, a1_val H]
    rfl

/-- The up's weight totals a first point leaves. -/
theorem w11z (H : Pt i x0 x1 x2 x3 x4 j f g d) (a : FVec Ideal S3x512 .f32) (k : Fin 3) :
    View.canon (Val := Elt Ideal) [(⟨Rect.unit (s := S3x512) ![2, 0] S1x512.size inb_S3x512_S1x512_2_0, k0_pay44 (A1 x0) (DU i x0 x1 x3 x5 x7) (View.ld (Val := Elt Ideal) (e' := .f32) (a : Vec Ideal S3x512 .f32) (Rect.unit (s := S3x512) ![2, 0] S1x512.size inb_S3x512_S1x512_2_0))⟩ : View.Piece (Elt Ideal) S3x512 .f32), (⟨Rect.unit (s := S3x512) ![1, 0] S1x512.size inb_S3x512_S1x512_1_0, k0_pay43 (U1 i x0 x1) (DU i x0 x1 x3 x5 x7) (View.ld (Val := Elt Ideal) (e' := .f32) (a : Vec Ideal S3x512 .f32) (Rect.unit (s := S3x512) ![1, 0] S1x512.size inb_S3x512_S1x512_1_0))⟩ : View.Piece (Elt Ideal) S3x512 .f32), (⟨Rect.unit (s := S3x512) ![0, 0] S1x512.size inb_S3x512_S1x512_0_0, k0_pay42 (U2 i x0 x1) (DU i x0 x1 x3 x5 x7) (View.ld (Val := Elt Ideal) (e' := .f32) (a : Vec Ideal S3x512 .f32) (Rect.unit (s := S3x512) ![0, 0] S1x512.size inb_S3x512_S1x512_0_0))⟩ : View.Piece (Elt Ideal) S3x512 .f32), (⟨Rect.unit (s := S3x512) ![0, 0] S3x512.size inb_S3x512_S3x512_0_0, a⟩ : View.Piece (Elt Ideal) S3x512 .f32)] (ix2 k j) = stepW ((i 1).val * 512) (Du x5 x7 j f d) g k (a (ix2 k j)) := by
  unfold stepW
  fin_cases k
  · rw [row_at, if_neg (by decide), row_at, if_neg (by decide), row_at, if_pos rfl]
    refine (p42 _ _ _ _).trans (congrArg₂ (· + ·) (ld_row a 0 (by decide) _ j) (Finset.sum_congr rfl fun r _ => ?_))
    rw [du_val H, u2_val H]
    rfl
  · rw [row_at, if_neg (by decide), row_at, if_pos rfl]
    refine (p43 _ _ _ _).trans (congrArg₂ (· + ·) (ld_row a 1 (by decide) _ j) (Finset.sum_congr rfl fun r _ => ?_))
    rw [du_val H, u1_val H]
    rfl
  · rw [row_at, if_pos rfl]
    refine (p44 _ _ _ _).trans (congrArg₂ (· + ·) (ld_row a 2 (by decide) _ j) (Finset.sum_congr rfl fun r _ => ?_))
    rw [du_val H, a1_val H]
    rfl

/-- The gate's bias total a point leaves. -/
theorem w12 (H : Pt i x0 x1 x2 x3 x4 j f g d) (a : FVec Ideal S1x512 .f32) : k0_pay1 (F := Ideal) (DG i x0 x1 x3 x5 x6 x7 x8) a (ix2 0 j) = a (ix2 0 j) + ∑ r : Fin 512, Dg x5 x6 x7 x8 j f g d ((i 1).val * 512 + r.val) :=
  (p1 _ _ _).trans (congrArg₂ (· + ·) rfl (Finset.sum_congr rfl fun r _ => dg_val H r))

/-- The up's bias total a point leaves. -/
theorem w13 (H : Pt i x0 x1 x2 x3 x4 j f g d) (a : FVec Ideal S1x512 .f32) : k0_pay2 (F := Ideal) (DU i x0 x1 x3 x5 x7) a (ix2 0 j) = a (ix2 0 j) + ∑ r : Fin 512, Du x5 x7 j f d ((i 1).val * 512 + r.val) :=
  (p2 _ _ _).trans (congrArg₂ (· + ·) rfl (Finset.sum_congr rfl fun r _ => du_val H r))

/-- The two halves' gradients a point leaves, at an entry. -/
theorem w9 (H : Pt i x0 x1 x2 x3 x4 j f g d) (s : Fin 2) (r : Fin 512) : View.canon (Val := Elt Ideal) [(⟨Rect.unit (s := S2x512x512) ![1, 0, 0] S1x512x512.size inb_S2x512x512_S1x512x512_1_0_0, RV i x0 x1 x2 x3 x4 x5 x6 x7⟩ : View.Piece (Elt Ideal) S2x512x512 .bf16), (⟨Rect.unit (s := S2x512x512) ![0, 0, 0] S1x512x512.size inb_S2x512x512_S1x512x512_0_0_0, RG i x0 x1 x2 x3 x4 x5 x6 x7 x8⟩ : View.Piece (Elt Ideal) S2x512x512 .bf16)] (ix3 s r j)
    = (if s = 0 then x5 (ix2 2 j) * Dg x5 x6 x7 x8 j f g d ((i 1).val * 512 + r.val) + x5 (ix2 1 j) * Dg x5 x6 x7 x8 j f g d ((i 1).val * 512 + r.val + 1) + x5 (ix2 0 j) * Dg x5 x6 x7 x8 j f g d ((i 1).val * 512 + r.val + 2)
      else x6 (ix2 2 j) * Du x5 x7 j f d ((i 1).val * 512 + r.val) + x6 (ix2 1 j) * Du x5 x7 j f d ((i 1).val * 512 + r.val + 1) + x6 (ix2 0 j) * Du x5 x7 j f d ((i 1).val * 512 + r.val + 2)) := by
  fin_cases s
  · rw [half_at, if_neg (by decide), half_at, if_pos rfl]
    exact (rg_val H r).trans (if_pos rfl).symm
  · rw [half_at, if_pos rfl]
    exact (rv_val H r).trans (if_neg (by decide)).symm
end

end Cert.Mm21

end
-- ==== Proof.Mm21R.lean ====
/- The FFN's convolution backward: the reference, entry by entry. -/
module

public import proofs.«01_k».proof.Proof.Gen.Reference21Ideal.Run
public import proofs.«01_k».proof.Proof.Gen.Reference21Ideal.Read
public import proofs.«01_k».proof.Proof.Mm21W

@[expose] public section

set_option maxRecDepth 16384

noncomputable section

namespace Cert.Mm21

open Idealize.ShloMosaic Idealize.ShloMosaic.TcCoe Idealize.SL.Sem Cert.Kernel21Ideal Cert.Kernel21Ideal.Gen

/-- A column of one half, zero below the array. -/
def col (a : FVec Ideal S2x4096x5632 .f32) (s : Fin 2) (j : Fin 5632) (r : ℕ) : EReal :=
  if h : r < 4096 then a (ix3 s ⟨r, h⟩ j) else 0

/-- The reference's two halves side by side. -/
theorem ref4 (x0 : FVec Ideal S2x4096x5632 .f32) (r : Fin 4096) (j : Fin 11264) :
    Cert.Reference21Ideal.Read.val_main_v4 (F := Ideal) x0 (ix2 r j) = if h : j.val < 5632 then x0 (ix3 0 r ⟨j.val, h⟩) else x0 (ix3 1 r ⟨j.val - 5632, by omega⟩) := by
  pointwise [Cert.Reference21Ideal.Read.val_main_v4, Cert.Reference21Ideal.Read.val_main_v3, Cert.Reference21Ideal.Read.val_main_v2, Cert.Reference21Ideal.Read.val_main_v1, Cert.Reference21Ideal.Read.val_main_v0]

/-- The reference's padded rows, by the rows. -/
theorem ref7' (x0 : FVec Ideal S2x4096x5632 .f32) (r : Fin 4098) (j : Fin 11264) :
    Cert.Reference21Ideal.Read.val_main_v7 (F := Ideal) x0 (ix2 r j) = if h : r.val < 2 then (0 : EReal) else Cert.Reference21Ideal.Read.val_main_v4 (F := Ideal) x0 (ix2 (⟨r.val - 2, by omega⟩ : Fin 4096) j) := by
  have z : ∀ (r : Fin 2) (j : Fin 11264), Cert.Reference21Ideal.Read.val_main_v6 (F := Ideal) (ix2 r j) = (0 : EReal) := fun r j => by
    pointwise [Cert.Reference21Ideal.Read.val_main_v6, Cert.Reference21Ideal.Read.val_main_cst]
  unfold Cert.Reference21Ideal.Read.val_main_v7
  generalize Cert.Reference21Ideal.Read.val_main_v4 (F := Ideal) x0 = y at *
  generalize Cert.Reference21Ideal.Read.val_main_v6 (F := Ideal) = q at *
  pointwise []
  simp only [z]

/-- The reference's padded rows. -/
theorem ref7 (x0 : FVec Ideal S2x4096x5632 .f32) (k : ℕ) (hk : k ≤ 2) (r : Fin 4096) (s : Fin 2) (j : Fin 5632) :
    Cert.Reference21Ideal.Read.val_main_v7 (F := Ideal) x0 (ix2 (⟨k + r.val, by omega⟩ : Fin 4098) (⟨s.val * 5632 + j.val, by omega⟩ : Fin 11264)) = Conv.tap (2 - k) (col x0 s j) r.val := by
  rw [ref7']
  simp only [ref4]
  unfold Conv.tap col
  by_cases h : k + r.val < 2
  · rw [dif_pos h, if_pos (by omega)]
  · rw [dif_neg h, if_neg (by omega), dif_pos (show r.val - (2 - k) < 4096 by omega)]
    by_cases h1 : s.val = 0
    · obtain rfl : s = 0 := Fin.ext h1
      rw [dif_pos (by show 0 * 5632 + j.val < 5632; omega)]
      refine congrArg x0 (congrArg₂ (ix3 0) (Fin.ext ?_) (Fin.ext ?_))
      · show k + r.val - 2 = r.val - (2 - k); omega
      · show 0 * 5632 + j.val = j.val; omega
    · obtain rfl : s = 1 := Fin.ext (by show s.val = 1; omega)
      rw [dif_neg (by show ¬ 1 * 5632 + j.val < 5632; omega)]
      refine congrArg x0 (congrArg₂ (ix3 1) (Fin.ext ?_) (Fin.ext ?_))
      · show k + r.val - 2 = r.val - (2 - k); omega
      · show 1 * 5632 + j.val - 5632 = j.val; omega

/-- The convolution of an array's column in one half. -/
def cva (x0 : FVec Ideal S2x4096x5632 .f32) (x1 : FVec Ideal S3x11264 .f32) (x2 : FVec Ideal S1x11264 .f32) (s : Fin 2) (j : Fin 5632) (r : ℕ) : EReal :=
  Conv.cv (x1 (ix2 0 (⟨s.val * 5632 + j.val, by omega⟩ : Fin 11264))) (x1 (ix2 1 (⟨s.val * 5632 + j.val, by omega⟩ : Fin 11264))) (x1 (ix2 2 (⟨s.val * 5632 + j.val, by omega⟩ : Fin 11264))) (x2 (ix2 0 (⟨s.val * 5632 + j.val, by omega⟩ : Fin 11264))) (col x0 s j) r

/-- The reference's convolution. -/
theorem ref31 (x0 : FVec Ideal S2x4096x5632 .f32) (x1 : FVec Ideal S3x11264 .f32) (x2 : FVec Ideal S1x11264 .f32) (r : Fin 4096) (s : Fin 2) (j : Fin 5632) :
    Cert.Reference21Ideal.Read.val_main_v31 (F := Ideal) x0 x1 x2 (ix2 r (⟨s.val * 5632 + j.val, by omega⟩ : Fin 11264)) = cva x0 x1 x2 s j r.val := by
  pointwise [Cert.Reference21Ideal.Read.val_main_v31, Cert.Reference21Ideal.Read.val_main_v30, Cert.Reference21Ideal.Read.val_main_v29, Cert.Reference21Ideal.Read.val_main_v28, Cert.Reference21Ideal.Read.val_main_v27, Cert.Reference21Ideal.Read.val_main_v26, Cert.Reference21Ideal.Read.val_main_v25, Cert.Reference21Ideal.Read.val_main_v24, Cert.Reference21Ideal.Read.val_main_v23, Cert.Reference21Ideal.Read.val_main_v22, Cert.Reference21Ideal.Read.val_main_v21, Cert.Reference21Ideal.Read.val_main_v20, Cert.Reference21Ideal.Read.val_main_v19, Cert.Reference21Ideal.Read.val_main_v18, Cert.Reference21Ideal.Read.val_main_v17, Cert.Reference21Ideal.Read.val_main_v16, Cert.Reference21Ideal.Read.val_main_v15, Cert.Reference21Ideal.Read.val_main_v14, Cert.Reference21Ideal.Read.val_main_v13, Cert.Reference21Ideal.Read.val_main_v12, Cert.Reference21Ideal.Read.val_main_v11, Cert.Reference21Ideal.Read.val_main_v10, Cert.Reference21Ideal.Read.val_main_v9, Cert.Reference21Ideal.Read.val_main_v5]
  unfold cva Conv.cv
  have e0 := ref7 x0 0 (by omega) r s j
  have e1 := ref7 x0 1 (by omega) r s j
  have e2 := ref7 x0 2 (by omega) r s j
  simp only [Nat.zero_add] at e0
  rw [e0, e1, e2]
  rfl

/-- The reference's gate. -/
theorem ref32 (x0 : FVec Ideal S2x4096x5632 .f32) (x1 : FVec Ideal S3x11264 .f32) (x2 : FVec Ideal S1x11264 .f32) (r : Fin 4096) (j : Fin 5632) : Cert.Reference21Ideal.Read.val_main_v32 (F := Ideal) x0 x1 x2 (ix2 r j) = cva x0 x1 x2 0 j r.val := by
  refine Eq.trans ?_ (ref31 x0 x1 x2 r 0 j)
  unfold Cert.Reference21Ideal.Read.val_main_v32
  generalize Cert.Reference21Ideal.Read.val_main_v31 (F := Ideal) x0 x1 x2 = q
  pointwise []

/-- The reference's up. -/
theorem ref33 (x0 : FVec Ideal S2x4096x5632 .f32) (x1 : FVec Ideal S3x11264 .f32) (x2 : FVec Ideal S1x11264 .f32) (r : Fin 4096) (j : Fin 5632) : Cert.Reference21Ideal.Read.val_main_v33 (F := Ideal) x0 x1 x2 (ix2 r j) = cva x0 x1 x2 1 j r.val := by
  refine Eq.trans ?_ (ref31 x0 x1 x2 r 1 j)
  unfold Cert.Reference21Ideal.Read.val_main_v33
  generalize Cert.Reference21Ideal.Read.val_main_v31 (F := Ideal) x0 x1 x2 = q
  pointwise []

/-- The reference's gate's logistic. -/
theorem ref34 (x0 : FVec Ideal S2x4096x5632 .f32) (x1 : FVec Ideal S3x11264 .f32) (x2 : FVec Ideal S1x11264 .f32) (r : Fin 4096) (j : Fin 5632) : Cert.Reference21Ideal.Read.val_main_v34_2 (F := Ideal) x0 x1 x2 (ix2 r j) = Ideal.logistic (cva x0 x1 x2 0 j r.val) := by
  rw [← ref32]
  unfold Cert.Reference21Ideal.Read.val_main_v34_2 Cert.Reference21Ideal.Read.val_main_call0_v3 Cert.Reference21Ideal.Read.val_main_call0_v1 Cert.Reference21Ideal.Read.val_main_call0_v0
  generalize Cert.Reference21Ideal.Read.val_main_v32 (F := Ideal) x0 x1 x2 = q
  pointwise [Cert.Reference21Ideal.Read.val_main_call0_v2, Cert.Reference21Ideal.Read.val_main_call0_v4, Cert.Reference21Ideal.Read.val_main_call0_cst, Cert.Reference21Ideal.Read.val_main_call0_cst_0]
  rfl

/-- The reference's gradient of the up's convolution. -/
theorem ref36 (x0 : FVec Ideal S2x4096x5632 .f32) (x1 : FVec Ideal S3x11264 .f32) (x2 : FVec Ideal S1x11264 .f32) (x3 : FVec Ideal S4096x5632 .f32) (r : Fin 4096) (j : Fin 5632) : Cert.Reference21Ideal.Read.val_main_v36 (F := Ideal) x0 x1 x2 x3 (ix2 r j) = dus (x3 (ix2 r j)) (cva x0 x1 x2 0 j r.val) := by
  have e := ref34 x0 x1 x2 r j
  have e' := ref32 x0 x1 x2 r j
  unfold dus
  rw [← e, ← e']
  unfold Cert.Reference21Ideal.Read.val_main_v36 Cert.Reference21Ideal.Read.val_main_v34_0
  generalize Cert.Reference21Ideal.Read.val_main_v34_2 (F := Ideal) x0 x1 x2 = q
  generalize Cert.Reference21Ideal.Read.val_main_v32 (F := Ideal) x0 x1 x2 = q'
  pointwise []
  exact mul_comm _ _

/-- The two forms of the gate's gradient agree at real numbers. -/
theorem dgs_real (d u g : ℝ) : (d : EReal) * u * Ideal.logistic g + g * ((d : EReal) * u) * (Ideal.logistic g * (1 - Ideal.logistic g)) = dgs d u g := by
  unfold dgs
  rw [Ideal.logistic_coe]
  generalize (1 + Real.exp (-g))⁻¹ = s
  rw [← EReal.coe_one]
  simp only [← EReal.coe_mul, ← EReal.coe_sub, ← EReal.coe_add]
  exact congrArg _ (by ring)

/-- A value that is a real number. -/
def IsR (x : EReal) : Prop := ∃ y : ℝ, x = (y : EReal)

/-- A convolution of real numbers is real. -/
theorem cva_real (x0 : FVec Ideal S2x4096x5632 .f32) (x1 : FVec Ideal S3x11264 .f32) (x2 : FVec Ideal S1x11264 .f32) (h0 : ∀ i, IsR (x0 i)) (h1 : ∀ i, IsR (x1 i)) (h2 : ∀ i, IsR (x2 i)) (s : Fin 2) (j : Fin 5632) (r : ℕ) : IsR (cva x0 x1 x2 s j r) := by
  have hc : ∀ n, IsR (col x0 s j n) := fun n => by
    unfold col
    split
    · exact h0 _
    · exact ⟨0, EReal.coe_zero.symm⟩
  have ht : ∀ k n, IsR (Conv.tap k (col x0 s j) n) := fun k n => by
    unfold Conv.tap
    split
    · exact ⟨0, EReal.coe_zero.symm⟩
    · exact hc _
  unfold cva Conv.cv
  obtain ⟨a0, e0⟩ := h1 (ix2 0 (⟨s.val * 5632 + j.val, by omega⟩ : Fin 11264))
  obtain ⟨a1, e1⟩ := h1 (ix2 1 (⟨s.val * 5632 + j.val, by omega⟩ : Fin 11264))
  obtain ⟨a2, e2⟩ := h1 (ix2 2 (⟨s.val * 5632 + j.val, by omega⟩ : Fin 11264))
  obtain ⟨b, eb⟩ := h2 (ix2 0 (⟨s.val * 5632 + j.val, by omega⟩ : Fin 11264))
  obtain ⟨t2, f2⟩ := ht 2 r
  obtain ⟨t1, f1⟩ := ht 1 r
  obtain ⟨t0, f0⟩ := hc r
  rw [e0, e1, e2, eb, f2, f1, f0]
  simp only [← EReal.coe_mul, ← EReal.coe_add]
  exact ⟨_, rfl⟩

/-- The reference's gradient of the gate's convolution. -/
theorem ref38 (x0 : FVec Ideal S2x4096x5632 .f32) (x1 : FVec Ideal S3x11264 .f32) (x2 : FVec Ideal S1x11264 .f32) (x3 : FVec Ideal S4096x5632 .f32) (h0 : ∀ i, IsR (x0 i)) (h1 : ∀ i, IsR (x1 i)) (h2 : ∀ i, IsR (x2 i)) (h3 : ∀ i, IsR (x3 i)) (r : Fin 4096) (j : Fin 5632) :
    Cert.Reference21Ideal.Read.val_main_v38 (F := Ideal) x0 x1 x2 x3 (ix2 r j) = dgs (x3 (ix2 r j)) (cva x0 x1 x2 1 j r.val) (cva x0 x1 x2 0 j r.val) := by
  obtain ⟨d, ed⟩ := h3 (ix2 r j)
  obtain ⟨u, eu⟩ := cva_real x0 x1 x2 h0 h1 h2 1 j r.val
  obtain ⟨g, eg⟩ := cva_real x0 x1 x2 h0 h1 h2 0 j r.val
  have e := ref34 x0 x1 x2 r j
  have e' := ref32 x0 x1 x2 r j
  have e'' := ref33 x0 x1 x2 r j
  rw [ed, eu, eg, ← dgs_real]
  rw [eg] at e e'
  rw [eu] at e''
  rw [← e, ← e', ← e'', ← ed]
  unfold Cert.Reference21Ideal.Read.val_main_v38 Cert.Reference21Ideal.Read.val_main_call1_v2 Cert.Reference21Ideal.Read.val_main_call1_v1 Cert.Reference21Ideal.Read.val_main_call1_v0 Cert.Reference21Ideal.Read.val_main_v34_1 Cert.Reference21Ideal.Read.val_main_call0_v7 Cert.Reference21Ideal.Read.val_main_v37
  generalize Cert.Reference21Ideal.Read.val_main_v34_2 (F := Ideal) x0 x1 x2 = q
  generalize Cert.Reference21Ideal.Read.val_main_v32 (F := Ideal) x0 x1 x2 = q'
  generalize Cert.Reference21Ideal.Read.val_main_v33 (F := Ideal) x0 x1 x2 = q''
  pointwise [Cert.Reference21Ideal.Read.val_main_call0_v6, Cert.Reference21Ideal.Read.val_main_call0_cst_1]

/-- A column of the incoming gradient, zero below the array. -/
def cold (x3 : FVec Ideal S4096x5632 .f32) (j : Fin 5632) (r : ℕ) : EReal := if h : r < 4096 then x3 (ix2 ⟨r, h⟩ j) else 0

/-- The gradient of a half's convolution, down a column. -/
def DD (x0 : FVec Ideal S2x4096x5632 .f32) (x1 : FVec Ideal S3x11264 .f32) (x2 : FVec Ideal S1x11264 .f32) (x3 : FVec Ideal S4096x5632 .f32) (s : Fin 2) (j : Fin 5632) (n : ℕ) : EReal :=
  if s = 0 then dgs (cold x3 j n) (cva x0 x1 x2 1 j n) (cva x0 x1 x2 0 j n) else dus (cold x3 j n) (cva x0 x1 x2 0 j n)

/-- Below the array the gradient is zero. -/
theorem DD_zero (x0 : FVec Ideal S2x4096x5632 .f32) (x1 : FVec Ideal S3x11264 .f32) (x2 : FVec Ideal S1x11264 .f32) (x3 : FVec Ideal S4096x5632 .f32) (s : Fin 2) (j : Fin 5632) (n : ℕ) (h : 4096 ≤ n) : DD x0 x1 x2 x3 s j n = 0 := by
  have e : cold x3 j n = 0 := dif_neg (by omega)
  unfold DD dgs dus
  rw [e]
  split
  · rw [zero_mul, zero_mul]
  · rw [zero_mul]

/-- The two halves' gradients side by side. -/
theorem ref41' (x0 : FVec Ideal S2x4096x5632 .f32) (x1 : FVec Ideal S3x11264 .f32) (x2 : FVec Ideal S1x11264 .f32) (x3 : FVec Ideal S4096x5632 .f32) (r : Fin 4096) (j : Fin 11264) : Cert.Reference21Ideal.Read.val_main_v41 (F := Ideal) x0 x1 x2 x3 (ix2 r j)
    = (if h : 5632 ≤ j.val then Cert.Reference21Ideal.Read.val_main_v36 (F := Ideal) x0 x1 x2 x3 (ix2 r ⟨j.val - 5632, by omega⟩) else 0) + (if h : j.val < 5632 then Cert.Reference21Ideal.Read.val_main_v38 (F := Ideal) x0 x1 x2 x3 (ix2 r ⟨j.val, h⟩) else 0) := by
  unfold Cert.Reference21Ideal.Read.val_main_v41 Cert.Reference21Ideal.Read.val_main_v39 Cert.Reference21Ideal.Read.val_main_v40
  generalize Cert.Reference21Ideal.Read.val_main_v36 (F := Ideal) x0 x1 x2 x3 = q
  generalize Cert.Reference21Ideal.Read.val_main_v38 (F := Ideal) x0 x1 x2 x3 = q'
  pointwise [Cert.Reference21Ideal.Read.val_main_cst_1, Cert.Reference21Ideal.Read.val_main_cst_2]
  refine congrArg₂ (fun a b : EReal => a + b) ?_ rfl
  by_cases h : 5632 ≤ j.val
  · rw [dif_pos h, dif_pos ⟨h, by omega⟩]
  · rw [dif_neg h, dif_neg fun h' => h h'.1]

/-- The reference's padded products' sum, at a row of the array. -/
theorem ref72 (x0 : FVec Ideal S2x4096x5632 .f32) (x1 : FVec Ideal S3x11264 .f32) (x2 : FVec Ideal S1x11264 .f32) (x3 : FVec Ideal S4096x5632 .f32) (r : Fin 4096) (j : Fin 11264) : Cert.Reference21Ideal.Read.val_main_v72 (F := Ideal) x0 x1 x2 x3 (ix2 (⟨2 + r.val, by omega⟩ : Fin 4098) j)
    = Cert.Reference21Ideal.Read.val_main_v46 (F := Ideal) x0 x1 x2 x3 (ix2 r j) + (if h : r.val + 1 < 4096 then Cert.Reference21Ideal.Read.val_main_v55 (F := Ideal) x0 x1 x2 x3 (ix2 ⟨r.val + 1, h⟩ j) else 0) + (if h : r.val + 2 < 4096 then Cert.Reference21Ideal.Read.val_main_v66 (F := Ideal) x0 x1 x2 x3 (ix2 ⟨r.val + 2, h⟩ j) else 0) := by
  unfold Cert.Reference21Ideal.Read.val_main_v72 Cert.Reference21Ideal.Read.val_main_v61 Cert.Reference21Ideal.Read.val_main_v51 Cert.Reference21Ideal.Read.val_main_v60 Cert.Reference21Ideal.Read.val_main_v71
  generalize Cert.Reference21Ideal.Read.val_main_v46 (F := Ideal) x0 x1 x2 x3 = q
  generalize Cert.Reference21Ideal.Read.val_main_v55 (F := Ideal) x0 x1 x2 x3 = q'
  generalize Cert.Reference21Ideal.Read.val_main_v66 (F := Ideal) x0 x1 x2 x3 = q''
  pointwise [Cert.Reference21Ideal.Read.val_main_cst_7, Cert.Reference21Ideal.Read.val_main_cst_11, Cert.Reference21Ideal.Read.val_main_cst_15]
  refine congrArg₂ (fun a b : EReal => a + b) (congrArg (fun b : EReal => q (ix2 r j) + b) ?_) ?_
  · by_cases h : r.val + 1 < 4096
    · rw [dif_pos h, dif_pos ⟨by omega, by omega⟩]
      exact congrArg q' (congrArg (fun a => ix2 a j) (Fin.ext (by show 2 + r.val - 1 = r.val + 1; omega)))
    · rw [dif_neg h, dif_neg (by omega)]
  · by_cases h : r.val + 2 < 4096
    · rw [dif_pos h, dif_pos (by omega)]
      exact congrArg q'' (congrArg (fun a => ix2 a j) (Fin.ext (by show 2 + r.val = r.val + 2; omega)))
    · rw [dif_neg h, dif_neg (by omega)]

/-- The reference's three rows of weight totals. -/
theorem ref75 (x0 : FVec Ideal S2x4096x5632 .f32) (x1 : FVec Ideal S3x11264 .f32) (x2 : FVec Ideal S1x11264 .f32) (x3 : FVec Ideal S4096x5632 .f32) (k : Fin 3) (j : Fin 11264) : Cert.Reference21Ideal.Read.val_main_v75 (F := Ideal) x0 x1 x2 x3 (ix2 k j)
    = ![Cert.Reference21Ideal.Read.val_main_v70 (F := Ideal) x0 x1 x2 x3 (ix1 j), Cert.Reference21Ideal.Read.val_main_v59 (F := Ideal) x0 x1 x2 x3 (ix1 j), Cert.Reference21Ideal.Read.val_main_v50 (F := Ideal) x0 x1 x2 x3 (ix1 j)] k := by
  unfold Cert.Reference21Ideal.Read.val_main_v75 Cert.Reference21Ideal.Read.val_main_v64 Cert.Reference21Ideal.Read.val_main_v53 Cert.Reference21Ideal.Read.val_main_v63 Cert.Reference21Ideal.Read.val_main_v74 Cert.Reference21Ideal.Read.val_main_v52 Cert.Reference21Ideal.Read.val_main_v62 Cert.Reference21Ideal.Read.val_main_v73
  generalize Cert.Reference21Ideal.Read.val_main_v70 (F := Ideal) x0 x1 x2 x3 = q
  generalize Cert.Reference21Ideal.Read.val_main_v59 (F := Ideal) x0 x1 x2 x3 = q'
  generalize Cert.Reference21Ideal.Read.val_main_v50 (F := Ideal) x0 x1 x2 x3 = q''
  fin_cases k
  all_goals
    pointwise [Cert.Reference21Ideal.Read.val_main_cst_8, Cert.Reference21Ideal.Read.val_main_cst_12, Cert.Reference21Ideal.Read.val_main_cst_16]

/-- The reference's total over the rows, for the bias. -/
theorem ref44 (x0 : FVec Ideal S2x4096x5632 .f32) (x1 : FVec Ideal S3x11264 .f32) (x2 : FVec Ideal S1x11264 .f32) (x3 : FVec Ideal S4096x5632 .f32) (j : Fin 11264) : Cert.Reference21Ideal.Read.val_main_v44 (F := Ideal) x0 x1 x2 x3 (ix1 j) = ∑ r : Fin 4096, Cert.Reference21Ideal.Read.val_main_v41 (F := Ideal) x0 x1 x2 x3 (ix2 r j) := by
  have e : Cert.Reference21Ideal.Read.val_main_v42 (F := Ideal) x0 x1 x2 x3 (ix1 j) = ∑ r : Fin 4096, Cert.Reference21Ideal.Read.val_main_v41 (F := Ideal) x0 x1 x2 x3 (ix2 r j) := by
    rw [Cert.Reference21Ideal.Read.val_main_v42_apply]
    refine Eq.trans (congrArg₂ (fun a b : EReal => a + b) (x' := 0) (y' := ∑ r : Fin 4096, Cert.Reference21Ideal.Read.val_main_v41 (F := Ideal) x0 x1 x2 x3 (ix2 r j)) ?_ (Finset.sum_congr rfl fun r _ => ?_)) (zero_add _)
    · pointwise [Cert.Reference21Ideal.Read.val_main_cst_3]
    · have h : Cert.Reference21Ideal.Read.idx_main_v42 (ix1 j) r = ix2 r j := by
        refine funext fun a => Fin.ext ?_
        fin_cases a <;> rfl
      rw [h]
  refine Eq.trans ?_ e
  rw [Cert.Reference21Ideal.Read.val_main_v44_apply]
  refine Eq.trans (congrArg₂ (fun a b : EReal => a + b) (x' := 0) (y' := Cert.Reference21Ideal.Read.val_main_v42 (F := Ideal) x0 x1 x2 x3 (ix1 j)) ?_ ?_) (zero_add _)
  · pointwise [Cert.Reference21Ideal.Read.val_main_cst_4]
  · rw [Fin.sum_univ_one, Cert.Reference21Ideal.Read.val_main_v43_apply]
    refine congrArg _ (funext fun a => Fin.ext ?_)
    fin_cases a
    exact (by show 0 * 11264 + j.val = j.val; omega)

/-- The reference's total over the rows, for the last row. -/
theorem ref50 (x0 : FVec Ideal S2x4096x5632 .f32) (x1 : FVec Ideal S3x11264 .f32) (x2 : FVec Ideal S1x11264 .f32) (x3 : FVec Ideal S4096x5632 .f32) (j : Fin 11264) : Cert.Reference21Ideal.Read.val_main_v50 (F := Ideal) x0 x1 x2 x3 (ix1 j) = ∑ r : Fin 4096, Cert.Reference21Ideal.Read.val_main_v47 (F := Ideal) x0 x1 x2 x3 (ix2 r j) := by
  have e : Cert.Reference21Ideal.Read.val_main_v48 (F := Ideal) x0 x1 x2 x3 (ix1 j) = ∑ r : Fin 4096, Cert.Reference21Ideal.Read.val_main_v47 (F := Ideal) x0 x1 x2 x3 (ix2 r j) := by
    rw [Cert.Reference21Ideal.Read.val_main_v48_apply]
    refine Eq.trans (congrArg₂ (fun a b : EReal => a + b) (x' := 0) (y' := ∑ r : Fin 4096, Cert.Reference21Ideal.Read.val_main_v47 (F := Ideal) x0 x1 x2 x3 (ix2 r j)) ?_ (Finset.sum_congr rfl fun r _ => ?_)) (zero_add _)
    · pointwise [Cert.Reference21Ideal.Read.val_main_cst_5]
    · have h : Cert.Reference21Ideal.Read.idx_main_v48 (ix1 j) r = ix2 r j := by
        refine funext fun a => Fin.ext ?_
        fin_cases a <;> rfl
      rw [h]
  refine Eq.trans ?_ e
  rw [Cert.Reference21Ideal.Read.val_main_v50_apply]
  refine Eq.trans (congrArg₂ (fun a b : EReal => a + b) (x' := 0) (y' := Cert.Reference21Ideal.Read.val_main_v48 (F := Ideal) x0 x1 x2 x3 (ix1 j)) ?_ ?_) (zero_add _)
  · pointwise [Cert.Reference21Ideal.Read.val_main_cst_6]
  · rw [Fin.sum_univ_one, Cert.Reference21Ideal.Read.val_main_v49_apply]
    refine congrArg _ (funext fun a => Fin.ext ?_)
    fin_cases a
    exact (by show 0 * 11264 + j.val = j.val; omega)

/-- The reference's total over the rows, for the middle row. -/
theorem ref59 (x0 : FVec Ideal S2x4096x5632 .f32) (x1 : FVec Ideal S3x11264 .f32) (x2 : FVec Ideal S1x11264 .f32) (x3 : FVec Ideal S4096x5632 .f32) (j : Fin 11264) : Cert.Reference21Ideal.Read.val_main_v59 (F := Ideal) x0 x1 x2 x3 (ix1 j) = ∑ r : Fin 4096, Cert.Reference21Ideal.Read.val_main_v56 (F := Ideal) x0 x1 x2 x3 (ix2 r j) := by
  have e : Cert.Reference21Ideal.Read.val_main_v57 (F := Ideal) x0 x1 x2 x3 (ix1 j) = ∑ r : Fin 4096, Cert.Reference21Ideal.Read.val_main_v56 (F := Ideal) x0 x1 x2 x3 (ix2 r j) := by
    rw [Cert.Reference21Ideal.Read.val_main_v57_apply]
    refine Eq.trans (congrArg₂ (fun a b : EReal => a + b) (x' := 0) (y' := ∑ r : Fin 4096, Cert.Reference21Ideal.Read.val_main_v56 (F := Ideal) x0 x1 x2 x3 (ix2 r j)) ?_ (Finset.sum_congr rfl fun r _ => ?_)) (zero_add _)
    · pointwise [Cert.Reference21Ideal.Read.val_main_cst_9]
    · have h : Cert.Reference21Ideal.Read.idx_main_v57 (ix1 j) r = ix2 r j := by
        refine funext fun a => Fin.ext ?_
        fin_cases a <;> rfl
      rw [h]
  refine Eq.trans ?_ e
  rw [Cert.Reference21Ideal.Read.val_main_v59_apply]
  refine Eq.trans (congrArg₂ (fun a b : EReal => a + b) (x' := 0) (y' := Cert.Reference21Ideal.Read.val_main_v57 (F := Ideal) x0 x1 x2 x3 (ix1 j)) ?_ ?_) (zero_add _)
  · pointwise [Cert.Reference21Ideal.Read.val_main_cst_10]
  · rw [Fin.sum_univ_one, Cert.Reference21Ideal.Read.val_main_v58_apply]
    refine congrArg _ (funext fun a => Fin.ext ?_)
    fin_cases a
    exact (by show 0 * 11264 + j.val = j.val; omega)

/-- The reference's total over the rows, for the first row. -/
theorem ref70 (x0 : FVec Ideal S2x4096x5632 .f32) (x1 : FVec Ideal S3x11264 .f32) (x2 : FVec Ideal S1x11264 .f32) (x3 : FVec Ideal S4096x5632 .f32) (j : Fin 11264) : Cert.Reference21Ideal.Read.val_main_v70 (F := Ideal) x0 x1 x2 x3 (ix1 j) = ∑ r : Fin 4096, Cert.Reference21Ideal.Read.val_main_v67 (F := Ideal) x0 x1 x2 x3 (ix2 r j) := by
  have e : Cert.Reference21Ideal.Read.val_main_v68 (F := Ideal) x0 x1 x2 x3 (ix1 j) = ∑ r : Fin 4096, Cert.Reference21Ideal.Read.val_main_v67 (F := Ideal) x0 x1 x2 x3 (ix2 r j) := by
    rw [Cert.Reference21Ideal.Read.val_main_v68_apply]
    refine Eq.trans (congrArg₂ (fun a b : EReal => a + b) (x' := 0) (y' := ∑ r : Fin 4096, Cert.Reference21Ideal.Read.val_main_v67 (F := Ideal) x0 x1 x2 x3 (ix2 r j)) ?_ (Finset.sum_congr rfl fun r _ => ?_)) (zero_add _)
    · pointwise [Cert.Reference21Ideal.Read.val_main_cst_13]
    · have h : Cert.Reference21Ideal.Read.idx_main_v68 (ix1 j) r = ix2 r j := by
        refine funext fun a => Fin.ext ?_
        fin_cases a <;> rfl
      rw [h]
  refine Eq.trans ?_ e
  rw [Cert.Reference21Ideal.Read.val_main_v70_apply]
  refine Eq.trans (congrArg₂ (fun a b : EReal => a + b) (x' := 0) (y' := Cert.Reference21Ideal.Read.val_main_v68 (F := Ideal) x0 x1 x2 x3 (ix1 j)) ?_ ?_) (zero_add _)
  · pointwise [Cert.Reference21Ideal.Read.val_main_cst_14]
  · rw [Fin.sum_univ_one, Cert.Reference21Ideal.Read.val_main_v69_apply]
    refine congrArg _ (funext fun a => Fin.ext ?_)
    fin_cases a
    exact (by show 0 * 11264 + j.val = j.val; omega)

/-- The reference's gradient of the convolution. -/
theorem ref41 (x0 : FVec Ideal S2x4096x5632 .f32) (x1 : FVec Ideal S3x11264 .f32) (x2 : FVec Ideal S1x11264 .f32) (x3 : FVec Ideal S4096x5632 .f32) (h0 : ∀ i, IsR (x0 i)) (h1 : ∀ i, IsR (x1 i)) (h2 : ∀ i, IsR (x2 i)) (h3 : ∀ i, IsR (x3 i)) (r : Fin 4096) (s : Fin 2) (j : Fin 5632) : Cert.Reference21Ideal.Read.val_main_v41 (F := Ideal) x0 x1 x2 x3 (ix2 r (⟨s.val * 5632 + j.val, by omega⟩ : Fin 11264)) = DD x0 x1 x2 x3 s j r.val := by
  have ec : cold x3 j r.val = x3 (ix2 r j) := dif_pos r.isLt
  rw [ref41']
  unfold DD
  rw [ec]
  fin_cases s
  · rw [dif_neg (by show ¬ 5632 ≤ 0 * 5632 + j.val; omega), dif_pos (by show 0 * 5632 + j.val < 5632; omega), zero_add]
    refine Eq.trans ?_ ((ref38 x0 x1 x2 x3 h0 h1 h2 h3 r j).trans (if_pos rfl).symm)
    exact congrArg _ (congrArg (ix2 r) (Fin.ext (by show 0 * 5632 + j.val = j.val; omega)))
  · rw [dif_pos (by show 5632 ≤ 1 * 5632 + j.val; omega), dif_neg (by show ¬ 1 * 5632 + j.val < 5632; omega), add_zero]
    refine Eq.trans ?_ ((ref36 x0 x1 x2 x3 r j).trans (if_neg (by decide)).symm)
    exact congrArg _ (congrArg (ix2 r) (Fin.ext (by show 1 * 5632 + j.val - 5632 = j.val; omega)))

/-- The reference's gradient times a weight row. -/
theorem ref46 (x0 : FVec Ideal S2x4096x5632 .f32) (x1 : FVec Ideal S3x11264 .f32) (x2 : FVec Ideal S1x11264 .f32) (x3 : FVec Ideal S4096x5632 .f32) (r : Fin 4096) (j : Fin 11264) : Cert.Reference21Ideal.Read.val_main_v46 (F := Ideal) x0 x1 x2 x3 (ix2 r j) = x1 (ix2 2 j) * Cert.Reference21Ideal.Read.val_main_v41 (F := Ideal) x0 x1 x2 x3 (ix2 r j) := by
  unfold Cert.Reference21Ideal.Read.val_main_v46
  generalize Cert.Reference21Ideal.Read.val_main_v41 (F := Ideal) x0 x1 x2 x3 = q
  pointwise [Cert.Reference21Ideal.Read.val_main_v45, Cert.Reference21Ideal.Read.val_main_v25, Cert.Reference21Ideal.Read.val_main_v23, Cert.Reference21Ideal.Read.val_main_v22]

/-- The reference's gradient times a weight row. -/
theorem ref55 (x0 : FVec Ideal S2x4096x5632 .f32) (x1 : FVec Ideal S3x11264 .f32) (x2 : FVec Ideal S1x11264 .f32) (x3 : FVec Ideal S4096x5632 .f32) (r : Fin 4096) (j : Fin 11264) : Cert.Reference21Ideal.Read.val_main_v55 (F := Ideal) x0 x1 x2 x3 (ix2 r j) = x1 (ix2 1 j) * Cert.Reference21Ideal.Read.val_main_v41 (F := Ideal) x0 x1 x2 x3 (ix2 r j) := by
  unfold Cert.Reference21Ideal.Read.val_main_v55
  generalize Cert.Reference21Ideal.Read.val_main_v41 (F := Ideal) x0 x1 x2 x3 = q
  pointwise [Cert.Reference21Ideal.Read.val_main_v54, Cert.Reference21Ideal.Read.val_main_v18, Cert.Reference21Ideal.Read.val_main_v16, Cert.Reference21Ideal.Read.val_main_v15]

/-- The reference's gradient times a weight row. -/
theorem ref66 (x0 : FVec Ideal S2x4096x5632 .f32) (x1 : FVec Ideal S3x11264 .f32) (x2 : FVec Ideal S1x11264 .f32) (x3 : FVec Ideal S4096x5632 .f32) (r : Fin 4096) (j : Fin 11264) : Cert.Reference21Ideal.Read.val_main_v66 (F := Ideal) x0 x1 x2 x3 (ix2 r j) = x1 (ix2 0 j) * Cert.Reference21Ideal.Read.val_main_v41 (F := Ideal) x0 x1 x2 x3 (ix2 r j) := by
  unfold Cert.Reference21Ideal.Read.val_main_v66
  generalize Cert.Reference21Ideal.Read.val_main_v41 (F := Ideal) x0 x1 x2 x3 = q
  pointwise [Cert.Reference21Ideal.Read.val_main_v65, Cert.Reference21Ideal.Read.val_main_v12, Cert.Reference21Ideal.Read.val_main_v10, Cert.Reference21Ideal.Read.val_main_v9]

/-- The reference's gradient times a tap. -/
theorem ref47 (x0 : FVec Ideal S2x4096x5632 .f32) (x1 : FVec Ideal S3x11264 .f32) (x2 : FVec Ideal S1x11264 .f32) (x3 : FVec Ideal S4096x5632 .f32) (h0 : ∀ i, IsR (x0 i)) (h1 : ∀ i, IsR (x1 i)) (h2 : ∀ i, IsR (x2 i)) (h3 : ∀ i, IsR (x3 i)) (r : Fin 4096) (s : Fin 2) (j : Fin 5632) : Cert.Reference21Ideal.Read.val_main_v47 (F := Ideal) x0 x1 x2 x3 (ix2 r (⟨s.val * 5632 + j.val, by omega⟩ : Fin 11264)) = DD x0 x1 x2 x3 s j r.val * Conv.tap 0 (col x0 s j) r.val := by
  have e := ref41 x0 x1 x2 x3 h0 h1 h2 h3 r s j
  have e0 := ref7 x0 2 (by omega) r s j
  rw [← e, ← e0]
  unfold Cert.Reference21Ideal.Read.val_main_v47 Cert.Reference21Ideal.Read.val_main_v24
  generalize Cert.Reference21Ideal.Read.val_main_v41 (F := Ideal) x0 x1 x2 x3 = q
  generalize Cert.Reference21Ideal.Read.val_main_v7 (F := Ideal) x0 = q'
  pointwise []
  try simp only [Nat.zero_add]

/-- The reference's gradient times a tap. -/
theorem ref56 (x0 : FVec Ideal S2x4096x5632 .f32) (x1 : FVec Ideal S3x11264 .f32) (x2 : FVec Ideal S1x11264 .f32) (x3 : FVec Ideal S4096x5632 .f32) (h0 : ∀ i, IsR (x0 i)) (h1 : ∀ i, IsR (x1 i)) (h2 : ∀ i, IsR (x2 i)) (h3 : ∀ i, IsR (x3 i)) (r : Fin 4096) (s : Fin 2) (j : Fin 5632) : Cert.Reference21Ideal.Read.val_main_v56 (F := Ideal) x0 x1 x2 x3 (ix2 r (⟨s.val * 5632 + j.val, by omega⟩ : Fin 11264)) = DD x0 x1 x2 x3 s j r.val * Conv.tap 1 (col x0 s j) r.val := by
  have e := ref41 x0 x1 x2 x3 h0 h1 h2 h3 r s j
  have e0 := ref7 x0 1 (by omega) r s j
  rw [← e, ← e0]
  unfold Cert.Reference21Ideal.Read.val_main_v56 Cert.Reference21Ideal.Read.val_main_v17
  generalize Cert.Reference21Ideal.Read.val_main_v41 (F := Ideal) x0 x1 x2 x3 = q
  generalize Cert.Reference21Ideal.Read.val_main_v7 (F := Ideal) x0 = q'
  pointwise []
  try simp only [Nat.zero_add]

/-- The reference's gradient times a tap. -/
theorem ref67 (x0 : FVec Ideal S2x4096x5632 .f32) (x1 : FVec Ideal S3x11264 .f32) (x2 : FVec Ideal S1x11264 .f32) (x3 : FVec Ideal S4096x5632 .f32) (h0 : ∀ i, IsR (x0 i)) (h1 : ∀ i, IsR (x1 i)) (h2 : ∀ i, IsR (x2 i)) (h3 : ∀ i, IsR (x3 i)) (r : Fin 4096) (s : Fin 2) (j : Fin 5632) : Cert.Reference21Ideal.Read.val_main_v67 (F := Ideal) x0 x1 x2 x3 (ix2 r (⟨s.val * 5632 + j.val, by omega⟩ : Fin 11264)) = DD x0 x1 x2 x3 s j r.val * Conv.tap 2 (col x0 s j) r.val := by
  have e := ref41 x0 x1 x2 x3 h0 h1 h2 h3 r s j
  have e0 := ref7 x0 0 (by omega) r s j
  rw [← e, ← e0]
  unfold Cert.Reference21Ideal.Read.val_main_v67 Cert.Reference21Ideal.Read.val_main_v11
  generalize Cert.Reference21Ideal.Read.val_main_v41 (F := Ideal) x0 x1 x2 x3 = q
  generalize Cert.Reference21Ideal.Read.val_main_v7 (F := Ideal) x0 = q'
  pointwise []
  try simp only [Nat.zero_add]

/-- The reference's rows from the padded sum. -/
theorem ref83' (x0 : FVec Ideal S2x4096x5632 .f32) (x1 : FVec Ideal S3x11264 .f32) (x2 : FVec Ideal S1x11264 .f32) (x3 : FVec Ideal S4096x5632 .f32) (s : Fin 2) (r : Fin 4096) (j : Fin 5632) : Cert.Reference21Ideal.Read.val_main_v83 (F := Ideal) x0 x1 x2 x3 (ix3 s r j) = Cert.Reference21Ideal.Read.val_main_v72 (F := Ideal) x0 x1 x2 x3 (ix2 (⟨2 + r.val, by omega⟩ : Fin 4098) (⟨s.val * 5632 + j.val, by omega⟩ : Fin 11264)) := by
  unfold Cert.Reference21Ideal.Read.val_main_v83 Cert.Reference21Ideal.Read.val_main_v82 Cert.Reference21Ideal.Read.val_main_v81 Cert.Reference21Ideal.Read.val_main_v80 Cert.Reference21Ideal.Read.val_main_v79 Cert.Reference21Ideal.Read.val_main_v78 Cert.Reference21Ideal.Read.val_main_v77
  generalize Cert.Reference21Ideal.Read.val_main_v72 (F := Ideal) x0 x1 x2 x3 = q
  pointwise []
  by_cases h : s.val < 1
  · refine (dif_pos h).trans ?_
    refine congrArg q (congrArg (ix2 _) (Fin.ext ?_))
    show j.val = s.val * 5632 + j.val
    omega
  · refine (dif_neg h).trans ?_
    refine congrArg q (congrArg (ix2 _) (Fin.ext ?_))
    show 5632 + j.val = s.val * 5632 + j.val
    omega

/-- The reference's gradient of the rows. -/
theorem ref83 (x0 : FVec Ideal S2x4096x5632 .f32) (x1 : FVec Ideal S3x11264 .f32) (x2 : FVec Ideal S1x11264 .f32) (x3 : FVec Ideal S4096x5632 .f32) (h0 : ∀ i, IsR (x0 i)) (h1 : ∀ i, IsR (x1 i)) (h2 : ∀ i, IsR (x2 i)) (h3 : ∀ i, IsR (x3 i)) (s : Fin 2) (r : Fin 4096) (j : Fin 5632) : Cert.Reference21Ideal.Read.val_main_v83 (F := Ideal) x0 x1 x2 x3 (ix3 s r j)
    = x1 (ix2 2 (⟨s.val * 5632 + j.val, by omega⟩ : Fin 11264)) * DD x0 x1 x2 x3 s j r.val + x1 (ix2 1 (⟨s.val * 5632 + j.val, by omega⟩ : Fin 11264)) * DD x0 x1 x2 x3 s j (r.val + 1) + x1 (ix2 0 (⟨s.val * 5632 + j.val, by omega⟩ : Fin 11264)) * DD x0 x1 x2 x3 s j (r.val + 2) := by
  rw [ref83', ref72, ref46, ref41 x0 x1 x2 x3 h0 h1 h2 h3]
  refine congrArg₂ (fun a b : EReal => a + b) (congrArg₂ (fun a b : EReal => a + b) rfl ?_) ?_
  · by_cases h : r.val + 1 < 4096
    · rw [dif_pos h, ref55, ref41 x0 x1 x2 x3 h0 h1 h2 h3]
    · rw [dif_neg h, DD_zero _ _ _ _ _ _ _ (by omega), mul_zero]
  · by_cases h : r.val + 2 < 4096
    · rw [dif_pos h, ref66, ref41 x0 x1 x2 x3 h0 h1 h2 h3]
    · rw [dif_neg h, DD_zero _ _ _ _ _ _ _ (by omega), mul_zero]

/-- The reference's weight totals. -/
theorem refW (x0 : FVec Ideal S2x4096x5632 .f32) (x1 : FVec Ideal S3x11264 .f32) (x2 : FVec Ideal S1x11264 .f32) (x3 : FVec Ideal S4096x5632 .f32) (h0 : ∀ i, IsR (x0 i)) (h1 : ∀ i, IsR (x1 i)) (h2 : ∀ i, IsR (x2 i)) (h3 : ∀ i, IsR (x3 i)) (k : Fin 3) (s : Fin 2) (j : Fin 5632) : Cert.Reference21Ideal.Read.val_main_v75 (F := Ideal) x0 x1 x2 x3 (ix2 k (⟨s.val * 5632 + j.val, by omega⟩ : Fin 11264))
    = ∑ r : Fin 4096, DD x0 x1 x2 x3 s j r.val * Conv.tap (2 - k.val) (col x0 s j) r.val := by
  rw [ref75]
  fin_cases k
  · exact (ref70 x0 x1 x2 x3 _).trans (Finset.sum_congr rfl fun r _ => ref67 x0 x1 x2 x3 h0 h1 h2 h3 r s j)
  · exact (ref59 x0 x1 x2 x3 _).trans (Finset.sum_congr rfl fun r _ => ref56 x0 x1 x2 x3 h0 h1 h2 h3 r s j)
  · exact (ref50 x0 x1 x2 x3 _).trans (Finset.sum_congr rfl fun r _ => ref47 x0 x1 x2 x3 h0 h1 h2 h3 r s j)

/-- The reference's weight totals of the gate. -/
theorem ref84 (x0 : FVec Ideal S2x4096x5632 .f32) (x1 : FVec Ideal S3x11264 .f32) (x2 : FVec Ideal S1x11264 .f32) (x3 : FVec Ideal S4096x5632 .f32) (h0 : ∀ i, IsR (x0 i)) (h1 : ∀ i, IsR (x1 i)) (h2 : ∀ i, IsR (x2 i)) (h3 : ∀ i, IsR (x3 i)) (k : Fin 3) (j : Fin 5632) : Cert.Reference21Ideal.Read.val_main_v84 (F := Ideal) x0 x1 x2 x3 (ix2 k j) = ∑ r : Fin 4096, DD x0 x1 x2 x3 0 j r.val * Conv.tap (2 - k.val) (col x0 0 j) r.val := by
  refine Eq.trans ?_ (refW x0 x1 x2 x3 h0 h1 h2 h3 k 0 j)
  unfold Cert.Reference21Ideal.Read.val_main_v84
  generalize Cert.Reference21Ideal.Read.val_main_v75 (F := Ideal) x0 x1 x2 x3 = q
  pointwise []

/-- The reference's weight totals of the up. -/
theorem ref85 (x0 : FVec Ideal S2x4096x5632 .f32) (x1 : FVec Ideal S3x11264 .f32) (x2 : FVec Ideal S1x11264 .f32) (x3 : FVec Ideal S4096x5632 .f32) (h0 : ∀ i, IsR (x0 i)) (h1 : ∀ i, IsR (x1 i)) (h2 : ∀ i, IsR (x2 i)) (h3 : ∀ i, IsR (x3 i)) (k : Fin 3) (j : Fin 5632) : Cert.Reference21Ideal.Read.val_main_v85 (F := Ideal) x0 x1 x2 x3 (ix2 k j) = ∑ r : Fin 4096, DD x0 x1 x2 x3 1 j r.val * Conv.tap (2 - k.val) (col x0 1 j) r.val := by
  refine Eq.trans ?_ (refW x0 x1 x2 x3 h0 h1 h2 h3 k 1 j)
  unfold Cert.Reference21Ideal.Read.val_main_v85
  generalize Cert.Reference21Ideal.Read.val_main_v75 (F := Ideal) x0 x1 x2 x3 = q
  pointwise []

/-- The reference's bias total of the gate. -/
theorem ref87 (x0 : FVec Ideal S2x4096x5632 .f32) (x1 : FVec Ideal S3x11264 .f32) (x2 : FVec Ideal S1x11264 .f32) (x3 : FVec Ideal S4096x5632 .f32) (h0 : ∀ i, IsR (x0 i)) (h1 : ∀ i, IsR (x1 i)) (h2 : ∀ i, IsR (x2 i)) (h3 : ∀ i, IsR (x3 i)) (j : Fin 5632) : Cert.Reference21Ideal.Read.val_main_v87 (F := Ideal) x0 x1 x2 x3 (ix2 0 j) = ∑ r : Fin 4096, DD x0 x1 x2 x3 0 j r.val := by
  refine Eq.trans ?_ ((ref44 x0 x1 x2 x3 (⟨0 * 5632 + j.val, by omega⟩ : Fin 11264)).trans (Finset.sum_congr rfl fun r _ => ref41 x0 x1 x2 x3 h0 h1 h2 h3 r 0 j))
  unfold Cert.Reference21Ideal.Read.val_main_v87 Cert.Reference21Ideal.Read.val_main_v86
  generalize Cert.Reference21Ideal.Read.val_main_v44 (F := Ideal) x0 x1 x2 x3 = q
  pointwise []

/-- The reference's bias total of the up. -/
theorem ref89 (x0 : FVec Ideal S2x4096x5632 .f32) (x1 : FVec Ideal S3x11264 .f32) (x2 : FVec Ideal S1x11264 .f32) (x3 : FVec Ideal S4096x5632 .f32) (h0 : ∀ i, IsR (x0 i)) (h1 : ∀ i, IsR (x1 i)) (h2 : ∀ i, IsR (x2 i)) (h3 : ∀ i, IsR (x3 i)) (j : Fin 5632) : Cert.Reference21Ideal.Read.val_main_v89 (F := Ideal) x0 x1 x2 x3 (ix2 0 j) = ∑ r : Fin 4096, DD x0 x1 x2 x3 1 j r.val := by
  refine Eq.trans ?_ ((ref44 x0 x1 x2 x3 (⟨1 * 5632 + j.val, by omega⟩ : Fin 11264)).trans (Finset.sum_congr rfl fun r _ => ref41 x0 x1 x2 x3 h0 h1 h2 h3 r 1 j))
  unfold Cert.Reference21Ideal.Read.val_main_v89 Cert.Reference21Ideal.Read.val_main_v88
  generalize Cert.Reference21Ideal.Read.val_main_v44 (F := Ideal) x0 x1 x2 x3 = q
  pointwise []

end Cert.Mm21

end
-- ==== Proof.Mm21.lean ====
/- The FFN's convolution backward: the launch, point by point. -/
module

public import proofs.«01_k».proof.Proof.Gen.Kernel21Ideal.Value
public import proofs.«01_k».proof.Proof.Gen.Kernel21.Frame
public import proofs.«01_k».proof.Proof.Gen.Reference21Ideal.Run
public import proofs.«01_k».proof.Proof.Gen.Reference21Ideal.Read
public import proofs.«01_k».proof.Proof.Mm21R
public import proofs.«01_k».proof.Proof.Rows
public import proofs.«01_k».proof.Proof.Fin

@[expose] public section

set_option maxRecDepth 16384

noncomputable section

namespace Cert.Mm21

open Idealize.ShloMosaic Idealize.ShloMosaic.TcCoe Idealize.SL.Sem Cert.Kernel21Ideal Cert.Kernel21Ideal.Gen

variable (m : (ℓ : Loc nD τ sig) → Buf (Elt Ideal) ℓ) (c : Dev nD)

/-- Which block each argument's window holds at a point. -/
theorem idx : ∀ t : Fin cfg0.N, win0_0.index t = ![0, t.val % 8, t.val / 8] ∧ win0_1.index t = ![0, t.val % 8 * 64 - 1, t.val / 8] ∧ win0_2.index t = ![0, min ((t.val % 8 + 1) * 64) 511, t.val / 8]
    ∧ win0_3.index t = ![t.val % 8, t.val / 8] ∧ win0_4.index t = ![min ((t.val % 8 + 1) * 64) 511, t.val / 8] ∧ win0_5.index t = ![0, t.val / 8] ∧ win0_6.index t = ![0, t.val / 8 + 11]
    ∧ win0_7.index t = ![0, t.val / 8] ∧ win0_8.index t = ![0, t.val / 8 + 11] := by
  decide +kernel

/-- Which block each result's window holds at a point. -/
theorem idxo : ∀ t : Fin cfg0.N, win0_9.index t = ![0, t.val % 8, t.val / 8] ∧ win0_10.index t = ![0, t.val / 8] ∧ win0_11.index t = ![0, t.val / 8] ∧ win0_12.index t = ![0, t.val / 8] ∧ win0_13.index t = ![0, t.val / 8] := by
  decide +kernel

/-- A point's place among the blocks of rows. -/
theorem place : ∀ t : Fin cfg0.N, ((grid0.coords t) 1).val = t.val % 8 := by
  decide +kernel

/-- A point's column. -/
def cl (t : Fin cfg0.N) (j : Fin 512) : Fin 5632 := ⟨t.val / 8 * 512 + j.val, by have := t.isLt.trans_eq N_0; omega⟩

/-- The rows of a point's block, by the array. -/
theorem blk0 (x0 : FVec Ideal S2x4096x5632 .f32) (h0 : m ((c : Thread nD τ).loc main_arg0) = x0) (t : Fin cfg0.N) (s : Fin 2) (r j : Fin 512) :
    (iblk m c 0 t : FVec Ideal S2x512x512 .f32) (ix3 s r j) = col x0 s (cl t j) (t.val % 8 * 512 + r.val) := by
  subst h0
  unfold col cl
  rw [dif_pos (by omega)]
  blk_simp [iblk, idx t]
  rw [V_main_arg0]
  refine congrArg _ (funext fun a => Fin.ext ?_)
  fin_cases a
  all_goals
    blk_simp [idx t]
    try rfl

/-- The rows just above a point's block, by the array. -/
theorem blk1 (x0 : FVec Ideal S2x4096x5632 .f32) (h0 : m ((c : Thread nD τ).loc main_arg0) = x0) (t : Fin cfg0.N) (s : Fin 2) (r : Fin 8) (j : Fin 512) (h : 0 < t.val % 8) :
    (iblk m c 1 t : FVec Ideal S2x8x512 .f32) (ix3 s r j) = col x0 s (cl t j) (t.val % 8 * 512 - 8 + r.val) := by
  subst h0
  unfold col cl
  rw [dif_pos (by omega)]
  blk_simp [iblk, idx t]
  rw [V_main_arg0]
  refine congrArg _ (funext fun a => Fin.ext ?_)
  fin_cases a
  · blk_simp [idx t]
    try rfl
  · blk_simp [idx t]
    exact (by omega : (t.val % 8 * 64 - 1) * 8 + r.val = t.val % 8 * 512 - 8 + r.val)
  · blk_simp [idx t]
    try rfl

/-- The rows just below a point's block, by the array. -/
theorem blk2 (x0 : FVec Ideal S2x4096x5632 .f32) (h0 : m ((c : Thread nD τ).loc main_arg0) = x0) (t : Fin cfg0.N) (s : Fin 2) (r : Fin 8) (j : Fin 512) (h : t.val % 8 < 7) :
    (iblk m c 2 t : FVec Ideal S2x8x512 .f32) (ix3 s r j) = col x0 s (cl t j) (t.val % 8 * 512 + 512 + r.val) := by
  subst h0
  unfold col cl
  rw [dif_pos (by omega)]
  blk_simp [iblk, idx t]
  rw [V_main_arg0]
  refine congrArg _ (funext fun a => Fin.ext ?_)
  fin_cases a
  · blk_simp [idx t]
    try rfl
  · blk_simp [idx t]
    exact (by omega : min ((t.val % 8 + 1) * 64) 511 * 8 + r.val = t.val % 8 * 512 + 512 + r.val)
  · blk_simp [idx t]
    try rfl

/-- The incoming gradient's rows of a point's block, by the array. -/
theorem blk3 (x3 : FVec Ideal S4096x5632 .f32) (h3 : m ((c : Thread nD τ).loc main_arg3) = x3) (t : Fin cfg0.N) (r j : Fin 512) :
    (iblk m c 3 t : FVec Ideal S512x512 .f32) (ix2 r j) = cold x3 (cl t j) (t.val % 8 * 512 + r.val) := by
  subst h3
  unfold cold cl
  rw [dif_pos (by omega)]
  blk_simp [iblk, idx t]
  rw [V_main_arg3]
  refine congrArg _ (funext fun a => Fin.ext ?_)
  fin_cases a
  all_goals
    blk_simp [idx t]
    try rfl

/-- The incoming gradient's rows just below a point's block, by the array. -/
theorem blk4 (x3 : FVec Ideal S4096x5632 .f32) (h3 : m ((c : Thread nD τ).loc main_arg3) = x3) (t : Fin cfg0.N) (r : Fin 8) (j : Fin 512) (h : t.val % 8 < 7) :
    (iblk m c 4 t : FVec Ideal S8x512 .f32) (ix2 r j) = cold x3 (cl t j) (t.val % 8 * 512 + 512 + r.val) := by
  subst h3
  unfold cold cl
  rw [dif_pos (by omega)]
  blk_simp [iblk, idx t]
  rw [V_main_arg3]
  refine congrArg _ (funext fun a => Fin.ext ?_)
  fin_cases a
  · blk_simp [idx t]
    exact (by omega : min ((t.val % 8 + 1) * 64) 511 * 8 + r.val = t.val % 8 * 512 + 512 + r.val)
  · blk_simp [idx t]
    try rfl

/-- The gate's taps, by the array. -/
theorem blk5 (x : FVec Ideal S3x11264 .f32) (h : m ((c : Thread nD τ).loc main_arg1) = x) (t : Fin cfg0.N) (k : Fin 3) (j : Fin 512) :
    (iblk m c 5 t : FVec Ideal S3x512 .f32) (ix2 k j) = x (ix2 k (⟨0 * 5632 + (cl t j).val, by omega⟩ : Fin 11264)) := by
  subst h
  unfold cl
  blk_simp [iblk, idx t]
  rw [V_main_arg1]
  refine congrArg _ (funext fun a => Fin.ext ?_)
  fin_cases a
  · blk_simp [idx t]
    try rfl
  · blk_simp [idx t]
    rfl

/-- The up's taps, by the array. -/
theorem blk6 (x : FVec Ideal S3x11264 .f32) (h : m ((c : Thread nD τ).loc main_arg1) = x) (t : Fin cfg0.N) (k : Fin 3) (j : Fin 512) :
    (iblk m c 6 t : FVec Ideal S3x512 .f32) (ix2 k j) = x (ix2 k (⟨1 * 5632 + (cl t j).val, by omega⟩ : Fin 11264)) := by
  subst h
  unfold cl
  blk_simp [iblk, idx t]
  rw [V_main_arg1]
  refine congrArg _ (funext fun a => Fin.ext ?_)
  fin_cases a
  · blk_simp [idx t]
    try rfl
  · blk_simp [idx t]
    exact (by omega : (t.val / 8 + 11) * 512 + j.val = 1 * 5632 + (t.val / 8 * 512 + j.val))

/-- The gate's bias, by the array. -/
theorem blk7 (x : FVec Ideal S1x11264 .f32) (h : m ((c : Thread nD τ).loc main_arg2) = x) (t : Fin cfg0.N) (k : Fin 1) (j : Fin 512) :
    (iblk m c 7 t : FVec Ideal S1x512 .f32) (ix2 k j) = x (ix2 k (⟨0 * 5632 + (cl t j).val, by omega⟩ : Fin 11264)) := by
  subst h
  unfold cl
  blk_simp [iblk, idx t]
  rw [V_main_arg2]
  refine congrArg _ (funext fun a => Fin.ext ?_)
  fin_cases a
  · blk_simp [idx t]
    try rfl
  · blk_simp [idx t]
    rfl

/-- The up's bias, by the array. -/
theorem blk8 (x : FVec Ideal S1x11264 .f32) (h : m ((c : Thread nD τ).loc main_arg2) = x) (t : Fin cfg0.N) (k : Fin 1) (j : Fin 512) :
    (iblk m c 8 t : FVec Ideal S1x512 .f32) (ix2 k j) = x (ix2 k (⟨1 * 5632 + (cl t j).val, by omega⟩ : Fin 11264)) := by
  subst h
  unfold cl
  blk_simp [iblk, idx t]
  rw [V_main_arg2]
  refine congrArg _ (funext fun a => Fin.ext ?_)
  fin_cases a
  · blk_simp [idx t]
    try rfl
  · blk_simp [idx t]
    exact (by omega : (t.val / 8 + 11) * 512 + j.val = 1 * 5632 + (t.val / 8 * 512 + j.val))

/-- The columns a point reads. -/
theorem pt (x0 : FVec Ideal S2x4096x5632 .f32) (x3 : FVec Ideal S4096x5632 .f32) (h0 : m ((c : Thread nD τ).loc main_arg0) = x0) (h3 : m ((c : Thread nD τ).loc main_arg3) = x3) (t : Fin cfg0.N) (j : Fin 512) :
    Pt (grid0.coords t) (iblk m c 0 t) (iblk m c 1 t) (iblk m c 2 t) (iblk m c 3 t) (iblk m c 4 t) j (col x0 0 (cl t j)) (col x0 1 (cl t j)) (cold x3 (cl t j)) where
  f0 := fun r => by rw [place t]; exact blk0 m c x0 h0 t 0 r j
  g0 := fun r => by rw [place t]; exact blk0 m c x0 h0 t 1 r j
  f7 := fun h => by rw [place t] at h ⊢; exact (blk1 m c x0 h0 t 0 7 j h).trans (congrArg (col x0 0 (cl t j)) (by show t.val % 8 * 512 - 8 + 7 = t.val % 8 * 512 - 1; omega))
  f6 := fun h => by rw [place t] at h ⊢; exact (blk1 m c x0 h0 t 0 6 j h).trans (congrArg (col x0 0 (cl t j)) (by show t.val % 8 * 512 - 8 + 6 = t.val % 8 * 512 - 2; omega))
  g7 := fun h => by rw [place t] at h ⊢; exact (blk1 m c x0 h0 t 1 7 j h).trans (congrArg (col x0 1 (cl t j)) (by show t.val % 8 * 512 - 8 + 7 = t.val % 8 * 512 - 1; omega))
  g6 := fun h => by rw [place t] at h ⊢; exact (blk1 m c x0 h0 t 1 6 j h).trans (congrArg (col x0 1 (cl t j)) (by show t.val % 8 * 512 - 8 + 6 = t.val % 8 * 512 - 2; omega))
  fn := fun h r => by rw [place t] at h ⊢; exact blk2 m c x0 h0 t 0 r j h
  gn := fun h r => by rw [place t] at h ⊢; exact blk2 m c x0 h0 t 1 r j h
  d0 := fun r => by rw [place t]; exact blk3 m c x3 h3 t r j
  dn := fun h r => by rw [place t] at h ⊢; exact blk4 m c x3 h3 t r j h
  dz := fun r h => dif_neg (by omega)

/-- The gate's convolution at a point, by the arrays. -/
theorem cw0 (x0 : FVec Ideal S2x4096x5632 .f32) (x1 : FVec Ideal S3x11264 .f32) (x2 : FVec Ideal S1x11264 .f32) (h1 : m ((c : Thread nD τ).loc main_arg1) = x1) (h2 : m ((c : Thread nD τ).loc main_arg2) = x2) (t : Fin cfg0.N) (j : Fin 512) (n : ℕ) :
    cw (iblk m c 5 t) (iblk m c 7 t) j (col x0 0 (cl t j)) n = cva x0 x1 x2 0 (cl t j) n := by
  unfold cw cva
  rw [blk5 m c x1 h1, blk5 m c x1 h1, blk5 m c x1 h1, blk7 m c x2 h2]
  rfl

/-- The up's convolution at a point, by the arrays. -/
theorem cw1 (x0 : FVec Ideal S2x4096x5632 .f32) (x1 : FVec Ideal S3x11264 .f32) (x2 : FVec Ideal S1x11264 .f32) (h1 : m ((c : Thread nD τ).loc main_arg1) = x1) (h2 : m ((c : Thread nD τ).loc main_arg2) = x2) (t : Fin cfg0.N) (j : Fin 512) (n : ℕ) :
    cw (iblk m c 6 t) (iblk m c 8 t) j (col x0 1 (cl t j)) n = cva x0 x1 x2 1 (cl t j) n := by
  unfold cw cva
  rw [blk6 m c x1 h1, blk6 m c x1 h1, blk6 m c x1 h1, blk8 m c x2 h2]
  rfl

/-- The gradient of the gate's convolution at a point, by the arrays. -/
theorem dgD (x0 : FVec Ideal S2x4096x5632 .f32) (x1 : FVec Ideal S3x11264 .f32) (x2 : FVec Ideal S1x11264 .f32) (x3 : FVec Ideal S4096x5632 .f32) (h1 : m ((c : Thread nD τ).loc main_arg1) = x1) (h2 : m ((c : Thread nD τ).loc main_arg2) = x2) (t : Fin cfg0.N) (j : Fin 512) (n : ℕ) :
    Dg (iblk m c 5 t) (iblk m c 6 t) (iblk m c 7 t) (iblk m c 8 t) j (col x0 0 (cl t j)) (col x0 1 (cl t j)) (cold x3 (cl t j)) n = DD x0 x1 x2 x3 0 (cl t j) n := by
  unfold Dg DD
  rw [if_pos rfl, cw0 m c x0 x1 x2 h1 h2, cw1 m c x0 x1 x2 h1 h2]

/-- The gradient of the up's convolution at a point, by the arrays. -/
theorem duD (x0 : FVec Ideal S2x4096x5632 .f32) (x1 : FVec Ideal S3x11264 .f32) (x2 : FVec Ideal S1x11264 .f32) (x3 : FVec Ideal S4096x5632 .f32) (h1 : m ((c : Thread nD τ).loc main_arg1) = x1) (h2 : m ((c : Thread nD τ).loc main_arg2) = x2) (t : Fin cfg0.N) (j : Fin 512) (n : ℕ) :
    Du (iblk m c 5 t) (iblk m c 7 t) j (col x0 0 (cl t j)) (cold x3 (cl t j)) n = DD x0 x1 x2 x3 1 (cl t j) n := by
  unfold Du DD
  rw [if_neg (by decide), cw0 m c x0 x1 x2 h1 h2]

/-- A weight total's term at a row. -/
def tw (x0 : FVec Ideal S2x4096x5632 .f32) (x1 : FVec Ideal S3x11264 .f32) (x2 : FVec Ideal S1x11264 .f32) (x3 : FVec Ideal S4096x5632 .f32) (s : Fin 2) (j : Fin 5632) (k : Fin 3) (r : Fin 4096) : EReal := DD x0 x1 x2 x3 s j r.val * Conv.tap (2 - k.val) (col x0 s j) r.val

/-- A bias total's term at a row. -/
def tb (x0 : FVec Ideal S2x4096x5632 .f32) (x1 : FVec Ideal S3x11264 .f32) (x2 : FVec Ideal S1x11264 .f32) (x3 : FVec Ideal S4096x5632 .f32) (s : Fin 2) (j : Fin 5632) (r : Fin 4096) : EReal := DD x0 x1 x2 x3 s j r.val

/-- One more block of rows in a weight total. -/
theorem stepw (x0 : FVec Ideal S2x4096x5632 .f32) (x1 : FVec Ideal S3x11264 .f32) (x2 : FVec Ideal S1x11264 .f32) (x3 : FVec Ideal S4096x5632 .f32) (t : Fin cfg0.N) (s : Fin 2) (j : Fin 5632) (k : Fin 3) (D : ℕ → EReal) (hD : ∀ n, D n = DD x0 x1 x2 x3 s j n) :
    stepW (((grid0.coords t) 1).val * 512) D (col x0 s j) k (Rows.upto (tw x0 x1 x2 x3 s j k) (t.val % 8 * 512)) = Rows.upto (tw x0 x1 x2 x3 s j k) ((t.val % 8 + 1) * 512) := by
  rw [place t, Nat.add_mul (t.val % 8) 1 512, Rows.upto_add _ _ (1 * 512) (by omega)]
  unfold stepW
  refine congrArg₂ (fun a b : EReal => a + b) rfl (Finset.sum_congr rfl fun r _ => ?_)
  rw [hD]
  rfl

/-- One more block of rows in a bias total. -/
theorem stepb (x0 : FVec Ideal S2x4096x5632 .f32) (x1 : FVec Ideal S3x11264 .f32) (x2 : FVec Ideal S1x11264 .f32) (x3 : FVec Ideal S4096x5632 .f32) (t : Fin cfg0.N) (s : Fin 2) (j : Fin 5632) (D : ℕ → EReal) (hD : ∀ n, D n = DD x0 x1 x2 x3 s j n) :
    Rows.upto (tb x0 x1 x2 x3 s j) (t.val % 8 * 512) + ∑ r : Fin 512, D (((grid0.coords t) 1).val * 512 + r.val) = Rows.upto (tb x0 x1 x2 x3 s j) ((t.val % 8 + 1) * 512) := by
  rw [place t, Nat.add_mul (t.val % 8) 1 512, Rows.upto_add _ _ (1 * 512) (by omega)]
  refine congrArg₂ (fun a b : EReal => a + b) rfl (Finset.sum_congr rfl fun r _ => ?_)
  rw [hD]
  rfl

/-- No weight totals yet. -/
theorem z3 (k : Fin 3) (j : Fin 512) : k0_pay3 (F := Ideal) (ix2 k j) = (0 : EReal) := by
  pointwise [k0_pay3]

/-- No weight totals yet. -/
theorem z4 (k : Fin 3) (j : Fin 512) : k0_pay4 (F := Ideal) (ix2 k j) = (0 : EReal) := by
  pointwise [k0_pay4]

/-- No bias total yet. -/
theorem z5 (j : Fin 512) : k0_pay5 (F := Ideal) (ix2 0 j) = (0 : EReal) := by
  pointwise [k0_pay5]

/-- No bias total yet. -/
theorem z6 (j : Fin 512) : k0_pay6 (F := Ideal) (ix2 0 j) = (0 : EReal) := by
  pointwise [k0_pay6]

/-- An entry of a block of taps. -/
def rd (x : FVec Ideal S3x512 .f32) (i : S3x512.Idx) : EReal := x i

/-- The rows' gradients after each point, by its blocks. -/
theorem val9' (x0 : FVec Ideal S2x4096x5632 .f32) (x1 : FVec Ideal S3x11264 .f32) (x2 : FVec Ideal S1x11264 .f32) (x3 : FVec Ideal S4096x5632 .f32) (h0 : m ((c : Thread nD τ).loc main_arg0) = x0) (h1 : m ((c : Thread nD τ).loc main_arg1) = x1) (h2 : m ((c : Thread nD τ).loc main_arg2) = x2) (h3 : m ((c : Thread nD τ).loc main_arg3) = x3) (t : Fin cfg0.N) (s : Fin 2) (r j : Fin 512) :
    (outsAt0 m c t.val t.isLt).1 (ix3 s r j) = (if s = 0 then rd (iblk m c 5 t) (ix2 2 j) * Dg (iblk m c 5 t) (iblk m c 6 t) (iblk m c 7 t) (iblk m c 8 t) j (col x0 0 (cl t j)) (col x0 1 (cl t j)) (cold x3 (cl t j)) (((grid0.coords t) 1).val * 512 + r.val) + rd (iblk m c 5 t) (ix2 1 j) * Dg (iblk m c 5 t) (iblk m c 6 t) (iblk m c 7 t) (iblk m c 8 t) j (col x0 0 (cl t j)) (col x0 1 (cl t j)) (cold x3 (cl t j)) (((grid0.coords t) 1).val * 512 + r.val + 1) + rd (iblk m c 5 t) (ix2 0 j) * Dg (iblk m c 5 t) (iblk m c 6 t) (iblk m c 7 t) (iblk m c 8 t) j (col x0 0 (cl t j)) (col x0 1 (cl t j)) (cold x3 (cl t j)) (((grid0.coords t) 1).val * 512 + r.val + 2) else rd (iblk m c 6 t) (ix2 2 j) * Du (iblk m c 5 t) (iblk m c 7 t) j (col x0 0 (cl t j)) (cold x3 (cl t j)) (((grid0.coords t) 1).val * 512 + r.val) + rd (iblk m c 6 t) (ix2 1 j) * Du (iblk m c 5 t) (iblk m c 7 t) j (col x0 0 (cl t j)) (cold x3 (cl t j)) (((grid0.coords t) 1).val * 512 + r.val + 1) + rd (iblk m c 6 t) (ix2 0 j) * Du (iblk m c 5 t) (iblk m c 7 t) j (col x0 0 (cl t j)) (cold x3 (cl t j)) (((grid0.coords t) 1).val * 512 + r.val + 2)) := by
  by_cases h : t.val % 8 = 0
  · rw [outsAt0_A m c t h]
    dsimp only
    rw [out9_A]
    exact w9 (pt m c x0 x3 h0 h3 t j) s r
  · rw [outsAt0_B m c t h]
    dsimp only
    rw [out9_B]
    exact w9 (pt m c x0 x3 h0 h3 t j) s r

/-- The rows' gradients after each point. -/
theorem val9 (x0 : FVec Ideal S2x4096x5632 .f32) (x1 : FVec Ideal S3x11264 .f32) (x2 : FVec Ideal S1x11264 .f32) (x3 : FVec Ideal S4096x5632 .f32) (h0 : m ((c : Thread nD τ).loc main_arg0) = x0) (h1 : m ((c : Thread nD τ).loc main_arg1) = x1) (h2 : m ((c : Thread nD τ).loc main_arg2) = x2) (h3 : m ((c : Thread nD τ).loc main_arg3) = x3) (t : Fin cfg0.N) (s : Fin 2) (r j : Fin 512) :
    (outsAt0 m c t.val t.isLt).1 (ix3 s r j) = x1 (ix2 2 (⟨s.val * 5632 + (cl t j).val, by omega⟩ : Fin 11264)) * DD x0 x1 x2 x3 s (cl t j) (t.val % 8 * 512 + r.val)
      + x1 (ix2 1 (⟨s.val * 5632 + (cl t j).val, by omega⟩ : Fin 11264)) * DD x0 x1 x2 x3 s (cl t j) (t.val % 8 * 512 + r.val + 1)
      + x1 (ix2 0 (⟨s.val * 5632 + (cl t j).val, by omega⟩ : Fin 11264)) * DD x0 x1 x2 x3 s (cl t j) (t.val % 8 * 512 + r.val + 2) := by
  rw [val9' m c x0 x1 x2 x3 h0 h1 h2 h3, place t]
  unfold rd
  fin_cases s
  · refine (if_pos rfl).trans ?_
    rw [dgD m c x0 x1 x2 x3 h1 h2, dgD m c x0 x1 x2 x3 h1 h2, dgD m c x0 x1 x2 x3 h1 h2, blk5 m c x1 h1, blk5 m c x1 h1, blk5 m c x1 h1]
    rfl
  · refine (if_neg (by decide)).trans ?_
    rw [duD m c x0 x1 x2 x3 h1 h2, duD m c x0 x1 x2 x3 h1 h2, duD m c x0 x1 x2 x3 h1 h2, blk6 m c x1 h1, blk6 m c x1 h1, blk6 m c x1 h1]
    rfl

/-- The gate's weight totals after a first point. -/
theorem tot10A (x0 : FVec Ideal S2x4096x5632 .f32) (x1 : FVec Ideal S3x11264 .f32) (x2 : FVec Ideal S1x11264 .f32) (x3 : FVec Ideal S4096x5632 .f32) (h0 : m ((c : Thread nD τ).loc main_arg0) = x0) (h1 : m ((c : Thread nD τ).loc main_arg1) = x1) (h2 : m ((c : Thread nD τ).loc main_arg2) = x2) (h3 : m ((c : Thread nD τ).loc main_arg3) = x3) (j : Fin 512) (k : Fin 3) (t : Fin cfg0.N) (h : t.val % 8 = 0) :
    (outsAt0 m c t.val t.isLt).2.1 (ix2 k j) = Rows.upto (tw x0 x1 x2 x3 0 (cl t j) k) ((t.val % 8 + 1) * 512) := by
  have z : k0_pay3 (F := Ideal) (ix2 k j) = Rows.upto (tw x0 x1 x2 x3 0 (cl t j) k) (t.val % 8 * 512) := by
    rw [z3, h, Nat.zero_mul, Rows.upto_zero]
  rw [outsAt0_A m c t h]
  dsimp only
  rw [out10_A, w10z (pt m c x0 x3 h0 h3 t j) _ k, z]
  exact stepw x0 x1 x2 x3 t 0 (cl t j) k _ fun q => dgD m c x0 x1 x2 x3 h1 h2 t j q

/-- The gate's weight totals after a later point, by the one before. -/
theorem tot10B (x0 : FVec Ideal S2x4096x5632 .f32) (x1 : FVec Ideal S3x11264 .f32) (x2 : FVec Ideal S1x11264 .f32) (x3 : FVec Ideal S4096x5632 .f32) (h0 : m ((c : Thread nD τ).loc main_arg0) = x0) (h1 : m ((c : Thread nD τ).loc main_arg1) = x1) (h2 : m ((c : Thread nD τ).loc main_arg2) = x2) (h3 : m ((c : Thread nD τ).loc main_arg3) = x3) (j : Fin 512) (k : Fin 3) (n : ℕ) (hn : n + 1 < cfg0.N) (h : ¬(n + 1) % 8 = 0)
    (ih : (outsAt0 m c n (Nat.lt_of_succ_lt hn)).2.1 (ix2 k j) = Rows.upto (tw x0 x1 x2 x3 0 (cl ⟨n, Nat.lt_of_succ_lt hn⟩ j) k) ((n % 8 + 1) * 512)) :
    (outsAt0 m c (n + 1) hn).2.1 (ix2 k j) = Rows.upto (tw x0 x1 x2 x3 0 (cl ⟨n + 1, hn⟩ j) k) (((n + 1) % 8 + 1) * 512) := by
  have ec : cl ⟨n, Nat.lt_of_succ_lt hn⟩ j = cl ⟨n + 1, hn⟩ j := Fin.ext (by show n / 8 * 512 + j.val = (n + 1) / 8 * 512 + j.val; omega)
  have er : n % 8 + 1 = (n + 1) % 8 := by omega
  rw [ec, er] at ih
  have e := outsAt0_B m c ⟨n + 1, hn⟩ h
  simp only [Nat.add_sub_cancel] at e
  rw [e]
  dsimp only
  rw [out10_B, w10 (pt m c x0 x3 h0 h3 ⟨n + 1, hn⟩ j) _ k, ih]
  exact stepw x0 x1 x2 x3 ⟨n + 1, hn⟩ 0 (cl ⟨n + 1, hn⟩ j) k _ fun q => dgD m c x0 x1 x2 x3 h1 h2 ⟨n + 1, hn⟩ j q

/-- The gate's weight totals after each point. -/
theorem tot10 (x0 : FVec Ideal S2x4096x5632 .f32) (x1 : FVec Ideal S3x11264 .f32) (x2 : FVec Ideal S1x11264 .f32) (x3 : FVec Ideal S4096x5632 .f32) (h0 : m ((c : Thread nD τ).loc main_arg0) = x0) (h1 : m ((c : Thread nD τ).loc main_arg1) = x1) (h2 : m ((c : Thread nD τ).loc main_arg2) = x2) (h3 : m ((c : Thread nD τ).loc main_arg3) = x3) (j : Fin 512) (k : Fin 3) : ∀ (n : ℕ) (hn : n < cfg0.N),
    (outsAt0 m c n hn).2.1 (ix2 k j) = Rows.upto (tw x0 x1 x2 x3 0 (cl ⟨n, hn⟩ j) k) ((n % 8 + 1) * 512) := by
  intro n
  induction n with
  | zero => exact fun hn => tot10A m c x0 x1 x2 x3 h0 h1 h2 h3 j k ⟨0, hn⟩ rfl
  | succ n ih =>
    intro hn
    by_cases h : (n + 1) % 8 = 0
    · exact tot10A m c x0 x1 x2 x3 h0 h1 h2 h3 j k ⟨n + 1, hn⟩ h
    · exact tot10B m c x0 x1 x2 x3 h0 h1 h2 h3 j k n hn h (ih (Nat.lt_of_succ_lt hn))

/-- The up's weight totals after a first point. -/
theorem tot11A (x0 : FVec Ideal S2x4096x5632 .f32) (x1 : FVec Ideal S3x11264 .f32) (x2 : FVec Ideal S1x11264 .f32) (x3 : FVec Ideal S4096x5632 .f32) (h0 : m ((c : Thread nD τ).loc main_arg0) = x0) (h1 : m ((c : Thread nD τ).loc main_arg1) = x1) (h2 : m ((c : Thread nD τ).loc main_arg2) = x2) (h3 : m ((c : Thread nD τ).loc main_arg3) = x3) (j : Fin 512) (k : Fin 3) (t : Fin cfg0.N) (h : t.val % 8 = 0) :
    (outsAt0 m c t.val t.isLt).2.2.1 (ix2 k j) = Rows.upto (tw x0 x1 x2 x3 1 (cl t j) k) ((t.val % 8 + 1) * 512) := by
  have z : k0_pay4 (F := Ideal) (ix2 k j) = Rows.upto (tw x0 x1 x2 x3 1 (cl t j) k) (t.val % 8 * 512) := by
    rw [z4, h, Nat.zero_mul, Rows.upto_zero]
  rw [outsAt0_A m c t h]
  dsimp only
  rw [out11_A, w11z (pt m c x0 x3 h0 h3 t j) _ k, z]
  exact stepw x0 x1 x2 x3 t 1 (cl t j) k _ fun q => duD m c x0 x1 x2 x3 h1 h2 t j q

/-- The up's weight totals after a later point, by the one before. -/
theorem tot11B (x0 : FVec Ideal S2x4096x5632 .f32) (x1 : FVec Ideal S3x11264 .f32) (x2 : FVec Ideal S1x11264 .f32) (x3 : FVec Ideal S4096x5632 .f32) (h0 : m ((c : Thread nD τ).loc main_arg0) = x0) (h1 : m ((c : Thread nD τ).loc main_arg1) = x1) (h2 : m ((c : Thread nD τ).loc main_arg2) = x2) (h3 : m ((c : Thread nD τ).loc main_arg3) = x3) (j : Fin 512) (k : Fin 3) (n : ℕ) (hn : n + 1 < cfg0.N) (h : ¬(n + 1) % 8 = 0)
    (ih : (outsAt0 m c n (Nat.lt_of_succ_lt hn)).2.2.1 (ix2 k j) = Rows.upto (tw x0 x1 x2 x3 1 (cl ⟨n, Nat.lt_of_succ_lt hn⟩ j) k) ((n % 8 + 1) * 512)) :
    (outsAt0 m c (n + 1) hn).2.2.1 (ix2 k j) = Rows.upto (tw x0 x1 x2 x3 1 (cl ⟨n + 1, hn⟩ j) k) (((n + 1) % 8 + 1) * 512) := by
  have ec : cl ⟨n, Nat.lt_of_succ_lt hn⟩ j = cl ⟨n + 1, hn⟩ j := Fin.ext (by show n / 8 * 512 + j.val = (n + 1) / 8 * 512 + j.val; omega)
  have er : n % 8 + 1 = (n + 1) % 8 := by omega
  rw [ec, er] at ih
  have e := outsAt0_B m c ⟨n + 1, hn⟩ h
  simp only [Nat.add_sub_cancel] at e
  rw [e]
  dsimp only
  rw [out11_B, w11 (pt m c x0 x3 h0 h3 ⟨n + 1, hn⟩ j) _ k, ih]
  exact stepw x0 x1 x2 x3 ⟨n + 1, hn⟩ 1 (cl ⟨n + 1, hn⟩ j) k _ fun q => duD m c x0 x1 x2 x3 h1 h2 ⟨n + 1, hn⟩ j q

/-- The up's weight totals after each point. -/
theorem tot11 (x0 : FVec Ideal S2x4096x5632 .f32) (x1 : FVec Ideal S3x11264 .f32) (x2 : FVec Ideal S1x11264 .f32) (x3 : FVec Ideal S4096x5632 .f32) (h0 : m ((c : Thread nD τ).loc main_arg0) = x0) (h1 : m ((c : Thread nD τ).loc main_arg1) = x1) (h2 : m ((c : Thread nD τ).loc main_arg2) = x2) (h3 : m ((c : Thread nD τ).loc main_arg3) = x3) (j : Fin 512) (k : Fin 3) : ∀ (n : ℕ) (hn : n < cfg0.N),
    (outsAt0 m c n hn).2.2.1 (ix2 k j) = Rows.upto (tw x0 x1 x2 x3 1 (cl ⟨n, hn⟩ j) k) ((n % 8 + 1) * 512) := by
  intro n
  induction n with
  | zero => exact fun hn => tot11A m c x0 x1 x2 x3 h0 h1 h2 h3 j k ⟨0, hn⟩ rfl
  | succ n ih =>
    intro hn
    by_cases h : (n + 1) % 8 = 0
    · exact tot11A m c x0 x1 x2 x3 h0 h1 h2 h3 j k ⟨n + 1, hn⟩ h
    · exact tot11B m c x0 x1 x2 x3 h0 h1 h2 h3 j k n hn h (ih (Nat.lt_of_succ_lt hn))

/-- The gate's bias total after a first point. -/
theorem tot12A (x0 : FVec Ideal S2x4096x5632 .f32) (x1 : FVec Ideal S3x11264 .f32) (x2 : FVec Ideal S1x11264 .f32) (x3 : FVec Ideal S4096x5632 .f32) (h0 : m ((c : Thread nD τ).loc main_arg0) = x0) (h1 : m ((c : Thread nD τ).loc main_arg1) = x1) (h2 : m ((c : Thread nD τ).loc main_arg2) = x2) (h3 : m ((c : Thread nD τ).loc main_arg3) = x3) (j : Fin 512) (t : Fin cfg0.N) (h : t.val % 8 = 0) :
    (outsAt0 m c t.val t.isLt).2.2.2.1 (ix2 0 j) = Rows.upto (tb x0 x1 x2 x3 0 (cl t j)) ((t.val % 8 + 1) * 512) := by
  have z : k0_pay5 (F := Ideal) (ix2 0 j) = Rows.upto (tb x0 x1 x2 x3 0 (cl t j)) (t.val % 8 * 512) := by
    rw [z5, h, Nat.zero_mul, Rows.upto_zero]
  rw [outsAt0_A m c t h]
  dsimp only
  rw [out12_A, w12 (pt m c x0 x3 h0 h3 t j) _, z]
  exact stepb x0 x1 x2 x3 t 0 (cl t j) _ fun q => dgD m c x0 x1 x2 x3 h1 h2 t j q

/-- The gate's bias total after a later point, by the one before. -/
theorem tot12B (x0 : FVec Ideal S2x4096x5632 .f32) (x1 : FVec Ideal S3x11264 .f32) (x2 : FVec Ideal S1x11264 .f32) (x3 : FVec Ideal S4096x5632 .f32) (h0 : m ((c : Thread nD τ).loc main_arg0) = x0) (h1 : m ((c : Thread nD τ).loc main_arg1) = x1) (h2 : m ((c : Thread nD τ).loc main_arg2) = x2) (h3 : m ((c : Thread nD τ).loc main_arg3) = x3) (j : Fin 512) (n : ℕ) (hn : n + 1 < cfg0.N) (h : ¬(n + 1) % 8 = 0)
    (ih : (outsAt0 m c n (Nat.lt_of_succ_lt hn)).2.2.2.1 (ix2 0 j) = Rows.upto (tb x0 x1 x2 x3 0 (cl ⟨n, Nat.lt_of_succ_lt hn⟩ j)) ((n % 8 + 1) * 512)) :
    (outsAt0 m c (n + 1) hn).2.2.2.1 (ix2 0 j) = Rows.upto (tb x0 x1 x2 x3 0 (cl ⟨n + 1, hn⟩ j)) (((n + 1) % 8 + 1) * 512) := by
  have ec : cl ⟨n, Nat.lt_of_succ_lt hn⟩ j = cl ⟨n + 1, hn⟩ j := Fin.ext (by show n / 8 * 512 + j.val = (n + 1) / 8 * 512 + j.val; omega)
  have er : n % 8 + 1 = (n + 1) % 8 := by omega
  rw [ec, er] at ih
  have e := outsAt0_B m c ⟨n + 1, hn⟩ h
  simp only [Nat.add_sub_cancel] at e
  rw [e]
  dsimp only
  rw [out12_B, w12 (pt m c x0 x3 h0 h3 ⟨n + 1, hn⟩ j) _, ih]
  exact stepb x0 x1 x2 x3 ⟨n + 1, hn⟩ 0 (cl ⟨n + 1, hn⟩ j) _ fun q => dgD m c x0 x1 x2 x3 h1 h2 ⟨n + 1, hn⟩ j q

/-- The gate's bias total after each point. -/
theorem tot12 (x0 : FVec Ideal S2x4096x5632 .f32) (x1 : FVec Ideal S3x11264 .f32) (x2 : FVec Ideal S1x11264 .f32) (x3 : FVec Ideal S4096x5632 .f32) (h0 : m ((c : Thread nD τ).loc main_arg0) = x0) (h1 : m ((c : Thread nD τ).loc main_arg1) = x1) (h2 : m ((c : Thread nD τ).loc main_arg2) = x2) (h3 : m ((c : Thread nD τ).loc main_arg3) = x3) (j : Fin 512) : ∀ (n : ℕ) (hn : n < cfg0.N),
    (outsAt0 m c n hn).2.2.2.1 (ix2 0 j) = Rows.upto (tb x0 x1 x2 x3 0 (cl ⟨n, hn⟩ j)) ((n % 8 + 1) * 512) := by
  intro n
  induction n with
  | zero => exact fun hn => tot12A m c x0 x1 x2 x3 h0 h1 h2 h3 j ⟨0, hn⟩ rfl
  | succ n ih =>
    intro hn
    by_cases h : (n + 1) % 8 = 0
    · exact tot12A m c x0 x1 x2 x3 h0 h1 h2 h3 j ⟨n + 1, hn⟩ h
    · exact tot12B m c x0 x1 x2 x3 h0 h1 h2 h3 j n hn h (ih (Nat.lt_of_succ_lt hn))

/-- The up's bias total after a first point. -/
theorem tot13A (x0 : FVec Ideal S2x4096x5632 .f32) (x1 : FVec Ideal S3x11264 .f32) (x2 : FVec Ideal S1x11264 .f32) (x3 : FVec Ideal S4096x5632 .f32) (h0 : m ((c : Thread nD τ).loc main_arg0) = x0) (h1 : m ((c : Thread nD τ).loc main_arg1) = x1) (h2 : m ((c : Thread nD τ).loc main_arg2) = x2) (h3 : m ((c : Thread nD τ).loc main_arg3) = x3) (j : Fin 512) (t : Fin cfg0.N) (h : t.val % 8 = 0) :
    (outsAt0 m c t.val t.isLt).2.2.2.2 (ix2 0 j) = Rows.upto (tb x0 x1 x2 x3 1 (cl t j)) ((t.val % 8 + 1) * 512) := by
  have z : k0_pay6 (F := Ideal) (ix2 0 j) = Rows.upto (tb x0 x1 x2 x3 1 (cl t j)) (t.val % 8 * 512) := by
    rw [z6, h, Nat.zero_mul, Rows.upto_zero]
  rw [outsAt0_A m c t h]
  dsimp only
  rw [out13_A, w13 (pt m c x0 x3 h0 h3 t j) _, z]
  exact stepb x0 x1 x2 x3 t 1 (cl t j) _ fun q => duD m c x0 x1 x2 x3 h1 h2 t j q

/-- The up's bias total after a later point, by the one before. -/
theorem tot13B (x0 : FVec Ideal S2x4096x5632 .f32) (x1 : FVec Ideal S3x11264 .f32) (x2 : FVec Ideal S1x11264 .f32) (x3 : FVec Ideal S4096x5632 .f32) (h0 : m ((c : Thread nD τ).loc main_arg0) = x0) (h1 : m ((c : Thread nD τ).loc main_arg1) = x1) (h2 : m ((c : Thread nD τ).loc main_arg2) = x2) (h3 : m ((c : Thread nD τ).loc main_arg3) = x3) (j : Fin 512) (n : ℕ) (hn : n + 1 < cfg0.N) (h : ¬(n + 1) % 8 = 0)
    (ih : (outsAt0 m c n (Nat.lt_of_succ_lt hn)).2.2.2.2 (ix2 0 j) = Rows.upto (tb x0 x1 x2 x3 1 (cl ⟨n, Nat.lt_of_succ_lt hn⟩ j)) ((n % 8 + 1) * 512)) :
    (outsAt0 m c (n + 1) hn).2.2.2.2 (ix2 0 j) = Rows.upto (tb x0 x1 x2 x3 1 (cl ⟨n + 1, hn⟩ j)) (((n + 1) % 8 + 1) * 512) := by
  have ec : cl ⟨n, Nat.lt_of_succ_lt hn⟩ j = cl ⟨n + 1, hn⟩ j := Fin.ext (by show n / 8 * 512 + j.val = (n + 1) / 8 * 512 + j.val; omega)
  have er : n % 8 + 1 = (n + 1) % 8 := by omega
  rw [ec, er] at ih
  have e := outsAt0_B m c ⟨n + 1, hn⟩ h
  simp only [Nat.add_sub_cancel] at e
  rw [e]
  dsimp only
  rw [out13_B, w13 (pt m c x0 x3 h0 h3 ⟨n + 1, hn⟩ j) _, ih]
  exact stepb x0 x1 x2 x3 ⟨n + 1, hn⟩ 1 (cl ⟨n + 1, hn⟩ j) _ fun q => duD m c x0 x1 x2 x3 h1 h2 ⟨n + 1, hn⟩ j q

/-- The up's bias total after each point. -/
theorem tot13 (x0 : FVec Ideal S2x4096x5632 .f32) (x1 : FVec Ideal S3x11264 .f32) (x2 : FVec Ideal S1x11264 .f32) (x3 : FVec Ideal S4096x5632 .f32) (h0 : m ((c : Thread nD τ).loc main_arg0) = x0) (h1 : m ((c : Thread nD τ).loc main_arg1) = x1) (h2 : m ((c : Thread nD τ).loc main_arg2) = x2) (h3 : m ((c : Thread nD τ).loc main_arg3) = x3) (j : Fin 512) : ∀ (n : ℕ) (hn : n < cfg0.N),
    (outsAt0 m c n hn).2.2.2.2 (ix2 0 j) = Rows.upto (tb x0 x1 x2 x3 1 (cl ⟨n, hn⟩ j)) ((n % 8 + 1) * 512) := by
  intro n
  induction n with
  | zero => exact fun hn => tot13A m c x0 x1 x2 x3 h0 h1 h2 h3 j ⟨0, hn⟩ rfl
  | succ n ih =>
    intro hn
    by_cases h : (n + 1) % 8 = 0
    · exact tot13A m c x0 x1 x2 x3 h0 h1 h2 h3 j ⟨n + 1, hn⟩ h
    · exact tot13B m c x0 x1 x2 x3 h0 h1 h2 h3 j n hn h (ih (Nat.lt_of_succ_lt hn))

/-- Where a point's block of rows lies in the result. -/
theorem emb9 (t : Fin cfg0.N) (s : Fin 2) (i j : Fin 512) : (win0_9.blk t).view.emb (ix3 s i j)
    = ix3 s (⟨t.val % 8 * 512 + i.val, by omega⟩ : Fin 4096) (cl t j) := by
  refine funext fun a => Fin.ext ?_
  fin_cases a <;> blk_simp [idxo t] <;> rfl

/-- Where a point's block of totals lies in the result. -/
theorem emb10 (t : Fin cfg0.N) (k : Fin 3) (j : Fin 512) : (win0_10.blk t).view.emb (ix2 k j) = ix2 k (cl t j) := by
  refine funext fun a => Fin.ext ?_
  fin_cases a <;> blk_simp [idxo t] <;> rfl

/-- Where a point's block of totals lies in the result. -/
theorem emb11 (t : Fin cfg0.N) (k : Fin 3) (j : Fin 512) : (win0_11.blk t).view.emb (ix2 k j) = ix2 k (cl t j) := by
  refine funext fun a => Fin.ext ?_
  fin_cases a <;> blk_simp [idxo t] <;> rfl

/-- Where a point's block of totals lies in the result. -/
theorem emb12 (t : Fin cfg0.N) (k : Fin 1) (j : Fin 512) : (win0_12.blk t).view.emb (ix2 k j) = ix2 k (cl t j) := by
  refine funext fun a => Fin.ext ?_
  fin_cases a <;> blk_simp [idxo t] <;> rfl

/-- Where a point's block of totals lies in the result. -/
theorem emb13 (t : Fin cfg0.N) (k : Fin 1) (j : Fin 512) : (win0_13.blk t).view.emb (ix2 k j) = ix2 k (cl t j) := by
  refine funext fun a => Fin.ext ?_
  fin_cases a <;> blk_simp [idxo t] <;> rfl

/-- The reference's rows' gradients where a point's block lies. -/
theorem refs9 (x0 : FVec Ideal S2x4096x5632 .f32) (x1 : FVec Ideal S3x11264 .f32) (x2 : FVec Ideal S1x11264 .f32) (x3 : FVec Ideal S4096x5632 .f32) (H0 : ∀ i, IsR (x0 i)) (H1 : ∀ i, IsR (x1 i)) (H2 : ∀ i, IsR (x2 i)) (H3 : ∀ i, IsR (x3 i)) (t : Fin cfg0.N) (s : Fin 2) (r j : Fin 512) :
    Cert.Reference21Ideal.Read.val_main_v83 (F := Ideal) x0 x1 x2 x3 ((win0_9.blk t).view.emb (ix3 s r j))
    = x1 (ix2 2 (⟨s.val * 5632 + (cl t j).val, by omega⟩ : Fin 11264)) * DD x0 x1 x2 x3 s (cl t j) (t.val % 8 * 512 + r.val)
      + x1 (ix2 1 (⟨s.val * 5632 + (cl t j).val, by omega⟩ : Fin 11264)) * DD x0 x1 x2 x3 s (cl t j) (t.val % 8 * 512 + r.val + 1)
      + x1 (ix2 0 (⟨s.val * 5632 + (cl t j).val, by omega⟩ : Fin 11264)) * DD x0 x1 x2 x3 s (cl t j) (t.val % 8 * 512 + r.val + 2) := by
  rw [emb9, ref83 _ _ _ _ H0 H1 H2 H3]

/-- The rows' gradients. -/
theorem arr9 (H0 : ∀ i, IsR ((m ((c : Thread nD τ).loc main_arg0) : FVec Ideal S2x4096x5632 .f32) i)) (H1 : ∀ i, IsR ((m ((c : Thread nD τ).loc main_arg1) : FVec Ideal S3x11264 .f32) i)) (H2 : ∀ i, IsR ((m ((c : Thread nD τ).loc main_arg2) : FVec Ideal S1x11264 .f32) i)) (H3 : ∀ i, IsR ((m ((c : Thread nD τ).loc main_arg3) : FVec Ideal S4096x5632 .f32) i)) : ((dats m 0 c).arrAt 9 cfg0.N : FVec Ideal S2x4096x5632 .bf16) = Cert.Reference21Ideal.Read.val_main_v83 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 9 _ (by decide +kernel) fun t hf y => ?_
  blk_simp
  rw [after0_9]
  idx_vars y
  exact (val9 m c _ _ _ _ rfl rfl rfl rfl t y0 y1 y2).trans (refs9 _ _ _ _ H0 H1 H2 H3 t y0 y1 y2).symm

/-- The gate's weight totals. -/
theorem arr10 (H0 : ∀ i, IsR ((m ((c : Thread nD τ).loc main_arg0) : FVec Ideal S2x4096x5632 .f32) i)) (H1 : ∀ i, IsR ((m ((c : Thread nD τ).loc main_arg1) : FVec Ideal S3x11264 .f32) i)) (H2 : ∀ i, IsR ((m ((c : Thread nD τ).loc main_arg2) : FVec Ideal S1x11264 .f32) i)) (H3 : ∀ i, IsR ((m ((c : Thread nD τ).loc main_arg3) : FVec Ideal S4096x5632 .f32) i)) : ((dats m 0 c).arrAt 10 cfg0.N : FVec Ideal S3x5632 .f32) = Cert.Reference21Ideal.Read.val_main_v84 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 10 _ (by decide +kernel) fun t hf y => ?_
  have h : t.val % 8 = 7 := (flush0_10 t).mp hf
  blk_simp
  rw [after0_10]
  idx_vars y
  rw [tot10 m c _ _ _ _ rfl rfl rfl rfl y1 y0, h]
  refine Eq.trans ?_ (congrArg _ (emb10 t y0 y1)).symm
  rw [ref84 _ _ _ _ H0 H1 H2 H3]
  exact Rows.upto_all _

/-- The up's weight totals. -/
theorem arr11 (H0 : ∀ i, IsR ((m ((c : Thread nD τ).loc main_arg0) : FVec Ideal S2x4096x5632 .f32) i)) (H1 : ∀ i, IsR ((m ((c : Thread nD τ).loc main_arg1) : FVec Ideal S3x11264 .f32) i)) (H2 : ∀ i, IsR ((m ((c : Thread nD τ).loc main_arg2) : FVec Ideal S1x11264 .f32) i)) (H3 : ∀ i, IsR ((m ((c : Thread nD τ).loc main_arg3) : FVec Ideal S4096x5632 .f32) i)) : ((dats m 0 c).arrAt 11 cfg0.N : FVec Ideal S3x5632 .f32) = Cert.Reference21Ideal.Read.val_main_v85 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 11 _ (by decide +kernel) fun t hf y => ?_
  have h : t.val % 8 = 7 := (flush0_11 t).mp hf
  blk_simp
  rw [after0_11]
  idx_vars y
  rw [tot11 m c _ _ _ _ rfl rfl rfl rfl y1 y0, h]
  refine Eq.trans ?_ (congrArg _ (emb11 t y0 y1)).symm
  rw [ref85 _ _ _ _ H0 H1 H2 H3]
  exact Rows.upto_all _

/-- The gate's bias total. -/
theorem arr12 (H0 : ∀ i, IsR ((m ((c : Thread nD τ).loc main_arg0) : FVec Ideal S2x4096x5632 .f32) i)) (H1 : ∀ i, IsR ((m ((c : Thread nD τ).loc main_arg1) : FVec Ideal S3x11264 .f32) i)) (H2 : ∀ i, IsR ((m ((c : Thread nD τ).loc main_arg2) : FVec Ideal S1x11264 .f32) i)) (H3 : ∀ i, IsR ((m ((c : Thread nD τ).loc main_arg3) : FVec Ideal S4096x5632 .f32) i)) : ((dats m 0 c).arrAt 12 cfg0.N : FVec Ideal S1x5632 .f32) = Cert.Reference21Ideal.Read.val_main_v87 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 12 _ (by decide +kernel) fun t hf y => ?_
  have h : t.val % 8 = 7 := (flush0_12 t).mp hf
  blk_simp
  rw [after0_12]
  idx_vars y
  obtain rfl : y0 = 0 := Subsingleton.elim _ _
  rw [tot12 m c _ _ _ _ rfl rfl rfl rfl y1, h]
  refine Eq.trans ?_ (congrArg _ (emb12 t 0 y1)).symm
  rw [ref87 _ _ _ _ H0 H1 H2 H3]
  exact Rows.upto_all _

/-- The up's bias total. -/
theorem arr13 (H0 : ∀ i, IsR ((m ((c : Thread nD τ).loc main_arg0) : FVec Ideal S2x4096x5632 .f32) i)) (H1 : ∀ i, IsR ((m ((c : Thread nD τ).loc main_arg1) : FVec Ideal S3x11264 .f32) i)) (H2 : ∀ i, IsR ((m ((c : Thread nD τ).loc main_arg2) : FVec Ideal S1x11264 .f32) i)) (H3 : ∀ i, IsR ((m ((c : Thread nD τ).loc main_arg3) : FVec Ideal S4096x5632 .f32) i)) : ((dats m 0 c).arrAt 13 cfg0.N : FVec Ideal S1x5632 .f32) = Cert.Reference21Ideal.Read.val_main_v89 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 13 _ (by decide +kernel) fun t hf y => ?_
  have h : t.val % 8 = 7 := (flush0_13 t).mp hf
  blk_simp
  rw [after0_13]
  idx_vars y
  obtain rfl : y0 = 0 := Subsingleton.elim _ _
  rw [tot13 m c _ _ _ _ rfl rfl rfl rfl y1, h]
  refine Eq.trans ?_ (congrArg _ (emb13 t 0 y1)).symm
  rw [ref89 _ _ _ _ H0 H1 H2 H3]
  exact Rows.upto_all _

/-- The reference runs, leaves its arguments and its counters. -/
theorem frame_ri : Cert.quiescent_Reference21Ideal := fun m ρ _ =>
  (θ_run Cert.Reference21Ideal.defs _ _).mono (fun r h => ⟨fun c => (h c).2.2.2.2.2,
      Idealize.ShloMosaic.sem_eq_zero_of_no_sems (by decide) r.2⟩)
    (Cert.Reference21Ideal.Value.run (F := Ideal) m ρ)

/-- At the ideal reading, on finite arguments, the kernel leaves what the reference leaves. -/
theorem algebraic [Cert.Pre_finite_conv.Facts] : Cert.algebraic_Kernel21Ideal_Reference21Ideal_pre_finite_conv := by
  intro m ρ m' ρ' hpre hagree
  refine ⟨fun c => (dats m 0 c).arrAt 9 cfg0.N, fun c => (dats m 0 c).arrAt 10 cfg0.N, fun c => (dats m 0 c).arrAt 11 cfg0.N, fun c => (dats m 0 c).arrAt 12 cfg0.N, fun c => (dats m 0 c).arrAt 13 cfg0.N, Cert.Kernel21Ideal.Value.run_blocks m ρ, ?_⟩
  refine (θ_run Cert.Reference21Ideal.defs _ _).mono (fun r h c => ?_) (Cert.Reference21Ideal.Value.run (F := Ideal) m' ρ')
  obtain ⟨p0, p1, p2, p3⟩ := hpre c
  have H0 : ∀ i, IsR ((m ((c : Thread nD τ).loc main_arg0) : FVec Ideal S2x4096x5632 .f32) i) := fun i => ⟨_, Cert.Arr.real_of_lt (congrFun p0 i)⟩
  have H1 : ∀ i, IsR ((m ((c : Thread nD τ).loc main_arg1) : FVec Ideal S3x11264 .f32) i) := fun i => ⟨_, Cert.Arr.real_of_lt (congrFun p1 i)⟩
  have H2 : ∀ i, IsR ((m ((c : Thread nD τ).loc main_arg2) : FVec Ideal S1x11264 .f32) i) := fun i => ⟨_, Cert.Arr.real_of_lt (congrFun p2 i)⟩
  have H3 : ∀ i, IsR ((m ((c : Thread nD τ).loc main_arg3) : FVec Ideal S4096x5632 .f32) i) := fun i => ⟨_, Cert.Arr.real_of_lt (congrFun p3 i)⟩
  obtain ⟨e0, e1, e2, e3⟩ := hagree c
  refine ⟨(h c).1.trans ?_, (h c).2.1.trans ?_, (h c).2.2.1.trans ?_, (h c).2.2.2.1.trans ?_, (h c).2.2.2.2.1.trans ?_, (h c).2.2.2.2.2⟩
  · refine (Cert.Reference21Ideal.Read.val_main_v83_eq _).trans ?_
    show Cert.Reference21Ideal.Read.val_main_v83 (F := Ideal) (m' ((c.tc : Thread Cert.Reference21Ideal.nD Cert.Reference21Ideal.τ).loc Cert.Reference21Ideal.main_arg0)) (m' ((c.tc : Thread Cert.Reference21Ideal.nD Cert.Reference21Ideal.τ).loc Cert.Reference21Ideal.main_arg1)) (m' ((c.tc : Thread Cert.Reference21Ideal.nD Cert.Reference21Ideal.τ).loc Cert.Reference21Ideal.main_arg2)) (m' ((c.tc : Thread Cert.Reference21Ideal.nD Cert.Reference21Ideal.τ).loc Cert.Reference21Ideal.main_arg3)) = _
    rw [e0, e1, e2, e3]
    exact (arr9 m c H0 H1 H2 H3).symm
  · refine (Cert.Reference21Ideal.Read.val_main_v84_eq _).trans ?_
    show Cert.Reference21Ideal.Read.val_main_v84 (F := Ideal) (m' ((c.tc : Thread Cert.Reference21Ideal.nD Cert.Reference21Ideal.τ).loc Cert.Reference21Ideal.main_arg0)) (m' ((c.tc : Thread Cert.Reference21Ideal.nD Cert.Reference21Ideal.τ).loc Cert.Reference21Ideal.main_arg1)) (m' ((c.tc : Thread Cert.Reference21Ideal.nD Cert.Reference21Ideal.τ).loc Cert.Reference21Ideal.main_arg2)) (m' ((c.tc : Thread Cert.Reference21Ideal.nD Cert.Reference21Ideal.τ).loc Cert.Reference21Ideal.main_arg3)) = _
    rw [e0, e1, e2, e3]
    exact (arr10 m c H0 H1 H2 H3).symm
  · refine (Cert.Reference21Ideal.Read.val_main_v85_eq _).trans ?_
    show Cert.Reference21Ideal.Read.val_main_v85 (F := Ideal) (m' ((c.tc : Thread Cert.Reference21Ideal.nD Cert.Reference21Ideal.τ).loc Cert.Reference21Ideal.main_arg0)) (m' ((c.tc : Thread Cert.Reference21Ideal.nD Cert.Reference21Ideal.τ).loc Cert.Reference21Ideal.main_arg1)) (m' ((c.tc : Thread Cert.Reference21Ideal.nD Cert.Reference21Ideal.τ).loc Cert.Reference21Ideal.main_arg2)) (m' ((c.tc : Thread Cert.Reference21Ideal.nD Cert.Reference21Ideal.τ).loc Cert.Reference21Ideal.main_arg3)) = _
    rw [e0, e1, e2, e3]
    exact (arr11 m c H0 H1 H2 H3).symm
  · refine (Cert.Reference21Ideal.Read.val_main_v87_eq _).trans ?_
    show Cert.Reference21Ideal.Read.val_main_v87 (F := Ideal) (m' ((c.tc : Thread Cert.Reference21Ideal.nD Cert.Reference21Ideal.τ).loc Cert.Reference21Ideal.main_arg0)) (m' ((c.tc : Thread Cert.Reference21Ideal.nD Cert.Reference21Ideal.τ).loc Cert.Reference21Ideal.main_arg1)) (m' ((c.tc : Thread Cert.Reference21Ideal.nD Cert.Reference21Ideal.τ).loc Cert.Reference21Ideal.main_arg2)) (m' ((c.tc : Thread Cert.Reference21Ideal.nD Cert.Reference21Ideal.τ).loc Cert.Reference21Ideal.main_arg3)) = _
    rw [e0, e1, e2, e3]
    exact (arr12 m c H0 H1 H2 H3).symm
  · refine (Cert.Reference21Ideal.Read.val_main_v89_eq _).trans ?_
    show Cert.Reference21Ideal.Read.val_main_v89 (F := Ideal) (m' ((c.tc : Thread Cert.Reference21Ideal.nD Cert.Reference21Ideal.τ).loc Cert.Reference21Ideal.main_arg0)) (m' ((c.tc : Thread Cert.Reference21Ideal.nD Cert.Reference21Ideal.τ).loc Cert.Reference21Ideal.main_arg1)) (m' ((c.tc : Thread Cert.Reference21Ideal.nD Cert.Reference21Ideal.τ).loc Cert.Reference21Ideal.main_arg2)) (m' ((c.tc : Thread Cert.Reference21Ideal.nD Cert.Reference21Ideal.τ).loc Cert.Reference21Ideal.main_arg3)) = _
    rw [e0, e1, e2, e3]
    exact (arr13 m c H0 H1 H2 H3).symm

end Cert.Mm21

end
-- ==== Proof.Scan.lean ====
/- Running sums along a row by doubling, the host's window sum along a row, and the logarithm of a sigmoid with its slope. -/
module

public import Idealize.ShloMosaic.Lib.Pointwise
public import Idealize.ShloMosaic.Lib.WordCmp
public import Idealize.ShloMosaic.Lib.KernelVsHost
public import Idealize.ShloMosaic.Lib.Routing.Ops

@[expose] public section

noncomputable section

namespace Cert.Scan

open Idealize.ShloMosaic Idealize.ShloMosaic.Routing

/-- Adding a list's terms one after the other. -/
theorem foldl_sum {ι : Type} (l : List ι) (g : ι → EReal) (z : EReal) : l.foldl (fun r n => r + g n) z = z + (l.map g).sum := by
  induction l generalizing z with
  | nil => simp
  | cons a l ih => rw [List.foldl_cons, ih, List.map_cons, List.sum_cons, add_assoc]

/-- Adding the terms of a range one after the other. -/
theorem foldl_fin (M N : ℕ) (h : M = N) (f : Fin M → EReal) (g : ℕ → EReal) (e : ∀ n, f n = g n.val) :
    (List.finRange M).foldl (fun r n => r + f n) 0 = ∑ u ∈ Finset.range N, g u := by
  subst h
  rw [foldl_sum, zero_add, ← Fin.sum_univ_def, Finset.sum_range]
  exact Finset.sum_congr rfl fun n _ => e n

/-- The host's window sum that ends a row: the sum of the row from a place on. -/
theorem suffix {H N Nm1 : ℕ} (hN : Nm1 + 1 = N) (x : (shape2 H N).Idx → EReal) (f : ℕ → EReal) (r : Fin H)
    (hx : ∀ i : Fin N, x (ix2 r i) = f i.val) (hz : ∀ t, N ≤ t → f t = 0)
    (h : (shape2 H N).ReduceWindows (![1, N] : Fin 2 → ℕ) ![1, 1] ![0, 0] ![0, Nm1] (shape2 H N)) (j : Fin N) :
    Ideal.hostReduceWindowAdd ![1, N] ![1, 1] ![0, 0] ![0, Nm1] h x 0 (ix2 r j) = ∑ u ∈ Finset.range N, f (j.val + u) := by
  unfold Ideal.hostReduceWindowAdd Host.reduceWindow
  refine foldl_fin _ N (numel2 N) _ (fun u => f (j.val + u)) fun n => ?_
  have hw0 : ((shape2 1 N).rowMajor.symm n 0).val = 0 := by rw [symm2]; rfl
  have hw : ((shape2 1 N).rowMajor.symm n 1).val = n.val := by rw [symm2]; rfl
  dsimp only
  split
  · next hin =>
    have h1 := hin 1
    change 0 ≤ j.val * 1 + ((shape2 1 N).rowMajor.symm n 1).val ∧ j.val * 1 + ((shape2 1 N).rowMajor.symm n 1).val - 0 < N at h1
    rw [hw] at h1
    refine (congrArg x (funext fun a => Fin.ext ?_)).trans (hx ⟨j.val + n.val, by omega⟩)
    match a with
    | ⟨0, _⟩ =>
      show r.val * 1 + ((shape2 1 N).rowMajor.symm n 0).val - 0 = r.val
      rw [hw0]; omega
    | ⟨1, _⟩ =>
      show j.val * 1 + ((shape2 1 N).rowMajor.symm n 1).val - 0 = j.val + n.val
      rw [hw]; omega
  · next hin =>
    refine (hz _ (le_of_not_gt fun hlt => hin fun a => ?_)).symm
    match a with
    | ⟨0, _⟩ =>
      show 0 ≤ r.val * 1 + ((shape2 1 N).rowMajor.symm n 0).val ∧ r.val * 1 + ((shape2 1 N).rowMajor.symm n 0).val - 0 < H
      rw [hw0]; omega
    | ⟨1, _⟩ =>
      show 0 ≤ j.val * 1 + ((shape2 1 N).rowMajor.symm n 1).val ∧ j.val * 1 + ((shape2 1 N).rowMajor.symm n 1).val - 0 < N
      rw [hw]; omega

/-- The host's window sum that begins a row: the sum of the row up to a place. -/
theorem pre {H N Nm1 : ℕ} (hN : Nm1 + 1 = N) (x : (shape2 H N).Idx → EReal) (f : ℕ → EReal) (r : Fin H)
    (hx : ∀ i : Fin N, x (ix2 r i) = f i.val)
    (h : (shape2 H N).ReduceWindows (![1, N] : Fin 2 → ℕ) ![1, 1] ![0, Nm1] ![0, 0] (shape2 H N)) (j : Fin N) :
    Ideal.hostReduceWindowAdd ![1, N] ![1, 1] ![0, Nm1] ![0, 0] h x 0 (ix2 r j) = ∑ u ∈ Finset.range N, if u ≤ j.val then f (j.val - u) else 0 := by
  subst hN
  rw [← Finset.sum_range_reflect]
  unfold Ideal.hostReduceWindowAdd Host.reduceWindow
  refine foldl_fin _ (Nm1 + 1) (numel2 (Nm1 + 1)) _ (fun u => if Nm1 + 1 - 1 - u ≤ j.val then f (j.val - (Nm1 + 1 - 1 - u)) else 0) fun n => ?_
  have hw0 : ((shape2 1 (Nm1 + 1)).rowMajor.symm n 0).val = 0 := by rw [symm2]; rfl
  have hw : ((shape2 1 (Nm1 + 1)).rowMajor.symm n 1).val = n.val := by rw [symm2]; rfl
  have hn : n.val < Nm1 + 1 := (n.cast (numel2 _)).isLt
  have hj := j.isLt
  dsimp only
  split
  · next hin =>
    have h1 := hin 1
    change Nm1 ≤ j.val * 1 + ((shape2 1 (Nm1 + 1)).rowMajor.symm n 1).val ∧ j.val * 1 + ((shape2 1 (Nm1 + 1)).rowMajor.symm n 1).val - Nm1 < Nm1 + 1 at h1
    rw [hw] at h1
    rw [if_pos (by omega)]
    refine (congrArg x (funext fun a => Fin.ext ?_)).trans (hx ⟨j.val - (Nm1 + 1 - 1 - n.val), by omega⟩)
    match a with
    | ⟨0, _⟩ =>
      show r.val * 1 + ((shape2 1 (Nm1 + 1)).rowMajor.symm n 0).val - 0 = r.val
      rw [hw0]; omega
    | ⟨1, _⟩ =>
      show j.val * 1 + ((shape2 1 (Nm1 + 1)).rowMajor.symm n 1).val - Nm1 = j.val - (Nm1 + 1 - 1 - n.val)
      rw [hw]; omega
  · next hin =>
    rw [if_neg fun hle => hin fun a => ?_]
    match a with
    | ⟨0, _⟩ =>
      show 0 ≤ r.val * 1 + ((shape2 1 (Nm1 + 1)).rowMajor.symm n 0).val ∧ r.val * 1 + ((shape2 1 (Nm1 + 1)).rowMajor.symm n 0).val - 0 < H
      rw [hw0]; omega
    | ⟨1, _⟩ =>
      show Nm1 ≤ j.val * 1 + ((shape2 1 (Nm1 + 1)).rowMajor.symm n 1).val ∧ j.val * 1 + ((shape2 1 (Nm1 + 1)).rowMajor.symm n 1).val - Nm1 < Nm1 + 1
      rw [hw]; omega

/-- A rotated row of 4096 at a place. -/
theorem rot (w : BitVec 32) (s : ℕ) (hw : w.toNat = s) (hs : s < 4096) (g : (shape2 16 4096).Idx → EReal) (hr : (shape2 16 4096).Rotates 1 none) (r : Fin 16) (t : Fin 4096) :
    dynamicRotate 1 w none g hr (ix2 r t) = g (ix2 r (⟨(t.val + 4096 - s) % 4096, by omega⟩ : Fin 4096)) := by
  refine dynamicRotate_apply 1 w g hr _ _ fun b => ?_
  fin_cases b
  · simp
  · show (t.val + 4096 - s) % 4096 = _
    rw [hw]
    simp [Nat.mod_eq_of_lt hs]

/-- Doubling a running sum to the right. -/
theorem up (n : ℕ) (f : ℕ → EReal) (t : ℕ) : (∑ u ∈ Finset.range n, f (t + u)) + ∑ u ∈ Finset.range n, f (t + n + u) = ∑ u ∈ Finset.range (n + n), f (t + u) := by
  rw [Finset.sum_range_add]
  simp only [add_assoc]

/-- Doubling a running sum to the left. -/
theorem dn (n : ℕ) (f : ℕ → EReal) (t : ℕ) :
    (∑ u ∈ Finset.range n, if u ≤ t then f (t - u) else 0) + (if n ≤ t then ∑ u ∈ Finset.range n, if u ≤ t - n then f (t - n - u) else 0 else 0)
    = ∑ u ∈ Finset.range (n + n), if u ≤ t then f (t - u) else 0 := by
  rw [Finset.sum_range_add]
  refine congrArg _ ?_
  split
  · refine Finset.sum_congr rfl fun u _ => ?_
    by_cases h : u ≤ t - n
    · rw [if_pos h, if_pos (by omega)]
      exact congrArg f (by omega)
    · rw [if_neg h, if_neg (by omega)]
  · refine (Finset.sum_eq_zero fun u _ => ?_).symm
    rw [if_neg (by omega)]

/-- The smooth maximum with zero. -/
def sp (n : EReal) : EReal := max n 0 + Ideal.log1p (Ideal.exp (-(max n (-n))))

theorem coe_max (a b : ℝ) : ((max a b : ℝ) : EReal) = max (a : EReal) b := EReal.coe_strictMono.monotone.map_max
theorem coe_min (a b : ℝ) : ((min a b : ℝ) : EReal) = min (a : EReal) b := EReal.coe_strictMono.monotone.map_min

theorem sp_bot : sp ⊥ = 0 := by
  unfold sp Ideal.log1p
  rw [EReal.neg_bot, max_eq_right bot_le, max_eq_right bot_le, EReal.neg_top, Ideal.exp_bot, add_zero, ← EReal.coe_one, Ideal.log_coe]
  simp

theorem sp_top : sp ⊤ = ⊤ := by
  unfold sp Ideal.log1p
  rw [EReal.neg_top, max_eq_left le_top, max_eq_left bot_le, EReal.neg_top, Ideal.exp_bot, add_zero, ← EReal.coe_one, Ideal.log_coe]
  simp

theorem sp_coe (n : ℝ) : sp n = ((max n 0 + Real.log (1 + Real.exp (-(max n (-n)))) : ℝ) : EReal) := by
  unfold sp Ideal.log1p
  rw [← EReal.coe_neg, ← coe_max, ← EReal.coe_neg, Ideal.exp_coe, ← EReal.coe_one, ← EReal.coe_add, Ideal.log_coe,
    if_neg (not_le.mpr (by positivity)), ← EReal.coe_zero, ← coe_max, ← EReal.coe_add]

/-- The smooth maximum's slope, as its derivative rule writes it. -/
theorem slope (n : EReal) : Ideal.exp ((if n = ⊤ then 0 else n) - (if sp n = ⊤ then 0 else sp n)) = Ideal.logistic n := by
  induction n with
  | bot => rw [sp_bot, if_neg (by simp), if_neg (by simp), Ideal.logistic_bot, sub_zero, Ideal.exp_bot]
  | top => rw [sp_top, if_pos rfl, Ideal.logistic_top, sub_zero]; exact (Ideal.exp_coe (r := 0)).trans (by simp)
  | coe n =>
    rw [sp_coe, if_neg (EReal.coe_ne_top _), if_neg (EReal.coe_ne_top _), ← EReal.coe_sub, Ideal.exp_coe, Ideal.logistic_coe]
    refine congrArg _ ?_
    rw [Real.exp_sub, Real.exp_add, Real.exp_log (by positivity)]
    rcases le_total 0 n with h | h
    · rw [max_eq_left h, max_eq_left (by linarith), div_mul_eq_div_div, div_self (Real.exp_pos n).ne', one_div]
    · rw [max_eq_right h, max_eq_right (by linarith), Real.exp_zero, one_mul, neg_neg, Real.exp_neg]
      have := Real.exp_pos n
      field_simp
      try ring

/-- The logarithm of a sigmoid, in two forms. -/
theorem logsig (x : EReal) : min x 0 - Ideal.log1p (Ideal.exp (-(max x (-x)))) = -sp (-x) := by
  induction x with
  | bot =>
    rw [EReal.neg_bot, sp_top, max_eq_right bot_le, EReal.neg_top, min_eq_left bot_le, EReal.bot_sub]
  | top =>
    rw [EReal.neg_top, sp_bot, max_eq_left bot_le, EReal.neg_top, min_eq_right le_top, Ideal.exp_bot]
    unfold Ideal.log1p
    rw [add_zero, ← EReal.coe_one, Ideal.log_coe]
    simp
  | coe x =>
    rw [← EReal.coe_neg, sp_coe, ← coe_max, ← EReal.coe_neg, Ideal.exp_coe]
    unfold Ideal.log1p
    rw [← EReal.coe_one, ← EReal.coe_add, Ideal.log_coe, if_neg (not_le.mpr (by positivity)), ← EReal.coe_zero, ← coe_min, ← EReal.coe_sub, ← EReal.coe_neg]
    refine congrArg _ ?_
    rw [neg_neg, max_comm (-x) x]
    rcases le_total 0 x with h | h
    · rw [min_eq_right h, max_eq_right (by linarith : -x ≤ 0)]; ring
    · rw [min_eq_left h, max_eq_left (by linarith : 0 ≤ -x)]; ring

/-- The word of the largest number. -/
theorem lit_inf : Ideal.ofBits .f32 0x7F800000#32 = ⊤ := by
  simp [Ideal.ofBits, Ideal.ieee]

end Cert.Scan

end
-- ==== Proof.Mm23.lean ====
/- The running logarithm of the forget gates: the sums. -/
module

public import proofs.«01_k».proof.Proof.Gen.Kernel23Ideal.Value
public import proofs.«01_k».proof.Proof.Gen.Kernel23.Frame
public import proofs.«01_k».proof.Proof.Gen.Reference23Ideal.Run
public import proofs.«01_k».proof.Proof.Gen.Reference23Ideal.Read
public import Idealize.ShloMosaic.Lib.Pointwise
public import Idealize.ShloMosaic.Lib.Pipeline.ReadBack
public import Idealize.ShloMosaic.Lib.Pipeline.ValueKit
public import proofs.«01_k».proof.Proof.Rows
public import proofs.«01_k».proof.Proof.Scan
public import proofs.«01_k».proof.Defs

@[expose] public section

set_option maxRecDepth 16384

noncomputable section

namespace Cert.Mm23

open Idealize.ShloMosaic Idealize.ShloMosaic.TcCoe Idealize.SL.Sem Cert.Kernel23Ideal Cert.Kernel23Ideal.Gen

variable (m : (ℓ : Loc nD τ sig) → Buf (Elt Ideal) ℓ) (c : Dev nD)

/-- Which block each window holds at the point. -/
theorem idx : ∀ t : Fin cfg0.N, win0_0.index t = ![0, 0] ∧ win0_1.index t = ![0, 0] ∧ win0_2.index t = ![0, 0] := by
  decide +kernel

/-- One doubling of the running sum. -/
def step (w : BitVec 32) (g : FVec Ideal S16x4096 .f32) : FVec Ideal S16x4096 .f32 :=
  addf g (select (cmpi .sge (iota .tc S16x4096 32 [1] iota_S16x4096_d1_w32) (broadcast S16x4096 w)) (dynamicRotate 1 w none g rotates_S16x4096_d1)
    (broadcast S16x4096 (Scalar.ofBits (F := Ideal) .f32 0x00000000#32)))

/-- A row's part up to a place. -/
def part (f : Fin 16 → ℕ → EReal) (n : ℕ) (r : Fin 16) (t : ℕ) : EReal := ∑ u ∈ Finset.range n, if u ≤ t then f r (t - u) else 0

/-- A doubling at a place. -/
theorem step_at (w : BitVec 32) (g : FVec Ideal S16x4096 .f32) (r : Fin 16) (t : Fin 4096) : step w g (ix2 r t)
    = g (ix2 r t) + Scalar.select (IntOp.cmpi .sge (BitVec.ofNat 32 t.val) w) (dynamicRotate 1 w none g rotates_S16x4096_d1 (ix2 r t)) (0 : EReal) := by
  unfold step
  generalize dynamicRotate 1 w none g rotates_S16x4096_d1 = q
  pointwise []

/-- A doubling of the part up to each place. -/
theorem step_part (f : Fin 16 → ℕ → EReal) (n : ℕ) (hn : 0 < n) (hn' : n < 4096) (g : FVec Ideal S16x4096 .f32)
    (hg : ∀ r (t : Fin 4096), g (ix2 r t) = part f n r t.val) (r : Fin 16) (t : Fin 4096) : step (BitVec.ofNat 32 n) g (ix2 r t) = part f (n + n) r t.val := by
  have ht := t.isLt
  rw [step_at, Scan.rot _ n (by rw [BitVec.toNat_ofNat]; exact Nat.mod_eq_of_lt (by omega)) (by omega), WordCmp.cmpi_sge_ofNat (by omega) (by omega), WordCmp.select_ofBool, hg, hg]
  unfold part
  rw [← Scan.dn]
  refine congrArg _ ?_
  by_cases h : n ≤ t.val
  · rw [if_pos (by simpa using h), if_pos h]
    have e : (t.val + 4096 - n) % 4096 = t.val - n := by omega
    simp only [e]
  · rw [if_neg (by simpa using h), if_neg h]

section
variable (x0 : FVec Ideal S16x4096 .f32) (x1 : FVec Ideal S16x1 .f32)

/-- The logarithms of the gates. -/
def lf : FVec Ideal S16x4096 .f32 :=
  subf (minimumf (addf x0 (broadcastTo S16x4096 x1 broadcasts_S16x1_S16x4096)) (broadcast S16x4096 (Scalar.ofBits (F := Ideal) .f32 0x00000000#32)))
    (log1p (exp (subf (broadcast S16x4096 (Scalar.ofBits (F := Ideal) .f32 0x00000000#32)) (absf (addf x0 (broadcastTo S16x4096 x1 broadcasts_S16x1_S16x4096))))))

/-- A gate's logarithm at a place. -/
theorem lf_at (r : Fin 16) (t : Fin 4096) : lf x0 x1 (ix2 r t) = -Scan.sp (-(x0 (ix2 r t) + x1 (ix2 r 0))) := by
  refine Eq.trans ?_ (Scan.logsig _)
  unfold lf
  pointwise []
  try rw [zero_sub]
  try rfl

/-- The whole of a block. -/
theorem ld0 (x : FVec Ideal S16x4096 .f32) : (View.ld x r0_0 : Vec Ideal S16x4096 .f32) = x := by
  funext y
  idx_vars y
  pointwise []

/-- The whole of a column. -/
theorem ld1 (x : FVec Ideal S16x1 .f32) : (View.ld x r0_1 : Vec Ideal S16x1 .f32) = x := by
  funext y
  idx_vars y
  obtain rfl : y1 = 0 := Subsingleton.elim _ _
  pointwise []

/-- The block the point leaves is twelve doublings, scaled. -/
theorem out : out0_2 (F := Ideal) x0 x1 = mulf (
    step (BitVec.ofNat 32 2048) (step (BitVec.ofNat 32 1024) (step (BitVec.ofNat 32 512) (step (BitVec.ofNat 32 256) (step (BitVec.ofNat 32 128) (step (BitVec.ofNat 32 64) (step (BitVec.ofNat 32 32) (step (BitVec.ofNat 32 16) (step (BitVec.ofNat 32 8) (step (BitVec.ofNat 32 4) (step (BitVec.ofNat 32 2) (step (BitVec.ofNat 32 1) (lf x0 x1))))))))))))) (broadcast S16x4096 (Scalar.ofBits (F := Ideal) .f32 0x3FB8AA3B#32)) := by
  refine Eq.trans (b := k0_pay1 (F := Ideal) (iota .tc S16x4096 32 [1] iota_S16x4096_d1_w32) (k0_pay5 (iota .tc S16x4096 32 [1] iota_S16x4096_d1_w32) (k0_pay2 (View.ld x0 r0_0) (View.ld x1 r0_1)) k0_pay3 (k0_pay4 (View.ld x0 r0_0) (View.ld x1 r0_1))) k0_pay6) ?_ ?_
  · unfold_out out0_2
    frame_out
  · rw [ld0, ld1]
    rfl

/-- An array's row, zero past its end. -/
def row (x : FVec Ideal S16x4096 .f32) (r : Fin 16) (t : ℕ) : EReal := if h : t < 4096 then x (ix2 r ⟨t, h⟩) else 0

/-- The running sum at a place. -/
def sums (r : Fin 16) (t : Fin 4096) : EReal := part (row (lf x0 x1)) 4096 r t.val * Ideal.ofBits .f32 0x3FB8AA3B#32

/-- A place of a scaled block. -/
theorem scaled (y : FVec Ideal S16x4096 .f32) (r : Fin 16) (t : Fin 4096) : mulf y (broadcast S16x4096 (Scalar.ofBits (F := Ideal) .f32 0x3FB8AA3B#32)) (ix2 r t) = (y (ix2 r t) * Ideal.ofBits .f32 0x3FB8AA3B#32 : EReal) := by
  pointwise []

/-- A place of what the point leaves. -/
theorem val (r : Fin 16) (t : Fin 4096) : out0_2 (F := Ideal) x0 x1 (ix2 r t) = sums x0 x1 r t := by
  have h0 : ∀ r (t : Fin 4096), lf x0 x1 (ix2 r t) = part (row (lf x0 x1)) 1 r t.val := fun r t => by
    unfold part row
    rw [Finset.sum_range_one, if_pos (Nat.zero_le _), dif_pos (by omega)]
    rfl
  rw [out, scaled]
  unfold sums
  have h1 := step_part (row (lf x0 x1)) 1 (by omega) (by omega) _ h0
  have h2 := step_part (row (lf x0 x1)) 2 (by omega) (by omega) _ h1
  have h3 := step_part (row (lf x0 x1)) 4 (by omega) (by omega) _ h2
  have h4 := step_part (row (lf x0 x1)) 8 (by omega) (by omega) _ h3
  have h5 := step_part (row (lf x0 x1)) 16 (by omega) (by omega) _ h4
  have h6 := step_part (row (lf x0 x1)) 32 (by omega) (by omega) _ h5
  have h7 := step_part (row (lf x0 x1)) 64 (by omega) (by omega) _ h6
  have h8 := step_part (row (lf x0 x1)) 128 (by omega) (by omega) _ h7
  have h9 := step_part (row (lf x0 x1)) 256 (by omega) (by omega) _ h8
  have h10 := step_part (row (lf x0 x1)) 512 (by omega) (by omega) _ h9
  have h11 := step_part (row (lf x0 x1)) 1024 (by omega) (by omega) _ h10
  have h12 := step_part (row (lf x0 x1)) 2048 (by omega) (by omega) _ h11
  rw [h12 r t]

/-- The reference's logarithm of a gate. -/
theorem ref2 (r : Fin 16) (t : Fin 4096) : Cert.Reference23Ideal.Read.val_main_v2 (F := Ideal) x0 x1 (ix2 r t) = lf x0 x1 (ix2 r t) := by
  rw [lf_at]
  pointwise [Cert.Reference23Ideal.Read.val_main_v2, Cert.Reference23Ideal.Read.val_main_call0_v1, Cert.Reference23Ideal.Read.val_main_call0_call0_v11, Cert.Reference23Ideal.Read.val_main_call0_call0_v10, Cert.Reference23Ideal.Read.val_main_call0_call0_v9, Cert.Reference23Ideal.Read.val_main_call0_call0_v8, Cert.Reference23Ideal.Read.val_main_call0_call0_v7, Cert.Reference23Ideal.Read.val_main_call0_call0_v6, Cert.Reference23Ideal.Read.val_main_call0_call0_v5, Cert.Reference23Ideal.Read.val_main_call0_call0_v4, Cert.Reference23Ideal.Read.val_main_call0_call0_v3, Cert.Reference23Ideal.Read.val_main_call0_call0_v2, Cert.Reference23Ideal.Read.val_main_call0_call0_v1, Cert.Reference23Ideal.Read.val_main_call0_call0_v0, Cert.Reference23Ideal.Read.val_main_call0_call0_cst, Cert.Reference23Ideal.Read.val_main_call0_v0, Cert.Reference23Ideal.Read.val_main_v1, Cert.Reference23Ideal.Read.val_main_v0]
  simp only [ne_eq, not_true_eq_false, if_false]
  rfl

/-- The reference's running sum. -/
theorem ref5 (r : Fin 16) (t : Fin 4096) : Cert.Reference23Ideal.Read.val_main_v5 (F := Ideal) x0 x1 (ix2 r t) = sums x0 x1 r t := by
  have z : ∀ i, (Cert.Reference23Ideal.Read.val_main_call1_call0_v0 (F := Ideal) : FVec Ideal Cert.Reference23Ideal.S_ .f32) i = (0 : EReal) := fun i => by
    pointwise [Cert.Reference23Ideal.Read.val_main_call1_call0_v0, Cert.Reference23Ideal.Read.val_main_call1_call0_cst]
  have e3 : Cert.Reference23Ideal.Read.val_main_v3 (F := Ideal) x0 x1 (ix2 r t) = part (row (lf x0 x1)) 4096 r t.val := by
    unfold Cert.Reference23Ideal.Read.val_main_v3 Host.reduceWindowAdd
    rw [z]
    exact Scan.pre (H := 16) (N := 4096) (Nm1 := 4095) rfl _ (row (lf x0 x1) r) r (fun i => by unfold row; rw [dif_pos i.isLt]; exact ref2 x0 x1 r i) _ t
  unfold Cert.Reference23Ideal.Read.val_main_v5 sums
  generalize Cert.Reference23Ideal.Read.val_main_v3 (F := Ideal) x0 x1 = p at *
  pointwise [Cert.Reference23Ideal.Read.val_main_v4, Cert.Reference23Ideal.Read.val_main_cst]
  rw [e3]
end

/-- The array's blocks are the array. -/
theorem blk0 (x0 : FVec Ideal S16x4096 .f32) (h0 : m ((c : Thread nD τ).loc main_arg0) = x0) (t : Fin cfg0.N) : (iblk m c 0 t : FVec Ideal S16x4096 .f32) = x0 := by
  subst h0
  funext y
  idx_vars y
  blk_simp [iblk, idx t]
  rw [V_main_arg0]
  refine congrArg _ (funext fun a => Fin.ext ?_)
  fin_cases a
  all_goals
    blk_simp [idx t]
    try rfl

theorem blk1 (x1 : FVec Ideal S16x1 .f32) (h1 : m ((c : Thread nD τ).loc main_arg1) = x1) (t : Fin cfg0.N) : (iblk m c 1 t : FVec Ideal S16x1 .f32) = x1 := by
  subst h1
  funext y
  idx_vars y
  blk_simp [iblk, idx t]
  rw [V_main_arg1]
  refine congrArg _ (funext fun a => Fin.ext ?_)
  fin_cases a
  all_goals
    blk_simp [idx t]
    try rfl

/-- The place a block's entry has in the array. -/
theorem emb2 (t : Fin cfg0.N) (r : Fin 16) (j : Fin 4096) : ((win0_2.blk t).view.emb (ix2 r j) : S16x4096.Idx) = ix2 r j := by
  refine funext fun a => Fin.ext ?_
  fin_cases a
  all_goals
    blk_simp [idx t]
    try rfl

/-- The sums the kernel leaves are the reference's. -/
theorem arr2 : ((dats m 0 c).arrAt 2 cfg0.N : FVec Ideal S16x4096 .f32)
    = Cert.Reference23Ideal.Read.val_main_v5 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  idx_vars y
  rw [blk0 m c _ rfl, blk1 m c _ rfl, val]
  refine Eq.trans ?_ (congrArg _ (emb2 t y0 y1)).symm
  exact (ref5 _ _ _ _).symm

/-- The reference runs, leaves its arguments and its counters. -/
theorem frame_ri : Cert.quiescent_Reference23Ideal := fun m ρ _ =>
  (θ_run Cert.Reference23Ideal.defs _ _).mono (fun r h => ⟨fun c => (h c).2,
      Idealize.ShloMosaic.sem_eq_zero_of_no_sems (by decide) r.2⟩)
    (Cert.Reference23Ideal.Value.run (F := Ideal) m ρ)

/-- At the ideal reading the kernel leaves what the reference leaves. -/
theorem algebraic : Cert.algebraic_Kernel23Ideal_Reference23Ideal := by
  intro m ρ m' ρ' _ hagree
  refine ⟨fun c => (dats m 0 c).arrAt 2 cfg0.N, Cert.Kernel23Ideal.Value.run_blocks m ρ, ?_⟩
  refine (θ_run Cert.Reference23Ideal.defs _ _).mono (fun r h c => ⟨(h c).1.trans ?_, (h c).2⟩) (Cert.Reference23Ideal.Value.run (F := Ideal) m' ρ')
  obtain ⟨e0, e1⟩ := hagree c
  rw [e0, e1]
  exact (Cert.Reference23Ideal.Read.val_main_v5_eq _ _).trans (arr2 m c).symm

end Cert.Mm23

end
-- ==== Proof.Mm24.lean ====
/- The running logarithm of the forget gates: the gradient. -/
module

public import proofs.«01_k».proof.Proof.Gen.Kernel24Ideal.Value
public import proofs.«01_k».proof.Proof.Gen.Kernel24.Frame
public import proofs.«01_k».proof.Proof.Gen.Reference24Ideal.Run
public import proofs.«01_k».proof.Proof.Gen.Reference24Ideal.Read
public import Idealize.ShloMosaic.Lib.Pointwise
public import Idealize.ShloMosaic.Lib.Pipeline.ReadBack
public import Idealize.ShloMosaic.Lib.Pipeline.ValueKit
public import proofs.«01_k».proof.Proof.Rows
public import proofs.«01_k».proof.Proof.Scan
public import proofs.«01_k».proof.Defs

@[expose] public section

set_option maxRecDepth 16384

noncomputable section

namespace Cert.Mm24

open Idealize.ShloMosaic Idealize.ShloMosaic.TcCoe Idealize.SL.Sem Cert.Kernel24Ideal Cert.Kernel24Ideal.Gen

variable (m : (ℓ : Loc nD τ sig) → Buf (Elt Ideal) ℓ) (c : Dev nD)

/-- Which block each window holds at the point. -/
theorem idx : ∀ t : Fin cfg0.N, win0_0.index t = ![0, 0] ∧ win0_1.index t = ![0, 0] ∧ win0_2.index t = ![0, 0] ∧ win0_3.index t = ![0, 0] ∧ win0_4.index t = ![0, 0] := by
  decide +kernel

/-- One doubling of the running sum. -/
def step (w : BitVec 32) (g : FVec Ideal S16x4096 .f32) : FVec Ideal S16x4096 .f32 :=
  addf g (select (cmpi .slt (iota .tc S16x4096 32 [1] iota_S16x4096_d1_w32) (broadcast S16x4096 w)) (dynamicRotate 1 w none g rotates_S16x4096_d1)
    (broadcast S16x4096 (Scalar.ofBits (F := Ideal) .f32 0x00000000#32)))

/-- A row's part from a place on. -/
def part (f : Fin 16 → ℕ → EReal) (n : ℕ) (r : Fin 16) (t : ℕ) : EReal := ∑ u ∈ Finset.range n, f r (t + u)

/-- A doubling at a place. -/
theorem step_at (w : BitVec 32) (g : FVec Ideal S16x4096 .f32) (r : Fin 16) (t : Fin 4096) : step w g (ix2 r t)
    = g (ix2 r t) + Scalar.select (IntOp.cmpi .slt (BitVec.ofNat 32 t.val) w) (dynamicRotate 1 w none g rotates_S16x4096_d1 (ix2 r t)) (0 : EReal) := by
  unfold step
  generalize dynamicRotate 1 w none g rotates_S16x4096_d1 = q
  pointwise []

/-- A doubling of the part from each place on. -/
theorem step_part (f : Fin 16 → ℕ → EReal) (hz : ∀ r t, 4096 ≤ t → f r t = 0) (n : ℕ) (hn : 0 < n) (hn' : n < 4096) (g : FVec Ideal S16x4096 .f32)
    (hg : ∀ r (t : Fin 4096), g (ix2 r t) = part f n r t.val) (r : Fin 16) (t : Fin 4096) : step (BitVec.ofNat 32 (4096 - n)) g (ix2 r t) = part f (n + n) r t.val := by
  have ht := t.isLt
  rw [step_at, Scan.rot _ (4096 - n) (by rw [BitVec.toNat_ofNat]; exact Nat.mod_eq_of_lt (by omega)) (by omega), WordCmp.cmpi_slt_ofNat (by omega) (by omega), WordCmp.select_ofBool, hg, hg]
  unfold part
  rw [← Scan.up]
  refine congrArg _ ?_
  by_cases h : t.val < 4096 - n
  · rw [if_pos (by simpa using h)]
    refine Finset.sum_congr rfl fun u _ => congrArg (f r) ?_
    show (t.val + 4096 - (4096 - n)) % 4096 + u = t.val + n + u
    omega
  · rw [if_neg (by simpa using h)]
    refine (Finset.sum_eq_zero fun u _ => hz r _ ?_).symm
    omega

/-- The kernel's running sum is twelve doublings. -/
theorem steps (x : FVec Ideal S16x4096 .f32) : k0_pay6 (F := Ideal) (iota .tc S16x4096 32 [1] iota_S16x4096_d1_w32) (k0_pay4 x) k0_pay5
    = step (BitVec.ofNat 32 (4096 - 2048)) (step (BitVec.ofNat 32 (4096 - 1024)) (step (BitVec.ofNat 32 (4096 - 512)) (step (BitVec.ofNat 32 (4096 - 256)) (step (BitVec.ofNat 32 (4096 - 128)) (step (BitVec.ofNat 32 (4096 - 64)) (step (BitVec.ofNat 32 (4096 - 32)) (step (BitVec.ofNat 32 (4096 - 16)) (step (BitVec.ofNat 32 (4096 - 8)) (step (BitVec.ofNat 32 (4096 - 4)) (step (BitVec.ofNat 32 (4096 - 2)) (step (BitVec.ofNat 32 (4096 - 1)) (x)))))))))))) := rfl

/-- An array's row, zero past its end. -/
def row (x : FVec Ideal S16x4096 .f32) (r : Fin 16) (t : ℕ) : EReal := if h : t < 4096 then x (ix2 r ⟨t, h⟩) else 0

/-- The kernel's running sum at a place. -/
theorem run (x : FVec Ideal S16x4096 .f32) (r : Fin 16) (t : Fin 4096) :
    k0_pay6 (F := Ideal) (iota .tc S16x4096 32 [1] iota_S16x4096_d1_w32) (k0_pay4 x) k0_pay5 (ix2 r t) = part (row x) 4096 r t.val := by
  have hz : ∀ r t, 4096 ≤ t → row x r t = 0 := fun r t h => dif_neg (by omega)
  have h0 : ∀ r (t : Fin 4096), x (ix2 r t) = part (row x) 1 r t.val := fun r t => by
    unfold part row
    rw [Finset.sum_range_one, dif_pos (by omega)]
    rfl
  rw [steps]
  have h1 := step_part (row x) hz 1 (by omega) (by omega) _ h0
  have h2 := step_part (row x) hz 2 (by omega) (by omega) _ h1
  have h3 := step_part (row x) hz 4 (by omega) (by omega) _ h2
  have h4 := step_part (row x) hz 8 (by omega) (by omega) _ h3
  have h5 := step_part (row x) hz 16 (by omega) (by omega) _ h4
  have h6 := step_part (row x) hz 32 (by omega) (by omega) _ h5
  have h7 := step_part (row x) hz 64 (by omega) (by omega) _ h6
  have h8 := step_part (row x) hz 128 (by omega) (by omega) _ h7
  have h9 := step_part (row x) hz 256 (by omega) (by omega) _ h8
  have h10 := step_part (row x) hz 512 (by omega) (by omega) _ h9
  have h11 := step_part (row x) hz 1024 (by omega) (by omega) _ h10
  have h12 := step_part (row x) hz 2048 (by omega) (by omega) _ h11
  exact h12 r t

section
variable (x0 : FVec Ideal S16x4096 .f32) (x1 : FVec Ideal S16x1 .f32) (x2 : FVec Ideal S16x4096 .f32)

/-- The block the point leaves. -/
theorem out3 : out0_3 (F := Ideal) x0 x1 x2 = k0_pay1 (F := Ideal) (k0_pay3 (View.ld x0 r0_0) (View.ld x1 r0_1)) (k0_pay6 (F := Ideal) (iota .tc S16x4096 32 [1] iota_S16x4096_d1_w32) (k0_pay4 (View.ld x2 r0_0)) k0_pay5) := by
  unfold_out out0_3
  frame_out

/-- The sums the point leaves. -/
theorem out4 : out0_4 (F := Ideal) x0 x1 x2 = k0_pay2 (F := Ideal) (k0_pay3 (View.ld x0 r0_0) (View.ld x1 r0_1)) (k0_pay6 (F := Ideal) (iota .tc S16x4096 32 [1] iota_S16x4096_d1_w32) (k0_pay4 (View.ld x2 r0_0)) k0_pay5) := by
  unfold_out out0_4
  frame_out

/-- The gradient at a place. -/
def grad (r : Fin 16) (t : Fin 4096) : EReal := part (row x2) 4096 r t.val * Ideal.logistic (-(x0 (ix2 r t) + x1 (ix2 r 0)))

theorem pay1 (g : FVec Ideal S16x4096 .f32) (r : Fin 16) (t : Fin 4096) : k0_pay1 (F := Ideal) (k0_pay3 x0 x1) g (ix2 r t) = g (ix2 r t) * Ideal.logistic (-(x0 (ix2 r t) + x1 (ix2 r 0))) := by
  pointwise [k0_pay1, k0_pay3]
  try rw [zero_sub]

theorem pay2 (v g : FVec Ideal S16x4096 .f32) (r : Fin 16) (z : Fin 1) : k0_pay2 (F := Ideal) v g (ix2 r z) = ∑ t, k0_pay1 (F := Ideal) v g (ix2 r t) := by
  unfold k0_pay2
  generalize k0_pay1 (F := Ideal) v g = q
  pointwise []

/-- The whole of a block. -/
theorem ld0 (x : FVec Ideal S16x4096 .f32) : (View.ld x r0_0 : Vec Ideal S16x4096 .f32) = x := by
  funext y
  idx_vars y
  pointwise []

/-- The whole of a column. -/
theorem ld1 (x : FVec Ideal S16x1 .f32) : (View.ld x r0_1 : Vec Ideal S16x1 .f32) = x := by
  funext y
  idx_vars y
  obtain rfl : y1 = 0 := Subsingleton.elim _ _
  pointwise []

/-- A place of what the point leaves. -/
theorem val3 (r : Fin 16) (t : Fin 4096) : out0_3 (F := Ideal) x0 x1 x2 (ix2 r t) = grad x0 x1 x2 r t := by
  rw [out3, ld0, ld0, ld1]
  refine (pay1 _ _ _ _ _).trans ?_
  rw [run]
  rfl

/-- A sum of what the point leaves. -/
theorem val4 (r : Fin 16) (z : Fin 1) : out0_4 (F := Ideal) x0 x1 x2 (ix2 r z) = ∑ t, grad x0 x1 x2 r t := by
  rw [out4, ld0, ld0, ld1, pay2]
  refine Finset.sum_congr rfl fun t _ => ?_
  refine (pay1 _ _ _ _ _).trans ?_
  rw [run]
  rfl

/-- The reference's window sum. -/
theorem ref4 (r : Fin 16) (t : Fin 4096) : Cert.Reference24Ideal.Read.val_main_v4 (F := Ideal) x2 (ix2 r t) = part (row x2) 4096 r t.val := by
  have z : ∀ i, (Cert.Reference24Ideal.Read.val_main_call2_call0_v0 (F := Ideal) : FVec Ideal Cert.Reference24Ideal.S_ .f32) i = (0 : EReal) := fun i => by
    pointwise [Cert.Reference24Ideal.Read.val_main_call2_call0_v0, Cert.Reference24Ideal.Read.val_main_call2_call0_cst]
  unfold Cert.Reference24Ideal.Read.val_main_v4 Host.reduceWindowAdd
  rw [z]
  exact Scan.suffix (H := 16) (N := 4096) (Nm1 := 4095) rfl x2 (row x2 r) r (fun i => by unfold row; rw [dif_pos i.isLt]) (fun t h => dif_neg (by omega)) _ t

/-- The reference's slope. -/
theorem ref2 (r : Fin 16) (t : Fin 4096) : Cert.Reference24Ideal.Read.val_main_v2_1 (F := Ideal) x0 x1 (ix2 r t) = Ideal.logistic (-(x0 (ix2 r t) + x1 (ix2 r 0))) := by
  pointwise [Cert.Reference24Ideal.Read.val_main_v2_1, Cert.Reference24Ideal.Read.val_main_call0_call0_v21, Cert.Reference24Ideal.Read.val_main_call0_call0_v20, Cert.Reference24Ideal.Read.val_main_call0_call0_v19, Cert.Reference24Ideal.Read.val_main_call0_call0_cst_3, Cert.Reference24Ideal.Read.val_main_call0_call0_v18, Cert.Reference24Ideal.Read.val_main_call0_call0_v17, Cert.Reference24Ideal.Read.val_main_call0_call0_cst_2, Cert.Reference24Ideal.Read.val_main_call0_call0_v16, Cert.Reference24Ideal.Read.val_main_call0_call0_v15, Cert.Reference24Ideal.Read.val_main_call0_call0_cst_1, Cert.Reference24Ideal.Read.val_main_call0_call0_v14, Cert.Reference24Ideal.Read.val_main_call0_call0_v13, Cert.Reference24Ideal.Read.val_main_call0_call0_cst_0, Cert.Reference24Ideal.Read.val_main_call0_v1_0, Cert.Reference24Ideal.Read.val_main_call0_call0_v11, Cert.Reference24Ideal.Read.val_main_call0_call0_v10, Cert.Reference24Ideal.Read.val_main_call0_call0_v9, Cert.Reference24Ideal.Read.val_main_call0_call0_v8, Cert.Reference24Ideal.Read.val_main_call0_call0_v7, Cert.Reference24Ideal.Read.val_main_call0_call0_v6, Cert.Reference24Ideal.Read.val_main_call0_call0_v5, Cert.Reference24Ideal.Read.val_main_call0_call0_v4, Cert.Reference24Ideal.Read.val_main_call0_call0_v3, Cert.Reference24Ideal.Read.val_main_call0_call0_v2, Cert.Reference24Ideal.Read.val_main_call0_call0_v1, Cert.Reference24Ideal.Read.val_main_call0_call0_v0, Cert.Reference24Ideal.Read.val_main_call0_call0_cst, Cert.Reference24Ideal.Read.val_main_call0_v0, Cert.Reference24Ideal.Read.val_main_v1, Cert.Reference24Ideal.Read.val_main_v0]
  simp only [ne_eq, not_true_eq_false, if_false, Scan.lit_inf]
  exact Scan.slope _

/-- The reference's gradient. -/
theorem ref5 (r : Fin 16) (t : Fin 4096) : Cert.Reference24Ideal.Read.val_main_v5 (F := Ideal) x0 x1 x2 (ix2 r t) = grad x0 x1 x2 r t := by
  have e4 := ref4 x2 r t
  have e2 := ref2 x0 x1 r t
  unfold Cert.Reference24Ideal.Read.val_main_v5 Cert.Reference24Ideal.Read.val_main_call3_v1 Cert.Reference24Ideal.Read.val_main_call3_v0 grad
  generalize Cert.Reference24Ideal.Read.val_main_v4 (F := Ideal) x2 = p at *
  generalize Cert.Reference24Ideal.Read.val_main_v2_1 (F := Ideal) x0 x1 = q at *
  pointwise []
  rw [e4, e2, EReal.neg_mul, neg_neg]

/-- The reference's sums. -/
theorem ref7 (r : Fin 16) (z : Fin 1) : Cert.Reference24Ideal.Read.val_main_v7 (F := Ideal) x0 x1 x2 (ix2 r z) = ∑ t, grad x0 x1 x2 r t := by
  obtain rfl : z = 0 := Subsingleton.elim _ _
  have e (r : Fin 16) : Cert.Reference24Ideal.Read.val_main_v6 (F := Ideal) x0 x1 x2 (ix1 r) = ∑ t, grad x0 x1 x2 r t := by
    rw [Cert.Reference24Ideal.Read.val_main_v6_apply]
    refine Eq.trans (congrArg₂ (fun a b : EReal => a + b) (x' := 0) (y' := ∑ t, grad x0 x1 x2 r t) ?_ (Finset.sum_congr rfl fun t _ => ?_)) (zero_add _)
    · pointwise [Cert.Reference24Ideal.Read.val_main_cst]
    · have h : Cert.Reference24Ideal.Read.idx_main_v6 (ix1 r) t = ix2 r t := by
        refine funext fun a => Fin.ext ?_
        fin_cases a <;> rfl
      rw [h]
      exact ref5 x0 x1 x2 r t
  rw [Cert.Reference24Ideal.Read.val_main_v7_apply]
  have h : Cert.Reference24Ideal.Read.idx_main_v7 (ix2 r 0) = ix1 r := by
    refine funext fun a => Fin.ext ?_
    fin_cases a
    show r.val * 1 + 0 = r.val
    omega
  rw [h]
  exact e r
end

/-- The array's blocks are the array. -/
theorem blk0 (x0 : FVec Ideal S16x4096 .f32) (h0 : m ((c : Thread nD τ).loc main_arg0) = x0) (t : Fin cfg0.N) : (iblk m c 0 t : FVec Ideal S16x4096 .f32) = x0 := by
  subst h0
  funext y
  idx_vars y
  blk_simp [iblk, idx t]
  rw [V_main_arg0]
  refine congrArg _ (funext fun a => Fin.ext ?_)
  fin_cases a
  all_goals
    blk_simp [idx t]
    try rfl

theorem blk1 (x1 : FVec Ideal S16x1 .f32) (h1 : m ((c : Thread nD τ).loc main_arg1) = x1) (t : Fin cfg0.N) : (iblk m c 1 t : FVec Ideal S16x1 .f32) = x1 := by
  subst h1
  funext y
  idx_vars y
  blk_simp [iblk, idx t]
  rw [V_main_arg1]
  refine congrArg _ (funext fun a => Fin.ext ?_)
  fin_cases a
  all_goals
    blk_simp [idx t]
    try rfl

theorem blk2 (x2 : FVec Ideal S16x4096 .f32) (h2 : m ((c : Thread nD τ).loc main_arg2) = x2) (t : Fin cfg0.N) : (iblk m c 2 t : FVec Ideal S16x4096 .f32) = x2 := by
  subst h2
  funext y
  idx_vars y
  blk_simp [iblk, idx t]
  rw [V_main_arg2]
  refine congrArg _ (funext fun a => Fin.ext ?_)
  fin_cases a
  all_goals
    blk_simp [idx t]
    try rfl

/-- The place a block's entry has in the array. -/
theorem emb3 (t : Fin cfg0.N) (r : Fin 16) (j : Fin 4096) : ((win0_3.blk t).view.emb (ix2 r j) : S16x4096.Idx) = ix2 r j := by
  refine funext fun a => Fin.ext ?_
  fin_cases a
  all_goals
    blk_simp [idx t]
    try rfl

theorem emb4 (t : Fin cfg0.N) (r : Fin 16) (j : Fin 1) : ((win0_4.blk t).view.emb (ix2 r j) : S16x1.Idx) = ix2 r j := by
  refine funext fun a => Fin.ext ?_
  fin_cases a
  all_goals
    blk_simp [idx t]
    try rfl

/-- The gradient the kernel leaves is the reference's. -/
theorem arr3 : ((dats m 0 c).arrAt 3 cfg0.N : FVec Ideal S16x4096 .f32)
    = Cert.Reference24Ideal.Read.val_main_v5 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  idx_vars y
  rw [blk0 m c _ rfl, blk1 m c _ rfl, blk2 m c _ rfl, val3]
  refine Eq.trans ?_ (congrArg _ (emb3 t y0 y1)).symm
  exact (ref5 _ _ _ _ _).symm

/-- The sums the kernel leaves are the reference's. -/
theorem arr4 : ((dats m 0 c).arrAt 4 cfg0.N : FVec Ideal S16x1 .f32)
    = Cert.Reference24Ideal.Read.val_main_v7 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  idx_vars y
  rw [blk0 m c _ rfl, blk1 m c _ rfl, blk2 m c _ rfl, val4]
  refine Eq.trans ?_ (congrArg _ (emb4 t y0 y1)).symm
  exact (ref7 _ _ _ _ _).symm

/-- The reference runs, leaves its arguments and its counters. -/
theorem frame_ri : Cert.quiescent_Reference24Ideal := fun m ρ _ =>
  (θ_run Cert.Reference24Ideal.defs _ _).mono (fun r h => ⟨fun c => (h c).2.2,
      Idealize.ShloMosaic.sem_eq_zero_of_no_sems (by decide) r.2⟩)
    (Cert.Reference24Ideal.Value.run (F := Ideal) m ρ)

/-- At the ideal reading the kernel leaves what the reference leaves. -/
theorem algebraic : Cert.algebraic_Kernel24Ideal_Reference24Ideal := by
  intro m ρ m' ρ' _ hagree
  refine ⟨fun c => (dats m 0 c).arrAt 3 cfg0.N, fun c => (dats m 0 c).arrAt 4 cfg0.N, Cert.Kernel24Ideal.Value.run_blocks m ρ, ?_⟩
  refine (θ_run Cert.Reference24Ideal.defs _ _).mono (fun r h c => ⟨(h c).1.trans ?_, (h c).2.1.trans ?_, (h c).2.2⟩) (Cert.Reference24Ideal.Value.run (F := Ideal) m' ρ')
  all_goals obtain ⟨e0, e1, e2⟩ := hagree c
  · rw [e0, e1, e2]
    exact (Cert.Reference24Ideal.Read.val_main_v5_eq _ _ _).trans (arr3 m c).symm
  · rw [e0, e1, e2]
    exact (Cert.Reference24Ideal.Read.val_main_v7_eq _ _ _).trans (arr4 m c).symm

end Cert.Mm24

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Value
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Eq
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Mm2
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Mm3
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Mm4
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Mm5
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Value
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Mm6
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Value
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.Mm7
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Value
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Reference8Ideal.Read
public import proofs.«01_k».proof.Proof.Mm8
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Value
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Reference9Ideal.Read
public import proofs.«01_k».proof.Proof.Mm9
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Value
public import proofs.«01_k».proof.Proof.Gen.Kernel10Ideal.Frame
public import proofs.«01_k».proof.Proof.Gen.Reference10Ideal
public import proofs.«01_k».proof.Proof.Gen.Reference10Ideal.Run
public import proofs.«01_k».proof.Proof.Gen.Reference10Ideal.Read
public import proofs.«01_k».proof.Proof.Mm10
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Value
public import proofs.«01_k».proof.Proof.Gen.Kernel11Ideal.Frame
public import proofs.«01_k».proof.Proof.Gen.Reference11Ideal
public import proofs.«01_k».proof.Proof.Gen.Reference11Ideal.Run
public import proofs.«01_k».proof.Proof.Gen.Reference11Ideal.Read
public import proofs.«01_k».proof.Proof.Mm11
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Value
public import proofs.«01_k».proof.Proof.Gen.Kernel12Ideal.Frame
public import proofs.«01_k».proof.Proof.Gen.Reference12Ideal
public import proofs.«01_k».proof.Proof.Gen.Reference12Ideal.Run
public import proofs.«01_k».proof.Proof.Gen.Reference12Ideal.Read
public import proofs.«01_k».proof.Proof.Mm12
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Value
public import proofs.«01_k».proof.Proof.Gen.Kernel13Ideal.Frame
public import proofs.«01_k».proof.Proof.Gen.Reference13Ideal
public import proofs.«01_k».proof.Proof.Gen.Reference13Ideal.Run
public import proofs.«01_k».proof.Proof.Gen.Reference13Ideal.Read
public import proofs.«01_k».proof.Proof.Mm13
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Value
public import proofs.«01_k».proof.Proof.Gen.Kernel14Ideal.Frame
public import proofs.«01_k».proof.Proof.Gen.Reference14Ideal
public import proofs.«01_k».proof.Proof.Gen.Reference14Ideal.Run
public import proofs.«01_k».proof.Proof.Gen.Reference14Ideal.Read
public import proofs.«01_k».proof.Proof.Mm14
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Value
public import proofs.«01_k».proof.Proof.Gen.Kernel15Ideal.Frame
public import proofs.«01_k».proof.Proof.Gen.Reference15Ideal
public import proofs.«01_k».proof.Proof.Gen.Reference15Ideal.Run
public import proofs.«01_k».proof.Proof.Gen.Reference15Ideal.Read
public import proofs.«01_k».proof.Proof.Mm15
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Value
public import proofs.«01_k».proof.Proof.Gen.Kernel16Ideal.Frame
public import proofs.«01_k».proof.Proof.Gen.Reference16Ideal
public import proofs.«01_k».proof.Proof.Gen.Reference16Ideal.Run
public import proofs.«01_k».proof.Proof.Gen.Reference16Ideal.Read
public import proofs.«01_k».proof.Proof.Mm16
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Value
public import proofs.«01_k».proof.Proof.Gen.Kernel17Ideal.Frame
public import proofs.«01_k».proof.Proof.Gen.Reference17Ideal
public import proofs.«01_k».proof.Proof.Gen.Reference17Ideal.Run
public import proofs.«01_k».proof.Proof.Gen.Reference17Ideal.Read
public import proofs.«01_k».proof.Proof.Mm17
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Value
public import proofs.«01_k».proof.Proof.Gen.Kernel18Ideal.Frame
public import proofs.«01_k».proof.Proof.Gen.Reference18Ideal
public import proofs.«01_k».proof.Proof.Gen.Reference18Ideal.Run
public import proofs.«01_k».proof.Proof.Gen.Reference18Ideal.Read
public import proofs.«01_k».proof.Proof.Mm18
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Value
public import proofs.«01_k».proof.Proof.Gen.Kernel19Ideal.Frame
public import proofs.«01_k».proof.Proof.Gen.Reference19Ideal
public import proofs.«01_k».proof.Proof.Gen.Reference19Ideal.Run
public import proofs.«01_k».proof.Proof.Gen.Reference19Ideal.Read
public import proofs.«01_k».proof.Proof.Mm19
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Value
public import proofs.«01_k».proof.Proof.Gen.Kernel20Ideal.Frame
public import proofs.«01_k».proof.Proof.Gen.Reference20Ideal
public import proofs.«01_k».proof.Proof.Gen.Reference20Ideal.Run
public import proofs.«01_k».proof.Proof.Gen.Reference20Ideal.Read
public import proofs.«01_k».proof.Proof.Mm20
public import proofs.«01_k».proof.Proof.Gen.Kernel21
public import proofs.«01_k».proof.Proof.Gen.Kernel21.Frame
public import proofs.«01_k».proof.Proof.Gen.Kernel21Ideal
public import proofs.«01_k».proof.Proof.Gen.Kernel21Ideal.Value
public import proofs.«01_k».proof.Proof.Gen.Kernel21Ideal.Frame
public import proofs.«01_k».proof.Proof.Gen.Reference21Ideal
public import proofs.«01_k».proof.Proof.Gen.Reference21Ideal.Run
public import proofs.«01_k».proof.Proof.Gen.Reference21Ideal.Read
public import proofs.«01_k».proof.Proof.Gen.Pre_finite_conv
public import proofs.«01_k».proof.Proof.Mm21
public import proofs.«01_k».proof.Proof.Gen.Kernel23
public import proofs.«01_k».proof.Proof.Gen.Kernel23.Frame
public import proofs.«01_k».proof.Proof.Gen.Kernel23Ideal
public import proofs.«01_k».proof.Proof.Gen.Kernel23Ideal.Value
public import proofs.«01_k».proof.Proof.Gen.Kernel23Ideal.Frame
public import proofs.«01_k».proof.Proof.Gen.Reference23Ideal
public import proofs.«01_k».proof.Proof.Gen.Reference23Ideal.Run
public import proofs.«01_k».proof.Proof.Gen.Reference23Ideal.Read
public import proofs.«01_k».proof.Proof.Mm23
public import proofs.«01_k».proof.Proof.Gen.Kernel24
public import proofs.«01_k».proof.Proof.Gen.Kernel24.Frame
public import proofs.«01_k».proof.Proof.Gen.Kernel24Ideal
public import proofs.«01_k».proof.Proof.Gen.Kernel24Ideal.Value
public import proofs.«01_k».proof.Proof.Gen.Kernel24Ideal.Frame
public import proofs.«01_k».proof.Proof.Gen.Reference24Ideal
public import proofs.«01_k».proof.Proof.Gen.Reference24Ideal.Run
public import proofs.«01_k».proof.Proof.Gen.Reference24Ideal.Read
public import proofs.«01_k».proof.Proof.Mm24
public import Idealize.ShloMosaic.Adequacy
public import Idealize.ShloMosaic.Init

@[expose] public section

noncomputable section

namespace Cert.Proof

open Idealize.ShloMosaic Idealize.SL.Sem Cert.Kernel

/-- The reference runs, leaves its arguments and its counters. -/
theorem frame_ri : Cert.quiescent_ReferenceIdeal := fun m ρ _ =>
  (θ_run Cert.ReferenceIdeal.defs _ _).mono (fun r h => ⟨fun c => (h c).2.2.2.2,
      Idealize.ShloMosaic.sem_eq_zero_of_no_sems (by decide) r.2⟩)
    (Cert.ReferenceIdeal.Value.run (F := Ideal) m ρ)

/-- The kernel with the names is the kernel: each named value is the constant's own. -/
theorem preserves : Cert.preserves_Kernel_KernelIdeal :=
  ⟨IdealRules.named_const.statement Cert.KernelIdeal.κ "gelu_a" .f32 0x3D372713#32 _ rfl,
    IdealRules.named_const.statement Cert.KernelIdeal.κ "gelu_a3" .f32 0x3E095D4F#32 _ rfl⟩

/-- All that is claimed. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Pre_finite.Gen.facts, Cert.Pre_finite_conv.Gen.facts,
  fun m ρ _ => Cert.Kernel.Gen.frame m ρ, fun m ρ _ => Cert.KernelIdeal.Gen.frame m ρ, fun m ρ _ => Cert.KernelIdeal.Gen.frame m ρ,
  frame_ri, fun m ρ _ => frame_ri m ρ trivial,
  fun m ρ _ => Cert.Kernel2.Gen.frame m ρ, fun m ρ _ => Cert.Kernel2Ideal.Gen.frame m ρ, Cert.Mm2.frame_ri,
  fun m ρ _ => Cert.Kernel3.Gen.frame m ρ, fun m ρ _ => Cert.Kernel3Ideal.Gen.frame m ρ, Cert.Mm3.frame_ri,
  fun m ρ _ => Cert.Kernel4.Gen.frame m ρ, fun m ρ _ => Cert.Kernel4Ideal.Gen.frame m ρ, Cert.Mm4.frame_ri,
  fun m ρ _ => Cert.Kernel5.Gen.frame m ρ, fun m ρ _ => Cert.Kernel5Ideal.Gen.frame m ρ, Cert.Mm5.frame_ri,
  fun m ρ _ => Cert.Kernel6.Gen.frame m ρ, fun m ρ _ => Cert.Kernel6Ideal.Gen.frame m ρ, Cert.Mm6.frame_ri,
  fun m ρ _ => Cert.Kernel7.Gen.frame m ρ, fun m ρ _ => Cert.Kernel7Ideal.Gen.frame m ρ, Cert.Mm7.frame_ri,
  fun m ρ _ => Cert.Kernel8.Gen.frame m ρ, fun m ρ _ => Cert.Kernel8Ideal.Gen.frame m ρ, Cert.Mm8.frame_ri,
  fun m ρ _ => Cert.Kernel9.Gen.frame m ρ, fun m ρ _ => Cert.Kernel9Ideal.Gen.frame m ρ, Cert.Mm9.frame_ri,
  fun m ρ _ => Cert.Kernel10.Gen.frame m ρ, fun m ρ _ => Cert.Kernel10Ideal.Gen.frame m ρ, Cert.Mm10.frame_ri,
  fun m ρ _ => Cert.Kernel11.Gen.frame m ρ, fun m ρ _ => Cert.Kernel11Ideal.Gen.frame m ρ, Cert.Mm11.frame_ri,
  fun m ρ _ => Cert.Kernel12.Gen.frame m ρ, fun m ρ _ => Cert.Kernel12Ideal.Gen.frame m ρ, Cert.Mm12.frame_ri,
  fun m ρ _ => Cert.Kernel13.Gen.frame m ρ, fun m ρ _ => Cert.Kernel13Ideal.Gen.frame m ρ, Cert.Mm13.frame_ri,
  fun m ρ _ => Cert.Kernel14.Gen.frame m ρ, fun m ρ _ => Cert.Kernel14Ideal.Gen.frame m ρ, Cert.Mm14.frame_ri,
  fun m ρ _ => Cert.Kernel15.Gen.frame m ρ, fun m ρ _ => Cert.Kernel15Ideal.Gen.frame m ρ, Cert.Mm15.frame_ri,
  fun m ρ _ => Cert.Kernel16.Gen.frame m ρ, fun m ρ _ => Cert.Kernel16Ideal.Gen.frame m ρ, Cert.Mm16.frame_ri,
  fun m ρ _ => Cert.Kernel17.Gen.frame m ρ, fun m ρ _ => Cert.Kernel17Ideal.Gen.frame m ρ, Cert.Mm17.frame_ri,
  fun m ρ _ => Cert.Kernel18.Gen.frame m ρ, fun m ρ _ => Cert.Kernel18Ideal.Gen.frame m ρ, Cert.Mm18.frame_ri,
  fun m ρ _ => Cert.Kernel19.Gen.frame m ρ, fun m ρ _ => Cert.Kernel19Ideal.Gen.frame m ρ, Cert.Mm19.frame_ri,
  fun m ρ _ => Cert.Kernel20.Gen.frame m ρ, fun m ρ _ => Cert.Kernel20Ideal.Gen.frame m ρ, Cert.Mm20.frame_ri,
  fun m ρ _ => Cert.Kernel21.Gen.frame m ρ, fun m ρ _ => Cert.Kernel21Ideal.Gen.frame m ρ, fun m ρ _ => Cert.Kernel21Ideal.Gen.frame m ρ, Cert.Mm21.frame_ri, fun m ρ _ => Cert.Mm21.frame_ri m ρ trivial,
  fun m ρ _ => Cert.Kernel23.Gen.frame m ρ, fun m ρ _ => Cert.Kernel23Ideal.Gen.frame m ρ, Cert.Mm23.frame_ri,
  fun m ρ _ => Cert.Kernel24.Gen.frame m ρ, fun m ρ _ => Cert.Kernel24Ideal.Gen.frame m ρ, Cert.Mm24.frame_ri,
  preserves, algebraic,
  trivial, Cert.Mm2.algebraic,
  trivial, Cert.Mm3.algebraic,
  trivial, Cert.Mm4.algebraic,
  trivial, Cert.Mm5.algebraic,
  trivial, Cert.Mm6.algebraic,
  trivial, Cert.Mm7.algebraic,
  trivial, Cert.Mm8.algebraic,
  trivial, Cert.Mm9.algebraic,
  trivial, Cert.Mm10.algebraic,
  trivial, Cert.Mm11.algebraic,
  trivial, Cert.Mm12.algebraic,
  trivial, Cert.Mm13.algebraic,
  trivial, Cert.Mm14.algebraic,
  trivial, Cert.Mm15.algebraic,
  trivial, Cert.Mm16.algebraic,
  trivial, Cert.Mm17.algebraic,
  trivial, Cert.Mm18.algebraic,
  trivial, Cert.Mm19.algebraic,
  trivial, Cert.Mm20.algebraic,
  trivial, Cert.Mm21.algebraic,
  trivial, Cert.Mm23.algebraic,
  trivial, Cert.Mm24.algebraic⟩

end Cert.Proof

end
